-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v87_3)) (v1 : (c : Dev Cert.KernelIdeal.nD) → Buf (Elt Ideal) ((c.tc : Thread Cert.KernelIdeal.nD Cert.KernelIdeal.τ).loc Cert.KernelIdeal.main_v87_0)) (v2 : (c : Dev Cert.KernelIdeal.nD) → Buf (Elt Ideal) ((c.tc : Thread Cert.KernelIdeal.nD Cert.KernelIdeal.τ).loc Cert.KernelIdeal.main_v87_1)) (v3 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_3) = v0 c
          ∧ r.2.mem ((c.tc : Thread Cert.KernelIdeal.nD Cert.KernelIdeal.τ).loc Cert.KernelIdeal.main_v87_0) = v1 c
          ∧ r.2.mem ((c.tc : Thread Cert.KernelIdeal.nD Cert.KernelIdeal.τ).loc Cert.KernelIdeal.main_v87_1) = v2 c
          ∧ r.2.mem ((c.tc : Thread Cert.KernelIdeal.nD Cert.KernelIdeal.τ).loc Cert.KernelIdeal.main_v91) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v42) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v22) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_v14) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  bcast_S_S8192x16 : S_.BroadcastsInDim S8192x16 (![] : Fin 0 → Fin S8192x16.rank)

variable [Facts]

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S8192x1024 1 × IVec S8192x1024 1 × IVec S8192x1024 1 × IVec S8192x16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x1024 : Shape := ⟨2, ![8192, 1024]⟩
abbrev S8192x16 : Shape := ⟨2, ![8192, 16]⟩
abbrev S_ : Shape := ⟨0, ![]⟩
abbrev S8192x3072 : Shape := ⟨2, ![8192, 3072]⟩
abbrev S8192x16x64 : Shape := ⟨3, ![8192, 16, 64]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩
abbrev S16x16x1x512 : Shape := ⟨4, ![16, 16, 1, 512]⟩
abbrev S8192x8x2 : Shape := ⟨3, ![8192, 8, 2]⟩
abbrev S8x8192x2 : Shape := ⟨3, ![8, 8192, 2]⟩
abbrev S8192x128 : Shape := ⟨2, ![8192, 128]⟩
abbrev S512x128 : Shape := ⟨2, ![512, 128]⟩
abbrev S1x512x2 : Shape := ⟨3, ![1, 512, 2]⟩
abbrev S2x16x1x512 : Shape := ⟨4, ![2, 16, 1, 512]⟩
abbrev S512x2 : Shape := ⟨2, ![512, 2]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S2048x128 : Shape := ⟨2, ![2048, 128]⟩
abbrev S512x2048 : Shape := ⟨2, ![512, 2048]⟩
abbrev S1x2048 : Shape := ⟨2, ![1, 2048]⟩
abbrev S2048 : Shape := ⟨1, ![2048]⟩
abbrev S1024x128 : Shape := ⟨2, ![1024, 128]⟩
abbrev S512x1024 : Shape := ⟨2, ![512, 1024]⟩
abbrev S1x1024 : Shape := ⟨2, ![1, 1024]⟩
abbrev S1024 : Shape := ⟨1, ![1024]⟩

abbrev nBuf : Space → Nat
  | .hbm => 120
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x3072, .f32⟩
  | .hbm, ⟨14, _⟩ => ⟨S8192x3072, .bf16⟩
  | .hbm, ⟨15, _⟩ => ⟨S_, .f32⟩
  | .hbm, ⟨16, _⟩ => ⟨S8192x16, .f32⟩
  | .hbm, ⟨17, _⟩ => ⟨S8192x16, .f32⟩
  | .hbm, ⟨18, _⟩ => ⟨S8192x16x64, .f32⟩
  | .hbm, ⟨19, _⟩ => ⟨S8192x16x64, .f32⟩
  | .hbm, ⟨20, _⟩ => ⟨S16x8192, .f32⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S16x8192x1, .f32⟩
  | .hbm, ⟨26, _⟩ => ⟨S16x1x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S8192, .i32⟩
  | .hbm, ⟨32, _⟩ => ⟨S8192x1, .i32⟩
  | .hbm, ⟨33, _⟩ => ⟨S8192, .i32⟩
  | .hbm, ⟨34, _⟩ => ⟨S1x8192, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S16x8192x1, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S16x8192, .f32⟩
  | .hbm, ⟨54, _⟩ => ⟨S16x8192x1, .f32⟩
  | .hbm, ⟨55, _⟩ => ⟨S16x8192x8192, .f32⟩
  | .hbm, ⟨56, _⟩ => ⟨S16x8192x8192, .f32⟩
  | .hbm, ⟨57, _⟩ => ⟨S8192x16x64, .f32⟩
  | .hbm, ⟨58, _⟩ => ⟨S16x64x8192, .f32⟩
  | .hbm, ⟨59, _⟩ => ⟨S8192x16x64, .f32⟩
  | .hbm, ⟨60, _⟩ => ⟨S8192x1024, .f32⟩
  | .hbm, ⟨61, _⟩ => ⟨S8192x16x64, .f32⟩
  | .hbm, ⟨62, _⟩ => ⟨S8192x16x64, .f32⟩
  | .hbm, ⟨63, _⟩ => ⟨S16x8192, .f32⟩
  | .hbm, ⟨64, _⟩ => ⟨S16x8192x8192, .f32⟩
  | .hbm, ⟨65, _⟩ => ⟨S_, .f32⟩
  | .hbm, ⟨66, _⟩ => ⟨S16x8192x8192, .f32⟩
  | .hbm, ⟨67, _⟩ => ⟨S16x8192x8192, .f32⟩
  | .hbm, ⟨68, _⟩ => ⟨S16x8192x1, .f32⟩
  | .hbm, ⟨69, _⟩ => ⟨S16x1x8192, .f32⟩
  | .hbm, ⟨70, _⟩ => ⟨S16x8192x8192, .f32⟩
  | .hbm, ⟨71, _⟩ => ⟨S16x8192x8192, .f32⟩
  | .hbm, ⟨72, _⟩ => ⟨S16x8192x8192, .f32⟩
  | .hbm, ⟨73, _⟩ => ⟨S16x8192x8192, .f32⟩
  | .hbm, ⟨74, _⟩ => ⟨S8192, .i32⟩
  | .hbm, ⟨75, _⟩ => ⟨S8192x1, .i32⟩
  | .hbm, ⟨76, _⟩ => ⟨S8192, .i32⟩
  | .hbm, ⟨77, _⟩ => ⟨S1x8192, .i32⟩
  | .hbm, ⟨78, _⟩ => ⟨S8192x8192, .i32⟩
  | .hbm, ⟨79, _⟩ => ⟨S8192x8192, .i32⟩
  | .hbm, ⟨80, _⟩ => ⟨S8192x8192, .i1⟩
  | .hbm, ⟨81, _⟩ => ⟨S_, .f32⟩
  | .hbm, ⟨82, _⟩ => ⟨S_, .f32⟩
  | .hbm, ⟨83, _⟩ => ⟨S16x8192x8192, .i1⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x8192x1, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192, .f32⟩
  | .hbm, ⟨94, _⟩ => ⟨S16x8192, .f32⟩
  | .hbm, ⟨95, _⟩ => ⟨S16x8192, .f32⟩
  | .hbm, ⟨96, _⟩ => ⟨S16x8192, .f32⟩
  | .hbm, ⟨97, _⟩ => ⟨S16x8192, .f32⟩
  | .hbm, ⟨98, _⟩ => ⟨S16x8192, .f32⟩
  | .hbm, ⟨99, _⟩ => ⟨S16x8192, .f32⟩
  | .hbm, ⟨100, _⟩ => ⟨S16x16x1x512, .f32⟩
  | .hbm, ⟨101, _⟩ => ⟨S8192x1024, .bf16⟩
  | .hbm, ⟨102, _⟩ => ⟨S8192x8x2, .f32⟩
  | .hbm, ⟨103, _⟩ => ⟨S8x8192x2, .f32⟩
  | .hbm, ⟨104, _⟩ => ⟨S8192x1024, .f32⟩
  | .hbm, ⟨105, _⟩ => ⟨S8192x1024, .f32⟩
  | .hbm, ⟨106, _⟩ => ⟨S8192x16x64, .f32⟩
  | .hbm, ⟨107, _⟩ => ⟨S_, .f32⟩
  | .hbm, ⟨108, _⟩ => ⟨S8192x16, .f32⟩
  | .hbm, ⟨109, _⟩ => ⟨S16x8192, .f32⟩
  | .hbm, ⟨110, _⟩ => ⟨S16x16x1x512, .f32⟩
  | .hbm, ⟨111, _⟩ => ⟨S8192x1024, .bf16⟩
  | .hbm, ⟨112, _⟩ => ⟨S8192x1024, .bf16⟩
  | .hbm, ⟨113, _⟩ => ⟨S8192x1024, .f32⟩
  | .hbm, ⟨114, _⟩ => ⟨S8192x1024, .f32⟩
  | .hbm, ⟨115, _⟩ => ⟨S16x16x1x512, .f32⟩
  | .hbm, ⟨116, _⟩ => ⟨S16x8192, .f32⟩
  | .hbm, ⟨117, _⟩ => ⟨S8192x16, .f32⟩
  | .hbm, ⟨118, _⟩ => ⟨S8192x16, .f32⟩
  | .hbm, ⟨119, _⟩ => ⟨S8192x16, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x2, .f32⟩
  | .local _ .vmem, ⟨7, _⟩ => ⟨S1x512x2, .f32⟩
  | .local _ .vmem, ⟨8, _⟩ => ⟨S8192x128, .bf16⟩
  | .local _ .vmem, ⟨9, _⟩ => ⟨S8192x128, .bf16⟩
  | .local _ .vmem, ⟨10, _⟩ => ⟨S2x16x1x512, .f32⟩
  | .local _ .vmem, ⟨11, _⟩ => ⟨S2x16x1x512, .f32⟩
  | .local _ .vmem, ⟨12, _⟩ => ⟨S2x16x1x512, .f32⟩
  | .local _ .vmem, ⟨13, _⟩ => ⟨S2x16x1x512, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S8192x128, .f32⟩
  | .local _ .vmem, ⟨21, _⟩ => ⟨S8192x128, .f32⟩
  | .local _ .vmem, ⟨22, _⟩ => ⟨S2x16x1x512, .f32⟩
  | .local _ .vmem, ⟨23, _⟩ => ⟨S2x16x1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87_0 : Ref sig .tc := ⟨.hbm, 111, rfl⟩
abbrev main_v87_1 : Ref sig .tc := ⟨.hbm, 112, rfl⟩
abbrev main_v87_2 : Ref sig .tc := ⟨.hbm, 113, rfl⟩
abbrev main_v87_3 : Ref sig .tc := ⟨.hbm, 114, rfl⟩
abbrev main_v87_4 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v42 : BitVec 32 := Scalar.muli arg1 c512_i32
  v42
def k0_off1 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v44 : Index := Scalar.indexCast v43
  let c0_16 : Index := 0#32
  ![v44.toNat, 0]
def k0_off2 (i : grid0.Coords) : Fin 4 → Nat :=
  let c0_21 : Index := 0#32
  let arg1 : BitVec 32 := BitVec.ofNat 32 (i 1).val
  let c0_i32_20 : BitVec 32 := 0#32
  let v58 : BitVec 32 := Scalar.addi arg1 c0_i32_20
  let v59 : Index := Scalar.indexCast v58
  let c0_22 : Index := 0#32
  let c0_23 : Index := 0#32
  ![0, v59.toNat, 0, 0]
def k0_off3 (i : grid0.Coords) : Fin 4 → Nat :=
  let c1 : Index := 1#32
  let arg1 : BitVec 32 := BitVec.ofNat 32 (i 1).val
  let c0_i32_43 : BitVec 32 := 0#32
  let v102 : BitVec 32 := Scalar.addi arg1 c0_i32_43
  let v103 : Index := Scalar.indexCast v102
  let c0_44 : Index := 0#32
  let c0_45 : Index := 0#32
  ![1, v103.toNat, 0, 0]
@[reducible] def k0_t1_loop (i : grid0.Coords) : Scf.Loop 32 :=
  let c0_i32_71 : BitVec 32 := 0#32
  let c15_i32 : BitVec 32 := 15#32
  let arg1 : BitVec 32 := BitVec.ofNat 32 (i 1).val
  let v147 : BitVec 32 := Scalar.subi c15_i32 arg1
  let c0_i32_66 : BitVec 32 := 0#32
  let v149 : BitVec 1 := Scalar.cmpi .sgt v147 c0_i32_66
  let v150 : BitVec 32 := Scalar.extui v149
  let c0_i32_67 : BitVec 32 := 0#32
  let v151 : BitVec 1 := Scalar.cmpi .slt v147 c0_i32_67
  let v152 : BitVec 32 := Scalar.extui v151
  let v153 : BitVec 32 := Scalar.subi v150 v152
  let c4_i32 : BitVec 32 := 4#32
  let c0_i32_68 : BitVec 32 := 0#32
  let v154 : BitVec 1 := Scalar.cmpi .sgt c4_i32 c0_i32_68
  let v155 : BitVec 32 := Scalar.extui v154
  let c0_i32_69 : BitVec 32 := 0#32
  let v156 : BitVec 1 := Scalar.cmpi .slt c4_i32 c0_i32_69
  let v157 : BitVec 32 := Scalar.extui v156
  let v158 : BitVec 32 := Scalar.subi v155 v157
  let v159 : BitVec 1 := Scalar.cmpi .ne v153 v158
  let v160 : BitVec 32 := Scalar.remsi v147 c4_i32
  let c0_i32_70 : BitVec 32 := 0#32
  let v161 : BitVec 1 := Scalar.cmpi .ne v160 c0_i32_70
  let v162 : BitVec 1 := Scalar.andi v159 v161
  let v148 : BitVec 32 := Scalar.divsi v147 c4_i32
  let c1_i32 : BitVec 32 := 1#32
  let v163 : BitVec 32 := Scalar.subi v148 c1_i32
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let c1_i32_73 : BitVec 32 := 1#32
  ⟨c0_i32_71, v169, c1_i32_73⟩
def k0_mult2 (i : grid0.Coords) (k0_t1 : Fin (k0_t1_loop i).trips) : BitVec 32 :=
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c1_i32_73 : BitVec 32 := 1#32
  let arg14 : BitVec 32 := Scf.iv c0_i32_71 c1_i32_73 k0_t1
  let v247 : BitVec 32 := Scalar.muli c4_i32_112 arg14
  let v248 : BitVec 32 := Scalar.addi v246 v247
  let c512_i32_113 : BitVec 32 := 512#32
  let v249 : BitVec 32 := Scalar.muli v248 c512_i32_113
  v249
def k0_off4 (i : grid0.Coords) (k0_t1 : Fin (k0_t1_loop i).trips) : Fin 2 → Nat :=
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c1_i32_73 : BitVec 32 := 1#32
  let arg14 : BitVec 32 := Scf.iv c0_i32_71 c1_i32_73 k0_t1
  let v247 : BitVec 32 := Scalar.muli c4_i32_112 arg14
  let v248 : BitVec 32 := Scalar.addi v246 v247
  let c512_i32_113 : BitVec 32 := 512#32
  let v249 : BitVec 32 := Scalar.muli v248 c512_i32_113
  let v250 : BitVec 32 := v249
  let v251 : Index := Scalar.indexCast v250
  let c0_114 : Index := 0#32
  ![v251.toNat, 0]
def k0_off5 (i : grid0.Coords) (k0_t1 : Fin (k0_t1_loop i).trips) (c0_i32_117 : BitVec 32) : Fin 4 → Nat :=
  let c0_118 : Index := 0#32
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c1_i32_73 : BitVec 32 := 1#32
  let arg14 : BitVec 32 := Scf.iv c0_i32_71 c1_i32_73 k0_t1
  let v247 : BitVec 32 := Scalar.muli c4_i32_112 arg14
  let v248 : BitVec 32 := Scalar.addi v246 v247
  let v260 : BitVec 32 := Scalar.addi v248 c0_i32_117
  let v261 : Index := Scalar.indexCast v260
  let c0_119 : Index := 0#32
  let c0_120 : Index := 0#32
  ![0, v261.toNat, 0, 0]
def k0_off6 (i : grid0.Coords) (k0_t1 : Fin (k0_t1_loop i).trips) (c0_i32_183 : BitVec 32) : Fin 4 → Nat :=
  let c1_184 : Index := 1#32
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c1_i32_73 : BitVec 32 := 1#32
  let arg14 : BitVec 32 := Scf.iv c0_i32_71 c1_i32_73 k0_t1
  let v247 : BitVec 32 := Scalar.muli c4_i32_112 arg14
  let v248 : BitVec 32 := Scalar.addi v246 v247
  let v356 : BitVec 32 := Scalar.addi v248 c0_i32_183
  let v357 : Index := Scalar.indexCast v356
  let c0_185 : Index := 0#32
  let c0_186 : Index := 0#32
  ![1, v357.toNat, 0, 0]
@[reducible] def k0_t2_loop (i : grid0.Coords) : Scf.Loop 32 :=
  let c0_i32_71 : BitVec 32 := 0#32
  let c15_i32 : BitVec 32 := 15#32
  let arg1 : BitVec 32 := BitVec.ofNat 32 (i 1).val
  let v147 : BitVec 32 := Scalar.subi c15_i32 arg1
  let c0_i32_66 : BitVec 32 := 0#32
  let v149 : BitVec 1 := Scalar.cmpi .sgt v147 c0_i32_66
  let v150 : BitVec 32 := Scalar.extui v149
  let c0_i32_67 : BitVec 32 := 0#32
  let v151 : BitVec 1 := Scalar.cmpi .slt v147 c0_i32_67
  let v152 : BitVec 32 := Scalar.extui v151
  let v153 : BitVec 32 := Scalar.subi v150 v152
  let c4_i32 : BitVec 32 := 4#32
  let c0_i32_68 : BitVec 32 := 0#32
  let v154 : BitVec 1 := Scalar.cmpi .sgt c4_i32 c0_i32_68
  let v155 : BitVec 32 := Scalar.extui v154
  let c0_i32_69 : BitVec 32 := 0#32
  let v156 : BitVec 1 := Scalar.cmpi .slt c4_i32 c0_i32_69
  let v157 : BitVec 32 := Scalar.extui v156
  let v158 : BitVec 32 := Scalar.subi v155 v157
  let v159 : BitVec 1 := Scalar.cmpi .ne v153 v158
  let v160 : BitVec 32 := Scalar.remsi v147 c4_i32
  let c0_i32_70 : BitVec 32 := 0#32
  let v161 : BitVec 1 := Scalar.cmpi .ne v160 c0_i32_70
  let v162 : BitVec 1 := Scalar.andi v159 v161
  let v148 : BitVec 32 := Scalar.divsi v147 c4_i32
  let c1_i32 : BitVec 32 := 1#32
  let v163 : BitVec 32 := Scalar.subi v148 c1_i32
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let v166 : BitVec 32 := Scalar.addi c0_i32_71 v165
  let c1_i32_74 : BitVec 32 := 1#32
  ⟨v169, v166, c1_i32_74⟩
def k0_mult3 (i : grid0.Coords) (k0_t2 : Fin (k0_t2_loop i).trips) : BitVec 32 :=
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c15_i32 : BitVec 32 := 15#32
  let v147 : BitVec 32 := Scalar.subi c15_i32 arg1
  let c0_i32_66 : BitVec 32 := 0#32
  let v149 : BitVec 1 := Scalar.cmpi .sgt v147 c0_i32_66
  let v150 : BitVec 32 := Scalar.extui v149
  let c0_i32_67 : BitVec 32 := 0#32
  let v151 : BitVec 1 := Scalar.cmpi .slt v147 c0_i32_67
  let v152 : BitVec 32 := Scalar.extui v151
  let v153 : BitVec 32 := Scalar.subi v150 v152
  let c4_i32 : BitVec 32 := 4#32
  let c0_i32_68 : BitVec 32 := 0#32
  let v154 : BitVec 1 := Scalar.cmpi .sgt c4_i32 c0_i32_68
  let v155 : BitVec 32 := Scalar.extui v154
  let c0_i32_69 : BitVec 32 := 0#32
  let v156 : BitVec 1 := Scalar.cmpi .slt c4_i32 c0_i32_69
  let v157 : BitVec 32 := Scalar.extui v156
  let v158 : BitVec 32 := Scalar.subi v155 v157
  let v159 : BitVec 1 := Scalar.cmpi .ne v153 v158
  let v160 : BitVec 32 := Scalar.remsi v147 c4_i32
  let c0_i32_70 : BitVec 32 := 0#32
  let v161 : BitVec 1 := Scalar.cmpi .ne v160 c0_i32_70
  let v162 : BitVec 1 := Scalar.andi v159 v161
  let v148 : BitVec 32 := Scalar.divsi v147 c4_i32
  let c1_i32 : BitVec 32 := 1#32
  let v163 : BitVec 32 := Scalar.subi v148 c1_i32
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let c1_i32_74 : BitVec 32 := 1#32
  let arg14 : BitVec 32 := Scf.iv v169 c1_i32_74 k0_t2
  let v247 : BitVec 32 := Scalar.muli c4_i32_112 arg14
  let v248 : BitVec 32 := Scalar.addi v246 v247
  let c512_i32_113 : BitVec 32 := 512#32
  let v249 : BitVec 32 := Scalar.muli v248 c512_i32_113
  v249
def k0_off7 (i : grid0.Coords) (k0_t2 : Fin (k0_t2_loop i).trips) : Fin 2 → Nat :=
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c15_i32 : BitVec 32 := 15#32
  let v147 : BitVec 32 := Scalar.subi c15_i32 arg1
  let c0_i32_66 : BitVec 32 := 0#32
  let v149 : BitVec 1 := Scalar.cmpi .sgt v147 c0_i32_66
  let v150 : BitVec 32 := Scalar.extui v149
  let c0_i32_67 : BitVec 32 := 0#32
  let v151 : BitVec 1 := Scalar.cmpi .slt v147 c0_i32_67
  let v152 : BitVec 32 := Scalar.extui v151
  let v153 : BitVec 32 := Scalar.subi v150 v152
  let c4_i32 : BitVec 32 := 4#32
  let c0_i32_68 : BitVec 32 := 0#32
  let v154 : BitVec 1 := Scalar.cmpi .sgt c4_i32 c0_i32_68
  let v155 : BitVec 32 := Scalar.extui v154
  let c0_i32_69 : BitVec 32 := 0#32
  let v156 : BitVec 1 := Scalar.cmpi .slt c4_i32 c0_i32_69
  let v157 : BitVec 32 := Scalar.extui v156
  let v158 : BitVec 32 := Scalar.subi v155 v157
  let v159 : BitVec 1 := Scalar.cmpi .ne v153 v158
  let v160 : BitVec 32 := Scalar.remsi v147 c4_i32
  let c0_i32_70 : BitVec 32 := 0#32
  let v161 : BitVec 1 := Scalar.cmpi .ne v160 c0_i32_70
  let v162 : BitVec 1 := Scalar.andi v159 v161
  let v148 : BitVec 32 := Scalar.divsi v147 c4_i32
  let c1_i32 : BitVec 32 := 1#32
  let v163 : BitVec 32 := Scalar.subi v148 c1_i32
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let c1_i32_74 : BitVec 32 := 1#32
  let arg14 : BitVec 32 := Scf.iv v169 c1_i32_74 k0_t2
  let v247 : BitVec 32 := Scalar.muli c4_i32_112 arg14
  let v248 : BitVec 32 := Scalar.addi v246 v247
  let c512_i32_113 : BitVec 32 := 512#32
  let v249 : BitVec 32 := Scalar.muli v248 c512_i32_113
  let v250 : BitVec 32 := v249
  let v251 : Index := Scalar.indexCast v250
  let c0_114 : Index := 0#32
  ![v251.toNat, 0]
def k0_off8 (i : grid0.Coords) (k0_t2 : Fin (k0_t2_loop i).trips) (c0_i32_117 : BitVec 32) : Fin 4 → Nat :=
  let c0_118 : Index := 0#32
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c15_i32 : BitVec 32 := 15#32
  let v147 : BitVec 32 := Scalar.subi c15_i32 arg1
  let c0_i32_66 : BitVec 32 := 0#32
  let v149 : BitVec 1 := Scalar.cmpi .sgt v147 c0_i32_66
  let v150 : BitVec 32 := Scalar.extui v149
  let c0_i32_67 : BitVec 32 := 0#32
  let v151 : BitVec 1 := Scalar.cmpi .slt v147 c0_i32_67
  let v152 : BitVec 32 := Scalar.extui v151
  let v153 : BitVec 32 := Scalar.subi v150 v152
  let c4_i32 : BitVec 32 := 4#32
  let c0_i32_68 : BitVec 32 := 0#32
  let v154 : BitVec 1 := Scalar.cmpi .sgt c4_i32 c0_i32_68
  let v155 : BitVec 32 := Scalar.extui v154
  let c0_i32_69 : BitVec 32 := 0#32
  let v156 : BitVec 1 := Scalar.cmpi .slt c4_i32 c0_i32_69
  let v157 : BitVec 32 := Scalar.extui v156
  let v158 : BitVec 32 := Scalar.subi v155 v157
  let v159 : BitVec 1 := Scalar.cmpi .ne v153 v158
  let v160 : BitVec 32 := Scalar.remsi v147 c4_i32
  let c0_i32_70 : BitVec 32 := 0#32
  let v161 : BitVec 1 := Scalar.cmpi .ne v160 c0_i32_70
  let v162 : BitVec 1 := Scalar.andi v159 v161
  let v148 : BitVec 32 := Scalar.divsi v147 c4_i32
  let c1_i32 : BitVec 32 := 1#32
  let v163 : BitVec 32 := Scalar.subi v148 c1_i32
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let c1_i32_74 : BitVec 32 := 1#32
  let arg14 : BitVec 32 := Scf.iv v169 c1_i32_74 k0_t2
  let v247 : BitVec 32 := Scalar.muli c4_i32_112 arg14
  let v248 : BitVec 32 := Scalar.addi v246 v247
  let v260 : BitVec 32 := Scalar.addi v248 c0_i32_117
  let v261 : Index := Scalar.indexCast v260
  let c0_119 : Index := 0#32
  let c0_120 : Index := 0#32
  ![0, v261.toNat, 0, 0]
def k0_off9 (i : grid0.Coords) (k0_t2 : Fin (k0_t2_loop i).trips) (c0_i32_183 : BitVec 32) : Fin 4 → Nat :=
  let c1_184 : Index := 1#32
  let arg1 : BitVec 32 := BitVec.ofNat 32 (i 1).val
  let c1_i32_111 : BitVec 32 := 1#32
  let v246 : BitVec 32 := Scalar.addi arg1 c1_i32_111
  let c4_i32_112 : BitVec 32 := 4#32
  let c0_i32_71 : BitVec 32 := 0#32
  let c15_i32 : BitVec 32 := 15#32
  let v147 : BitVec 32 := Scalar.subi c15_i32 arg1
  let c0_i32_66 : BitVec 32 := 0#32
  let v149 : BitVec 1 := Scalar.cmpi .sgt v147 c0_i32_66
  let v150 : BitVec 32 := Scalar.extui v149
  let c0_i32_67 : BitVec 32 := 0#32
  let v151 : BitVec 1 := Scalar.cmpi .slt v147 c0_i32_67
  let v152 : BitVec 32 := Scalar.extui v151
  let v153 : BitVec 32 := Scalar.subi v150 v152
  let c4_i32 : BitVec 32 := 4#32
  let c0_i32_68 : BitVec 32 := 0#32
  let v154 : BitVec 1 := Scalar.cmpi .sgt c4_i32 c0_i32_68
  let v155 : BitVec 32 := Scalar.extui v154
  let c0_i32_69 : BitVec 32 := 0#32
  let v156 : BitVec 1 := Scalar.cmpi .slt c4_i32 c0_i32_69
  let v157 : BitVec 32 := Scalar.extui v156
  let v158 : BitVec 32 := Scalar.subi v155 v157
  let v159 : BitVec 1 := Scalar.cmpi .ne v153 v158
  let v160 : BitVec 32 := Scalar.remsi v147 c4_i32
  let c0_i32_70 : BitVec 32 := 0#32
  let v161 : BitVec 1 := Scalar.cmpi .ne v160 c0_i32_70
  let v162 : BitVec 1 := Scalar.andi v159 v161
  let v148 : BitVec 32 := Scalar.divsi v147 c4_i32
  let c1_i32 : BitVec 32 := 1#32
  let v163 : BitVec 32 := Scalar.subi v148 c1_i32
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let c1_i32_74 : BitVec 32 := 1#32
  let arg14 : BitVec 32 := Scf.iv v169 c1_i32_74 k0_t2
  let v247 : BitVec 32 := Scalar.muli c4_i32_112 arg14
  let v248 : BitVec 32 := Scalar.addi v246 v247
  let v356 : BitVec 32 := Scalar.addi v248 c0_i32_183
  let v357 : Index := Scalar.indexCast v356
  let c0_185 : Index := 0#32
  let c0_186 : Index := 0#32
  ![1, v357.toNat, 0, 0]
@[reducible] def k0_t3_loop (i : grid0.Coords) : Scf.Loop 32 :=
  let c0_i32_87 : BitVec 32 := 0#32
  let c15_i32 : BitVec 32 := 15#32
  let arg1 : BitVec 32 := BitVec.ofNat 32 (i 1).val
  let v147 : BitVec 32 := Scalar.subi c15_i32 arg1
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi v147 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let c0_i32_81 : BitVec 32 := 0#32
  let v183 : BitVec 1 := Scalar.cmpi .sgt v181 c0_i32_81
  let v184 : BitVec 32 := Scalar.extui v183
  let c0_i32_82 : BitVec 32 := 0#32
  let v185 : BitVec 1 := Scalar.cmpi .slt v181 c0_i32_82
  let v186 : BitVec 32 := Scalar.extui v185
  let v187 : BitVec 32 := Scalar.subi v184 v186
  let c2_i32 : BitVec 32 := 2#32
  let c0_i32_83 : BitVec 32 := 0#32
  let v188 : BitVec 1 := Scalar.cmpi .sgt c2_i32 c0_i32_83
  let v189 : BitVec 32 := Scalar.extui v188
  let c0_i32_84 : BitVec 32 := 0#32
  let v190 : BitVec 1 := Scalar.cmpi .slt c2_i32 c0_i32_84
  let v191 : BitVec 32 := Scalar.extui v190
  let v192 : BitVec 32 := Scalar.subi v189 v191
  let v193 : BitVec 1 := Scalar.cmpi .ne v187 v192
  let v194 : BitVec 32 := Scalar.remsi v181 c2_i32
  let c0_i32_85 : BitVec 32 := 0#32
  let v195 : BitVec 1 := Scalar.cmpi .ne v194 c0_i32_85
  let v196 : BitVec 1 := Scalar.andi v193 v195
  let v182 : BitVec 32 := Scalar.divsi v181 c2_i32
  let c1_i32_86 : BitVec 32 := 1#32
  let v197 : BitVec 32 := Scalar.subi v182 c1_i32_86
  let v198 : BitVec 32 := Scalar.select v196 v197 v182
  let v199 : BitVec 32 := Scalar.subi v198 c0_i32_87
  let c1_i32_88 : BitVec 32 := 1#32
  let v201 : BitVec 32 := Scalar.divsi v199 c1_i32_88
  let v202 : BitVec 32 := Scalar.muli v201 c1_i32_88
  let v203 : BitVec 32 := Scalar.addi c0_i32_87 v202
  let c1_i32_89 : BitVec 32 := 1#32
  ⟨c0_i32_87, v203, c1_i32_89⟩
def k0_mult4 (i : grid0.Coords) : BitVec 32 :=
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let c512_i32_117 : BitVec 32 := 512#32
  let v257 : BitVec 32 := Scalar.muli v256 c512_i32_117
  v257
def k0_off10 (i : grid0.Coords) : Fin 2 → Nat :=
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let c512_i32_117 : BitVec 32 := 512#32
  let v257 : BitVec 32 := Scalar.muli v256 c512_i32_117
  let v258 : BitVec 32 := v257
  let v259 : Index := Scalar.indexCast v258
  let c0_118 : Index := 0#32
  ![v259.toNat, 0]
def k0_off11 (i : grid0.Coords) (c0_i32_121 : BitVec 32) : Fin 4 → Nat :=
  let c0_122 : Index := 0#32
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let v268 : BitVec 32 := Scalar.addi v256 c0_i32_121
  let v269 : Index := Scalar.indexCast v268
  let c0_123 : Index := 0#32
  let c0_124 : Index := 0#32
  ![0, v269.toNat, 0, 0]
def k0_off12 (i : grid0.Coords) (c0_i32_158 : BitVec 32) : Fin 4 → Nat :=
  let c1_159 : Index := 1#32
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let v328 : BitVec 32 := Scalar.addi v256 c0_i32_158
  let v329 : Index := Scalar.indexCast v328
  let c0_160 : Index := 0#32
  let c0_161 : Index := 0#32
  ![1, v329.toNat, 0, 0]
@[reducible] def k0_t4_loop (i : grid0.Coords) : Scf.Loop 32 :=
  let c0_i32_87 : BitVec 32 := 0#32
  let c15_i32 : BitVec 32 := 15#32
  let arg1 : BitVec 32 := BitVec.ofNat 32 (i 1).val
  let v147 : BitVec 32 := Scalar.subi c15_i32 arg1
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi v147 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let c0_i32_81 : BitVec 32 := 0#32
  let v183 : BitVec 1 := Scalar.cmpi .sgt v181 c0_i32_81
  let v184 : BitVec 32 := Scalar.extui v183
  let c0_i32_82 : BitVec 32 := 0#32
  let v185 : BitVec 1 := Scalar.cmpi .slt v181 c0_i32_82
  let v186 : BitVec 32 := Scalar.extui v185
  let v187 : BitVec 32 := Scalar.subi v184 v186
  let c2_i32 : BitVec 32 := 2#32
  let c0_i32_83 : BitVec 32 := 0#32
  let v188 : BitVec 1 := Scalar.cmpi .sgt c2_i32 c0_i32_83
  let v189 : BitVec 32 := Scalar.extui v188
  let c0_i32_84 : BitVec 32 := 0#32
  let v190 : BitVec 1 := Scalar.cmpi .slt c2_i32 c0_i32_84
  let v191 : BitVec 32 := Scalar.extui v190
  let v192 : BitVec 32 := Scalar.subi v189 v191
  let v193 : BitVec 1 := Scalar.cmpi .ne v187 v192
  let v194 : BitVec 32 := Scalar.remsi v181 c2_i32
  let c0_i32_85 : BitVec 32 := 0#32
  let v195 : BitVec 1 := Scalar.cmpi .ne v194 c0_i32_85
  let v196 : BitVec 1 := Scalar.andi v193 v195
  let v182 : BitVec 32 := Scalar.divsi v181 c2_i32
  let c1_i32_86 : BitVec 32 := 1#32
  let v197 : BitVec 32 := Scalar.subi v182 c1_i32_86
  let v198 : BitVec 32 := Scalar.select v196 v197 v182
  let v199 : BitVec 32 := Scalar.subi v198 c0_i32_87
  let c1_i32_88 : BitVec 32 := 1#32
  let v201 : BitVec 32 := Scalar.divsi v199 c1_i32_88
  let v202 : BitVec 32 := Scalar.muli v201 c1_i32_88
  let v203 : BitVec 32 := Scalar.addi c0_i32_87 v202
  let v200 : BitVec 32 := Scalar.addi c0_i32_87 v199
  let c1_i32_90 : BitVec 32 := 1#32
  ⟨v203, v200, c1_i32_90⟩
def k0_mult5 (i : grid0.Coords) : BitVec 32 :=
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let c512_i32_117 : BitVec 32 := 512#32
  let v257 : BitVec 32 := Scalar.muli v256 c512_i32_117
  v257
def k0_off13 (i : grid0.Coords) : Fin 2 → Nat :=
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let c512_i32_117 : BitVec 32 := 512#32
  let v257 : BitVec 32 := Scalar.muli v256 c512_i32_117
  let v258 : BitVec 32 := v257
  let v259 : Index := Scalar.indexCast v258
  let c0_118 : Index := 0#32
  ![v259.toNat, 0]
def k0_off14 (i : grid0.Coords) (c0_i32_121 : BitVec 32) : Fin 4 → Nat :=
  let c0_122 : Index := 0#32
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let v268 : BitVec 32 := Scalar.addi v256 c0_i32_121
  let v269 : Index := Scalar.indexCast v268
  let c0_123 : Index := 0#32
  let c0_124 : Index := 0#32
  ![0, v269.toNat, 0, 0]
def k0_off15 (i : grid0.Coords) (c0_i32_158 : BitVec 32) : Fin 4 → Nat :=
  let c1_159 : Index := 1#32
  let c16_i32 : BitVec 32 := 16#32
  let c15_i32 : BitVec 32 := 15#32
  let arg1 : BitVec 32 := BitVec.ofNat 32 (i 1).val
  let v147 : BitVec 32 := Scalar.subi c15_i32 arg1
  let c4_i32_111 : BitVec 32 := 4#32
  let c0_i32_112 : BitVec 32 := 0#32
  let v246 : BitVec 1 := Scalar.cmpi .eq c4_i32_111 c0_i32_112
  let c1_i32_113 : BitVec 32 := 1#32
  let v247 : BitVec 32 := Scalar.select v246 c1_i32_113 c4_i32_111
  let v248 : BitVec 32 := Scalar.remsi v147 v247
  let c0_i32_115 : BitVec 32 := 0#32
  let v250 : BitVec 1 := Scalar.cmpi .slt v248 c0_i32_115
  let c0_i32_116 : BitVec 32 := 0#32
  let v251 : BitVec 1 := Scalar.cmpi .slt v247 c0_i32_116
  let v252 : BitVec 1 := Scalar.xori v250 v251
  let c0_i32_114 : BitVec 32 := 0#32
  let v249 : BitVec 1 := Scalar.cmpi .ne v248 c0_i32_114
  let v253 : BitVec 1 := Scalar.andi v252 v249
  let v254 : BitVec 32 := Scalar.addi v248 v247
  let v255 : BitVec 32 := Scalar.select v253 v254 v248
  let v256 : BitVec 32 := Scalar.subi c16_i32 v255
  let v328 : BitVec 32 := Scalar.addi v256 c0_i32_158
  let v329 : Index := Scalar.indexCast v328
  let c0_160 : Index := 0#32
  let c0_161 : Index := 0#32
  ![1, v329.toNat, 0, 0]
@[reducible] def k0_t5_loop (i : grid0.Coords) : Scf.Loop 32 :=
  let c0_i32_97 : BitVec 32 := 0#32
  let c15_i32 : BitVec 32 := 15#32
  let arg1 : BitVec 32 := BitVec.ofNat 32 (i 1).val
  let v147 : BitVec 32 := Scalar.subi c15_i32 arg1
  let c2_i32_91 : BitVec 32 := 2#32
  let c0_i32_92 : BitVec 32 := 0#32
  let v206 : BitVec 1 := Scalar.cmpi .eq c2_i32_91 c0_i32_92
  let c1_i32_93 : BitVec 32 := 1#32
  let v207 : BitVec 32 := Scalar.select v206 c1_i32_93 c2_i32_91
  let v208 : BitVec 32 := Scalar.remsi v147 v207
  let c0_i32_95 : BitVec 32 := 0#32
  let v210 : BitVec 1 := Scalar.cmpi .slt v208 c0_i32_95
  let c0_i32_96 : BitVec 32 := 0#32
  let v211 : BitVec 1 := Scalar.cmpi .slt v207 c0_i32_96
  let v212 : BitVec 1 := Scalar.xori v210 v211
  let c0_i32_94 : BitVec 32 := 0#32
  let v209 : BitVec 1 := Scalar.cmpi .ne v208 c0_i32_94
  let v213 : BitVec 1 := Scalar.andi v212 v209
  let v214 : BitVec 32 := Scalar.addi v208 v207
  let v215 : BitVec 32 := Scalar.select v213 v214 v208
  let v216 : BitVec 32 := Scalar.subi v215 c0_i32_97
  let c1_i32_98 : BitVec 32 := 1#32
  let v218 : BitVec 32 := Scalar.divsi v216 c1_i32_98
  let v219 : BitVec 32 := Scalar.muli v218 c1_i32_98
  let v220 : BitVec 32 := Scalar.addi c0_i32_97 v219
  let c1_i32_99 : BitVec 32 := 1#32
  ⟨c0_i32_97, v220, c1_i32_99⟩
def k0_mult6 : BitVec 32 :=
  let c7680_i32 : BitVec 32 := 7680#32
  c7680_i32
@[reducible] def k0_t6_loop (i : grid0.Coords) : Scf.Loop 32 :=
  let c0_i32_97 : BitVec 32 := 0#32
  let c15_i32 : BitVec 32 := 15#32
  let arg1 : BitVec 32 := BitVec.ofNat 32 (i 1).val
  let v147 : BitVec 32 := Scalar.subi c15_i32 arg1
  let c2_i32_91 : BitVec 32 := 2#32
  let c0_i32_92 : BitVec 32 := 0#32
  let v206 : BitVec 1 := Scalar.cmpi .eq c2_i32_91 c0_i32_92
  let c1_i32_93 : BitVec 32 := 1#32
  let v207 : BitVec 32 := Scalar.select v206 c1_i32_93 c2_i32_91
  let v208 : BitVec 32 := Scalar.remsi v147 v207
  let c0_i32_95 : BitVec 32 := 0#32
  let v210 : BitVec 1 := Scalar.cmpi .slt v208 c0_i32_95
  let c0_i32_96 : BitVec 32 := 0#32
  let v211 : BitVec 1 := Scalar.cmpi .slt v207 c0_i32_96
  let v212 : BitVec 1 := Scalar.xori v210 v211
  let c0_i32_94 : BitVec 32 := 0#32
  let v209 : BitVec 1 := Scalar.cmpi .ne v208 c0_i32_94
  let v213 : BitVec 1 := Scalar.andi v212 v209
  let v214 : BitVec 32 := Scalar.addi v208 v207
  let v215 : BitVec 32 := Scalar.select v213 v214 v208
  let v216 : BitVec 32 := Scalar.subi v215 c0_i32_97
  let c1_i32_98 : BitVec 32 := 1#32
  let v218 : BitVec 32 := Scalar.divsi v216 c1_i32_98
  let v219 : BitVec 32 := Scalar.muli v218 c1_i32_98
  let v220 : BitVec 32 := Scalar.addi c0_i32_97 v219
  let v217 : BitVec 32 := Scalar.addi c0_i32_97 v216
  let c1_i32_100 : BitVec 32 := 1#32
  ⟨v220, v217, c1_i32_100⟩
def k0_mult7 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x16x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x16x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x1024 : Shape := ⟨2, ![8192, 1024]⟩
abbrev S8192x16 : Shape := ⟨2, ![8192, 16]⟩
abbrev S8192x16x64 : Shape := ⟨3, ![8192, 16, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S16x8192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192x1, .f32⟩
  | .hbm, ⟨13, _⟩ => ⟨S16x1x8192, .f32⟩
  | .hbm, ⟨14, _⟩ => ⟨S16x8192x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S8192x1, .i32⟩
  | .hbm, ⟨20, _⟩ => ⟨S8192, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S8192x16x64, .f32⟩
  | .hbm, ⟨71, _⟩ => ⟨S16x64x8192, .f32⟩
  | .hbm, ⟨72, _⟩ => ⟨S8192x16x64, .f32⟩
  | .hbm, ⟨73, _⟩ => ⟨S8192x1024, .f32⟩
  | .hbm, ⟨74, _⟩ => ⟨S8192x16x64, .f32⟩
  | .hbm, ⟨75, _⟩ => ⟨S16x64x8192, .f32⟩
  | .hbm, ⟨76, _⟩ => ⟨S16x8192x8192, .f32⟩
  | .hbm, ⟨77, _⟩ => ⟨S16x64x8192, .f32⟩
  | .hbm, ⟨78, _⟩ => ⟨S8192x16x64, .f32⟩
  | .hbm, ⟨79, _⟩ => ⟨S8192x1024, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192, .f32⟩
  | .hbm, ⟨85, _⟩ => ⟨S16x8192x1, .f32⟩
  | .hbm, ⟨86, _⟩ => ⟨S16x8192x1, .f32⟩
  | .hbm, ⟨87, _⟩ => ⟨S16x8192x8192, .f32⟩
  | .hbm, ⟨88, _⟩ => ⟨S16x8192x8192, .f32⟩
  | .hbm, ⟨89, _⟩ => ⟨S_, .f32⟩
  | .hbm, ⟨90, _⟩ => ⟨S16x8192, .f32⟩
  | .hbm, ⟨91, _⟩ => ⟨S16x8192x8192, .f32⟩
  | .hbm, ⟨92, _⟩ => ⟨S16x8192x8192, .f32⟩
  | .hbm, ⟨93, _⟩ => ⟨S16x8192x8192, .f32⟩
  | .hbm, ⟨94, _⟩ => ⟨S_, .f32⟩
  | .hbm, ⟨95, _⟩ => ⟨S16x8192x8192, .f32⟩
  | .hbm, ⟨96, _⟩ => ⟨S16x8192x8192, .f32⟩
  | .hbm, ⟨97, _⟩ => ⟨S_, .f32⟩
  | .hbm, ⟨98, _⟩ => ⟨S16x8192, .f32⟩
  | .hbm, ⟨99, _⟩ => ⟨S16x8192x1, .f32⟩
  | .hbm, ⟨100, _⟩ => ⟨S16x8192x8192, .f32⟩
  | .hbm, ⟨101, _⟩ => ⟨S_, .f32⟩
  | .hbm, ⟨102, _⟩ => ⟨S16x8192, .f32⟩
  | .hbm, ⟨103, _⟩ => ⟨S16x1x8192, .f32⟩
  | .hbm, ⟨104, _⟩ => ⟨S_, .f32⟩
  | .hbm, ⟨105, _⟩ => ⟨S16x8192, .f32⟩
  | .hbm, ⟨106, _⟩ => ⟨S_, .f32⟩
  | .hbm, ⟨107, _⟩ => ⟨S16x8192, .f32⟩
  | .hbm, ⟨108, _⟩ => ⟨S16x8192, .f32⟩
  | .hbm, ⟨109, _⟩ => ⟨S_, .f32⟩
  | .hbm, ⟨110, _⟩ => ⟨S16x8192x8192, .f32⟩
  | .hbm, ⟨111, _⟩ => ⟨S16x8192x8192, .f32⟩
  | .hbm, ⟨112, _⟩ => ⟨S16x8192x64, .f32⟩
  | .hbm, ⟨113, _⟩ => ⟨S8192x16x64, .f32⟩
  | .hbm, ⟨114, _⟩ => ⟨S16x8192x64, .f32⟩
  | .hbm, ⟨115, _⟩ => ⟨S8192x16x64, .f32⟩
  | .hbm, ⟨116, _⟩ => ⟨S8192x16, .f32⟩
  | .hbm, ⟨117, _⟩ => ⟨S8192x1024, .f32⟩
  | .hbm, ⟨118, _⟩ => ⟨S8192x1024, .f32⟩
  | .hbm, ⟨119, _⟩ => ⟨S8192x1024, .bf16⟩
  | .hbm, ⟨120, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel2.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | .hbm, ⟨8, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x1024 : Shape := ⟨2, ![8192, 1024]⟩
abbrev S8192x3200 : Shape := ⟨2, ![8192, 3200]⟩
abbrev S1024x3200 : Shape := ⟨2, ![1024, 3200]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S_, .f32⟩
  | .hbm, ⟨3, _⟩ => ⟨S1024x3200, .f32⟩
  | .hbm, ⟨4, _⟩ => ⟨S8192x1024, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x3200 : Shape := ⟨2, ![8192, 3200]⟩
abbrev S1024x3200 : Shape := ⟨2, ![1024, 3200]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .bf16⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .bf16⟩
  | .local _ .vmem, ⟨4, _⟩ => ⟨S1024x1024, .bf16⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x3200 : Shape := ⟨2, ![8192, 3200]⟩
abbrev S1024x3200 : Shape := ⟨2, ![1024, 3200]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S_, .f32⟩
  | .hbm, ⟨3, _⟩ => ⟨S8192x1024, .f32⟩
  | .hbm, ⟨4, _⟩ => ⟨S1024x3200, .f32⟩
  | .hbm, ⟨5, _⟩ => ⟨S8192x3200, .f32⟩
  | .hbm, ⟨6, _⟩ => ⟨S8192x3200, .f32⟩
  | .hbm, ⟨7, _⟩ => ⟨S8192x1024, .f32⟩
  | .hbm, ⟨8, _⟩ => ⟨S8192x1024, .bf16⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x384 : Shape := ⟨2, ![8192, 384]⟩
abbrev S8192x2048 : Shape := ⟨2, ![8192, 2048]⟩
abbrev S384x2048 : Shape := ⟨2, ![384, 2048]⟩
abbrev S2048x384 : Shape := ⟨2, ![2048, 384]⟩
abbrev S2048x1024 : Shape := ⟨2, ![2048, 1024]⟩
abbrev S384x1024 : Shape := ⟨2, ![384, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x384, .bf16⟩
  | .hbm, ⟨1, _⟩ => ⟨S8192x2048, .bf16⟩
  | .hbm, ⟨2, _⟩ => ⟨S384x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x384 : Shape := ⟨2, ![8192, 384]⟩
abbrev S8192x2048 : Shape := ⟨2, ![8192, 2048]⟩
abbrev S_ : Shape := ⟨0, ![]⟩
abbrev S384x2048 : Shape := ⟨2, ![384, 2048]⟩
abbrev S2048x384 : Shape := ⟨2, ![2048, 384]⟩

abbrev nBuf : Space → Nat
  | .hbm => 10
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x2048, .bf16⟩
  | .hbm, ⟨2, _⟩ => ⟨S_, .f32⟩
  | .hbm, ⟨3, _⟩ => ⟨S384x2048, .f32⟩
  | .hbm, ⟨4, _⟩ => ⟨S8192x384, .f32⟩
  | .hbm, ⟨5, _⟩ => ⟨S8192x2048, .f32⟩
  | .hbm, ⟨6, _⟩ => ⟨S8192x2048, .f32⟩
  | .hbm, ⟨7, _⟩ => ⟨S2048x384, .f32⟩
  | .hbm, ⟨8, _⟩ => ⟨S384x2048, .f32⟩
  | .hbm, ⟨9, _⟩ => ⟨S384x2048, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S384x2048 : Shape := ⟨2, ![384, 2048]⟩
abbrev S8192x384 : Shape := ⟨2, ![8192, 384]⟩
abbrev S1024x2048 : Shape := ⟨2, ![1024, 2048]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S384x2048, .bf16⟩
  | .hbm, ⟨2, _⟩ => ⟨S8192x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S384x2048 : Shape := ⟨2, ![384, 2048]⟩
abbrev S_ : Shape := ⟨0, ![]⟩
abbrev S8192x384 : Shape := ⟨2, ![8192, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S384x2048, .bf16⟩
  | .hbm, ⟨2, _⟩ => ⟨S_, .f32⟩
  | .hbm, ⟨3, _⟩ => ⟨S8192x384, .f32⟩
  | .hbm, ⟨4, _⟩ => ⟨S384x2048, .f32⟩
  | .hbm, ⟨5, _⟩ => ⟨S8192x2048, .f32⟩
  | .hbm, ⟨6, _⟩ => ⟨S8192x2048, .f32⟩
  | .hbm, ⟨7, _⟩ => ⟨S8192x384, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x256, .f32⟩
  | .hbm, ⟨5, _⟩ => ⟨S8192x2048, .f32⟩
  | .hbm, ⟨6, _⟩ => ⟨S8192x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x2048 : Shape := ⟨2, ![8192, 2048]⟩
abbrev S256x2048 : Shape := ⟨2, ![256, 2048]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S_, .f32⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S8192x768 : Shape := ⟨2, ![8192, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x768 : Shape := ⟨2, ![8192, 768]⟩
abbrev S1024x768 : Shape := ⟨2, ![1024, 768]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S8192x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .bf16⟩
  | .local _ .vmem, ⟨4, _⟩ => ⟨S1024x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x768 : Shape := ⟨2, ![8192, 768]⟩
abbrev S1024x768 : Shape := ⟨2, ![1024, 768]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S_, .f32⟩
  | .hbm, ⟨3, _⟩ => ⟨S8192x1024, .f32⟩
  | .hbm, ⟨4, _⟩ => ⟨S1024x768, .f32⟩
  | .hbm, ⟨5, _⟩ => ⟨S8192x768, .f32⟩
  | .hbm, ⟨6, _⟩ => ⟨S8192x768, .f32⟩
  | .hbm, ⟨7, _⟩ => ⟨S8192x1024, .f32⟩
  | .hbm, ⟨8, _⟩ => ⟨S8192x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .hbm, ⟨4, _⟩ => ⟨S_, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel20.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference20Ideal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel21.lean ====
abbrev S8192x16 : Shape := ⟨2, ![8192, 16]⟩
abbrev S512x16 : Shape := ⟨2, ![512, 16]⟩

abbrev nBuf : Space → Nat
  | .hbm => 6
  | .vmem => 12
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S8192x16 : Shape := ⟨2, ![8192, 16]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S_, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.KernelIdeal.Offs.lean ====
/- Where the loops of the kernel read and write: the rectangles of the four-block and the two-block loop in closed form. -/
module

public import proofs.«01_k».proof.Proof.Gen.KernelIdeal.Loops

@[expose] public section

set_option maxRecDepth 16384
set_option maxHeartbeats 4000000
set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Gen

/-! The four-block loop covers, on trip `k`, the query blocks `j + 1 + 4k … j + 4 + 4k`, `j` the key block; the two-block loop
the two blocks after its last. -/

theorem off4_eq : ∀ (i : grid0.Coords) (k : Fin (k0_t1_loop i).trips), k0_off4 i k = ![512 * ((i 1).val + 1 + 4 * k.val), 0] := by decide +kernel
instance closed_off4 (i : grid0.Coords) (k : Fin (k0_t1_loop i).trips) : ClosedOff (k0_off4 i k) := ⟨_, off4_eq i k⟩
theorem off5_eq_0 : ∀ (i : grid0.Coords) (k : Fin (k0_t1_loop i).trips), k0_off5 i k 0#32 = ![0, (i 1).val + 1 + 4 * k.val + 0, 0, 0] := by decide +kernel
instance closed_off5_0 (i : grid0.Coords) (k : Fin (k0_t1_loop i).trips) : ClosedOff (k0_off5 i k 0#32) := ⟨_, off5_eq_0 i k⟩
theorem off6_eq_0 : ∀ (i : grid0.Coords) (k : Fin (k0_t1_loop i).trips), k0_off6 i k 0#32 = ![1, (i 1).val + 1 + 4 * k.val + 0, 0, 0] := by decide +kernel
instance closed_off6_0 (i : grid0.Coords) (k : Fin (k0_t1_loop i).trips) : ClosedOff (k0_off6 i k 0#32) := ⟨_, off6_eq_0 i k⟩
theorem off5_eq_1 : ∀ (i : grid0.Coords) (k : Fin (k0_t1_loop i).trips), k0_off5 i k 1#32 = ![0, (i 1).val + 1 + 4 * k.val + 1, 0, 0] := by decide +kernel
instance closed_off5_1 (i : grid0.Coords) (k : Fin (k0_t1_loop i).trips) : ClosedOff (k0_off5 i k 1#32) := ⟨_, off5_eq_1 i k⟩
theorem off6_eq_1 : ∀ (i : grid0.Coords) (k : Fin (k0_t1_loop i).trips), k0_off6 i k 1#32 = ![1, (i 1).val + 1 + 4 * k.val + 1, 0, 0] := by decide +kernel
instance closed_off6_1 (i : grid0.Coords) (k : Fin (k0_t1_loop i).trips) : ClosedOff (k0_off6 i k 1#32) := ⟨_, off6_eq_1 i k⟩
theorem off5_eq_2 : ∀ (i : grid0.Coords) (k : Fin (k0_t1_loop i).trips), k0_off5 i k 2#32 = ![0, (i 1).val + 1 + 4 * k.val + 2, 0, 0] := by decide +kernel
instance closed_off5_2 (i : grid0.Coords) (k : Fin (k0_t1_loop i).trips) : ClosedOff (k0_off5 i k 2#32) := ⟨_, off5_eq_2 i k⟩
theorem off6_eq_2 : ∀ (i : grid0.Coords) (k : Fin (k0_t1_loop i).trips), k0_off6 i k 2#32 = ![1, (i 1).val + 1 + 4 * k.val + 2, 0, 0] := by decide +kernel
instance closed_off6_2 (i : grid0.Coords) (k : Fin (k0_t1_loop i).trips) : ClosedOff (k0_off6 i k 2#32) := ⟨_, off6_eq_2 i k⟩
theorem off5_eq_3 : ∀ (i : grid0.Coords) (k : Fin (k0_t1_loop i).trips), k0_off5 i k 3#32 = ![0, (i 1).val + 1 + 4 * k.val + 3, 0, 0] := by decide +kernel
instance closed_off5_3 (i : grid0.Coords) (k : Fin (k0_t1_loop i).trips) : ClosedOff (k0_off5 i k 3#32) := ⟨_, off5_eq_3 i k⟩
theorem off6_eq_3 : ∀ (i : grid0.Coords) (k : Fin (k0_t1_loop i).trips), k0_off6 i k 3#32 = ![1, (i 1).val + 1 + 4 * k.val + 3, 0, 0] := by decide +kernel
instance closed_off6_3 (i : grid0.Coords) (k : Fin (k0_t1_loop i).trips) : ClosedOff (k0_off6 i k 3#32) := ⟨_, off6_eq_3 i k⟩
/-- The first block the two-block loop takes. -/
abbrev blk2 (i : grid0.Coords) : ℕ := (i 1).val + 1 + 4 * ((15 - (i 1).val) / 4)
theorem off10_eq : ∀ (i : grid0.Coords), k0_off10 i = ![512 * blk2 i, 0] := by decide +kernel
instance closed_off10 (i : grid0.Coords) : ClosedOff (k0_off10 i) := ⟨_, off10_eq i⟩
theorem off11_eq_0 : ∀ (i : grid0.Coords), k0_off11 i 0#32 = ![0, blk2 i + 0, 0, 0] := by decide +kernel
instance closed_off11_0 (i : grid0.Coords) : ClosedOff (k0_off11 i 0#32) := ⟨_, off11_eq_0 i⟩
theorem off12_eq_0 : ∀ (i : grid0.Coords), k0_off12 i 0#32 = ![1, blk2 i + 0, 0, 0] := by decide +kernel
instance closed_off12_0 (i : grid0.Coords) : ClosedOff (k0_off12 i 0#32) := ⟨_, off12_eq_0 i⟩
theorem off11_eq_1 : ∀ (i : grid0.Coords), k0_off11 i 1#32 = ![0, blk2 i + 1, 0, 0] := by decide +kernel
instance closed_off11_1 (i : grid0.Coords) : ClosedOff (k0_off11 i 1#32) := ⟨_, off11_eq_1 i⟩
theorem off12_eq_1 : ∀ (i : grid0.Coords), k0_off12 i 1#32 = ![1, blk2 i + 1, 0, 0] := by decide +kernel
instance closed_off12_1 (i : grid0.Coords) : ClosedOff (k0_off12 i 1#32) := ⟨_, off12_eq_1 i⟩

theorem trips1 : ∀ i : grid0.Coords, (k0_t1_loop i).trips = (15 - (i 1).val) / 4 := by decide +kernel
theorem trips3 : ∀ i : grid0.Coords, (k0_t3_loop i).trips = (15 - (i 1).val) % 4 / 2 := by decide +kernel
theorem trips5 : ∀ i : grid0.Coords, (k0_t5_loop i).trips = (15 - (i 1).val) % 2 := by decide +kernel

end Cert.Proof.KernelIdeal

end
-- ==== Proof.KernelIdeal.Trips.lean ====
/- One trip of each of the two loops that take four and two query blocks at a time, run once at a symbolic trip. -/
module

public import proofs.«01_k».proof.Proof.KernelIdeal.Offs
public import Idealize.ShloMosaic.Lib.LoopRemainder

@[expose] public section

set_option maxRecDepth 16384
set_option maxHeartbeats 4000000
set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ
abbrev Acc (F : FTy → Type) : Type := FVec F S512x128 .f32 × FVec F S512x128 .f32 × FVec F S512x1 .f32 × FVec F S512x128 .f32 × FVec F S512x128 .f32 × FVec F S512x1 .f32

/-- What one trip touches: queries, output gradients, log-sums and row products read, the query gradients and row sums
    read and written. -/
abbrev Trip (c : Dev nD) (arg2 arg6 : Memref sig .tc .vmem S8192x128 .bf16) (arg7 arg8 : Memref sig .tc .vmem S2x16x1x512 .f32)
    (arg12 : Memref sig .tc .vmem S8192x128 .f32) (arg13 : Memref sig .tc .vmem S2x16x1x512 .f32)
    (X2 : BufTy.Contents (Elt F) arg2.view.ty) (X6 : BufTy.Contents (Elt F) arg6.view.ty) (X7 : BufTy.Contents (Elt F) arg7.view.ty) (X8 : BufTy.Contents (Elt F) arg8.view.ty)
    (f12 : BufTy.Contents (Elt F) arg12.view.ty) (f13 : BufTy.Contents (Elt F) arg13.view.ty) : sProp 𝕄G :=
  iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} f12) ∗ (arg13.view.loc (c : Thread nD τ) ↦[arg13.view.set]{fullShare} f13))

variable (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole)

@[irreducible] def trip1 (arg1 : BitVec 32) (v11 : FVec F S512x128 .bf16) (v18 : FVec F S512x128 .bf16) (v27 : FVec F S512x128 .bf16) (v34 : FVec F S512x128 .bf16) (v37 : FVec F S512x1 .f32) (v38 : FVec F S512x1 .f32) (v71 : FVec F S512x128 .f32) (v78 : FVec F S512x128 .f32) (v81 : FVec F S512x1 .f32) (v115 : FVec F S512x128 .f32) (v122 : FVec F S512x128 .f32) (v125 : FVec F S512x1 .f32) (v147 : BitVec 32) (c4_i32 : BitVec 32) (v148 : BitVec 32) (v153 : BitVec 32) (v155 : BitVec 32) (c0_i32_69 : BitVec 32)
    (X2 : BufTy.Contents (Elt F) arg2.view.ty) (X6 : BufTy.Contents (Elt F) arg6.view.ty) (X7 : BufTy.Contents (Elt F) arg7.view.ty) (X8 : BufTy.Contents (Elt F) arg8.view.ty) (k : Fin (k0_t1_loop i).trips) :
    Σ' (R : Acc F → BufTy.Contents (Elt F) arg12.view.ty → BufTy.Contents (Elt F) arg13.view.ty → Acc F) (L12 : Acc F → BufTy.Contents (Elt F) arg12.view.ty → BufTy.Contents (Elt F) arg13.view.ty → List (View.Piece (Elt F) S8192x128 .f32)),
      {L13 : Acc F → BufTy.Contents (Elt F) arg12.view.ty → BufTy.Contents (Elt F) arg13.view.ty → List (View.Piece (Elt F) S2x16x1x512 .f32) // ∀ (E : Set ℕ) (acc : Acc F) (f12 : BufTy.Contents (Elt F) arg12.view.ty) (f13 : BufTy.Contents (Elt F) arg13.view.ty),
        Trip (F := F) c arg2 arg6 arg7 arg8 arg12 arg13 X2 X6 X7 X8 f12 f13 ⊢ wp frame (wpE (defs₀ (F := F)) 𝒱 (c : Thread nD τ) bd) E
          (Gen.k0_t1_body (F := F) i arg2 harg2 arg3 harg3 arg4 harg4 arg5 harg5 arg6 harg6 arg7 harg7 arg8 harg8 arg9 harg9 arg10 harg10 arg11 harg11 arg12 harg12 arg13 harg13 arg1 v11 v18 v27 v34 v37 v38 v71 v78 v81 v115 v122 v125 v147 c4_i32 v148 v153 v155 c0_i32_69 k acc)
          (fun yld => iprop(⌜yld = R acc f12 f13⌝ ∗ Trip (F := F) c arg2 arg6 arg7 arg8 arg12 arg13 X2 X6 X7 X8
            (arg12.view.writes (Elt F) f12 (L12 acc f12 f13)) (arg13.view.writes (Elt F) f13 (L13 acc f12 f13))))} := by
  refine ⟨?_, ?_, ?_, fun E acc f12 f13 => ?run⟩
  case run =>
    unfold Gen.k0_t1_body
    iintro ⟨HR_arg2, HR_arg6, HR_arg7, HR_arg8, HW_arg12, HW_arg13⟩
    sl_exec
    sl_step
    sl_close

@[irreducible] def trip3 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32)
    (X2 : BufTy.Contents (Elt F) arg2.view.ty) (X6 : BufTy.Contents (Elt F) arg6.view.ty) (X7 : BufTy.Contents (Elt F) arg7.view.ty) (X8 : BufTy.Contents (Elt F) arg8.view.ty) (k : Fin (k0_t3_loop i).trips) :
    Σ' (R : Acc F → BufTy.Contents (Elt F) arg12.view.ty → BufTy.Contents (Elt F) arg13.view.ty → Acc F) (L12 : Acc F → BufTy.Contents (Elt F) arg12.view.ty → BufTy.Contents (Elt F) arg13.view.ty → List (View.Piece (Elt F) S8192x128 .f32)),
      {L13 : Acc F → BufTy.Contents (Elt F) arg12.view.ty → BufTy.Contents (Elt F) arg13.view.ty → List (View.Piece (Elt F) S2x16x1x512 .f32) // ∀ (E : Set ℕ) (acc : Acc F) (f12 : BufTy.Contents (Elt F) arg12.view.ty) (f13 : BufTy.Contents (Elt F) arg13.view.ty),
        Trip (F := F) c arg2 arg6 arg7 arg8 arg12 arg13 X2 X6 X7 X8 f12 f13 ⊢ wp frame (wpE (defs₀ (F := F)) 𝒱 (c : Thread nD τ) bd) E
          (Gen.k0_t3_body (F := F) i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 k acc)
          (fun yld => iprop(⌜yld = R acc f12 f13⌝ ∗ Trip (F := F) c arg2 arg6 arg7 arg8 arg12 arg13 X2 X6 X7 X8
            (arg12.view.writes (Elt F) f12 (L12 acc f12 f13)) (arg13.view.writes (Elt F) f13 (L13 acc f12 f13))))} := by
  refine ⟨?_, ?_, ?_, fun E acc f12 f13 => ?run⟩
  case run =>
    unfold Gen.k0_t3_body
    iintro ⟨HR_arg2, HR_arg6, HR_arg7, HR_arg8, HW_arg12, HW_arg13⟩
    sl_exec
    sl_step
    sl_close

/-- One trip of the one-block loop. -/
@[irreducible] def trip5 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32)
    (X2 : BufTy.Contents (Elt F) arg2.view.ty) (X6 : BufTy.Contents (Elt F) arg6.view.ty) (X7 : BufTy.Contents (Elt F) arg7.view.ty) (X8 : BufTy.Contents (Elt F) arg8.view.ty) (k : Fin (k0_t5_loop i).trips) :
    Σ' (R : Acc F → BufTy.Contents (Elt F) arg12.view.ty → BufTy.Contents (Elt F) arg13.view.ty → Acc F) (L12 : Acc F → BufTy.Contents (Elt F) arg12.view.ty → BufTy.Contents (Elt F) arg13.view.ty → List (View.Piece (Elt F) S8192x128 .f32)),
      {L13 : Acc F → BufTy.Contents (Elt F) arg12.view.ty → BufTy.Contents (Elt F) arg13.view.ty → List (View.Piece (Elt F) S2x16x1x512 .f32) // ∀ (E : Set ℕ) (acc : Acc F) (f12 : BufTy.Contents (Elt F) arg12.view.ty) (f13 : BufTy.Contents (Elt F) arg13.view.ty),
        Trip (F := F) c arg2 arg6 arg7 arg8 arg12 arg13 X2 X6 X7 X8 f12 f13 ⊢ wp frame (wpE (defs₀ (F := F)) 𝒱 (c : Thread nD τ) bd) E
          (Gen.k0_t5_body (F := F) i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 k acc)
          (fun yld => iprop(⌜yld = R acc f12 f13⌝ ∗ Trip (F := F) c arg2 arg6 arg7 arg8 arg12 arg13 X2 X6 X7 X8
            (arg12.view.writes (Elt F) f12 (L12 acc f12 f13)) (arg13.view.writes (Elt F) f13 (L13 acc f12 f13))))} := by
  refine ⟨?_, ?_, ?_, fun E acc f12 f13 => ?run⟩
  case run =>
    unfold Gen.k0_t5_body
    iintro ⟨HR_arg2, HR_arg6, HR_arg7, HR_arg8, HW_arg12, HW_arg13⟩
    sl_exec
    sl_step
    sl_close

end Cert.Proof.KernelIdeal

end
-- ==== Proof.KernelIdeal.Frame.lean ====
/- The kernel runs: the loops keep what they read and hand back what they write at some contents. -/
module

public import proofs.«01_k».proof.Proof.KernelIdeal.Trips
public import Idealize.ShloMosaic.Lib.LoopRemainder
public import proofs.«01_k».proof.Proof.Gen.KernelIdeal.Frame

@[expose] public section

set_option maxRecDepth 16384
set_option maxHeartbeats 4000000
set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Before any trip: the operands as they were, the query gradients and row sums at some contents. -/
abbrev inv (c : Dev nD) (arg2 arg6 : Memref sig .tc .vmem S8192x128 .bf16) (arg7 arg8 : Memref sig .tc .vmem S2x16x1x512 .f32)
    (arg12 : Memref sig .tc .vmem S8192x128 .f32) (arg13 : Memref sig .tc .vmem S2x16x1x512 .f32)
    (X2 : BufTy.Contents (Elt F) arg2.view.ty) (X6 : BufTy.Contents (Elt F) arg6.view.ty) (X7 : BufTy.Contents (Elt F) arg7.view.ty) (X8 : BufTy.Contents (Elt F) arg8.view.ty) : sProp 𝕄G :=
  iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg12.view.loc (c : Thread nD τ) ↦[arg12.view.set]{fullShare} f)) ∗ (∃ f, (arg13.view.loc (c : Thread nD τ) ↦[arg13.view.set]{fullShare} f)))

variable (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole)

@[sl_loop] noncomputable def loopInv1 (arg1 : BitVec 32) (v11 : FVec F S512x128 .bf16) (v18 : FVec F S512x128 .bf16) (v27 : FVec F S512x128 .bf16) (v34 : FVec F S512x128 .bf16) (v37 : FVec F S512x1 .f32) (v38 : FVec F S512x1 .f32) (init : Acc F)
    (X2 : BufTy.Contents (Elt F) arg2.view.ty) (X6 : BufTy.Contents (Elt F) arg6.view.ty) (X7 : BufTy.Contents (Elt F) arg7.view.ty) (X8 : BufTy.Contents (Elt F) arg8.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 init where
  inv k acc := inv (F := F) c arg2 arg6 arg7 arg8 arg12 arg13 X2 X6 X7 X8
  step k acc := by
    iintro ⟨HR_arg2, HR_arg6, HR_arg7, HR_arg8, ⟨%f12, HW_arg12⟩, ⟨%f13, HW_arg13⟩⟩
    iapply (wp_wand_r Idealize.ShloMosaic.frame (wpE (defs₀ (F := F)) 𝒱 (c : Thread nD τ) bd) E)
    isplitl [HR_arg2 HR_arg6 HR_arg7 HR_arg8 HW_arg12 HW_arg13]
    · iapply ((trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 k).2.2.property E acc f12 f13)
      isplitl [HR_arg2]; · iexact HR_arg2
      isplitl [HR_arg6]; · iexact HR_arg6
      isplitl [HR_arg7]; · iexact HR_arg7
      isplitl [HR_arg8]; · iexact HR_arg8
      isplitl [HW_arg12]; · iexact HW_arg12
      iexact HW_arg13
    · iintro %yld ⟨-, HR_arg2, HR_arg6, HR_arg7, HR_arg8, HW_arg12, HW_arg13⟩
      isplitl [HR_arg2]; · iexact HR_arg2
      isplitl [HR_arg6]; · iexact HR_arg6
      isplitl [HR_arg7]; · iexact HR_arg7
      isplitl [HR_arg8]; · iexact HR_arg8
      isplitl [HW_arg12]; · iexists _; iexact HW_arg12
      iexists _; iexact HW_arg13

@[sl_loop] noncomputable def loopInv3 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) :
    Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init where
  inv k acc := inv (F := F) c arg2 arg6 arg7 arg8 arg12 arg13 X2 X6 X7 X8
  step k acc := by
    iintro ⟨HR_arg2, HR_arg6, HR_arg7, HR_arg8, ⟨%f12, HW_arg12⟩, ⟨%f13, HW_arg13⟩⟩
    iapply (wp_wand_r Idealize.ShloMosaic.frame (wpE (defs₀ (F := F)) 𝒱 (c : Thread nD τ) bd) E)
    isplitl [HR_arg2 HR_arg6 HR_arg7 HR_arg8 HW_arg12 HW_arg13]
    · iapply ((trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.property E acc f12 f13)
      isplitl [HR_arg2]; · iexact HR_arg2
      isplitl [HR_arg6]; · iexact HR_arg6
      isplitl [HR_arg7]; · iexact HR_arg7
      isplitl [HR_arg8]; · iexact HR_arg8
      isplitl [HW_arg12]; · iexact HW_arg12
      iexact HW_arg13
    · iintro %yld ⟨-, HR_arg2, HR_arg6, HR_arg7, HR_arg8, HW_arg12, HW_arg13⟩
      isplitl [HR_arg2]; · iexact HR_arg2
      isplitl [HR_arg6]; · iexact HR_arg6
      isplitl [HR_arg7]; · iexact HR_arg7
      isplitl [HR_arg8]; · iexact HR_arg8
      isplitl [HW_arg12]; · iexists _; iexact HW_arg12
      iexists _; iexact HW_arg13

@[sl_loop] noncomputable def loopInv5 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) :
    Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init where
  inv k acc := inv (F := F) c arg2 arg6 arg7 arg8 arg12 arg13 X2 X6 X7 X8
  step k acc := by
    iintro ⟨HR_arg2, HR_arg6, HR_arg7, HR_arg8, ⟨%f12, HW_arg12⟩, ⟨%f13, HW_arg13⟩⟩
    iapply (wp_wand_r Idealize.ShloMosaic.frame (wpE (defs₀ (F := F)) 𝒱 (c : Thread nD τ) bd) E)
    isplitl [HR_arg2 HR_arg6 HR_arg7 HR_arg8 HW_arg12 HW_arg13]
    · iapply ((trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.property E acc f12 f13)
      isplitl [HR_arg2]; · iexact HR_arg2
      isplitl [HR_arg6]; · iexact HR_arg6
      isplitl [HR_arg7]; · iexact HR_arg7
      isplitl [HR_arg8]; · iexact HR_arg8
      isplitl [HW_arg12]; · iexact HW_arg12
      iexact HW_arg13
    · iintro %yld ⟨-, HR_arg2, HR_arg6, HR_arg7, HR_arg8, HW_arg12, HW_arg13⟩
      isplitl [HR_arg2]; · iexact HR_arg2
      isplitl [HR_arg6]; · iexact HR_arg6
      isplitl [HR_arg7]; · iexact HR_arg7
      isplitl [HR_arg8]; · iexact HR_arg8
      isplitl [HW_arg12]; · iexists _; iexact HW_arg12
      iexists _; iexact HW_arg13

/-- The kernel's triple: the operands kept, the five results at some contents. -/
theorem kernelRun
    (x2 : Vec F S8192x128 .bf16) (x3 : Vec F S512x128 .bf16) (x4 : Vec F S512x128 .bf16) (x5 : Vec F S1x512x2 .f32) (x6 : Vec F S8192x128 .bf16) (x7 : Vec F S2x16x1x512 .f32) (x8 : Vec F S2x16x1x512 .f32) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_fox_attn_bwd i arg2 harg2 arg3 harg3 arg4 harg4 arg5 harg5 arg6 harg6 arg7 harg7 arg8 harg8 arg9 harg9 arg10 harg10 arg11 harg11 arg12 harg12 arg13 harg13) K := by
  unfold owns
  iintro ⟨⟨%f2, %e2, HR_arg2⟩, ⟨%f3, %e3, HR_arg3⟩, ⟨%f4, %e4, HR_arg4⟩, ⟨%f5, %e5, HR_arg5⟩, ⟨%f6, %e6, HR_arg6⟩, ⟨%f7, %e7, HR_arg7⟩, ⟨%f8, %e8, HR_arg8⟩, ⟨%d9, %f9, -, HW_arg9⟩, ⟨%d10, %f10, -, HW_arg10⟩, ⟨%d11, %f11, -, HW_arg11⟩, ⟨%d12, %f12, -, HW_arg12⟩, ⟨%d13, %f13, -, HW_arg13⟩, Hk⟩
  simp only [Gen.cc0_fox_attn_bwd_eq_skeleton]; unfold Gen.cc0_fox_attn_bwd_skel
  by_cases hj : Scalar.cmpi .ne (Scalar.extui (Scalar.cmpi .eq (BitVec.ofNat 32 (i 1).val) 0#32)) 0#32 = 1#1
  all_goals
    sl_exec
    sl_step
    iapply Hk
    isplitl [HR_arg2]
    · iexists _; isplitr; swap; · iexact HR_arg2
      ipureintro; exact e2
    isplitl [HR_arg3]
    · iexists _; isplitr; swap; · iexact HR_arg3
      ipureintro; exact e3
    isplitl [HR_arg4]
    · iexists _; isplitr; swap; · iexact HR_arg4
      ipureintro; exact e4
    isplitl [HR_arg5]
    · iexists _; isplitr; swap; · iexact HR_arg5
      ipureintro; exact e5
    isplitl [HR_arg6]
    · iexists _; isplitr; swap; · iexact HR_arg6
      ipureintro; exact e6
    isplitl [HR_arg7]
    · iexists _; isplitr; swap; · iexact HR_arg7
      ipureintro; exact e7
    isplitl [HR_arg8]
    · iexists _; isplitr; swap; · iexact HR_arg8
      ipureintro; exact e8
    isplitl [HW_arg9]
    · iexists _, _; isplitr; swap; · iexact HW_arg9
      ipureintro; rfl
    isplitl [HW_arg10]
    · iexists _, _; isplitr; swap; · iexact HW_arg10
      ipureintro; rfl
    isplitl [HW_arg11]
    · iexists _, _; isplitr; swap; · iexact HW_arg11
      ipureintro; rfl
    isplitl [HW_arg12]
    · iexists _, _; isplitr; swap; · iexact HW_arg12
      ipureintro; rfl
    iexists _, _; isplitr; swap; · iexact HW_arg13
    ipureintro; rfl

/-! ## The launch -/

variable [∀ e, Nonempty (Elt F e)]
variable (m : (ℓ : Loc nD τ sig) → Buf (Elt F) ℓ) (ρ : Dev nD → PrngReg)

/-- The proof data: the arrays as the region finds them, nothing said of what the body leaves in a window. -/
def rdat (c : Dev nD) : Pipeline.RDat τ (Elt F) Unit ℕ (UR sig nD τ) ℕ cfg0 c where
  A w := Gen.V m c (Pipeline.arrRef spec0 w)
  after _ _ _ _ := True
  Φ _ := Pipeline.ΦA spec0 c
  q w := Pipeline.shareOf spec0 w
  owed _ := 0

open Gen in
theorem sound_body (c : Dev nD) (t : Fin cfg0.N) (Y : (w : Fin cfg0.W) → (cfg0.win w).block.Idx → Elt F (cfg0.win w).elt) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11))
      ⊢ wp frame (wpE (defs₀ (F := F)) Variants.none c none) Set.univ (bodyAt0 t) (fun _ =>
        iprop((rdat m c).Φ t.succ ∗ (rdat m c).owesAt () t.succ ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X) ∗ (∃ X, ⌜True⌝ ∗ owns (c : Thread nD τ) (st0_11 t) fullShare X))) := by
  rw [show (rdat m c).Φ t.succ = (rdat m c).Φ t.castSucc from rfl, show (rdat m c).owesAt () t.succ = (rdat m c).owesAt () t.castSucc from rfl]
  unfold bodyAt0
  iintro ⟨HP, HO, H0, H1, H2, H3, H4, H5, H6, H7, H8, H9, H10, H11⟩
  iapply (kernelRun c _ (st0_0 t) _ (st0_1 t) _ (st0_2 t) _ (st0_3 t) _ (st0_4 t) _ (st0_5 t) _ (st0_6 t) _ (st0_7 t) _ (st0_8 t) _ (st0_9 t) _ (st0_10 t) _ (st0_11 t) _
    (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, ⟨%X7, H7⟩, ⟨%X8, H8⟩, ⟨%X9, H9⟩, ⟨%X10, H10⟩, ⟨%X11, H11⟩⟩
  isplitl [HP]; · iexact HP
  isplitl [HO]; · iexact HO
  isplitl [H0]
  · iexists _; isplitr; · ipureintro; exact trivial
    iexact H0
  isplitl [H1]
  · iexists _; isplitr; · ipureintro; exact trivial
    iexact H1
  isplitl [H2]
  · iexists _; isplitr; · ipureintro; exact trivial
    iexact H2
  isplitl [H3]
  · iexists _; isplitr; · ipureintro; exact trivial
    iexact H3
  isplitl [H4]
  · iexists _; isplitr; · ipureintro; exact trivial
    iexact H4
  isplitl [H5]
  · iexists _; isplitr; · ipureintro; exact trivial
    iexact H5
  isplitl [H6]
  · iexists _; isplitr; · ipureintro; exact trivial
    iexact H6
  isplitl [H7]
  · iexists _; isplitr; · ipureintro; exact trivial
    iexact H7
  isplitl [H8]
  · iexists _; isplitr; · ipureintro; exact trivial
    iexact H8
  isplitl [H9]
  · iexists _; isplitr; · ipureintro; exact trivial
    iexact H9
  isplitl [H10]
  · iexists _; isplitr; · ipureintro; exact trivial
    iexact H10
  iexists _; isplitr; · ipureintro; exact trivial
  iexact H11

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : (rdat (F := F) m c).BodyObligation (defs₀ (F := F)) Variants.none () Set.univ := fun t Y _ => by
  rw [Gen.bigSep_W0, Gen.bigSep_W0, defs₀_row]
  exact triple_restated (sound_body m c t Y) rfl .rfl fun _ => .rfl

/-- What the host writes after the kernel. -/
def tailRefs : Finset (Ref sig .tc) := {main_v88, main_v89, main_v90, main_v91}

theorem tail_writes : ∀ ops ∈ ([Gen.hostOps1] : List (List (HloOp τ sig (Elt F)))), ∀ op ∈ ops, ∀ b : Ref sig .tc, Proc.devRef .tc b ∈ op.writes → b ∈ tailRefs := by
  intro ops hops op hop b hb
  simp only [List.mem_cons, List.mem_nil_iff, or_false] at hops
  subst hops
  simp only [Gen.hostOps1, List.mem_cons, List.mem_nil_iff, or_false] at hop
  rcases hop with rfl | rfl | rfl | rfl
  all_goals
    simp only [StableHlo.nullary_writes, StableHlo.unary_writes, StableHlo.binary_writes, StableHlo.reshape_writes, Finset.mem_singleton] at hb
    have := Proc.devRef_injective _ hb
    subst this; decide

set_option backward.isDefEq.respectTransparency.types false in
/-- @main runs from any memory with zero counters; every unscoped buffer that is no window's array and that the host's last
    lines do not write ends as the region found it, and every counter ends at zero. -/
theorem run_main :
    θ_run defs (onTc (τ := τ) (main (F := F))) (s₀ m ρ)
      (fun r => Pipeline.RDat.FramePostR (cfgs 0) (rdat m) tailRefs (Gen.V m) r ∧ r.2.sem = fun _ => 0) :=
  Pipeline.RDat.θ_run_frame_around_T_track_shared (Q' := _) cfgs (0 : Fin 1) Gen.launch₀0 defs₀ Variants.none (rdat m) tailRefs m ρ main
    (body_obligation m) (fun _ _ _ => rfl) (fun _ _ => rfl) (Gen.V0 m) [Gen.hostOps1] Gen.sfx_sub Gen.sfx_fresh Gen.sfx_keeps tail_writes
    (Gen.hmain m Variants.none) (fun _ _ => rfl) (fun _ => .rfl) (fun _ => .rfl)

theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (Gen.V_main_arg0 m c), ((h.1 c).2 main_arg1 (Finset.mem_sdiff.mpr ⟨Pipeline.mem_restRefs_of main_arg1 (by decide) (by decide), by decide⟩)).trans (Gen.V_main_arg1 m c), ((h.1 c).2 main_arg2 (Finset.mem_sdiff.mpr ⟨Pipeline.mem_restRefs_of main_arg2 (by decide) (by decide), by decide⟩)).trans (Gen.V_main_arg2 m c), ((h.1 c).2 main_arg3 (Finset.mem_sdiff.mpr ⟨Pipeline.mem_restRefs_of main_arg3 (by decide) (by decide), by decide⟩)).trans (Gen.V_main_arg3 m c), ((h.1 c).2 main_arg4 (Finset.mem_sdiff.mpr ⟨Pipeline.mem_restRefs_of main_arg4 (by decide) (by decide), by decide⟩)).trans (Gen.V_main_arg4 m c)⟩, h.2⟩) (run_main m ρ)

end Cert.Proof.KernelIdeal

end
-- ==== Proof.KernelIdeal.Run.lean ====
/- One run of the kernel body with everything it leaves named: the loops by the state each trip leaves. -/
module

public import proofs.«01_k».proof.Proof.KernelIdeal.Trips
public import Idealize.ShloMosaic.Lib.LoopRemainder

@[expose] public section

set_option maxRecDepth 16384
set_option maxHeartbeats 4000000
set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole)

/-- What the loop has left before trip `k`: the carried sums, and what it wrote into the query gradients and the row sums. -/
def st1 (arg1 : BitVec 32) (v11 : FVec F S512x128 .bf16) (v18 : FVec F S512x128 .bf16) (v27 : FVec F S512x128 .bf16) (v34 : FVec F S512x128 .bf16) (v37 : FVec F S512x1 .f32) (v38 : FVec F S512x1 .f32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    ℕ → Acc F × List (View.Piece (Elt F) S8192x128 .f32) × List (View.Piece (Elt F) S2x16x1x512 .f32)
  | 0 => (init, [], [])
  | k + 1 =>
    let p := st1 arg1 v11 v18 v27 v34 v37 v38 init X2 X6 X7 X8 G12 G13 k
    if h : k < (k0_t1_loop i).trips then
      ((trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 ⟨k, h⟩).1 p.1 (arg12.view.writes (Elt F) G12 p.2.1) (arg13.view.writes (Elt F) G13 p.2.2),
       (trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 ⟨k, h⟩).2.1 p.1 (arg12.view.writes (Elt F) G12 p.2.1) (arg13.view.writes (Elt F) G13 p.2.2) ++ p.2.1,
       (trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 ⟨k, h⟩).2.2.1 p.1 (arg12.view.writes (Elt F) G12 p.2.1) (arg13.view.writes (Elt F) G13 p.2.2) ++ p.2.2)
    else p

theorem st1_zero (arg1 : BitVec 32) (v11 : FVec F S512x128 .bf16) (v18 : FVec F S512x128 .bf16) (v27 : FVec F S512x128 .bf16) (v34 : FVec F S512x128 .bf16) (v37 : FVec F S512x1 .f32) (v38 : FVec F S512x1 .f32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 0).1 = init := rfl

theorem st1_succ (arg1 : BitVec 32) (v11 : FVec F S512x128 .bf16) (v18 : FVec F S512x128 .bf16) (v27 : FVec F S512x128 .bf16) (v34 : FVec F S512x128 .bf16) (v37 : FVec F S512x1 .f32) (v38 : FVec F S512x1 .f32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) (k : Fin (k0_t1_loop i).trips) :
    (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k.val + 1)) =
      ((trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 k).1 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).1 (arg12.view.writes (Elt F) G12 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.1) (arg13.view.writes (Elt F) G13 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.2),
       (trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 k).2.1 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).1 (arg12.view.writes (Elt F) G12 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.1) (arg13.view.writes (Elt F) G13 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.2) ++ (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.1,
       (trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 k).2.2.1 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).1 (arg12.view.writes (Elt F) G12 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.1) (arg13.view.writes (Elt F) G13 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.2) ++ (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).2.2) := by
  rw [st1]; exact dif_pos k.isLt

@[sl_loop] noncomputable def loopRun1 (arg1 : BitVec 32) (v11 : FVec F S512x128 .bf16) (v18 : FVec F S512x128 .bf16) (v27 : FVec F S512x128 .bf16) (v34 : FVec F S512x128 .bf16) (v37 : FVec F S512x1 .f32) (v38 : FVec F S512x1 .f32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 init where
  inv k acc := iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
    ∗ (∃ f, (arg12.view.loc (c : Thread nD τ) ↦[arg12.view.set]{fullShare} f) ∗ ⌜f = arg12.view.writes (Elt F) G12 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k).2.1⌝)
    ∗ (∃ f, (arg13.view.loc (c : Thread nD τ) ↦[arg13.view.set]{fullShare} f) ∗ ⌜f = arg13.view.writes (Elt F) G13 (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k).2.2⌝)
    ∗ ⌜acc = (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k).1⌝)
  step k acc := by
    iintro ⟨HR_arg2, HR_arg6, HR_arg7, HR_arg8, ⟨%f12, HW_arg12, %h12⟩, ⟨%f13, HW_arg13, %h13⟩, %hacc⟩
    subst hacc
    iapply (wp_wand_r Idealize.ShloMosaic.frame (wpE (defs₀ (F := F)) 𝒱 (c : Thread nD τ) bd) E)
    isplitl [HR_arg2 HR_arg6 HR_arg7 HR_arg8 HW_arg12 HW_arg13]
    · iapply ((trip1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 k).2.2.property E (st1 (F := F) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k.val).1 f12 f13)
      isplitl [HR_arg2]; · iexact HR_arg2
      isplitl [HR_arg6]; · iexact HR_arg6
      isplitl [HR_arg7]; · iexact HR_arg7
      isplitl [HR_arg8]; · iexact HR_arg8
      isplitl [HW_arg12]; · iexact HW_arg12
      iexact HW_arg13
    · iintro %yld ⟨%hres, HR_arg2, HR_arg6, HR_arg7, HR_arg8, HW_arg12, HW_arg13⟩
      isplitl [HR_arg2]; · iexact HR_arg2
      isplitl [HR_arg6]; · iexact HR_arg6
      isplitl [HR_arg7]; · iexact HR_arg7
      isplitl [HR_arg8]; · iexact HR_arg8
      simp only [st1_succ]
      isplitl [HW_arg12]
      · iexists _; isplitl [HW_arg12]; · iexact HW_arg12
        ipureintro; rw [h12, h13, ← View.writes_append]
      isplitl [HW_arg13]
      · iexists _; isplitl [HW_arg13]; · iexact HW_arg13
        ipureintro; rw [h12, h13, ← View.writes_append]
      ipureintro; rw [hres, h12, h13]

/-- What the loop has left before trip `k`: the carried sums, and what it wrote into the query gradients and the row sums. -/
def st3 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    ℕ → Acc F × List (View.Piece (Elt F) S8192x128 .f32) × List (View.Piece (Elt F) S2x16x1x512 .f32)
  | 0 => (init, [], [])
  | k + 1 =>
    let p := st3 v11 v18 v27 v34 v37 v38 v147 v171_0 v171_1 v171_2 v171_3 v171_4 v171_5 v182 v196 c1_i32_86 init X2 X6 X7 X8 G12 G13 k
    if h : k < (k0_t3_loop i).trips then
      ((trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨k, h⟩).1 p.1 (arg12.view.writes (Elt F) G12 p.2.1) (arg13.view.writes (Elt F) G13 p.2.2),
       (trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨k, h⟩).2.1 p.1 (arg12.view.writes (Elt F) G12 p.2.1) (arg13.view.writes (Elt F) G13 p.2.2) ++ p.2.1,
       (trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨k, h⟩).2.2.1 p.1 (arg12.view.writes (Elt F) G12 p.2.1) (arg13.view.writes (Elt F) G13 p.2.2) ++ p.2.2)
    else p

theorem st3_zero (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 0).1 = init := rfl

theorem st3_succ (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) (k : Fin (k0_t3_loop i).trips) :
    (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k.val + 1)) =
      ((trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).1 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 (arg12.view.writes (Elt F) G12 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1) (arg13.view.writes (Elt F) G13 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2),
       (trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.1 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 (arg12.view.writes (Elt F) G12 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1) (arg13.view.writes (Elt F) G13 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2) ++ (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1,
       (trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.1 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 (arg12.view.writes (Elt F) G12 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1) (arg13.view.writes (Elt F) G13 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2) ++ (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2) := by
  rw [st3]; exact dif_pos k.isLt

@[sl_loop] noncomputable def loopRun3 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init where
  inv k acc := iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
    ∗ (∃ f, (arg12.view.loc (c : Thread nD τ) ↦[arg12.view.set]{fullShare} f) ∗ ⌜f = arg12.view.writes (Elt F) G12 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.1⌝)
    ∗ (∃ f, (arg13.view.loc (c : Thread nD τ) ↦[arg13.view.set]{fullShare} f) ∗ ⌜f = arg13.view.writes (Elt F) G13 (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.2⌝)
    ∗ ⌜acc = (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).1⌝)
  step k acc := by
    iintro ⟨HR_arg2, HR_arg6, HR_arg7, HR_arg8, ⟨%f12, HW_arg12, %h12⟩, ⟨%f13, HW_arg13, %h13⟩, %hacc⟩
    subst hacc
    iapply (wp_wand_r Idealize.ShloMosaic.frame (wpE (defs₀ (F := F)) 𝒱 (c : Thread nD τ) bd) E)
    isplitl [HR_arg2 HR_arg6 HR_arg7 HR_arg8 HW_arg12 HW_arg13]
    · iapply ((trip3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.property E (st3 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 f12 f13)
      isplitl [HR_arg2]; · iexact HR_arg2
      isplitl [HR_arg6]; · iexact HR_arg6
      isplitl [HR_arg7]; · iexact HR_arg7
      isplitl [HR_arg8]; · iexact HR_arg8
      isplitl [HW_arg12]; · iexact HW_arg12
      iexact HW_arg13
    · iintro %yld ⟨%hres, HR_arg2, HR_arg6, HR_arg7, HR_arg8, HW_arg12, HW_arg13⟩
      isplitl [HR_arg2]; · iexact HR_arg2
      isplitl [HR_arg6]; · iexact HR_arg6
      isplitl [HR_arg7]; · iexact HR_arg7
      isplitl [HR_arg8]; · iexact HR_arg8
      simp only [st3_succ]
      isplitl [HW_arg12]
      · iexists _; isplitl [HW_arg12]; · iexact HW_arg12
        ipureintro; rw [h12, h13, ← View.writes_append]
      isplitl [HW_arg13]
      · iexists _; isplitl [HW_arg13]; · iexact HW_arg13
        ipureintro; rw [h12, h13, ← View.writes_append]
      ipureintro; rw [hres, h12, h13]

/-- What the loop has left before trip `k`: the carried sums, and what it wrote into the query gradients and the row sums. -/
def st5 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    ℕ → Acc F × List (View.Piece (Elt F) S8192x128 .f32) × List (View.Piece (Elt F) S2x16x1x512 .f32)
  | 0 => (init, [], [])
  | k + 1 =>
    let p := st5 v11 v18 v27 v34 v37 v38 v147 v171_0 v171_1 v171_2 v171_3 v171_4 v171_5 v182 v196 c1_i32_86 init X2 X6 X7 X8 G12 G13 k
    if h : k < (k0_t5_loop i).trips then
      ((trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨k, h⟩).1 p.1 (arg12.view.writes (Elt F) G12 p.2.1) (arg13.view.writes (Elt F) G13 p.2.2),
       (trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨k, h⟩).2.1 p.1 (arg12.view.writes (Elt F) G12 p.2.1) (arg13.view.writes (Elt F) G13 p.2.2) ++ p.2.1,
       (trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨k, h⟩).2.2.1 p.1 (arg12.view.writes (Elt F) G12 p.2.1) (arg13.view.writes (Elt F) G13 p.2.2) ++ p.2.2)
    else p

theorem st5_zero (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 0).1 = init := rfl

theorem st5_succ (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) (k : Fin (k0_t5_loop i).trips) :
    (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k.val + 1)) =
      ((trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).1 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 (arg12.view.writes (Elt F) G12 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1) (arg13.view.writes (Elt F) G13 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2),
       (trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.1 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 (arg12.view.writes (Elt F) G12 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1) (arg13.view.writes (Elt F) G13 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2) ++ (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1,
       (trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.1 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 (arg12.view.writes (Elt F) G12 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.1) (arg13.view.writes (Elt F) G13 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2) ++ (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).2.2) := by
  rw [st5]; exact dif_pos k.isLt

@[sl_loop] noncomputable def loopRun5 (v11 : FVec F S512x128 .bf16) (v18 : FVec F S512x128 .bf16) (v27 : FVec F S512x128 .bf16) (v34 : FVec F S512x128 .bf16) (v37 : FVec F S512x1 .f32) (v38 : FVec F S512x1 .f32) (v147 : BitVec 32) (v171_0 : FVec F S512x128 .f32) (v171_1 : FVec F S512x128 .f32) (v171_2 : FVec F S512x1 .f32) (v171_3 : FVec F S512x128 .f32) (v171_4 : FVec F S512x128 .f32) (v171_5 : FVec F S512x1 .f32) (v182 : BitVec 32) (v196 : BitVec 1) (c1_i32_86 : BitVec 32) (init : Acc F)
    (X2 : BufTy.Contents (Elt F) arg2.view.ty) (X6 : BufTy.Contents (Elt F) arg6.view.ty) (X7 : BufTy.Contents (Elt F) arg7.view.ty) (X8 : BufTy.Contents (Elt F) arg8.view.ty) (G12 : BufTy.Contents (Elt F) arg12.view.ty) (G13 : BufTy.Contents (Elt F) arg13.view.ty) :
    Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init where
  inv k acc := iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
    ∗ (∃ f, (arg12.view.loc (c : Thread nD τ) ↦[arg12.view.set]{fullShare} f) ∗ ⌜f = arg12.view.writes (Elt F) G12 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.1⌝)
    ∗ (∃ f, (arg13.view.loc (c : Thread nD τ) ↦[arg13.view.set]{fullShare} f) ∗ ⌜f = arg13.view.writes (Elt F) G13 (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.2⌝)
    ∗ ⌜acc = (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).1⌝)
  step k acc := by
    iintro ⟨HR_arg2, HR_arg6, HR_arg7, HR_arg8, ⟨%f12, HW_arg12, %h12⟩, ⟨%f13, HW_arg13, %h13⟩, %hacc⟩
    subst hacc
    iapply (wp_wand_r Idealize.ShloMosaic.frame (wpE (defs₀ (F := F)) 𝒱 (c : Thread nD τ) bd) E)
    isplitl [HR_arg2 HR_arg6 HR_arg7 HR_arg8 HW_arg12 HW_arg13]
    · iapply ((trip5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.property E (st5 (F := F) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k.val).1 f12 f13)
      isplitl [HR_arg2]; · iexact HR_arg2
      isplitl [HR_arg6]; · iexact HR_arg6
      isplitl [HR_arg7]; · iexact HR_arg7
      isplitl [HR_arg8]; · iexact HR_arg8
      isplitl [HW_arg12]; · iexact HW_arg12
      iexact HW_arg13
    · iintro %yld ⟨%hres, HR_arg2, HR_arg6, HR_arg7, HR_arg8, HW_arg12, HW_arg13⟩
      isplitl [HR_arg2]; · iexact HR_arg2
      isplitl [HR_arg6]; · iexact HR_arg6
      isplitl [HR_arg7]; · iexact HR_arg7
      isplitl [HR_arg8]; · iexact HR_arg8
      simp only [st5_succ]
      isplitl [HW_arg12]
      · iexists _; isplitl [HW_arg12]; · iexact HW_arg12
        ipureintro; rw [h12, h13, ← View.writes_append]
      isplitl [HW_arg13]
      · iexists _; isplitl [HW_arg13]; · iexact HW_arg13
        ipureintro; rw [h12, h13, ← View.writes_append]
      ipureintro; rw [hres, h12, h13]

/-- One run of the body at the first key block, which starts the query gradients and row sums at zero. -/
@[irreducible] def runA
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hj : Scalar.cmpi .ne (Scalar.extui (Scalar.cmpi .eq (BitVec.ofNat 32 (i 1).val) 0#32)) 0#32 = 1#1) :
    Σ' (C9 : BufTy.Contents (Elt F) arg9.view.ty) (C10 : BufTy.Contents (Elt F) arg10.view.ty) (C11 : BufTy.Contents (Elt F) arg11.view.ty) (C12 : BufTy.Contents (Elt F) arg12.view.ty),
      {C13 : BufTy.Contents (Elt F) arg13.view.ty //
        (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
        ⊢ wp frame (wpE (defs₀ (F := F)) Variants.none c none) Set.univ (cc0_fox_attn_bwd i arg2 harg2 arg3 harg3 arg4 harg4 arg5 harg5 arg6 harg6 arg7 harg7 arg8 harg8 arg9 harg9 arg10 harg10 arg11 harg11 arg12 harg12 arg13 harg13) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13)))} := by
  refine ⟨?_, ?_, ?_, ?_, ?_, ?run⟩
  case run =>
    simp only [Gen.cc0_fox_attn_bwd_eq_skeleton]; unfold Gen.cc0_fox_attn_bwd_skel
    iintro ⟨HR_arg2, HR_arg3, HR_arg4, HR_arg5, HR_arg6, HR_arg7, HR_arg8, HW_arg9, HW_arg10, HW_arg11, HW_arg12, HW_arg13⟩
    sl_exec
    sl_step
    sl_close

/-- One run of the body at a later key block, which adds to them. -/
@[irreducible] def runB
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hj : Scalar.cmpi .ne (Scalar.extui (Scalar.cmpi .eq (BitVec.ofNat 32 (i 1).val) 0#32)) 0#32 ≠ 1#1) :
    Σ' (C9 : BufTy.Contents (Elt F) arg9.view.ty) (C10 : BufTy.Contents (Elt F) arg10.view.ty) (C11 : BufTy.Contents (Elt F) arg11.view.ty) (C12 : BufTy.Contents (Elt F) arg12.view.ty),
      {C13 : BufTy.Contents (Elt F) arg13.view.ty //
        (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
        ⊢ wp frame (wpE (defs₀ (F := F)) Variants.none c none) Set.univ (cc0_fox_attn_bwd i arg2 harg2 arg3 harg3 arg4 harg4 arg5 harg5 arg6 harg6 arg7 harg7 arg8 harg8 arg9 harg9 arg10 harg10 arg11 harg11 arg12 harg12 arg13 harg13) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13)))} := by
  refine ⟨?_, ?_, ?_, ?_, ?_, ?run⟩
  case run =>
    simp only [Gen.cc0_fox_attn_bwd_eq_skeleton]; unfold Gen.cc0_fox_attn_bwd_skel
    iintro ⟨HR_arg2, HR_arg3, HR_arg4, HR_arg5, HR_arg6, HR_arg7, HR_arg8, HW_arg9, HW_arg10, HW_arg11, HW_arg12, HW_arg13⟩
    sl_exec
    sl_step
    sl_close

end Cert.Proof.KernelIdeal

end
-- ==== Proof.KernelIdeal.Spec.lean ====
/- What one key block contributes, written plainly: the weights, their gradients, and the sums over query rows. -/
module

public import proofs.«01_k».proof.Proof.KernelIdeal.Run
public import Idealize.ShloMosaic.Lib.Pointwise
public import Idealize.ShloMosaic.Lib.WritesUnit

@[expose] public section

set_option maxRecDepth 16384
set_option maxHeartbeats 4000000

noncomputable section

namespace Cert.Proof.KernelIdeal

open Cert.KernelIdeal
open Idealize.ShloMosaic Idealize.ShloMosaic.TcCoe

/-- A row statistic kept as two heads of sixteen blocks of 512, at query row `q`. -/
def stat (x : S2x16x1x512.Idx → EReal) (h : Fin 2) (q : Fin 8192) : EReal :=
  x (ix4 h (⟨q.val / 512, by omega⟩ : Fin 16) (0 : Fin 1) (⟨q.val % 512, by omega⟩ : Fin 512))

theorem stat_of (x : S2x16x1x512.Idx → EReal) (y : S2x16x1x512.Idx) (h : Fin 2) (q : Fin 8192) (h0 : (y 0).val = h.val)
    (hq : 512 * (y 1).val + (y 3).val = q.val) : x y = stat x h q := by
  unfold stat
  congr 1
  have h3 : (y 3).val < 512 := (y 3).isLt
  have h2 : (y 2).val < 1 := (y 2).isLt
  funext a
  apply Fin.ext
  match a with
  | ⟨0, _⟩ => exact h0
  | ⟨1, _⟩ => show (y 1).val = q.val / 512; omega
  | ⟨2, _⟩ => show (y 2).val = 0; omega
  | ⟨3, _⟩ => show (y 3).val = q.val % 512; omega

/-- The weight of key row `κ` of block `j` at query row `q`: two to the masked score less the row's log-sum. -/
def prH (k : S512x128.Idx → EReal) (b : S512x1.Idx → EReal) (x2 : S8192x128.Idx → EReal) (x7 : S2x16x1x512.Idx → EReal) (j : ℕ) (h : Fin 2)
    (κ : Fin 512) (q : Fin 8192) : EReal :=
  FloatOps.exp2 (F := Ideal) (φ := .f32)
    ((if 512 * j + κ.val ≤ q.val then (∑ l : Fin 128, k (ix2 κ l) * x2 (ix2 q l)) + b (ix2 κ (0 : Fin 1)) else ⊥) - stat x7 h q)

/-- The score's gradient: the weight times the weight's gradient less the row's mean of it. -/
def dsH (k v : S512x128.Idx → EReal) (b : S512x1.Idx → EReal) (x2 x6 : S8192x128.Idx → EReal) (x7 x8 : S2x16x1x512.Idx → EReal) (j : ℕ) (h : Fin 2)
    (κ : Fin 512) (q : Fin 8192) : EReal :=
  prH k b x2 x7 j h κ q * ((∑ l : Fin 128, v (ix2 κ l) * x6 (ix2 q l)) - stat x8 h q)

/-- The sum over the query rows from the key block's first up to `n`. -/
def upto (j n : ℕ) (f : Fin 8192 → EReal) : EReal := ∑ q : Fin 8192, if 512 * j ≤ q.val ∧ q.val < n then f q else 0

theorem upto_add (j r n : ℕ) (hj : 512 * j ≤ r) (h : r + n ≤ 8192) (f : Fin 8192 → EReal) :
    upto j (r + n) f = upto j r f + ∑ x : Fin n, f ⟨r + x.val, by omega⟩ := by
  have e : ∑ x : Fin n, f ⟨r + x.val, by omega⟩ = ∑ q : Fin 8192, if r ≤ q.val ∧ q.val < r + n then f q else 0 := by
    rw [← Finset.sum_filter]
    refine Finset.sum_bij (fun (x : Fin n) _ => (⟨r + x.val, by omega⟩ : Fin 8192)) ?_ ?_ ?_ ?_
    · intro x _; simp
    · intro x _ y _ hxy
      have := congrArg Fin.val hxy
      simp only at this
      exact Fin.ext (by omega)
    · intro q hq
      simp only [Finset.mem_filter, Finset.mem_univ, true_and] at hq
      exact ⟨⟨q.val - r, by omega⟩, Finset.mem_univ _, Fin.ext (by simp only; omega)⟩
    · intro x _; rfl
  rw [e]
  unfold upto
  rw [← Finset.sum_add_distrib]
  refine Finset.sum_congr rfl fun q _ => ?_
  by_cases h1 : q.val < r
  · by_cases h2 : 512 * j ≤ q.val
    · rw [if_pos ⟨h2, by omega⟩, if_pos ⟨h2, h1⟩, if_neg (by omega), add_zero]
    · rw [if_neg (by omega), if_neg (by omega), if_neg (by omega), add_zero]
  · by_cases h2 : q.val < r + n
    · rw [if_pos ⟨by omega, h2⟩, if_neg (by omega), if_pos ⟨by omega, h2⟩, zero_add]
    · rw [if_neg (by omega), if_neg (by omega), if_neg (by omega), add_zero]

theorem upto_self (j : ℕ) (f : Fin 8192 → EReal) : upto j (512 * j) f = 0 := by
  unfold upto
  exact Finset.sum_eq_zero fun q _ => if_neg (by omega)

/-- What one run of the body works on: keys and values of the two heads, the key bias, the queries, the output's gradient, the
    two row statistics, and the key block's number. -/
structure Env where
  k : Fin 2 → S512x128.Idx → EReal
  v : Fin 2 → S512x128.Idx → EReal
  b : Fin 2 → S512x1.Idx → EReal
  x2 : S8192x128.Idx → EReal
  x6 : S8192x128.Idx → EReal
  x7 : S2x16x1x512.Idx → EReal
  x8 : S2x16x1x512.Idx → EReal
  j : ℕ

namespace Env

variable (e : Env)

def pr (h : Fin 2) : Fin 512 → Fin 8192 → EReal := prH (e.k h) (e.b h) e.x2 e.x7 e.j h
def ds (h : Fin 2) : Fin 512 → Fin 8192 → EReal := dsH (e.k h) (e.v h) (e.b h) e.x2 e.x6 e.x7 e.x8 e.j h

/-- The key gradient summed over the rows before `n`, the value gradient, and the key bias's. -/
def dk (h : Fin 2) (n : ℕ) : S512x128.Idx → EReal := fun y => upto e.j n fun q => e.ds h (y 0) q * e.x2 (ix2 q (y 1))
def dv (h : Fin 2) (n : ℕ) : S512x128.Idx → EReal := fun y => upto e.j n fun q => e.pr h (y 0) q * e.x6 (ix2 q (y 1))
def db (h : Fin 2) (n : ℕ) : S512x1.Idx → EReal := fun y => upto e.j n fun q => e.ds h (y 0) q
def acc (n : ℕ) : Acc Ideal := (e.dk 0 n, e.dv 0 n, e.db 0 n, e.dk 1 n, e.dv 1 n, e.db 1 n)

/-- The block's share of the query gradient of row `q`, and of the row sum. -/
def dqr (q : Fin 8192) (l : Fin 128) : EReal :=
  ((∑ κ : Fin 512, e.ds 0 κ q * e.k 0 (ix2 κ l)) + ∑ κ : Fin 512, e.ds 1 κ q * e.k 1 (ix2 κ l)) * Ideal.ofBits .f32 0x3E000000#32
def drr (h : Fin 2) (q : Fin 8192) : EReal := ∑ κ : Fin 512, e.ds h κ q

/-- The query gradients and row sums when the rows before `n` have got the block's share. -/
def dq (G : S8192x128.Idx → EReal) (n : ℕ) : S8192x128.Idx → EReal := fun y =>
  G y + if 512 * e.j ≤ (y 0).val ∧ (y 0).val < n then e.dqr (y 0) (y 1) else 0
def row (y : S2x16x1x512.Idx) : Fin 8192 := ⟨512 * (y 1).val + (y 3).val, by
  have h1 : (y 1).val < 16 := (y 1).isLt
  have h3 : (y 3).val < 512 := (y 3).isLt
  omega⟩
def dr (G : S2x16x1x512.Idx → EReal) (n : ℕ) : S2x16x1x512.Idx → EReal := fun y =>
  G y + if 512 * e.j ≤ (row y).val ∧ (row y).val < n then e.drr (y 0) (row y) else 0

end Env

/-- The heads of one lane block side by side. -/
abbrev env (v11 v18 v27 v34 : S512x128.Idx → EReal) (v37 v38 : S512x1.Idx → EReal) (x2 x6 : S8192x128.Idx → EReal) (x7 x8 : S2x16x1x512.Idx → EReal)
    (j : ℕ) : Env :=
  { k := ![v11, v18], v := ![v27, v34], b := ![v37, v38], x2 := x2, x6 := x6, x7 := x7, x8 := x8, j := j }

/-! ## The rows each loop takes lie after the diagonal block and within the sequence -/

theorem rb1 (i : grid0.Coords) (k : Fin (k0_t1_loop i).trips) : 512 * ((i 1).val + 1 + 4 * k.val) + 2048 ≤ 8192 := by
  have h := lt_of_lt_of_eq k.isLt (trips1 i)
  omega
theorem rb3 (i : grid0.Coords) (k : Fin (k0_t3_loop i).trips) : 512 * ((i 1).val + 1) ≤ 512 * blk2 i ∧ 512 * blk2 i + 1024 ≤ 8192 := by
  have h := lt_of_lt_of_eq k.isLt (trips3 i)
  unfold blk2
  omega
theorem rb5 (i : grid0.Coords) (k : Fin (k0_t5_loop i).trips) : 512 * ((i 1).val + 1) ≤ 7680 := by
  have h := lt_of_lt_of_eq k.isLt (trips5 i)
  omega

/-! ## Taking the next rows -/

namespace Env

variable (e : Env)

theorem dk_add (h : Fin 2) (r n : ℕ) (hj : 512 * e.j ≤ r) (hr : r + n ≤ 8192) (κ : Fin 512) (l : Fin 128) :
    e.dk h (r + n) (ix2 κ l) = e.dk h r (ix2 κ l) + ∑ x : Fin n, e.ds h κ ⟨r + x.val, by omega⟩ * e.x2 (ix2 (⟨r + x.val, by omega⟩ : Fin 8192) l) :=
  upto_add e.j r n hj hr fun q => e.ds h κ q * e.x2 (ix2 q l)
theorem dv_add (h : Fin 2) (r n : ℕ) (hj : 512 * e.j ≤ r) (hr : r + n ≤ 8192) (κ : Fin 512) (l : Fin 128) :
    e.dv h (r + n) (ix2 κ l) = e.dv h r (ix2 κ l) + ∑ x : Fin n, e.pr h κ ⟨r + x.val, by omega⟩ * e.x6 (ix2 (⟨r + x.val, by omega⟩ : Fin 8192) l) :=
  upto_add e.j r n hj hr fun q => e.pr h κ q * e.x6 (ix2 q l)
theorem db_add (h : Fin 2) (r n : ℕ) (hj : 512 * e.j ≤ r) (hr : r + n ≤ 8192) (κ : Fin 512) :
    e.db h (r + n) (ix2 κ (0 : Fin 1)) = e.db h r (ix2 κ (0 : Fin 1)) + ∑ x : Fin n, e.ds h κ ⟨r + x.val, by omega⟩ :=
  upto_add e.j r n hj hr fun q => e.ds h κ q

theorem dq_new (G : S8192x128.Idx → EReal) (r n : ℕ) (y : S8192x128.Idx) (hj : 512 * e.j ≤ r) (h : r ≤ (y 0).val ∧ (y 0).val < r + n) :
    e.dq G (r + n) y = e.dq G r y + e.dqr (y 0) (y 1) := by
  unfold dq
  rw [if_pos (by omega), if_neg (by omega), add_zero]

theorem dq_old (G : S8192x128.Idx → EReal) (r n : ℕ) (y : S8192x128.Idx) (h : (y 0).val < r ∨ r + n ≤ (y 0).val) :
    e.dq G (r + n) y = e.dq G r y := by
  unfold dq
  congr 1
  by_cases h1 : 512 * e.j ≤ (y 0).val ∧ (y 0).val < r
  · rw [if_pos (by omega), if_pos h1]
  · rw [if_neg (by omega), if_neg h1]

theorem dr_new (G : S2x16x1x512.Idx → EReal) (r n : ℕ) (y : S2x16x1x512.Idx) (hj : 512 * e.j ≤ r) (h : r ≤ (row y).val ∧ (row y).val < r + n) :
    e.dr G (r + n) y = e.dr G r y + e.drr (y 0) (row y) := by
  unfold dr
  rw [if_pos (by omega), if_neg (by omega), add_zero]

theorem dr_old (G : S2x16x1x512.Idx → EReal) (r n : ℕ) (y : S2x16x1x512.Idx) (h : (row y).val < r ∨ r + n ≤ (row y).val) :
    e.dr G (r + n) y = e.dr G r y := by
  unfold dr
  congr 1
  by_cases h1 : 512 * e.j ≤ (row y).val ∧ (row y).val < r
  · rw [if_pos (by omega), if_pos h1]
  · rw [if_neg (by omega), if_neg h1]

end Env

/-! ## Reading a written block of a row statistic -/

theorem ext_rows {x y : S2x16x1x512.Idx} (h0 : (x 0).val = (y 0).val) (h1 : (x 1).val = (y 1).val) (h3 : (x 3).val = (y 3).val) : x = y := by
  have hx : (x 2).val < 1 := (x 2).isLt
  have hy : (y 2).val < 1 := (y 2).isLt
  funext a
  apply Fin.ext
  match a with
  | ⟨0, _⟩ => exact h0
  | ⟨1, _⟩ => exact h1
  | ⟨2, _⟩ => show (x 2).val = (y 2).val; omega
  | ⟨3, _⟩ => exact h3

theorem ext_mat {m n : ℕ} {x y : (⟨2, ![m, n]⟩ : Shape).Idx} (h0 : (x 0).val = (y 0).val) (h1 : (x 1).val = (y 1).val) : x = y := by
  funext a
  apply Fin.ext
  match a with
  | ⟨0, _⟩ => exact h0
  | ⟨1, _⟩ => exact h1

section Rows

variable {sig : RefSig} {κ : Kind} {sp : Space} (v : View sig κ sp S2x16x1x512 .f32) (f : v.ty.Contents (Elt Ideal))

theorem rd_mem {off : Fin 4 → ℕ} (inb : ∀ a : Fin 4, off a + (![1, 1, 1, 512] : Fin 4 → ℕ) a ≤ S2x16x1x512.size a)
    (w : S1x1x1x512.Idx → EReal) (L : List (View.Piece (Elt Ideal) S2x16x1x512 .f32)) (y : S2x16x1x512.Idx) (H B : ℕ)
    (heq : off = ![H, B, 0, 0]) (h0 : (y 0).val = H) (h1 : (y 1).val = B) :
    v.read (Elt Ideal) (v.writes (Elt Ideal) f ((⟨Rect.unit (s := S2x16x1x512) off ![1, 1, 1, 512] inb, w⟩ : View.Piece (Elt Ideal) S2x16x1x512 .f32) :: L)) y
      = w (ix4 (0 : Fin 1) (0 : Fin 1) (0 : Fin 1) (y 3)) := by
  refine View.read_writes_cons_unit_of_mem (s := S2x16x1x512) v f inb w L y (ix4 (0 : Fin 1) (0 : Fin 1) (0 : Fin 1) (y 3)) heq fun a => ?_
  have h2 : (y 2).val < 1 := (y 2).isLt
  match a with
  | ⟨0, _⟩ => exact h0
  | ⟨1, _⟩ => exact h1
  | ⟨2, _⟩ => show (y 2).val = 0 + 0; omega
  | ⟨3, _⟩ => show (y 3).val = 0 + (y 3).val; omega

theorem rd_not {off : Fin 4 → ℕ} (inb : ∀ a : Fin 4, off a + (![1, 1, 1, 512] : Fin 4 → ℕ) a ≤ S2x16x1x512.size a)
    (w : S1x1x1x512.Idx → EReal) (L : List (View.Piece (Elt Ideal) S2x16x1x512 .f32)) (y : S2x16x1x512.Idx) (H B : ℕ)
    (heq : off = ![H, B, 0, 0]) (h : (y 0).val ≠ H ∨ (y 1).val ≠ B) :
    v.read (Elt Ideal) (v.writes (Elt Ideal) f ((⟨Rect.unit (s := S2x16x1x512) off ![1, 1, 1, 512] inb, w⟩ : View.Piece (Elt Ideal) S2x16x1x512 .f32) :: L)) y
      = v.read (Elt Ideal) (v.writes (Elt Ideal) f L) y := by
  rcases h with h | h
  · exact View.read_writes_cons_unit_of_not_mem (s := S2x16x1x512) v f inb w L y heq (0 : Fin 4) (by
      show (y 0).val < H ∨ H + 1 ≤ (y 0).val; omega)
  · exact View.read_writes_cons_unit_of_not_mem (s := S2x16x1x512) v f inb w L y heq (1 : Fin 4) (by
      show (y 1).val < B ∨ B + 1 ≤ (y 1).val; omega)

end Rows

end Cert.Proof.KernelIdeal

end
-- ==== Proof.KernelIdeal.Val1.lean ====
/- What one trip of the loop over four query blocks adds. -/
module

public import proofs.«01_k».proof.Proof.KernelIdeal.Spec

@[expose] public section

set_option maxRecDepth 16384
set_option maxHeartbeats 4000000

noncomputable section

namespace Cert.Proof.KernelIdeal

open Cert.KernelIdeal
open Idealize.ShloMosaic Idealize.ShloMosaic.TcCoe

section Pieces

variable (i : grid0.Coords) (arg2 arg6 : Memref sig .tc .vmem S8192x128 .bf16) (arg7 arg8 arg13 : Memref sig .tc .vmem S2x16x1x512 .f32) (arg12 : Memref sig .tc .vmem S8192x128 .f32) (v11 v18 v27 v34 : FVec Ideal S512x128 .bf16) (v37 v38 : FVec Ideal S512x1 .f32) (X2 : BufTy.Contents (Elt Ideal) arg2.view.ty) (X6 : BufTy.Contents (Elt Ideal) arg6.view.ty) (X7 : BufTy.Contents (Elt Ideal) arg7.view.ty) (X8 : BufTy.Contents (Elt Ideal) arg8.view.ty)
variable (k : Fin (k0_t1_loop i).trips) (acc : Acc Ideal) (f12 : BufTy.Contents (Elt Ideal) arg12.view.ty) (f13 : BufTy.Contents (Elt Ideal) arg13.view.ty)

theorem trip1_lse0 (x : Fin 2048) :
    trip1.sl.v276 i arg7 X7 k (ix2 (0 : Fin 1) x) = stat (arg7.view.read (Elt Ideal) X7) 0 (⟨512 * ((i 1).val + 1 + 4 * k.val) + x.val, by have := rb1 i k; omega⟩ : Fin 8192) := by
  have hb := rb1 i k
  have hx := x.isLt
  simp only [trip1.sl.v276, trip1.sl.v263, trip1.sl.v267, trip1.sl.v271, trip1.sl.v275, View.readAt_eq_ld]
  pointwise []
  simp only [off4_eq, off5_eq_0, off5_eq_1, off5_eq_2, off5_eq_3, off6_eq_0, off6_eq_1, off6_eq_2, off6_eq_3]
  split_ifs <;> exact stat_of _ _ _ _ rfl (by first | (simp; done) | (simp; omega))

theorem trip1_dlt0 (x : Fin 2048) :
    trip1.sl.v293 i arg8 X8 k (ix2 (0 : Fin 1) x) = stat (arg8.view.read (Elt Ideal) X8) 0 (⟨512 * ((i 1).val + 1 + 4 * k.val) + x.val, by have := rb1 i k; omega⟩ : Fin 8192) := by
  have hb := rb1 i k
  have hx := x.isLt
  simp only [trip1.sl.v293, trip1.sl.v280, trip1.sl.v284, trip1.sl.v288, trip1.sl.v292, View.readAt_eq_ld]
  pointwise []
  simp only [off4_eq, off5_eq_0, off5_eq_1, off5_eq_2, off5_eq_3, off6_eq_0, off6_eq_1, off6_eq_2, off6_eq_3]
  split_ifs <;> exact stat_of _ _ _ _ rfl (by first | (simp; done) | (simp; omega))

theorem trip1_pr0 (κ : Fin 512) (x : Fin 2048) :
    trip1.sl.v296 i arg2 arg7 v11 v37 X2 X7 k (ix2 κ x) = prH v11 v37 (arg2.view.read (Elt Ideal) X2) (arg7.view.read (Elt Ideal) X7) (i 1).val 0 κ (⟨512 * ((i 1).val + 1 + 4 * k.val) + x.val, by have := rb1 i k; omega⟩ : Fin 8192) := by
  have hb := rb1 i k
  have hx := x.isLt
  have hκ := κ.isLt
  have L := fun x : Fin 2048 => trip1_lse0 i arg7 X7 k x
  simp only [trip1.sl.v296, trip1.sl.v295, trip1.sl.v259, trip1.sl.v257, trip1.sl.v253, trip1.sl.cst_116, trip1.sl.v258, trip1.sl.v294, View.readAt_eq_ld]
  pointwise [L]
  unfold prH
  rw [if_pos (by simp only; omega)]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_ds0 (κ : Fin 512) (x : Fin 2048) :
    trip1.sl.v303 i arg2 arg6 arg7 arg8 v11 v27 v37 X2 X6 X7 X8 k (ix2 κ x) = dsH v11 v27 v37 (arg2.view.read (Elt Ideal) X2) (arg6.view.read (Elt Ideal) X6) (arg7.view.read (Elt Ideal) X7) (arg8.view.read (Elt Ideal) X8) (i 1).val 0 κ (⟨512 * ((i 1).val + 1 + 4 * k.val) + x.val, by have := rb1 i k; omega⟩ : Fin 8192) := by
  have L := fun x : Fin 2048 => trip1_dlt0 i arg8 X8 k x
  have P := fun (κ : Fin 512) (x : Fin 2048) => trip1_pr0 i arg2 arg7 v11 v37 X2 X7 k κ x
  simp only [trip1.sl.v303, trip1.sl.v302, trip1.sl.v300, trip1.sl.v256, trip1.sl.cst_116, trip1.sl.v301, View.readAt_eq_ld]
  pointwise [L, P]
  unfold dsH
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_dk0 (κ : Fin 512) (l : Fin 128) :
    trip1.sl.v306 i arg2 arg6 arg7 arg8 v11 v27 v37 X2 X6 X7 X8 k acc (ix2 κ l) = acc.1 (ix2 κ l) + ∑ x : Fin 2048, dsH v11 v27 v37 (arg2.view.read (Elt Ideal) X2) (arg6.view.read (Elt Ideal) X6) (arg7.view.read (Elt Ideal) X7) (arg8.view.read (Elt Ideal) X8) (i 1).val 0 κ (⟨512 * ((i 1).val + 1 + 4 * k.val) + x.val, by have := rb1 i k; omega⟩ : Fin 8192) * (arg2.view.read (Elt Ideal) X2) (ix2 (⟨512 * ((i 1).val + 1 + 4 * k.val) + x.val, by have := rb1 i k; omega⟩ : Fin 8192) l) := by
  have P := fun (κ : Fin 512) (x : Fin 2048) => trip1_ds0 i arg2 arg6 arg7 arg8 v11 v27 v37 X2 X6 X7 X8 k κ x
  simp only [trip1.sl.v306, trip1.sl.v305, trip1.sl.v304, trip1.sl.v253, trip1.sl.cst_148, View.readAt_eq_ld]
  pointwise [P]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_dv0 (κ : Fin 512) (l : Fin 128) :
    trip1.sl.v299 i arg2 arg6 arg7 v11 v37 X2 X6 X7 k acc (ix2 κ l) = acc.2.1 (ix2 κ l) + ∑ x : Fin 2048, prH v11 v37 (arg2.view.read (Elt Ideal) X2) (arg7.view.read (Elt Ideal) X7) (i 1).val 0 κ (⟨512 * ((i 1).val + 1 + 4 * k.val) + x.val, by have := rb1 i k; omega⟩ : Fin 8192) * (arg6.view.read (Elt Ideal) X6) (ix2 (⟨512 * ((i 1).val + 1 + 4 * k.val) + x.val, by have := rb1 i k; omega⟩ : Fin 8192) l) := by
  have P := fun (κ : Fin 512) (x : Fin 2048) => trip1_pr0 i arg2 arg7 v11 v37 X2 X7 k κ x
  simp only [trip1.sl.v299, trip1.sl.v298, trip1.sl.v297, trip1.sl.v256, trip1.sl.cst_148, View.readAt_eq_ld]
  pointwise [P]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_db0 (κ : Fin 512) :
    trip1.sl.v309 i arg2 arg6 arg7 arg8 v11 v27 v37 X2 X6 X7 X8 k acc (ix2 κ (0 : Fin 1)) = acc.2.2.1 (ix2 κ (0 : Fin 1)) + ∑ x : Fin 2048, dsH v11 v27 v37 (arg2.view.read (Elt Ideal) X2) (arg6.view.read (Elt Ideal) X6) (arg7.view.read (Elt Ideal) X7) (arg8.view.read (Elt Ideal) X8) (i 1).val 0 κ (⟨512 * ((i 1).val + 1 + 4 * k.val) + x.val, by have := rb1 i k; omega⟩ : Fin 8192) := by
  have P := fun (κ : Fin 512) (x : Fin 2048) => trip1_ds0 i arg2 arg6 arg7 arg8 v11 v27 v37 X2 X6 X7 X8 k κ x
  simp only [trip1.sl.v309, trip1.sl.v308, trip1.sl.v307]
  pointwise [P]

theorem trip1_dq0 (x : Fin 2048) (l : Fin 128) :
    trip1.sl.v310 i arg2 arg6 arg7 arg8 v11 v27 v37 X2 X6 X7 X8 k (ix2 x l) = ∑ κ : Fin 512, dsH v11 v27 v37 (arg2.view.read (Elt Ideal) X2) (arg6.view.read (Elt Ideal) X6) (arg7.view.read (Elt Ideal) X7) (arg8.view.read (Elt Ideal) X8) (i 1).val 0 κ (⟨512 * ((i 1).val + 1 + 4 * k.val) + x.val, by have := rb1 i k; omega⟩ : Fin 8192) * v11 (ix2 κ l) := by
  have P := fun (κ : Fin 512) (x : Fin 2048) => trip1_ds0 i arg2 arg6 arg7 arg8 v11 v27 v37 X2 X6 X7 X8 k κ x
  simp only [trip1.sl.v310, trip1.sl.v304, trip1.sl.cst_152]
  pointwise [P]

theorem trip1_rs0 (x : Fin 2048) :
    trip1.sl.v312 i arg2 arg6 arg7 arg8 v11 v27 v37 X2 X6 X7 X8 k (ix2 (0 : Fin 1) x) = ∑ κ : Fin 512, dsH v11 v27 v37 (arg2.view.read (Elt Ideal) X2) (arg6.view.read (Elt Ideal) X6) (arg7.view.read (Elt Ideal) X7) (arg8.view.read (Elt Ideal) X8) (i 1).val 0 κ (⟨512 * ((i 1).val + 1 + 4 * k.val) + x.val, by have := rb1 i k; omega⟩ : Fin 8192) := by
  have P := fun (κ : Fin 512) (x : Fin 2048) => trip1_ds0 i arg2 arg6 arg7 arg8 v11 v27 v37 X2 X6 X7 X8 k κ x
  simp only [trip1.sl.v312, trip1.sl.v311]
  pointwise [P]

theorem trip1_pl00 (x : Fin 512) (y : S2x16x1x512.Idx) (q : Fin 8192) (h0 : (y 0).val = 0) (h1 : (y 1).val = (i 1).val + 1 + 4 * k.val + 0)
    (h3 : (y 3).val = x.val) (hq : q.val = 512 * ((i 1).val + 1 + 4 * k.val) + 0 + x.val) :
    (trip1.sl.v322 i arg2 arg6 arg7 arg8 arg13 v11 v27 v37 X2 X6 X7 X8 k f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 2048) => trip1_rs0 i arg2 arg6 arg7 arg8 v11 v27 v37 X2 X6 X7 X8 k x
  simp only [trip1.sl.v322, trip1.sl.v318, trip1.sl.v316, trip1.sl.v317, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_pl01 (x : Fin 512) (y : S2x16x1x512.Idx) (q : Fin 8192) (h0 : (y 0).val = 0) (h1 : (y 1).val = (i 1).val + 1 + 4 * k.val + 1)
    (h3 : (y 3).val = x.val) (hq : q.val = 512 * ((i 1).val + 1 + 4 * k.val) + 512 + x.val) :
    (trip1.sl.v332 i arg2 arg6 arg7 arg8 arg13 v11 v27 v37 X2 X6 X7 X8 k f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 2048) => trip1_rs0 i arg2 arg6 arg7 arg8 v11 v27 v37 X2 X6 X7 X8 k x
  simp only [trip1.sl.v332, trip1.sl.v328, trip1.sl.v326, trip1.sl.v325, trip1.sl.v327, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_pl02 (x : Fin 512) (y : S2x16x1x512.Idx) (q : Fin 8192) (h0 : (y 0).val = 0) (h1 : (y 1).val = (i 1).val + 1 + 4 * k.val + 2)
    (h3 : (y 3).val = x.val) (hq : q.val = 512 * ((i 1).val + 1 + 4 * k.val) + 1024 + x.val) :
    (trip1.sl.v342 i arg2 arg6 arg7 arg8 arg13 v11 v27 v37 X2 X6 X7 X8 k f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 2048) => trip1_rs0 i arg2 arg6 arg7 arg8 v11 v27 v37 X2 X6 X7 X8 k x
  simp only [trip1.sl.v342, trip1.sl.v338, trip1.sl.v336, trip1.sl.v335, trip1.sl.v337, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_pl03 (x : Fin 512) (y : S2x16x1x512.Idx) (q : Fin 8192) (h0 : (y 0).val = 0) (h1 : (y 1).val = (i 1).val + 1 + 4 * k.val + 3)
    (h3 : (y 3).val = x.val) (hq : q.val = 512 * ((i 1).val + 1 + 4 * k.val) + 1536 + x.val) :
    (trip1.sl.v352 i arg2 arg6 arg7 arg8 arg13 v11 v27 v37 X2 X6 X7 X8 k f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 2048) => trip1_rs0 i arg2 arg6 arg7 arg8 v11 v27 v37 X2 X6 X7 X8 k x
  simp only [trip1.sl.v352, trip1.sl.v348, trip1.sl.v346, trip1.sl.v345, trip1.sl.v347, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_lse1 (x : Fin 2048) :
    trip1.sl.v372 i arg7 X7 k (ix2 (0 : Fin 1) x) = stat (arg7.view.read (Elt Ideal) X7) 1 (⟨512 * ((i 1).val + 1 + 4 * k.val) + x.val, by have := rb1 i k; omega⟩ : Fin 8192) := by
  have hb := rb1 i k
  have hx := x.isLt
  simp only [trip1.sl.v372, trip1.sl.v359, trip1.sl.v363, trip1.sl.v367, trip1.sl.v371, View.readAt_eq_ld]
  pointwise []
  simp only [off4_eq, off5_eq_0, off5_eq_1, off5_eq_2, off5_eq_3, off6_eq_0, off6_eq_1, off6_eq_2, off6_eq_3]
  split_ifs <;> exact stat_of _ _ _ _ rfl (by first | (simp; done) | (simp; omega))

theorem trip1_dlt1 (x : Fin 2048) :
    trip1.sl.v389 i arg8 X8 k (ix2 (0 : Fin 1) x) = stat (arg8.view.read (Elt Ideal) X8) 1 (⟨512 * ((i 1).val + 1 + 4 * k.val) + x.val, by have := rb1 i k; omega⟩ : Fin 8192) := by
  have hb := rb1 i k
  have hx := x.isLt
  simp only [trip1.sl.v389, trip1.sl.v376, trip1.sl.v380, trip1.sl.v384, trip1.sl.v388, View.readAt_eq_ld]
  pointwise []
  simp only [off4_eq, off5_eq_0, off5_eq_1, off5_eq_2, off5_eq_3, off6_eq_0, off6_eq_1, off6_eq_2, off6_eq_3]
  split_ifs <;> exact stat_of _ _ _ _ rfl (by first | (simp; done) | (simp; omega))

theorem trip1_pr1 (κ : Fin 512) (x : Fin 2048) :
    trip1.sl.v392 i arg2 arg7 v18 v38 X2 X7 k (ix2 κ x) = prH v18 v38 (arg2.view.read (Elt Ideal) X2) (arg7.view.read (Elt Ideal) X7) (i 1).val 1 κ (⟨512 * ((i 1).val + 1 + 4 * k.val) + x.val, by have := rb1 i k; omega⟩ : Fin 8192) := by
  have hb := rb1 i k
  have hx := x.isLt
  have hκ := κ.isLt
  have L := fun x : Fin 2048 => trip1_lse1 i arg7 X7 k x
  simp only [trip1.sl.v392, trip1.sl.v391, trip1.sl.v355, trip1.sl.v353, trip1.sl.v253, trip1.sl.cst_116, trip1.sl.v354, trip1.sl.v390, View.readAt_eq_ld]
  pointwise [L]
  unfold prH
  rw [if_pos (by simp only; omega)]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_ds1 (κ : Fin 512) (x : Fin 2048) :
    trip1.sl.v399 i arg2 arg6 arg7 arg8 v18 v34 v38 X2 X6 X7 X8 k (ix2 κ x) = dsH v18 v34 v38 (arg2.view.read (Elt Ideal) X2) (arg6.view.read (Elt Ideal) X6) (arg7.view.read (Elt Ideal) X7) (arg8.view.read (Elt Ideal) X8) (i 1).val 1 κ (⟨512 * ((i 1).val + 1 + 4 * k.val) + x.val, by have := rb1 i k; omega⟩ : Fin 8192) := by
  have L := fun x : Fin 2048 => trip1_dlt1 i arg8 X8 k x
  have P := fun (κ : Fin 512) (x : Fin 2048) => trip1_pr1 i arg2 arg7 v18 v38 X2 X7 k κ x
  simp only [trip1.sl.v399, trip1.sl.v398, trip1.sl.v396, trip1.sl.v256, trip1.sl.cst_116, trip1.sl.v397, View.readAt_eq_ld]
  pointwise [L, P]
  unfold dsH
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_dk1 (κ : Fin 512) (l : Fin 128) :
    trip1.sl.v402 i arg2 arg6 arg7 arg8 v18 v34 v38 X2 X6 X7 X8 k acc (ix2 κ l) = acc.2.2.2.1 (ix2 κ l) + ∑ x : Fin 2048, dsH v18 v34 v38 (arg2.view.read (Elt Ideal) X2) (arg6.view.read (Elt Ideal) X6) (arg7.view.read (Elt Ideal) X7) (arg8.view.read (Elt Ideal) X8) (i 1).val 1 κ (⟨512 * ((i 1).val + 1 + 4 * k.val) + x.val, by have := rb1 i k; omega⟩ : Fin 8192) * (arg2.view.read (Elt Ideal) X2) (ix2 (⟨512 * ((i 1).val + 1 + 4 * k.val) + x.val, by have := rb1 i k; omega⟩ : Fin 8192) l) := by
  have P := fun (κ : Fin 512) (x : Fin 2048) => trip1_ds1 i arg2 arg6 arg7 arg8 v18 v34 v38 X2 X6 X7 X8 k κ x
  simp only [trip1.sl.v402, trip1.sl.v401, trip1.sl.v400, trip1.sl.v253, trip1.sl.cst_148, View.readAt_eq_ld]
  pointwise [P]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_dv1 (κ : Fin 512) (l : Fin 128) :
    trip1.sl.v395 i arg2 arg6 arg7 v18 v38 X2 X6 X7 k acc (ix2 κ l) = acc.2.2.2.2.1 (ix2 κ l) + ∑ x : Fin 2048, prH v18 v38 (arg2.view.read (Elt Ideal) X2) (arg7.view.read (Elt Ideal) X7) (i 1).val 1 κ (⟨512 * ((i 1).val + 1 + 4 * k.val) + x.val, by have := rb1 i k; omega⟩ : Fin 8192) * (arg6.view.read (Elt Ideal) X6) (ix2 (⟨512 * ((i 1).val + 1 + 4 * k.val) + x.val, by have := rb1 i k; omega⟩ : Fin 8192) l) := by
  have P := fun (κ : Fin 512) (x : Fin 2048) => trip1_pr1 i arg2 arg7 v18 v38 X2 X7 k κ x
  simp only [trip1.sl.v395, trip1.sl.v394, trip1.sl.v393, trip1.sl.v256, trip1.sl.cst_148, View.readAt_eq_ld]
  pointwise [P]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

theorem trip1_db1 (κ : Fin 512) :
    trip1.sl.v405 i arg2 arg6 arg7 arg8 v18 v34 v38 X2 X6 X7 X8 k acc (ix2 κ (0 : Fin 1)) = acc.2.2.2.2.2 (ix2 κ (0 : Fin 1)) + ∑ x : Fin 2048, dsH v18 v34 v38 (arg2.view.read (Elt Ideal) X2) (arg6.view.read (Elt Ideal) X6) (arg7.view.read (Elt Ideal) X7) (arg8.view.read (Elt Ideal) X8) (i 1).val 1 κ (⟨512 * ((i 1).val + 1 + 4 * k.val) + x.val, by have := rb1 i k; omega⟩ : Fin 8192) := by
  have P := fun (κ : Fin 512) (x : Fin 2048) => trip1_ds1 i arg2 arg6 arg7 arg8 v18 v34 v38 X2 X6 X7 X8 k κ x
  simp only [trip1.sl.v405, trip1.sl.v404, trip1.sl.v403]
  pointwise [P]

theorem trip1_dq1 (x : Fin 2048) (l : Fin 128) :
    trip1.sl.v406 i arg2 arg6 arg7 arg8 v18 v34 v38 X2 X6 X7 X8 k (ix2 x l) = ∑ κ : Fin 512, dsH v18 v34 v38 (arg2.view.read (Elt Ideal) X2) (arg6.view.read (Elt Ideal) X6) (arg7.view.read (Elt Ideal) X7) (arg8.view.read (Elt Ideal) X8) (i 1).val 1 κ (⟨512 * ((i 1).val + 1 + 4 * k.val) + x.val, by have := rb1 i k; omega⟩ : Fin 8192) * v18 (ix2 κ l) := by
  have P := fun (κ : Fin 512) (x : Fin 2048) => trip1_ds1 i arg2 arg6 arg7 arg8 v18 v34 v38 X2 X6 X7 X8 k κ x
  simp only [trip1.sl.v406, trip1.sl.v400, trip1.sl.cst_152]
  pointwise [P]

theorem trip1_rs1 (x : Fin 2048) :
    trip1.sl.v408 i arg2 arg6 arg7 arg8 v18 v34 v38 X2 X6 X7 X8 k (ix2 (0 : Fin 1) x) = ∑ κ : Fin 512, dsH v18 v34 v38 (arg2.view.read (Elt Ideal) X2) (arg6.view.read (Elt Ideal) X6) (arg7.view.read (Elt Ideal) X7) (arg8.view.read (Elt Ideal) X8) (i 1).val 1 κ (⟨512 * ((i 1).val + 1 + 4 * k.val) + x.val, by have := rb1 i k; omega⟩ : Fin 8192) := by
  have P := fun (κ : Fin 512) (x : Fin 2048) => trip1_ds1 i arg2 arg6 arg7 arg8 v18 v34 v38 X2 X6 X7 X8 k κ x
  simp only [trip1.sl.v408, trip1.sl.v407]
  pointwise [P]

theorem trip1_pl10 (x : Fin 512) (y : S2x16x1x512.Idx) (q : Fin 8192) (h0 : (y 0).val = 1) (h1 : (y 1).val = (i 1).val + 1 + 4 * k.val + 0)
    (h3 : (y 3).val = x.val) (hq : q.val = 512 * ((i 1).val + 1 + 4 * k.val) + 0 + x.val) :
    (trip1.sl.v418 i arg2 arg6 arg7 arg8 arg13 v18 v34 v38 X2 X6 X7 X8 k f13) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 2048) => trip1_rs1 i arg2 arg6 arg7 arg8 v18 v34 v38 X2 X6 X7 X8 k x
  simp only [trip1.sl.v418, trip1.sl.v414, trip1.sl.v412, trip1.sl.v411, trip1.sl.v413, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_pl11 (x : Fin 512) (y : S2x16x1x512.Idx) (q : Fin 8192) (h0 : (y 0).val = 1) (h1 : (y 1).val = (i 1).val + 1 + 4 * k.val + 1)
    (h3 : (y 3).val = x.val) (hq : q.val = 512 * ((i 1).val + 1 + 4 * k.val) + 512 + x.val) :
    (trip1.sl.v428 i arg2 arg6 arg7 arg8 arg13 v18 v34 v38 X2 X6 X7 X8 k f13) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 2048) => trip1_rs1 i arg2 arg6 arg7 arg8 v18 v34 v38 X2 X6 X7 X8 k x
  simp only [trip1.sl.v428, trip1.sl.v424, trip1.sl.v422, trip1.sl.v421, trip1.sl.v423, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_pl12 (x : Fin 512) (y : S2x16x1x512.Idx) (q : Fin 8192) (h0 : (y 0).val = 1) (h1 : (y 1).val = (i 1).val + 1 + 4 * k.val + 2)
    (h3 : (y 3).val = x.val) (hq : q.val = 512 * ((i 1).val + 1 + 4 * k.val) + 1024 + x.val) :
    (trip1.sl.v438 i arg2 arg6 arg7 arg8 arg13 v18 v34 v38 X2 X6 X7 X8 k f13) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 2048) => trip1_rs1 i arg2 arg6 arg7 arg8 v18 v34 v38 X2 X6 X7 X8 k x
  simp only [trip1.sl.v438, trip1.sl.v434, trip1.sl.v432, trip1.sl.v431, trip1.sl.v433, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_pl13 (x : Fin 512) (y : S2x16x1x512.Idx) (q : Fin 8192) (h0 : (y 0).val = 1) (h1 : (y 1).val = (i 1).val + 1 + 4 * k.val + 3)
    (h3 : (y 3).val = x.val) (hq : q.val = 512 * ((i 1).val + 1 + 4 * k.val) + 1536 + x.val) :
    (trip1.sl.v448 i arg2 arg6 arg7 arg8 arg13 v18 v34 v38 X2 X6 X7 X8 k f13) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 2048) => trip1_rs1 i arg2 arg6 arg7 arg8 v18 v34 v38 X2 X6 X7 X8 k x
  simp only [trip1.sl.v448, trip1.sl.v444, trip1.sl.v442, trip1.sl.v441, trip1.sl.v443, View.readAt_eq_ld]
  pointwise [P]
  simp only [off4_eq, off5_eq_0, off5_eq_1, off5_eq_2, off5_eq_3, off6_eq_0, off6_eq_1, off6_eq_2, off6_eq_3]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip1_dqp (x : Fin 2048) (l : Fin 128) :
    (trip1.sl.v455 i arg2 arg6 arg7 arg8 arg12 v11 v18 v27 v34 v37 v38 X2 X6 X7 X8 k f12) (ix2 x l) = arg12.view.read (Elt Ideal) f12 (ix2 (⟨512 * ((i 1).val + 1 + 4 * k.val) + x.val, by have := rb1 i k; omega⟩ : Fin 8192) l) +
      ((∑ κ : Fin 512, dsH v11 v27 v37 (arg2.view.read (Elt Ideal) X2) (arg6.view.read (Elt Ideal) X6) (arg7.view.read (Elt Ideal) X7) (arg8.view.read (Elt Ideal) X8) (i 1).val 0 κ (⟨512 * ((i 1).val + 1 + 4 * k.val) + x.val, by have := rb1 i k; omega⟩ : Fin 8192) * v11 (ix2 κ l)) + ∑ κ : Fin 512, dsH v18 v34 v38 (arg2.view.read (Elt Ideal) X2) (arg6.view.read (Elt Ideal) X6) (arg7.view.read (Elt Ideal) X7) (arg8.view.read (Elt Ideal) X8) (i 1).val 1 κ (⟨512 * ((i 1).val + 1 + 4 * k.val) + x.val, by have := rb1 i k; omega⟩ : Fin 8192) * v18 (ix2 κ l)) * Ideal.ofBits .f32 0x3E000000#32 := by
  have P := fun (x : Fin 2048) (l : Fin 128) => trip1_dq0 i arg2 arg6 arg7 arg8 v11 v27 v37 X2 X6 X7 X8 k x l
  have Q := fun (x : Fin 2048) (l : Fin 128) => trip1_dq1 i arg2 arg6 arg7 arg8 v18 v34 v38 X2 X6 X7 X8 k x l
  simp only [trip1.sl.v455, trip1.sl.v451, trip1.sl.v454, trip1.sl.v452, trip1.sl.v453, trip1.sl.cst_250, View.readAt_eq_ld]
  pointwise [P, Q]
  simp only [off4_eq, off5_eq_0, off5_eq_1, off5_eq_2, off5_eq_3, off6_eq_0, off6_eq_1, off6_eq_2, off6_eq_3, Matrix.cons_val_zero, Matrix.cons_val_one, Matrix.cons_val_fin_one, zero_add, Fin.eta]

end Pieces

/-- One trip takes the sums, the query gradients and the row sums 2048 rows further. -/
theorem trip1_val (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole) (arg1 : BitVec 32) (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v71 : FVec Ideal S512x128 .f32) (v78 : FVec Ideal S512x128 .f32) (v81 : FVec Ideal S512x1 .f32) (v115 : FVec Ideal S512x128 .f32) (v122 : FVec Ideal S512x128 .f32) (v125 : FVec Ideal S512x1 .f32) (v147 : BitVec 32) (c4_i32 : BitVec 32) (v148 : BitVec 32) (v153 : BitVec 32) (v155 : BitVec 32) (c0_i32_69 : BitVec 32)
     (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (k : Fin (k0_t1_loop i).trips)
    (G12 : S8192x128.Idx → EReal) (G13 : S2x16x1x512.Idx → EReal) (f12 : BufTy.Contents (Elt Ideal) arg12.view.ty) (f13 : BufTy.Contents (Elt Ideal) arg13.view.ty)
    (e : Env) (he : e = (env v11 v18 v27 v34 v37 v38 (arg2.view.read (Elt Ideal) X2) (arg6.view.read (Elt Ideal) X6) (arg7.view.read (Elt Ideal) X7) (arg8.view.read (Elt Ideal) X8) (i 1).val))
    (h12 : arg12.view.read (Elt Ideal) f12 = e.dq G12 (512 * ((i 1).val + 1 + 4 * k.val))) (h13 : arg13.view.read (Elt Ideal) f13 = e.dr G13 (512 * ((i 1).val + 1 + 4 * k.val))) :
    (trip1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 v71 v78 v81 v115 v122 v125 v147 c4_i32 v148 v153 v155 c0_i32_69 X2 X6 X7 X8 k).1 (e.acc (512 * ((i 1).val + 1 + 4 * k.val))) f12 f13 = e.acc (512 * ((i 1).val + 1 + 4 * k.val) + 2048)
      ∧ arg12.view.read (Elt Ideal) (arg12.view.writes (Elt Ideal) f12 ((trip1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 v71 v78 v81 v115 v122 v125 v147 c4_i32 v148 v153 v155 c0_i32_69 X2 X6 X7 X8 k).2.1 (e.acc (512 * ((i 1).val + 1 + 4 * k.val))) f12 f13)) = e.dq G12 (512 * ((i 1).val + 1 + 4 * k.val) + 2048)
      ∧ arg13.view.read (Elt Ideal) (arg13.view.writes (Elt Ideal) f13 ((trip1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 v71 v78 v81 v115 v122 v125 v147 c4_i32 v148 v153 v155 c0_i32_69 X2 X6 X7 X8 k).2.2.1 (e.acc (512 * ((i 1).val + 1 + 4 * k.val))) f12 f13)) = e.dr G13 (512 * ((i 1).val + 1 + 4 * k.val) + 2048) := by
  have hb := rb1 i k
  have hj : 512 * (i 1).val ≤ 512 * ((i 1).val + 1 + 4 * k.val) := by omega
  have hr : 512 * ((i 1).val + 1 + 4 * k.val) + 2048 ≤ 8192 := by omega
  have hje : 512 * e.j ≤ 512 * ((i 1).val + 1 + 4 * k.val) := by subst he; exact hj
  unfold trip1
  dsimp only
  refine ⟨?_, ?_, ?_⟩
  · unfold Env.acc
    refine Prod.ext ?_ (Prod.ext ?_ (Prod.ext ?_ (Prod.ext ?_ (Prod.ext ?_ ?_))))
    · funext y
      rw [eq_ix2 y]
      refine (trip1_dk0 i arg2 arg6 arg7 arg8 v11 v27 v37 X2 X6 X7 X8 k (e.acc (512 * ((i 1).val + 1 + 4 * k.val))) (y 0) (y 1)).trans (Eq.trans ?_ (e.dk_add 0 (512 * ((i 1).val + 1 + 4 * k.val)) 2048 hje hr (y 0) (y 1)).symm)
      subst he
      rfl
    · funext y
      rw [eq_ix2 y]
      refine (trip1_dv0 i arg2 arg6 arg7 v11 v37 X2 X6 X7 k (e.acc (512 * ((i 1).val + 1 + 4 * k.val))) (y 0) (y 1)).trans (Eq.trans ?_ (e.dv_add 0 (512 * ((i 1).val + 1 + 4 * k.val)) 2048 hje hr (y 0) (y 1)).symm)
      subst he
      rfl
    · funext y
      have hy : y = ix2 (y 0) (0 : Fin 1) := ext_mat rfl (by have h1 : (y 1).val < 1 := (y 1).isLt; show (y 1).val = 0; omega)
      rw [hy]
      refine (trip1_db0 i arg2 arg6 arg7 arg8 v11 v27 v37 X2 X6 X7 X8 k (e.acc (512 * ((i 1).val + 1 + 4 * k.val))) (y 0)).trans (Eq.trans ?_ (e.db_add 0 (512 * ((i 1).val + 1 + 4 * k.val)) 2048 hje hr (y 0)).symm)
      subst he
      rfl
    · funext y
      rw [eq_ix2 y]
      refine (trip1_dk1 i arg2 arg6 arg7 arg8 v18 v34 v38 X2 X6 X7 X8 k (e.acc (512 * ((i 1).val + 1 + 4 * k.val))) (y 0) (y 1)).trans (Eq.trans ?_ (e.dk_add 1 (512 * ((i 1).val + 1 + 4 * k.val)) 2048 hje hr (y 0) (y 1)).symm)
      subst he
      rfl
    · funext y
      rw [eq_ix2 y]
      refine (trip1_dv1 i arg2 arg6 arg7 v18 v38 X2 X6 X7 k (e.acc (512 * ((i 1).val + 1 + 4 * k.val))) (y 0) (y 1)).trans (Eq.trans ?_ (e.dv_add 1 (512 * ((i 1).val + 1 + 4 * k.val)) 2048 hje hr (y 0) (y 1)).symm)
      subst he
      rfl
    · funext y
      have hy : y = ix2 (y 0) (0 : Fin 1) := ext_mat rfl (by have h1 : (y 1).val < 1 := (y 1).isLt; show (y 1).val = 0; omega)
      rw [hy]
      refine (trip1_db1 i arg2 arg6 arg7 arg8 v18 v34 v38 X2 X6 X7 X8 k (e.acc (512 * ((i 1).val + 1 + 4 * k.val))) (y 0)).trans (Eq.trans ?_ (e.db_add 1 (512 * ((i 1).val + 1 + 4 * k.val)) 2048 hje hr (y 0)).symm)
      subst he
      rfl
  · funext y
    by_cases hy : 512 * ((i 1).val + 1 + 4 * k.val) ≤ (y 0).val ∧ (y 0).val < 512 * ((i 1).val + 1 + 4 * k.val) + 2048
    · refine (View.read_writes_cons_unit_of_mem (s := S8192x128) _ _ _ _ [] y (ix2 (⟨(y 0).val - (512 * ((i 1).val + 1 + 4 * k.val)), by omega⟩ : Fin 2048) (y 1)) (off4_eq i k) (fun a => ?_)).trans ?_
      · match a with
        | ⟨0, _⟩ => show (y 0).val = (512 * ((i 1).val + 1 + 4 * k.val)) + ((y 0).val - (512 * ((i 1).val + 1 + 4 * k.val))); omega
        | ⟨1, _⟩ => show (y 1).val = 0 + (y 1).val; omega
      · refine (trip1_dqp i arg2 arg6 arg7 arg8 arg12 v11 v18 v27 v34 v37 v38 X2 X6 X7 X8 k f12 _ (y 1)).trans ?_
        have ey : ∀ (p : _), (⟨(512 * ((i 1).val + 1 + 4 * k.val)) + ((y 0).val - (512 * ((i 1).val + 1 + 4 * k.val))), p⟩ : Fin 8192) = y 0 := fun p => Fin.ext (by show (512 * ((i 1).val + 1 + 4 * k.val)) + ((y 0).val - (512 * ((i 1).val + 1 + 4 * k.val))) = (y 0).val; omega)
        rw [e.dq_new G12 (512 * ((i 1).val + 1 + 4 * k.val)) 2048 y hje hy, ← h12]
        simp only [ey]
        refine congrArg₂ (· + ·) (congrArg _ (eq_ix2 y).symm) ?_
        subst he
        rfl
    · refine (View.read_writes_cons_unit_of_not_mem (s := S8192x128) _ _ _ _ [] y (off4_eq i k) (0 : Fin 2) ?_).trans ?_
      · show (y 0).val < (512 * ((i 1).val + 1 + 4 * k.val)) ∨ (512 * ((i 1).val + 1 + 4 * k.val)) + 2048 ≤ (y 0).val
        omega
      · rw [e.dq_old G12 (512 * ((i 1).val + 1 + 4 * k.val)) 2048 y (by omega), ← h12]
        rfl
  · funext y
    have hy0 : (y 0).val < 2 := (y 0).isLt
    have hy1 : (y 1).val < 16 := (y 1).isLt
    have hy3 : (y 3).val < 512 := (y 3).isLt
    have hrow : (Env.row y).val = 512 * (y 1).val + (y 3).val := rfl
    by_cases hy : 512 * ((i 1).val + 1 + 4 * k.val) ≤ (Env.row y).val ∧ (Env.row y).val < 512 * ((i 1).val + 1 + 4 * k.val) + 2048
    · rw [e.dr_new G13 (512 * ((i 1).val + 1 + 4 * k.val)) 2048 y hje hy, ← h13]
      by_cases h0 : (y 0).val = 1 ∧ (y 1).val = (i 1).val + 1 + 4 * k.val + 3
      · refine (rd_mem _ _ _ _ _ y 1 ((i 1).val + 1 + 4 * k.val + 3) (off6_eq_3 i k) h0.1 h0.2).trans ?_
        refine (trip1_pl13 i arg2 arg6 arg7 arg8 arg13 v18 v34 v38 X2 X6 X7 X8 k f13 (y 3) y (Env.row y) h0.1 h0.2 rfl (by omega)).trans ?_
        refine congrArg₂ (· + ·) rfl ?_
        have h0' : y 0 = (1 : Fin 2) := Fin.ext h0.1
        rw [h0']
        subst he
        rfl
      by_cases h1 : (y 0).val = 1 ∧ (y 1).val = (i 1).val + 1 + 4 * k.val + 2
      · refine (rd_not _ _ _ _ _ y 1 ((i 1).val + 1 + 4 * k.val + 3) (off6_eq_3 i k) (by omega)).trans ((rd_mem _ _ _ _ _ y 1 ((i 1).val + 1 + 4 * k.val + 2) (off6_eq_2 i k) h1.1 h1.2).trans ?_)
        refine (trip1_pl12 i arg2 arg6 arg7 arg8 arg13 v18 v34 v38 X2 X6 X7 X8 k f13 (y 3) y (Env.row y) h1.1 h1.2 rfl (by omega)).trans ?_
        refine congrArg₂ (· + ·) rfl ?_
        have h0' : y 0 = (1 : Fin 2) := Fin.ext h1.1
        rw [h0']
        subst he
        rfl
      by_cases h2 : (y 0).val = 1 ∧ (y 1).val = (i 1).val + 1 + 4 * k.val + 1
      · refine (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_mem _ _ _ _ _ y 1 ((i 1).val + 1 + 4 * k.val + 1) (off6_eq_1 i k) h2.1 h2.2).trans ?_))
        refine (trip1_pl11 i arg2 arg6 arg7 arg8 arg13 v18 v34 v38 X2 X6 X7 X8 k f13 (y 3) y (Env.row y) h2.1 h2.2 rfl (by omega)).trans ?_
        refine congrArg₂ (· + ·) rfl ?_
        have h0' : y 0 = (1 : Fin 2) := Fin.ext h2.1
        rw [h0']
        subst he
        rfl
      by_cases h3 : (y 0).val = 1 ∧ (y 1).val = (i 1).val + 1 + 4 * k.val + 0
      · refine (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_not _ _ _ _ _ y 1 ((i 1).val + 1 + 4 * k.val + 1) (off6_eq_1 i k) (by omega)).trans ((rd_mem _ _ _ _ _ y 1 ((i 1).val + 1 + 4 * k.val + 0) (off6_eq_0 i k) h3.1 h3.2).trans ?_)))
        refine (trip1_pl10 i arg2 arg6 arg7 arg8 arg13 v18 v34 v38 X2 X6 X7 X8 k f13 (y 3) y (Env.row y) h3.1 h3.2 rfl (by omega)).trans ?_
        refine congrArg₂ (· + ·) rfl ?_
        have h0' : y 0 = (1 : Fin 2) := Fin.ext h3.1
        rw [h0']
        subst he
        rfl
      by_cases h4 : (y 0).val = 0 ∧ (y 1).val = (i 1).val + 1 + 4 * k.val + 3
      · refine (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_not _ _ _ _ _ y 1 ((i 1).val + 1 + 4 * k.val + 1) (off6_eq_1 i k) (by omega)).trans ((rd_not _ _ _ _ _ y 1 ((i 1).val + 1 + 4 * k.val + 0) (off6_eq_0 i k) (by omega)).trans ((rd_mem _ _ _ _ _ y 0 ((i 1).val + 1 + 4 * k.val + 3) (off5_eq_3 i k) h4.1 h4.2).trans ?_))))
        refine (trip1_pl03 i arg2 arg6 arg7 arg8 arg13 v11 v27 v37 X2 X6 X7 X8 k f13 (y 3) y (Env.row y) h4.1 h4.2 rfl (by omega)).trans ?_
        refine congrArg₂ (· + ·) rfl ?_
        have h0' : y 0 = (0 : Fin 2) := Fin.ext h4.1
        rw [h0']
        subst he
        rfl
      by_cases h5 : (y 0).val = 0 ∧ (y 1).val = (i 1).val + 1 + 4 * k.val + 2
      · refine (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_not _ _ _ _ _ y 1 ((i 1).val + 1 + 4 * k.val + 1) (off6_eq_1 i k) (by omega)).trans ((rd_not _ _ _ _ _ y 1 ((i 1).val + 1 + 4 * k.val + 0) (off6_eq_0 i k) (by omega)).trans ((rd_not _ _ _ _ _ y 0 ((i 1).val + 1 + 4 * k.val + 3) (off5_eq_3 i k) (by omega)).trans ((rd_mem _ _ _ _ _ y 0 ((i 1).val + 1 + 4 * k.val + 2) (off5_eq_2 i k) h5.1 h5.2).trans ?_)))))
        refine (trip1_pl02 i arg2 arg6 arg7 arg8 arg13 v11 v27 v37 X2 X6 X7 X8 k f13 (y 3) y (Env.row y) h5.1 h5.2 rfl (by omega)).trans ?_
        refine congrArg₂ (· + ·) rfl ?_
        have h0' : y 0 = (0 : Fin 2) := Fin.ext h5.1
        rw [h0']
        subst he
        rfl
      by_cases h6 : (y 0).val = 0 ∧ (y 1).val = (i 1).val + 1 + 4 * k.val + 1
      · refine (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_not _ _ _ _ _ y 1 ((i 1).val + 1 + 4 * k.val + 1) (off6_eq_1 i k) (by omega)).trans ((rd_not _ _ _ _ _ y 1 ((i 1).val + 1 + 4 * k.val + 0) (off6_eq_0 i k) (by omega)).trans ((rd_not _ _ _ _ _ y 0 ((i 1).val + 1 + 4 * k.val + 3) (off5_eq_3 i k) (by omega)).trans ((rd_not _ _ _ _ _ y 0 ((i 1).val + 1 + 4 * k.val + 2) (off5_eq_2 i k) (by omega)).trans ((rd_mem _ _ _ _ _ y 0 ((i 1).val + 1 + 4 * k.val + 1) (off5_eq_1 i k) h6.1 h6.2).trans ?_))))))
        refine (trip1_pl01 i arg2 arg6 arg7 arg8 arg13 v11 v27 v37 X2 X6 X7 X8 k f13 (y 3) y (Env.row y) h6.1 h6.2 rfl (by omega)).trans ?_
        refine congrArg₂ (· + ·) rfl ?_
        have h0' : y 0 = (0 : Fin 2) := Fin.ext h6.1
        rw [h0']
        subst he
        rfl
      have h7 : (y 0).val = 0 ∧ (y 1).val = (i 1).val + 1 + 4 * k.val + 0 := by omega
      refine (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_not _ _ _ _ _ y 1 ((i 1).val + 1 + 4 * k.val + 1) (off6_eq_1 i k) (by omega)).trans ((rd_not _ _ _ _ _ y 1 ((i 1).val + 1 + 4 * k.val + 0) (off6_eq_0 i k) (by omega)).trans ((rd_not _ _ _ _ _ y 0 ((i 1).val + 1 + 4 * k.val + 3) (off5_eq_3 i k) (by omega)).trans ((rd_not _ _ _ _ _ y 0 ((i 1).val + 1 + 4 * k.val + 2) (off5_eq_2 i k) (by omega)).trans ((rd_not _ _ _ _ _ y 0 ((i 1).val + 1 + 4 * k.val + 1) (off5_eq_1 i k) (by omega)).trans ((rd_mem _ _ _ _ _ y 0 ((i 1).val + 1 + 4 * k.val + 0) (off5_eq_0 i k) h7.1 h7.2).trans ?_)))))))
      refine (trip1_pl00 i arg2 arg6 arg7 arg8 arg13 v11 v27 v37 X2 X6 X7 X8 k f13 (y 3) y (Env.row y) h7.1 h7.2 rfl (by omega)).trans ?_
      refine congrArg₂ (· + ·) rfl ?_
      have h0' : y 0 = (0 : Fin 2) := Fin.ext h7.1
      rw [h0']
      subst he
      rfl
    · rw [e.dr_old G13 (512 * ((i 1).val + 1 + 4 * k.val)) 2048 y (by omega), ← h13]
      exact (rd_not _ _ _ _ _ y 1 ((i 1).val + 1 + 4 * k.val + 3) (off6_eq_3 i k) (by omega)).trans ((rd_not _ _ _ _ _ y 1 ((i 1).val + 1 + 4 * k.val + 2) (off6_eq_2 i k) (by omega)).trans ((rd_not _ _ _ _ _ y 1 ((i 1).val + 1 + 4 * k.val + 1) (off6_eq_1 i k) (by omega)).trans ((rd_not _ _ _ _ _ y 1 ((i 1).val + 1 + 4 * k.val + 0) (off6_eq_0 i k) (by omega)).trans ((rd_not _ _ _ _ _ y 0 ((i 1).val + 1 + 4 * k.val + 3) (off5_eq_3 i k) (by omega)).trans ((rd_not _ _ _ _ _ y 0 ((i 1).val + 1 + 4 * k.val + 2) (off5_eq_2 i k) (by omega)).trans ((rd_not _ _ _ _ _ y 0 ((i 1).val + 1 + 4 * k.val + 1) (off5_eq_1 i k) (by omega)).trans ((rd_not _ _ _ _ _ y 0 ((i 1).val + 1 + 4 * k.val + 0) (off5_eq_0 i k) (by omega)).trans (rfl))))))))

end Cert.Proof.KernelIdeal
end
-- ==== Proof.KernelIdeal.Val3.lean ====
/- What the trip over two query blocks adds. -/
module

public import proofs.«01_k».proof.Proof.KernelIdeal.Spec

@[expose] public section

set_option maxRecDepth 16384
set_option maxHeartbeats 4000000

noncomputable section

namespace Cert.Proof.KernelIdeal

open Cert.KernelIdeal
open Idealize.ShloMosaic Idealize.ShloMosaic.TcCoe

section Pieces

variable (i : grid0.Coords) (arg2 arg6 : Memref sig .tc .vmem S8192x128 .bf16) (arg7 arg8 arg13 : Memref sig .tc .vmem S2x16x1x512 .f32) (arg12 : Memref sig .tc .vmem S8192x128 .f32) (v11 v18 v27 v34 : FVec Ideal S512x128 .bf16) (v37 v38 : FVec Ideal S512x1 .f32) (X2 : BufTy.Contents (Elt Ideal) arg2.view.ty) (X6 : BufTy.Contents (Elt Ideal) arg6.view.ty) (X7 : BufTy.Contents (Elt Ideal) arg7.view.ty) (X8 : BufTy.Contents (Elt Ideal) arg8.view.ty)
variable (k : Fin (k0_t3_loop i).trips) (acc : Acc Ideal) (f12 : BufTy.Contents (Elt Ideal) arg12.view.ty) (f13 : BufTy.Contents (Elt Ideal) arg13.view.ty)

theorem trip3_lse0 (x : Fin 1024) :
    trip3.sl.v276 i arg7 X7 k (ix2 (0 : Fin 1) x) = stat (arg7.view.read (Elt Ideal) X7) 0 (⟨512 * blk2 i + x.val, by have := rb3 i k; omega⟩ : Fin 8192) := by
  have hb := rb3 i k
  have hx := x.isLt
  simp only [trip3.sl.v276, trip3.sl.v271, trip3.sl.v275, View.readAt_eq_ld]
  pointwise []
  simp only [off10_eq, off11_eq_0, off11_eq_1, off12_eq_0, off12_eq_1]
  split_ifs <;> exact stat_of _ _ _ _ rfl (by first | (simp; done) | (simp; omega))

theorem trip3_dlt0 (x : Fin 1024) :
    trip3.sl.v285 i arg8 X8 k (ix2 (0 : Fin 1) x) = stat (arg8.view.read (Elt Ideal) X8) 0 (⟨512 * blk2 i + x.val, by have := rb3 i k; omega⟩ : Fin 8192) := by
  have hb := rb3 i k
  have hx := x.isLt
  simp only [trip3.sl.v285, trip3.sl.v280, trip3.sl.v284, View.readAt_eq_ld]
  pointwise []
  simp only [off10_eq, off11_eq_0, off11_eq_1, off12_eq_0, off12_eq_1]
  split_ifs <;> exact stat_of _ _ _ _ rfl (by first | (simp; done) | (simp; omega))

theorem trip3_pr0 (κ : Fin 512) (x : Fin 1024) :
    trip3.sl.v288 i arg2 arg7 v11 v37 X2 X7 k (ix2 κ x) = prH v11 v37 (arg2.view.read (Elt Ideal) X2) (arg7.view.read (Elt Ideal) X7) (i 1).val 0 κ (⟨512 * blk2 i + x.val, by have := rb3 i k; omega⟩ : Fin 8192) := by
  have hb := rb3 i k
  have hx := x.isLt
  have hκ := κ.isLt
  have L := fun x : Fin 1024 => trip3_lse0 i arg7 X7 k x
  simp only [trip3.sl.v288, trip3.sl.v287, trip3.sl.v267, trip3.sl.v265, trip3.sl.v261, trip3.sl.cst_120, trip3.sl.v266, trip3.sl.v286, View.readAt_eq_ld]
  pointwise [L]
  unfold prH
  rw [if_pos (by simp only; omega)]
  simp only [off10_eq, off11_eq_0, off11_eq_1, off12_eq_0, off12_eq_1, Matrix.cons_val_zero, Matrix.cons_val_one, Matrix.cons_val_fin_one, zero_add, Fin.eta]

theorem trip3_ds0 (κ : Fin 512) (x : Fin 1024) :
    trip3.sl.v295 i arg2 arg6 arg7 arg8 v11 v27 v37 X2 X6 X7 X8 k (ix2 κ x) = dsH v11 v27 v37 (arg2.view.read (Elt Ideal) X2) (arg6.view.read (Elt Ideal) X6) (arg7.view.read (Elt Ideal) X7) (arg8.view.read (Elt Ideal) X8) (i 1).val 0 κ (⟨512 * blk2 i + x.val, by have := rb3 i k; omega⟩ : Fin 8192) := by
  have L := fun x : Fin 1024 => trip3_dlt0 i arg8 X8 k x
  have P := fun (κ : Fin 512) (x : Fin 1024) => trip3_pr0 i arg2 arg7 v11 v37 X2 X7 k κ x
  simp only [trip3.sl.v295, trip3.sl.v294, trip3.sl.v292, trip3.sl.v264, trip3.sl.cst_120, trip3.sl.v293, View.readAt_eq_ld]
  pointwise [L, P]
  unfold dsH
  simp only [off10_eq, off11_eq_0, off11_eq_1, off12_eq_0, off12_eq_1, Matrix.cons_val_zero, Matrix.cons_val_one, Matrix.cons_val_fin_one, zero_add, Fin.eta]

theorem trip3_dk0 (κ : Fin 512) (l : Fin 128) :
    trip3.sl.v298 i arg2 arg6 arg7 arg8 v11 v27 v37 X2 X6 X7 X8 k acc (ix2 κ l) = acc.1 (ix2 κ l) + ∑ x : Fin 1024, dsH v11 v27 v37 (arg2.view.read (Elt Ideal) X2) (arg6.view.read (Elt Ideal) X6) (arg7.view.read (Elt Ideal) X7) (arg8.view.read (Elt Ideal) X8) (i 1).val 0 κ (⟨512 * blk2 i + x.val, by have := rb3 i k; omega⟩ : Fin 8192) * (arg2.view.read (Elt Ideal) X2) (ix2 (⟨512 * blk2 i + x.val, by have := rb3 i k; omega⟩ : Fin 8192) l) := by
  have P := fun (κ : Fin 512) (x : Fin 1024) => trip3_ds0 i arg2 arg6 arg7 arg8 v11 v27 v37 X2 X6 X7 X8 k κ x
  simp only [trip3.sl.v298, trip3.sl.v297, trip3.sl.v296, trip3.sl.v261, trip3.sl.cst_137, View.readAt_eq_ld]
  pointwise [P]
  simp only [off10_eq, off11_eq_0, off11_eq_1, off12_eq_0, off12_eq_1, Matrix.cons_val_zero, Matrix.cons_val_one, Matrix.cons_val_fin_one, zero_add, Fin.eta]

theorem trip3_dv0 (κ : Fin 512) (l : Fin 128) :
    trip3.sl.v291 i arg2 arg6 arg7 v11 v37 X2 X6 X7 k acc (ix2 κ l) = acc.2.1 (ix2 κ l) + ∑ x : Fin 1024, prH v11 v37 (arg2.view.read (Elt Ideal) X2) (arg7.view.read (Elt Ideal) X7) (i 1).val 0 κ (⟨512 * blk2 i + x.val, by have := rb3 i k; omega⟩ : Fin 8192) * (arg6.view.read (Elt Ideal) X6) (ix2 (⟨512 * blk2 i + x.val, by have := rb3 i k; omega⟩ : Fin 8192) l) := by
  have P := fun (κ : Fin 512) (x : Fin 1024) => trip3_pr0 i arg2 arg7 v11 v37 X2 X7 k κ x
  simp only [trip3.sl.v291, trip3.sl.v290, trip3.sl.v289, trip3.sl.v264, trip3.sl.cst_137, View.readAt_eq_ld]
  pointwise [P]
  simp only [off10_eq, off11_eq_0, off11_eq_1, off12_eq_0, off12_eq_1, Matrix.cons_val_zero, Matrix.cons_val_one, Matrix.cons_val_fin_one, zero_add, Fin.eta]

theorem trip3_db0 (κ : Fin 512) :
    trip3.sl.v301 i arg2 arg6 arg7 arg8 v11 v27 v37 X2 X6 X7 X8 k acc (ix2 κ (0 : Fin 1)) = acc.2.2.1 (ix2 κ (0 : Fin 1)) + ∑ x : Fin 1024, dsH v11 v27 v37 (arg2.view.read (Elt Ideal) X2) (arg6.view.read (Elt Ideal) X6) (arg7.view.read (Elt Ideal) X7) (arg8.view.read (Elt Ideal) X8) (i 1).val 0 κ (⟨512 * blk2 i + x.val, by have := rb3 i k; omega⟩ : Fin 8192) := by
  have P := fun (κ : Fin 512) (x : Fin 1024) => trip3_ds0 i arg2 arg6 arg7 arg8 v11 v27 v37 X2 X6 X7 X8 k κ x
  simp only [trip3.sl.v301, trip3.sl.v300, trip3.sl.v299]
  pointwise [P]

theorem trip3_dq0 (x : Fin 1024) (l : Fin 128) :
    trip3.sl.v302 i arg2 arg6 arg7 arg8 v11 v27 v37 X2 X6 X7 X8 k (ix2 x l) = ∑ κ : Fin 512, dsH v11 v27 v37 (arg2.view.read (Elt Ideal) X2) (arg6.view.read (Elt Ideal) X6) (arg7.view.read (Elt Ideal) X7) (arg8.view.read (Elt Ideal) X8) (i 1).val 0 κ (⟨512 * blk2 i + x.val, by have := rb3 i k; omega⟩ : Fin 8192) * v11 (ix2 κ l) := by
  have P := fun (κ : Fin 512) (x : Fin 1024) => trip3_ds0 i arg2 arg6 arg7 arg8 v11 v27 v37 X2 X6 X7 X8 k κ x
  simp only [trip3.sl.v302, trip3.sl.v296, trip3.sl.cst_141]
  pointwise [P]

theorem trip3_rs0 (x : Fin 1024) :
    trip3.sl.v304 i arg2 arg6 arg7 arg8 v11 v27 v37 X2 X6 X7 X8 k (ix2 (0 : Fin 1) x) = ∑ κ : Fin 512, dsH v11 v27 v37 (arg2.view.read (Elt Ideal) X2) (arg6.view.read (Elt Ideal) X6) (arg7.view.read (Elt Ideal) X7) (arg8.view.read (Elt Ideal) X8) (i 1).val 0 κ (⟨512 * blk2 i + x.val, by have := rb3 i k; omega⟩ : Fin 8192) := by
  have P := fun (κ : Fin 512) (x : Fin 1024) => trip3_ds0 i arg2 arg6 arg7 arg8 v11 v27 v37 X2 X6 X7 X8 k κ x
  simp only [trip3.sl.v304, trip3.sl.v303]
  pointwise [P]

theorem trip3_pl00 (x : Fin 512) (y : S2x16x1x512.Idx) (q : Fin 8192) (h0 : (y 0).val = 0) (h1 : (y 1).val = blk2 i + 0)
    (h3 : (y 3).val = x.val) (hq : q.val = 512 * blk2 i + 0 + x.val) :
    (trip3.sl.v314 i arg2 arg6 arg7 arg8 arg13 v11 v27 v37 X2 X6 X7 X8 k f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 1024) => trip3_rs0 i arg2 arg6 arg7 arg8 v11 v27 v37 X2 X6 X7 X8 k x
  simp only [trip3.sl.v314, trip3.sl.v310, trip3.sl.v308, trip3.sl.v309, View.readAt_eq_ld]
  pointwise [P]
  simp only [off10_eq, off11_eq_0, off11_eq_1, off12_eq_0, off12_eq_1]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip3_pl01 (x : Fin 512) (y : S2x16x1x512.Idx) (q : Fin 8192) (h0 : (y 0).val = 0) (h1 : (y 1).val = blk2 i + 1)
    (h3 : (y 3).val = x.val) (hq : q.val = 512 * blk2 i + 512 + x.val) :
    (trip3.sl.v324 i arg2 arg6 arg7 arg8 arg13 v11 v27 v37 X2 X6 X7 X8 k f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 1024) => trip3_rs0 i arg2 arg6 arg7 arg8 v11 v27 v37 X2 X6 X7 X8 k x
  simp only [trip3.sl.v324, trip3.sl.v320, trip3.sl.v318, trip3.sl.v317, trip3.sl.v319, View.readAt_eq_ld]
  pointwise [P]
  simp only [off10_eq, off11_eq_0, off11_eq_1, off12_eq_0, off12_eq_1]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip3_lse1 (x : Fin 1024) :
    trip3.sl.v336 i arg7 X7 k (ix2 (0 : Fin 1) x) = stat (arg7.view.read (Elt Ideal) X7) 1 (⟨512 * blk2 i + x.val, by have := rb3 i k; omega⟩ : Fin 8192) := by
  have hb := rb3 i k
  have hx := x.isLt
  simp only [trip3.sl.v336, trip3.sl.v331, trip3.sl.v335, View.readAt_eq_ld]
  pointwise []
  simp only [off10_eq, off11_eq_0, off11_eq_1, off12_eq_0, off12_eq_1]
  split_ifs <;> exact stat_of _ _ _ _ rfl (by first | (simp; done) | (simp; omega))

theorem trip3_dlt1 (x : Fin 1024) :
    trip3.sl.v345 i arg8 X8 k (ix2 (0 : Fin 1) x) = stat (arg8.view.read (Elt Ideal) X8) 1 (⟨512 * blk2 i + x.val, by have := rb3 i k; omega⟩ : Fin 8192) := by
  have hb := rb3 i k
  have hx := x.isLt
  simp only [trip3.sl.v345, trip3.sl.v340, trip3.sl.v344, View.readAt_eq_ld]
  pointwise []
  simp only [off10_eq, off11_eq_0, off11_eq_1, off12_eq_0, off12_eq_1]
  split_ifs <;> exact stat_of _ _ _ _ rfl (by first | (simp; done) | (simp; omega))

theorem trip3_pr1 (κ : Fin 512) (x : Fin 1024) :
    trip3.sl.v348 i arg2 arg7 v18 v38 X2 X7 k (ix2 κ x) = prH v18 v38 (arg2.view.read (Elt Ideal) X2) (arg7.view.read (Elt Ideal) X7) (i 1).val 1 κ (⟨512 * blk2 i + x.val, by have := rb3 i k; omega⟩ : Fin 8192) := by
  have hb := rb3 i k
  have hx := x.isLt
  have hκ := κ.isLt
  have L := fun x : Fin 1024 => trip3_lse1 i arg7 X7 k x
  simp only [trip3.sl.v348, trip3.sl.v347, trip3.sl.v327, trip3.sl.v325, trip3.sl.v261, trip3.sl.cst_120, trip3.sl.v326, trip3.sl.v346, View.readAt_eq_ld]
  pointwise [L]
  unfold prH
  rw [if_pos (by simp only; omega)]
  simp only [off10_eq, off11_eq_0, off11_eq_1, off12_eq_0, off12_eq_1, Matrix.cons_val_zero, Matrix.cons_val_one, Matrix.cons_val_fin_one, zero_add, Fin.eta]

theorem trip3_ds1 (κ : Fin 512) (x : Fin 1024) :
    trip3.sl.v355 i arg2 arg6 arg7 arg8 v18 v34 v38 X2 X6 X7 X8 k (ix2 κ x) = dsH v18 v34 v38 (arg2.view.read (Elt Ideal) X2) (arg6.view.read (Elt Ideal) X6) (arg7.view.read (Elt Ideal) X7) (arg8.view.read (Elt Ideal) X8) (i 1).val 1 κ (⟨512 * blk2 i + x.val, by have := rb3 i k; omega⟩ : Fin 8192) := by
  have L := fun x : Fin 1024 => trip3_dlt1 i arg8 X8 k x
  have P := fun (κ : Fin 512) (x : Fin 1024) => trip3_pr1 i arg2 arg7 v18 v38 X2 X7 k κ x
  simp only [trip3.sl.v355, trip3.sl.v354, trip3.sl.v352, trip3.sl.v264, trip3.sl.cst_120, trip3.sl.v353, View.readAt_eq_ld]
  pointwise [L, P]
  unfold dsH
  simp only [off10_eq, off11_eq_0, off11_eq_1, off12_eq_0, off12_eq_1, Matrix.cons_val_zero, Matrix.cons_val_one, Matrix.cons_val_fin_one, zero_add, Fin.eta]

theorem trip3_dk1 (κ : Fin 512) (l : Fin 128) :
    trip3.sl.v358 i arg2 arg6 arg7 arg8 v18 v34 v38 X2 X6 X7 X8 k acc (ix2 κ l) = acc.2.2.2.1 (ix2 κ l) + ∑ x : Fin 1024, dsH v18 v34 v38 (arg2.view.read (Elt Ideal) X2) (arg6.view.read (Elt Ideal) X6) (arg7.view.read (Elt Ideal) X7) (arg8.view.read (Elt Ideal) X8) (i 1).val 1 κ (⟨512 * blk2 i + x.val, by have := rb3 i k; omega⟩ : Fin 8192) * (arg2.view.read (Elt Ideal) X2) (ix2 (⟨512 * blk2 i + x.val, by have := rb3 i k; omega⟩ : Fin 8192) l) := by
  have P := fun (κ : Fin 512) (x : Fin 1024) => trip3_ds1 i arg2 arg6 arg7 arg8 v18 v34 v38 X2 X6 X7 X8 k κ x
  simp only [trip3.sl.v358, trip3.sl.v357, trip3.sl.v356, trip3.sl.v261, trip3.sl.cst_137, View.readAt_eq_ld]
  pointwise [P]
  simp only [off10_eq, off11_eq_0, off11_eq_1, off12_eq_0, off12_eq_1, Matrix.cons_val_zero, Matrix.cons_val_one, Matrix.cons_val_fin_one, zero_add, Fin.eta]

theorem trip3_dv1 (κ : Fin 512) (l : Fin 128) :
    trip3.sl.v351 i arg2 arg6 arg7 v18 v38 X2 X6 X7 k acc (ix2 κ l) = acc.2.2.2.2.1 (ix2 κ l) + ∑ x : Fin 1024, prH v18 v38 (arg2.view.read (Elt Ideal) X2) (arg7.view.read (Elt Ideal) X7) (i 1).val 1 κ (⟨512 * blk2 i + x.val, by have := rb3 i k; omega⟩ : Fin 8192) * (arg6.view.read (Elt Ideal) X6) (ix2 (⟨512 * blk2 i + x.val, by have := rb3 i k; omega⟩ : Fin 8192) l) := by
  have P := fun (κ : Fin 512) (x : Fin 1024) => trip3_pr1 i arg2 arg7 v18 v38 X2 X7 k κ x
  simp only [trip3.sl.v351, trip3.sl.v350, trip3.sl.v349, trip3.sl.v264, trip3.sl.cst_137, View.readAt_eq_ld]
  pointwise [P]
  simp only [off10_eq, off11_eq_0, off11_eq_1, off12_eq_0, off12_eq_1, Matrix.cons_val_zero, Matrix.cons_val_one, Matrix.cons_val_fin_one, zero_add, Fin.eta]

theorem trip3_db1 (κ : Fin 512) :
    trip3.sl.v361 i arg2 arg6 arg7 arg8 v18 v34 v38 X2 X6 X7 X8 k acc (ix2 κ (0 : Fin 1)) = acc.2.2.2.2.2 (ix2 κ (0 : Fin 1)) + ∑ x : Fin 1024, dsH v18 v34 v38 (arg2.view.read (Elt Ideal) X2) (arg6.view.read (Elt Ideal) X6) (arg7.view.read (Elt Ideal) X7) (arg8.view.read (Elt Ideal) X8) (i 1).val 1 κ (⟨512 * blk2 i + x.val, by have := rb3 i k; omega⟩ : Fin 8192) := by
  have P := fun (κ : Fin 512) (x : Fin 1024) => trip3_ds1 i arg2 arg6 arg7 arg8 v18 v34 v38 X2 X6 X7 X8 k κ x
  simp only [trip3.sl.v361, trip3.sl.v360, trip3.sl.v359]
  pointwise [P]

theorem trip3_dq1 (x : Fin 1024) (l : Fin 128) :
    trip3.sl.v362 i arg2 arg6 arg7 arg8 v18 v34 v38 X2 X6 X7 X8 k (ix2 x l) = ∑ κ : Fin 512, dsH v18 v34 v38 (arg2.view.read (Elt Ideal) X2) (arg6.view.read (Elt Ideal) X6) (arg7.view.read (Elt Ideal) X7) (arg8.view.read (Elt Ideal) X8) (i 1).val 1 κ (⟨512 * blk2 i + x.val, by have := rb3 i k; omega⟩ : Fin 8192) * v18 (ix2 κ l) := by
  have P := fun (κ : Fin 512) (x : Fin 1024) => trip3_ds1 i arg2 arg6 arg7 arg8 v18 v34 v38 X2 X6 X7 X8 k κ x
  simp only [trip3.sl.v362, trip3.sl.v356, trip3.sl.cst_141]
  pointwise [P]

theorem trip3_rs1 (x : Fin 1024) :
    trip3.sl.v364 i arg2 arg6 arg7 arg8 v18 v34 v38 X2 X6 X7 X8 k (ix2 (0 : Fin 1) x) = ∑ κ : Fin 512, dsH v18 v34 v38 (arg2.view.read (Elt Ideal) X2) (arg6.view.read (Elt Ideal) X6) (arg7.view.read (Elt Ideal) X7) (arg8.view.read (Elt Ideal) X8) (i 1).val 1 κ (⟨512 * blk2 i + x.val, by have := rb3 i k; omega⟩ : Fin 8192) := by
  have P := fun (κ : Fin 512) (x : Fin 1024) => trip3_ds1 i arg2 arg6 arg7 arg8 v18 v34 v38 X2 X6 X7 X8 k κ x
  simp only [trip3.sl.v364, trip3.sl.v363]
  pointwise [P]

theorem trip3_pl10 (x : Fin 512) (y : S2x16x1x512.Idx) (q : Fin 8192) (h0 : (y 0).val = 1) (h1 : (y 1).val = blk2 i + 0)
    (h3 : (y 3).val = x.val) (hq : q.val = 512 * blk2 i + 0 + x.val) :
    (trip3.sl.v374 i arg2 arg6 arg7 arg8 arg13 v18 v34 v38 X2 X6 X7 X8 k f13) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 1024) => trip3_rs1 i arg2 arg6 arg7 arg8 v18 v34 v38 X2 X6 X7 X8 k x
  simp only [trip3.sl.v374, trip3.sl.v370, trip3.sl.v368, trip3.sl.v367, trip3.sl.v369, View.readAt_eq_ld]
  pointwise [P]
  simp only [off10_eq, off11_eq_0, off11_eq_1, off12_eq_0, off12_eq_1]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip3_pl11 (x : Fin 512) (y : S2x16x1x512.Idx) (q : Fin 8192) (h0 : (y 0).val = 1) (h1 : (y 1).val = blk2 i + 1)
    (h3 : (y 3).val = x.val) (hq : q.val = 512 * blk2 i + 512 + x.val) :
    (trip3.sl.v384 i arg2 arg6 arg7 arg8 arg13 v18 v34 v38 X2 X6 X7 X8 k f13) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 1024) => trip3_rs1 i arg2 arg6 arg7 arg8 v18 v34 v38 X2 X6 X7 X8 k x
  simp only [trip3.sl.v384, trip3.sl.v380, trip3.sl.v378, trip3.sl.v377, trip3.sl.v379, View.readAt_eq_ld]
  pointwise [P]
  simp only [off10_eq, off11_eq_0, off11_eq_1, off12_eq_0, off12_eq_1]
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip3_dqp (x : Fin 1024) (l : Fin 128) :
    (trip3.sl.v391 i arg2 arg6 arg7 arg8 arg12 v11 v18 v27 v34 v37 v38 X2 X6 X7 X8 k f12) (ix2 x l) = arg12.view.read (Elt Ideal) f12 (ix2 (⟨512 * blk2 i + x.val, by have := rb3 i k; omega⟩ : Fin 8192) l) +
      ((∑ κ : Fin 512, dsH v11 v27 v37 (arg2.view.read (Elt Ideal) X2) (arg6.view.read (Elt Ideal) X6) (arg7.view.read (Elt Ideal) X7) (arg8.view.read (Elt Ideal) X8) (i 1).val 0 κ (⟨512 * blk2 i + x.val, by have := rb3 i k; omega⟩ : Fin 8192) * v11 (ix2 κ l)) + ∑ κ : Fin 512, dsH v18 v34 v38 (arg2.view.read (Elt Ideal) X2) (arg6.view.read (Elt Ideal) X6) (arg7.view.read (Elt Ideal) X7) (arg8.view.read (Elt Ideal) X8) (i 1).val 1 κ (⟨512 * blk2 i + x.val, by have := rb3 i k; omega⟩ : Fin 8192) * v18 (ix2 κ l)) * Ideal.ofBits .f32 0x3E000000#32 := by
  have P := fun (x : Fin 1024) (l : Fin 128) => trip3_dq0 i arg2 arg6 arg7 arg8 v11 v27 v37 X2 X6 X7 X8 k x l
  have Q := fun (x : Fin 1024) (l : Fin 128) => trip3_dq1 i arg2 arg6 arg7 arg8 v18 v34 v38 X2 X6 X7 X8 k x l
  simp only [trip3.sl.v391, trip3.sl.v387, trip3.sl.v390, trip3.sl.v388, trip3.sl.v389, trip3.sl.cst_195, View.readAt_eq_ld]
  pointwise [P, Q]
  simp only [off10_eq, off11_eq_0, off11_eq_1, off12_eq_0, off12_eq_1, Matrix.cons_val_zero, Matrix.cons_val_one, Matrix.cons_val_fin_one, zero_add, Fin.eta]

end Pieces

/-- One trip takes the sums, the query gradients and the row sums 1024 rows further. -/
theorem trip3_val (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole) (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v147 : BitVec 32) (v171_0 : FVec Ideal S512x128 .f32) (v171_1 : FVec Ideal S512x128 .f32) (v171_2 : FVec Ideal S512x1 .f32) (v171_3 : FVec Ideal S512x128 .f32) (v171_4 : FVec Ideal S512x128 .f32) (v171_5 : FVec Ideal S512x1 .f32) (v182 : BitVec 32) (v196 : BitVec 1) (c1_i32_86 : BitVec 32)
     (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (k : Fin (k0_t3_loop i).trips)
    (G12 : S8192x128.Idx → EReal) (G13 : S2x16x1x512.Idx → EReal) (f12 : BufTy.Contents (Elt Ideal) arg12.view.ty) (f13 : BufTy.Contents (Elt Ideal) arg13.view.ty)
    (e : Env) (he : e = (env v11 v18 v27 v34 v37 v38 (arg2.view.read (Elt Ideal) X2) (arg6.view.read (Elt Ideal) X6) (arg7.view.read (Elt Ideal) X7) (arg8.view.read (Elt Ideal) X8) (i 1).val))
    (h12 : arg12.view.read (Elt Ideal) f12 = e.dq G12 (512 * blk2 i)) (h13 : arg13.view.read (Elt Ideal) f13 = e.dr G13 (512 * blk2 i)) :
    (trip3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).1 (e.acc (512 * blk2 i)) f12 f13 = e.acc (512 * blk2 i + 1024)
      ∧ arg12.view.read (Elt Ideal) (arg12.view.writes (Elt Ideal) f12 ((trip3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.1 (e.acc (512 * blk2 i)) f12 f13)) = e.dq G12 (512 * blk2 i + 1024)
      ∧ arg13.view.read (Elt Ideal) (arg13.view.writes (Elt Ideal) f13 ((trip3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.1 (e.acc (512 * blk2 i)) f12 f13)) = e.dr G13 (512 * blk2 i + 1024) := by
  have hb := rb3 i k
  have hj : 512 * (i 1).val ≤ 512 * blk2 i := by omega
  have hr : 512 * blk2 i + 1024 ≤ 8192 := by omega
  have hje : 512 * e.j ≤ 512 * blk2 i := by subst he; exact hj
  unfold trip3
  dsimp only
  refine ⟨?_, ?_, ?_⟩
  · unfold Env.acc
    refine Prod.ext ?_ (Prod.ext ?_ (Prod.ext ?_ (Prod.ext ?_ (Prod.ext ?_ ?_))))
    · funext y
      rw [eq_ix2 y]
      refine (trip3_dk0 i arg2 arg6 arg7 arg8 v11 v27 v37 X2 X6 X7 X8 k (e.acc (512 * blk2 i)) (y 0) (y 1)).trans (Eq.trans ?_ (e.dk_add 0 (512 * blk2 i) 1024 hje hr (y 0) (y 1)).symm)
      subst he
      rfl
    · funext y
      rw [eq_ix2 y]
      refine (trip3_dv0 i arg2 arg6 arg7 v11 v37 X2 X6 X7 k (e.acc (512 * blk2 i)) (y 0) (y 1)).trans (Eq.trans ?_ (e.dv_add 0 (512 * blk2 i) 1024 hje hr (y 0) (y 1)).symm)
      subst he
      rfl
    · funext y
      have hy : y = ix2 (y 0) (0 : Fin 1) := ext_mat rfl (by have h1 : (y 1).val < 1 := (y 1).isLt; show (y 1).val = 0; omega)
      rw [hy]
      refine (trip3_db0 i arg2 arg6 arg7 arg8 v11 v27 v37 X2 X6 X7 X8 k (e.acc (512 * blk2 i)) (y 0)).trans (Eq.trans ?_ (e.db_add 0 (512 * blk2 i) 1024 hje hr (y 0)).symm)
      subst he
      rfl
    · funext y
      rw [eq_ix2 y]
      refine (trip3_dk1 i arg2 arg6 arg7 arg8 v18 v34 v38 X2 X6 X7 X8 k (e.acc (512 * blk2 i)) (y 0) (y 1)).trans (Eq.trans ?_ (e.dk_add 1 (512 * blk2 i) 1024 hje hr (y 0) (y 1)).symm)
      subst he
      rfl
    · funext y
      rw [eq_ix2 y]
      refine (trip3_dv1 i arg2 arg6 arg7 v18 v38 X2 X6 X7 k (e.acc (512 * blk2 i)) (y 0) (y 1)).trans (Eq.trans ?_ (e.dv_add 1 (512 * blk2 i) 1024 hje hr (y 0) (y 1)).symm)
      subst he
      rfl
    · funext y
      have hy : y = ix2 (y 0) (0 : Fin 1) := ext_mat rfl (by have h1 : (y 1).val < 1 := (y 1).isLt; show (y 1).val = 0; omega)
      rw [hy]
      refine (trip3_db1 i arg2 arg6 arg7 arg8 v18 v34 v38 X2 X6 X7 X8 k (e.acc (512 * blk2 i)) (y 0)).trans (Eq.trans ?_ (e.db_add 1 (512 * blk2 i) 1024 hje hr (y 0)).symm)
      subst he
      rfl
  · funext y
    by_cases hy : 512 * blk2 i ≤ (y 0).val ∧ (y 0).val < 512 * blk2 i + 1024
    · refine (View.read_writes_cons_unit_of_mem (s := S8192x128) _ _ _ _ [] y (ix2 (⟨(y 0).val - (512 * blk2 i), by omega⟩ : Fin 1024) (y 1)) (off10_eq i) (fun a => ?_)).trans ?_
      · match a with
        | ⟨0, _⟩ => show (y 0).val = (512 * blk2 i) + ((y 0).val - (512 * blk2 i)); omega
        | ⟨1, _⟩ => show (y 1).val = 0 + (y 1).val; omega
      · refine (trip3_dqp i arg2 arg6 arg7 arg8 arg12 v11 v18 v27 v34 v37 v38 X2 X6 X7 X8 k f12 _ (y 1)).trans ?_
        have ey : ∀ (p : _), (⟨(512 * blk2 i) + ((y 0).val - (512 * blk2 i)), p⟩ : Fin 8192) = y 0 := fun p => Fin.ext (by show (512 * blk2 i) + ((y 0).val - (512 * blk2 i)) = (y 0).val; omega)
        rw [e.dq_new G12 (512 * blk2 i) 1024 y hje hy, ← h12]
        simp only [ey]
        refine congrArg₂ (· + ·) (congrArg _ (eq_ix2 y).symm) ?_
        subst he
        rfl
    · refine (View.read_writes_cons_unit_of_not_mem (s := S8192x128) _ _ _ _ [] y (off10_eq i) (0 : Fin 2) ?_).trans ?_
      · show (y 0).val < (512 * blk2 i) ∨ (512 * blk2 i) + 1024 ≤ (y 0).val
        omega
      · rw [e.dq_old G12 (512 * blk2 i) 1024 y (by omega), ← h12]
        rfl
  · funext y
    have hy0 : (y 0).val < 2 := (y 0).isLt
    have hy1 : (y 1).val < 16 := (y 1).isLt
    have hy3 : (y 3).val < 512 := (y 3).isLt
    have hrow : (Env.row y).val = 512 * (y 1).val + (y 3).val := rfl
    by_cases hy : 512 * blk2 i ≤ (Env.row y).val ∧ (Env.row y).val < 512 * blk2 i + 1024
    · rw [e.dr_new G13 (512 * blk2 i) 1024 y hje hy, ← h13]
      by_cases h0 : (y 0).val = 1 ∧ (y 1).val = blk2 i + 1
      · refine (rd_mem _ _ _ _ _ y 1 (blk2 i + 1) (off12_eq_1 i) h0.1 h0.2).trans ?_
        refine (trip3_pl11 i arg2 arg6 arg7 arg8 arg13 v18 v34 v38 X2 X6 X7 X8 k f13 (y 3) y (Env.row y) h0.1 h0.2 rfl (by omega)).trans ?_
        refine congrArg₂ (· + ·) rfl ?_
        have h0' : y 0 = (1 : Fin 2) := Fin.ext h0.1
        rw [h0']
        subst he
        rfl
      by_cases h1 : (y 0).val = 1 ∧ (y 1).val = blk2 i + 0
      · refine (rd_not _ _ _ _ _ y 1 (blk2 i + 1) (off12_eq_1 i) (by omega)).trans ((rd_mem _ _ _ _ _ y 1 (blk2 i + 0) (off12_eq_0 i) h1.1 h1.2).trans ?_)
        refine (trip3_pl10 i arg2 arg6 arg7 arg8 arg13 v18 v34 v38 X2 X6 X7 X8 k f13 (y 3) y (Env.row y) h1.1 h1.2 rfl (by omega)).trans ?_
        refine congrArg₂ (· + ·) rfl ?_
        have h0' : y 0 = (1 : Fin 2) := Fin.ext h1.1
        rw [h0']
        subst he
        rfl
      by_cases h2 : (y 0).val = 0 ∧ (y 1).val = blk2 i + 1
      · refine (rd_not _ _ _ _ _ y 1 (blk2 i + 1) (off12_eq_1 i) (by omega)).trans ((rd_not _ _ _ _ _ y 1 (blk2 i + 0) (off12_eq_0 i) (by omega)).trans ((rd_mem _ _ _ _ _ y 0 (blk2 i + 1) (off11_eq_1 i) h2.1 h2.2).trans ?_))
        refine (trip3_pl01 i arg2 arg6 arg7 arg8 arg13 v11 v27 v37 X2 X6 X7 X8 k f13 (y 3) y (Env.row y) h2.1 h2.2 rfl (by omega)).trans ?_
        refine congrArg₂ (· + ·) rfl ?_
        have h0' : y 0 = (0 : Fin 2) := Fin.ext h2.1
        rw [h0']
        subst he
        rfl
      have h3 : (y 0).val = 0 ∧ (y 1).val = blk2 i + 0 := by omega
      refine (rd_not _ _ _ _ _ y 1 (blk2 i + 1) (off12_eq_1 i) (by omega)).trans ((rd_not _ _ _ _ _ y 1 (blk2 i + 0) (off12_eq_0 i) (by omega)).trans ((rd_not _ _ _ _ _ y 0 (blk2 i + 1) (off11_eq_1 i) (by omega)).trans ((rd_mem _ _ _ _ _ y 0 (blk2 i + 0) (off11_eq_0 i) h3.1 h3.2).trans ?_)))
      refine (trip3_pl00 i arg2 arg6 arg7 arg8 arg13 v11 v27 v37 X2 X6 X7 X8 k f13 (y 3) y (Env.row y) h3.1 h3.2 rfl (by omega)).trans ?_
      refine congrArg₂ (· + ·) rfl ?_
      have h0' : y 0 = (0 : Fin 2) := Fin.ext h3.1
      rw [h0']
      subst he
      rfl
    · rw [e.dr_old G13 (512 * blk2 i) 1024 y (by omega), ← h13]
      exact (rd_not _ _ _ _ _ y 1 (blk2 i + 1) (off12_eq_1 i) (by omega)).trans ((rd_not _ _ _ _ _ y 1 (blk2 i + 0) (off12_eq_0 i) (by omega)).trans ((rd_not _ _ _ _ _ y 0 (blk2 i + 1) (off11_eq_1 i) (by omega)).trans ((rd_not _ _ _ _ _ y 0 (blk2 i + 0) (off11_eq_0 i) (by omega)).trans (rfl))))

end Cert.Proof.KernelIdeal
end
-- ==== Proof.KernelIdeal.Val5.lean ====
/- What the trip over the last query block adds. -/
module

public import proofs.«01_k».proof.Proof.KernelIdeal.Spec

@[expose] public section

set_option maxRecDepth 16384
set_option maxHeartbeats 4000000

noncomputable section

namespace Cert.Proof.KernelIdeal

open Cert.KernelIdeal
open Idealize.ShloMosaic Idealize.ShloMosaic.TcCoe

section Pieces

variable (i : grid0.Coords) (arg2 arg6 : Memref sig .tc .vmem S8192x128 .bf16) (arg7 arg8 arg13 : Memref sig .tc .vmem S2x16x1x512 .f32) (arg12 : Memref sig .tc .vmem S8192x128 .f32) (v11 v18 v27 v34 : FVec Ideal S512x128 .bf16) (v37 v38 : FVec Ideal S512x1 .f32) (X2 : BufTy.Contents (Elt Ideal) arg2.view.ty) (X6 : BufTy.Contents (Elt Ideal) arg6.view.ty) (X7 : BufTy.Contents (Elt Ideal) arg7.view.ty) (X8 : BufTy.Contents (Elt Ideal) arg8.view.ty)
variable (k : Fin (k0_t5_loop i).trips) (acc : Acc Ideal) (f12 : BufTy.Contents (Elt Ideal) arg12.view.ty) (f13 : BufTy.Contents (Elt Ideal) arg13.view.ty)

theorem trip5_lse0 (x : Fin 512) :
    trip5.sl.v257 arg7 X7 (ix2 (0 : Fin 1) x) = stat (arg7.view.read (Elt Ideal) X7) 0 (⟨7680 + x.val, by have := rb5 i k; omega⟩ : Fin 8192) := by
  have hb := rb5 i k
  have hx := x.isLt
  simp only [trip5.sl.v257, View.readAt_eq_ld]
  pointwise []
  exact stat_of _ _ _ _ rfl (by first | (simp; done) | (simp; omega))

theorem trip5_dlt0 (x : Fin 512) :
    trip5.sl.v259 arg8 X8 (ix2 (0 : Fin 1) x) = stat (arg8.view.read (Elt Ideal) X8) 0 (⟨7680 + x.val, by have := rb5 i k; omega⟩ : Fin 8192) := by
  have hb := rb5 i k
  have hx := x.isLt
  simp only [trip5.sl.v259, View.readAt_eq_ld]
  pointwise []
  exact stat_of _ _ _ _ rfl (by first | (simp; done) | (simp; omega))

theorem trip5_pr0 (κ : Fin 512) (x : Fin 512) :
    trip5.sl.v262 arg2 arg7 v11 v37 X2 X7 (ix2 κ x) = prH v11 v37 (arg2.view.read (Elt Ideal) X2) (arg7.view.read (Elt Ideal) X7) (i 1).val 0 κ (⟨7680 + x.val, by have := rb5 i k; omega⟩ : Fin 8192) := by
  have hb := rb5 i k
  have hx := x.isLt
  have hκ := κ.isLt
  have L := fun x : Fin 512 => trip5_lse0 i arg7 X7 k x
  simp only [trip5.sl.v262, trip5.sl.v261, trip5.sl.v255, trip5.sl.v253, trip5.sl.v249, trip5.sl.cst_113, trip5.sl.v254, trip5.sl.v260, View.readAt_eq_ld]
  pointwise [L]
  unfold prH
  rw [if_pos (by simp only; omega)]

theorem trip5_ds0 (κ : Fin 512) (x : Fin 512) :
    trip5.sl.v269 arg2 arg6 arg7 arg8 v11 v27 v37 X2 X6 X7 X8 (ix2 κ x) = dsH v11 v27 v37 (arg2.view.read (Elt Ideal) X2) (arg6.view.read (Elt Ideal) X6) (arg7.view.read (Elt Ideal) X7) (arg8.view.read (Elt Ideal) X8) (i 1).val 0 κ (⟨7680 + x.val, by have := rb5 i k; omega⟩ : Fin 8192) := by
  have L := fun x : Fin 512 => trip5_dlt0 i arg8 X8 k x
  have P := fun (κ : Fin 512) (x : Fin 512) => trip5_pr0 i arg2 arg7 v11 v37 X2 X7 k κ x
  simp only [trip5.sl.v269, trip5.sl.v268, trip5.sl.v266, trip5.sl.v252, trip5.sl.cst_113, trip5.sl.v267, View.readAt_eq_ld]
  pointwise [L, P]
  unfold dsH
  rfl

theorem trip5_dk0 (κ : Fin 512) (l : Fin 128) :
    trip5.sl.v272 arg2 arg6 arg7 arg8 v11 v27 v37 X2 X6 X7 X8 acc (ix2 κ l) = acc.1 (ix2 κ l) + ∑ x : Fin 512, dsH v11 v27 v37 (arg2.view.read (Elt Ideal) X2) (arg6.view.read (Elt Ideal) X6) (arg7.view.read (Elt Ideal) X7) (arg8.view.read (Elt Ideal) X8) (i 1).val 0 κ (⟨7680 + x.val, by have := rb5 i k; omega⟩ : Fin 8192) * (arg2.view.read (Elt Ideal) X2) (ix2 (⟨7680 + x.val, by have := rb5 i k; omega⟩ : Fin 8192) l) := by
  have P := fun (κ : Fin 512) (x : Fin 512) => trip5_ds0 i arg2 arg6 arg7 arg8 v11 v27 v37 X2 X6 X7 X8 k κ x
  simp only [trip5.sl.v272, trip5.sl.v271, trip5.sl.v270, trip5.sl.v249, trip5.sl.cst_121, View.readAt_eq_ld]
  pointwise [P]

theorem trip5_dv0 (κ : Fin 512) (l : Fin 128) :
    trip5.sl.v265 arg2 arg6 arg7 v11 v37 X2 X6 X7 acc (ix2 κ l) = acc.2.1 (ix2 κ l) + ∑ x : Fin 512, prH v11 v37 (arg2.view.read (Elt Ideal) X2) (arg7.view.read (Elt Ideal) X7) (i 1).val 0 κ (⟨7680 + x.val, by have := rb5 i k; omega⟩ : Fin 8192) * (arg6.view.read (Elt Ideal) X6) (ix2 (⟨7680 + x.val, by have := rb5 i k; omega⟩ : Fin 8192) l) := by
  have P := fun (κ : Fin 512) (x : Fin 512) => trip5_pr0 i arg2 arg7 v11 v37 X2 X7 k κ x
  simp only [trip5.sl.v265, trip5.sl.v264, trip5.sl.v263, trip5.sl.v252, trip5.sl.cst_121, View.readAt_eq_ld]
  pointwise [P]

theorem trip5_db0 (κ : Fin 512) :
    trip5.sl.v275 arg2 arg6 arg7 arg8 v11 v27 v37 X2 X6 X7 X8 acc (ix2 κ (0 : Fin 1)) = acc.2.2.1 (ix2 κ (0 : Fin 1)) + ∑ x : Fin 512, dsH v11 v27 v37 (arg2.view.read (Elt Ideal) X2) (arg6.view.read (Elt Ideal) X6) (arg7.view.read (Elt Ideal) X7) (arg8.view.read (Elt Ideal) X8) (i 1).val 0 κ (⟨7680 + x.val, by have := rb5 i k; omega⟩ : Fin 8192) := by
  have P := fun (κ : Fin 512) (x : Fin 512) => trip5_ds0 i arg2 arg6 arg7 arg8 v11 v27 v37 X2 X6 X7 X8 k κ x
  simp only [trip5.sl.v275, trip5.sl.v274, trip5.sl.v273]
  pointwise [P]

theorem trip5_dq0 (x : Fin 512) (l : Fin 128) :
    trip5.sl.v276 arg2 arg6 arg7 arg8 v11 v27 v37 X2 X6 X7 X8 (ix2 x l) = ∑ κ : Fin 512, dsH v11 v27 v37 (arg2.view.read (Elt Ideal) X2) (arg6.view.read (Elt Ideal) X6) (arg7.view.read (Elt Ideal) X7) (arg8.view.read (Elt Ideal) X8) (i 1).val 0 κ (⟨7680 + x.val, by have := rb5 i k; omega⟩ : Fin 8192) * v11 (ix2 κ l) := by
  have P := fun (κ : Fin 512) (x : Fin 512) => trip5_ds0 i arg2 arg6 arg7 arg8 v11 v27 v37 X2 X6 X7 X8 k κ x
  simp only [trip5.sl.v276, trip5.sl.v270, trip5.sl.cst_121]
  pointwise [P]

theorem trip5_rs0 (x : Fin 512) :
    trip5.sl.v278 arg2 arg6 arg7 arg8 v11 v27 v37 X2 X6 X7 X8 (ix2 (0 : Fin 1) x) = ∑ κ : Fin 512, dsH v11 v27 v37 (arg2.view.read (Elt Ideal) X2) (arg6.view.read (Elt Ideal) X6) (arg7.view.read (Elt Ideal) X7) (arg8.view.read (Elt Ideal) X8) (i 1).val 0 κ (⟨7680 + x.val, by have := rb5 i k; omega⟩ : Fin 8192) := by
  have P := fun (κ : Fin 512) (x : Fin 512) => trip5_ds0 i arg2 arg6 arg7 arg8 v11 v27 v37 X2 X6 X7 X8 k κ x
  simp only [trip5.sl.v278, trip5.sl.v277]
  pointwise [P]

include k in
theorem trip5_pl00 (x : Fin 512) (y : S2x16x1x512.Idx) (q : Fin 8192) (h0 : (y 0).val = 0) (h1 : (y 1).val = 15 + 0)
    (h3 : (y 3).val = x.val) (hq : q.val = 7680 + 0 + x.val) :
    (trip5.sl.v284 arg2 arg6 arg7 arg8 arg13 v11 v27 v37 X2 X6 X7 X8 f13) (ix4 (0 : Fin 1) (0 : Fin 1) (0 : Fin 1) x) = arg13.view.read (Elt Ideal) f13 y + ∑ κ : Fin 512, dsH v11 v27 v37 (arg2.view.read (Elt Ideal) X2) (arg6.view.read (Elt Ideal) X6) (arg7.view.read (Elt Ideal) X7) (arg8.view.read (Elt Ideal) X8) (i 1).val 0 κ q := by
  have P := fun (x : Fin 512) => trip5_rs0 i arg2 arg6 arg7 arg8 v11 v27 v37 X2 X6 X7 X8 k x
  simp only [trip5.sl.v284, trip5.sl.v281, trip5.sl.v280, View.readAt_eq_ld]
  pointwise [P]
  skip
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip5_lse1 (x : Fin 512) :
    trip5.sl.v289 arg7 X7 (ix2 (0 : Fin 1) x) = stat (arg7.view.read (Elt Ideal) X7) 1 (⟨7680 + x.val, by have := rb5 i k; omega⟩ : Fin 8192) := by
  have hb := rb5 i k
  have hx := x.isLt
  simp only [trip5.sl.v289, View.readAt_eq_ld]
  pointwise []
  exact stat_of _ _ _ _ rfl (by first | (simp; done) | (simp; omega))

theorem trip5_dlt1 (x : Fin 512) :
    trip5.sl.v291 arg8 X8 (ix2 (0 : Fin 1) x) = stat (arg8.view.read (Elt Ideal) X8) 1 (⟨7680 + x.val, by have := rb5 i k; omega⟩ : Fin 8192) := by
  have hb := rb5 i k
  have hx := x.isLt
  simp only [trip5.sl.v291, View.readAt_eq_ld]
  pointwise []
  exact stat_of _ _ _ _ rfl (by first | (simp; done) | (simp; omega))

theorem trip5_pr1 (κ : Fin 512) (x : Fin 512) :
    trip5.sl.v294 arg2 arg7 v18 v38 X2 X7 (ix2 κ x) = prH v18 v38 (arg2.view.read (Elt Ideal) X2) (arg7.view.read (Elt Ideal) X7) (i 1).val 1 κ (⟨7680 + x.val, by have := rb5 i k; omega⟩ : Fin 8192) := by
  have hb := rb5 i k
  have hx := x.isLt
  have hκ := κ.isLt
  have L := fun x : Fin 512 => trip5_lse1 i arg7 X7 k x
  simp only [trip5.sl.v294, trip5.sl.v293, trip5.sl.v287, trip5.sl.v285, trip5.sl.v249, trip5.sl.cst_113, trip5.sl.v286, trip5.sl.v292, View.readAt_eq_ld]
  pointwise [L]
  unfold prH
  rw [if_pos (by simp only; omega)]

theorem trip5_ds1 (κ : Fin 512) (x : Fin 512) :
    trip5.sl.v301 arg2 arg6 arg7 arg8 v18 v34 v38 X2 X6 X7 X8 (ix2 κ x) = dsH v18 v34 v38 (arg2.view.read (Elt Ideal) X2) (arg6.view.read (Elt Ideal) X6) (arg7.view.read (Elt Ideal) X7) (arg8.view.read (Elt Ideal) X8) (i 1).val 1 κ (⟨7680 + x.val, by have := rb5 i k; omega⟩ : Fin 8192) := by
  have L := fun x : Fin 512 => trip5_dlt1 i arg8 X8 k x
  have P := fun (κ : Fin 512) (x : Fin 512) => trip5_pr1 i arg2 arg7 v18 v38 X2 X7 k κ x
  simp only [trip5.sl.v301, trip5.sl.v300, trip5.sl.v298, trip5.sl.v252, trip5.sl.cst_113, trip5.sl.v299, View.readAt_eq_ld]
  pointwise [L, P]
  unfold dsH
  rfl

theorem trip5_dk1 (κ : Fin 512) (l : Fin 128) :
    trip5.sl.v304 arg2 arg6 arg7 arg8 v18 v34 v38 X2 X6 X7 X8 acc (ix2 κ l) = acc.2.2.2.1 (ix2 κ l) + ∑ x : Fin 512, dsH v18 v34 v38 (arg2.view.read (Elt Ideal) X2) (arg6.view.read (Elt Ideal) X6) (arg7.view.read (Elt Ideal) X7) (arg8.view.read (Elt Ideal) X8) (i 1).val 1 κ (⟨7680 + x.val, by have := rb5 i k; omega⟩ : Fin 8192) * (arg2.view.read (Elt Ideal) X2) (ix2 (⟨7680 + x.val, by have := rb5 i k; omega⟩ : Fin 8192) l) := by
  have P := fun (κ : Fin 512) (x : Fin 512) => trip5_ds1 i arg2 arg6 arg7 arg8 v18 v34 v38 X2 X6 X7 X8 k κ x
  simp only [trip5.sl.v304, trip5.sl.v303, trip5.sl.v302, trip5.sl.v249, trip5.sl.cst_121, View.readAt_eq_ld]
  pointwise [P]

theorem trip5_dv1 (κ : Fin 512) (l : Fin 128) :
    trip5.sl.v297 arg2 arg6 arg7 v18 v38 X2 X6 X7 acc (ix2 κ l) = acc.2.2.2.2.1 (ix2 κ l) + ∑ x : Fin 512, prH v18 v38 (arg2.view.read (Elt Ideal) X2) (arg7.view.read (Elt Ideal) X7) (i 1).val 1 κ (⟨7680 + x.val, by have := rb5 i k; omega⟩ : Fin 8192) * (arg6.view.read (Elt Ideal) X6) (ix2 (⟨7680 + x.val, by have := rb5 i k; omega⟩ : Fin 8192) l) := by
  have P := fun (κ : Fin 512) (x : Fin 512) => trip5_pr1 i arg2 arg7 v18 v38 X2 X7 k κ x
  simp only [trip5.sl.v297, trip5.sl.v296, trip5.sl.v295, trip5.sl.v252, trip5.sl.cst_121, View.readAt_eq_ld]
  pointwise [P]

theorem trip5_db1 (κ : Fin 512) :
    trip5.sl.v307 arg2 arg6 arg7 arg8 v18 v34 v38 X2 X6 X7 X8 acc (ix2 κ (0 : Fin 1)) = acc.2.2.2.2.2 (ix2 κ (0 : Fin 1)) + ∑ x : Fin 512, dsH v18 v34 v38 (arg2.view.read (Elt Ideal) X2) (arg6.view.read (Elt Ideal) X6) (arg7.view.read (Elt Ideal) X7) (arg8.view.read (Elt Ideal) X8) (i 1).val 1 κ (⟨7680 + x.val, by have := rb5 i k; omega⟩ : Fin 8192) := by
  have P := fun (κ : Fin 512) (x : Fin 512) => trip5_ds1 i arg2 arg6 arg7 arg8 v18 v34 v38 X2 X6 X7 X8 k κ x
  simp only [trip5.sl.v307, trip5.sl.v306, trip5.sl.v305]
  pointwise [P]

theorem trip5_dq1 (x : Fin 512) (l : Fin 128) :
    trip5.sl.v308 arg2 arg6 arg7 arg8 v18 v34 v38 X2 X6 X7 X8 (ix2 x l) = ∑ κ : Fin 512, dsH v18 v34 v38 (arg2.view.read (Elt Ideal) X2) (arg6.view.read (Elt Ideal) X6) (arg7.view.read (Elt Ideal) X7) (arg8.view.read (Elt Ideal) X8) (i 1).val 1 κ (⟨7680 + x.val, by have := rb5 i k; omega⟩ : Fin 8192) * v18 (ix2 κ l) := by
  have P := fun (κ : Fin 512) (x : Fin 512) => trip5_ds1 i arg2 arg6 arg7 arg8 v18 v34 v38 X2 X6 X7 X8 k κ x
  simp only [trip5.sl.v308, trip5.sl.v302, trip5.sl.cst_121]
  pointwise [P]

theorem trip5_rs1 (x : Fin 512) :
    trip5.sl.v310 arg2 arg6 arg7 arg8 v18 v34 v38 X2 X6 X7 X8 (ix2 (0 : Fin 1) x) = ∑ κ : Fin 512, dsH v18 v34 v38 (arg2.view.read (Elt Ideal) X2) (arg6.view.read (Elt Ideal) X6) (arg7.view.read (Elt Ideal) X7) (arg8.view.read (Elt Ideal) X8) (i 1).val 1 κ (⟨7680 + x.val, by have := rb5 i k; omega⟩ : Fin 8192) := by
  have P := fun (κ : Fin 512) (x : Fin 512) => trip5_ds1 i arg2 arg6 arg7 arg8 v18 v34 v38 X2 X6 X7 X8 k κ x
  simp only [trip5.sl.v310, trip5.sl.v309]
  pointwise [P]

include k in
theorem trip5_pl10 (x : Fin 512) (y : S2x16x1x512.Idx) (q : Fin 8192) (h0 : (y 0).val = 1) (h1 : (y 1).val = 15 + 0)
    (h3 : (y 3).val = x.val) (hq : q.val = 7680 + 0 + x.val) :
    (Gen.k0_pay199 (trip5.sl.v313 arg2 arg6 arg7 arg8 arg13 v18 v34 v38 X2 X6 X7 X8 f13)) (ix4 (0 : Fin 1) (0 : Fin 1) (0 : Fin 1) x) = arg13.view.read (Elt Ideal) f13 y + ∑ κ : Fin 512, dsH v18 v34 v38 (arg2.view.read (Elt Ideal) X2) (arg6.view.read (Elt Ideal) X6) (arg7.view.read (Elt Ideal) X7) (arg8.view.read (Elt Ideal) X8) (i 1).val 1 κ q := by
  have P := fun (x : Fin 512) => trip5_rs1 i arg2 arg6 arg7 arg8 v18 v34 v38 X2 X6 X7 X8 k x
  unfold Gen.k0_pay199
  simp only [trip5.sl.v313, trip5.sl.v312, trip5.sl.v311, View.readAt_eq_ld]
  pointwise [P]
  skip
  refine congrArg₂ (· + ·) (congrArg _ (ext_rows ?_ ?_ ?_)) (Finset.sum_congr rfl fun κ _ => congrArg _ (Fin.ext ?_))
  · first | (rw [h0]; done) | (rw [h0]; rfl)
  · first | (rw [h1]; done) | (rw [h1]; simp)
  · first | (rw [h3]; done) | (rw [h3]; simp)
  · first | (rw [hq]; done) | (rw [hq]; simp only; omega)

theorem trip5_dqp (x : Fin 512) (l : Fin 128) :
    (Gen.k0_pay200 (trip5.sl.v276 arg2 arg6 arg7 arg8 v11 v27 v37 X2 X6 X7 X8) (trip5.sl.v308 arg2 arg6 arg7 arg8 v18 v34 v38 X2 X6 X7 X8) (View.readAt (Elt Ideal) arg12.view (Rect.unit (s := S8192x128) ![7680, 0] ![512, 128] Gen.inb_S8192x128_S512x128_7680_0).toLoadRect f12)) (ix2 x l) = arg12.view.read (Elt Ideal) f12 (ix2 (⟨7680 + x.val, by have := rb5 i k; omega⟩ : Fin 8192) l) +
      ((∑ κ : Fin 512, dsH v11 v27 v37 (arg2.view.read (Elt Ideal) X2) (arg6.view.read (Elt Ideal) X6) (arg7.view.read (Elt Ideal) X7) (arg8.view.read (Elt Ideal) X8) (i 1).val 0 κ (⟨7680 + x.val, by have := rb5 i k; omega⟩ : Fin 8192) * v11 (ix2 κ l)) + ∑ κ : Fin 512, dsH v18 v34 v38 (arg2.view.read (Elt Ideal) X2) (arg6.view.read (Elt Ideal) X6) (arg7.view.read (Elt Ideal) X7) (arg8.view.read (Elt Ideal) X8) (i 1).val 1 κ (⟨7680 + x.val, by have := rb5 i k; omega⟩ : Fin 8192) * v18 (ix2 κ l)) * Ideal.ofBits .f32 0x3E000000#32 := by
  have P := fun (x : Fin 512) (l : Fin 128) => trip5_dq0 i arg2 arg6 arg7 arg8 v11 v27 v37 X2 X6 X7 X8 k x l
  have Q := fun (x : Fin 512) (l : Fin 128) => trip5_dq1 i arg2 arg6 arg7 arg8 v18 v34 v38 X2 X6 X7 X8 k x l
  unfold Gen.k0_pay200
  simp only [View.readAt_eq_ld]
  pointwise [P, Q]

end Pieces

/-- One trip takes the sums, the query gradients and the row sums 512 rows further. -/
theorem trip5_val (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole) (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v147 : BitVec 32) (v171_0 : FVec Ideal S512x128 .f32) (v171_1 : FVec Ideal S512x128 .f32) (v171_2 : FVec Ideal S512x1 .f32) (v171_3 : FVec Ideal S512x128 .f32) (v171_4 : FVec Ideal S512x128 .f32) (v171_5 : FVec Ideal S512x1 .f32) (v182 : BitVec 32) (v196 : BitVec 1) (c1_i32_86 : BitVec 32)
     (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (k : Fin (k0_t5_loop i).trips)
    (G12 : S8192x128.Idx → EReal) (G13 : S2x16x1x512.Idx → EReal) (f12 : BufTy.Contents (Elt Ideal) arg12.view.ty) (f13 : BufTy.Contents (Elt Ideal) arg13.view.ty)
    (e : Env) (he : e = (env v11 v18 v27 v34 v37 v38 (arg2.view.read (Elt Ideal) X2) (arg6.view.read (Elt Ideal) X6) (arg7.view.read (Elt Ideal) X7) (arg8.view.read (Elt Ideal) X8) (i 1).val))
    (h12 : arg12.view.read (Elt Ideal) f12 = e.dq G12 (7680)) (h13 : arg13.view.read (Elt Ideal) f13 = e.dr G13 (7680)) :
    (trip5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).1 (e.acc (7680)) f12 f13 = e.acc (7680 + 512)
      ∧ arg12.view.read (Elt Ideal) (arg12.view.writes (Elt Ideal) f12 ((trip5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.1 (e.acc (7680)) f12 f13)) = e.dq G12 (7680 + 512)
      ∧ arg13.view.read (Elt Ideal) (arg13.view.writes (Elt Ideal) f13 ((trip5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 k).2.2.1 (e.acc (7680)) f12 f13)) = e.dr G13 (7680 + 512) := by
  have hb := rb5 i k
  have hj : 512 * (i 1).val ≤ 7680 := by omega
  have hr : 7680 + 512 ≤ 8192 := by omega
  have hje : 512 * e.j ≤ 7680 := by subst he; exact hj
  unfold trip5
  dsimp only
  refine ⟨?_, ?_, ?_⟩
  · unfold Env.acc
    refine Prod.ext ?_ (Prod.ext ?_ (Prod.ext ?_ (Prod.ext ?_ (Prod.ext ?_ ?_))))
    · funext y
      rw [eq_ix2 y]
      refine (trip5_dk0 i arg2 arg6 arg7 arg8 v11 v27 v37 X2 X6 X7 X8 k (e.acc (7680)) (y 0) (y 1)).trans (Eq.trans ?_ (e.dk_add 0 (7680) 512 hje hr (y 0) (y 1)).symm)
      subst he
      rfl
    · funext y
      rw [eq_ix2 y]
      refine (trip5_dv0 i arg2 arg6 arg7 v11 v37 X2 X6 X7 k (e.acc (7680)) (y 0) (y 1)).trans (Eq.trans ?_ (e.dv_add 0 (7680) 512 hje hr (y 0) (y 1)).symm)
      subst he
      rfl
    · funext y
      have hy : y = ix2 (y 0) (0 : Fin 1) := ext_mat rfl (by have h1 : (y 1).val < 1 := (y 1).isLt; show (y 1).val = 0; omega)
      rw [hy]
      refine (trip5_db0 i arg2 arg6 arg7 arg8 v11 v27 v37 X2 X6 X7 X8 k (e.acc (7680)) (y 0)).trans (Eq.trans ?_ (e.db_add 0 (7680) 512 hje hr (y 0)).symm)
      subst he
      rfl
    · funext y
      rw [eq_ix2 y]
      refine (trip5_dk1 i arg2 arg6 arg7 arg8 v18 v34 v38 X2 X6 X7 X8 k (e.acc (7680)) (y 0) (y 1)).trans (Eq.trans ?_ (e.dk_add 1 (7680) 512 hje hr (y 0) (y 1)).symm)
      subst he
      rfl
    · funext y
      rw [eq_ix2 y]
      refine (trip5_dv1 i arg2 arg6 arg7 v18 v38 X2 X6 X7 k (e.acc (7680)) (y 0) (y 1)).trans (Eq.trans ?_ (e.dv_add 1 (7680) 512 hje hr (y 0) (y 1)).symm)
      subst he
      rfl
    · funext y
      have hy : y = ix2 (y 0) (0 : Fin 1) := ext_mat rfl (by have h1 : (y 1).val < 1 := (y 1).isLt; show (y 1).val = 0; omega)
      rw [hy]
      refine (trip5_db1 i arg2 arg6 arg7 arg8 v18 v34 v38 X2 X6 X7 X8 k (e.acc (7680)) (y 0)).trans (Eq.trans ?_ (e.db_add 1 (7680) 512 hje hr (y 0)).symm)
      subst he
      rfl
  · funext y
    by_cases hy : 7680 ≤ (y 0).val ∧ (y 0).val < 7680 + 512
    · refine (View.read_writes_cons_unit_of_mem (s := S8192x128) _ _ _ _ [] y (ix2 (⟨(y 0).val - 7680, by omega⟩ : Fin 512) (y 1)) (rfl) (fun a => ?_)).trans ?_
      · match a with
        | ⟨0, _⟩ => show (y 0).val = (7680) + ((y 0).val - (7680)); omega
        | ⟨1, _⟩ => show (y 1).val = 0 + (y 1).val; omega
      · refine (trip5_dqp i arg2 arg6 arg7 arg8 arg12 v11 v18 v27 v34 v37 v38 X2 X6 X7 X8 k f12 _ (y 1)).trans ?_
        have ey : ∀ (p : _), (⟨(7680) + ((y 0).val - (7680)), p⟩ : Fin 8192) = y 0 := fun p => Fin.ext (by show (7680) + ((y 0).val - (7680)) = (y 0).val; omega)
        rw [e.dq_new G12 (7680) 512 y hje hy, ← h12]
        simp only [ey]
        refine congrArg₂ (· + ·) (congrArg _ (eq_ix2 y).symm) ?_
        subst he
        rfl
    · refine (View.read_writes_cons_unit_of_not_mem (s := S8192x128) _ _ _ _ [] y (rfl) (0 : Fin 2) ?_).trans ?_
      · show (y 0).val < (7680) ∨ (7680) + 512 ≤ (y 0).val
        omega
      · rw [e.dq_old G12 (7680) 512 y (by omega), ← h12]
        rfl
  · funext y
    have hy0 : (y 0).val < 2 := (y 0).isLt
    have hy1 : (y 1).val < 16 := (y 1).isLt
    have hy3 : (y 3).val < 512 := (y 3).isLt
    have hrow : (Env.row y).val = 512 * (y 1).val + (y 3).val := rfl
    by_cases hy : 7680 ≤ (Env.row y).val ∧ (Env.row y).val < 7680 + 512
    · rw [e.dr_new G13 (7680) 512 y hje hy, ← h13]
      by_cases h0 : (y 0).val = 1 ∧ (y 1).val = 15 + 0
      · refine (rd_mem _ _ _ _ _ y 1 (15 + 0) (rfl) h0.1 h0.2).trans ?_
        refine (trip5_pl10 i arg2 arg6 arg7 arg8 arg13 v18 v34 v38 X2 X6 X7 X8 k f13 (y 3) y (Env.row y) h0.1 h0.2 rfl (by omega)).trans ?_
        refine congrArg₂ (· + ·) rfl ?_
        have h0' : y 0 = (1 : Fin 2) := Fin.ext h0.1
        rw [h0']
        subst he
        rfl
      have h1 : (y 0).val = 0 ∧ (y 1).val = 15 + 0 := by omega
      refine (rd_not _ _ _ _ _ y 1 (15 + 0) (rfl) (by omega)).trans ((rd_mem _ _ _ _ _ y 0 (15 + 0) (rfl) h1.1 h1.2).trans ?_)
      refine (trip5_pl00 i arg2 arg6 arg7 arg8 arg13 v11 v27 v37 X2 X6 X7 X8 k f13 (y 3) y (Env.row y) h1.1 h1.2 rfl (by omega)).trans ?_
      refine congrArg₂ (· + ·) rfl ?_
      have h0' : y 0 = (0 : Fin 2) := Fin.ext h1.1
      rw [h0']
      subst he
      rfl
    · rw [e.dr_old G13 (7680) 512 y (by omega), ← h13]
      exact (rd_not _ _ _ _ _ y 1 (15 + 0) (rfl) (by omega)).trans ((rd_not _ _ _ _ _ y 0 (15 + 0) (rfl) (by omega)).trans (rfl))

end Cert.Proof.KernelIdeal
end
-- ==== Proof.KernelIdeal.Loops.lean ====
/- What each loop has added after its trips. -/
module

public import proofs.«01_k».proof.Proof.KernelIdeal.Val1
public import proofs.«01_k».proof.Proof.KernelIdeal.Val3
public import proofs.«01_k».proof.Proof.KernelIdeal.Val5

@[expose] public section

set_option maxRecDepth 16384
set_option maxHeartbeats 4000000

noncomputable section

namespace Cert.Proof.KernelIdeal

open Cert.KernelIdeal
open Idealize.ShloMosaic Idealize.ShloMosaic.TcCoe

variable (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole)

theorem st1_val (arg1 : BitVec 32) (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (init : Acc Ideal) (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : 0 < (k0_t1_loop i).trips → init = e.acc (512 * ((i 1).val + 1 + 4 * 0)) ∧ arg12.view.read (Elt Ideal) G12 = e.dq H12 (512 * ((i 1).val + 1 + 4 * 0)) ∧ arg13.view.read (Elt Ideal) G13 = e.dr H13 (512 * ((i 1).val + 1 + 4 * 0))) :
    0 < (k0_t1_loop i).trips → ∀ k : ℕ, k ≤ (k0_t1_loop i).trips → (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k).1 = e.acc (512 * ((i 1).val + 1 + 4 * k))
      ∧ arg12.view.read (Elt Ideal) (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k).2.1) = e.dq H12 (512 * ((i 1).val + 1 + 4 * k))
      ∧ arg13.view.read (Elt Ideal) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 k).2.2) = e.dr H13 (512 * ((i 1).val + 1 + 4 * k)) := by
  intro hpos k
  have hi := hi hpos
  induction k with
  | zero => intro _; exact hi
  | succ k ih =>
    intro hk
    obtain ⟨i1, i2, i3⟩ := ih (by omega)
    have hkt := lt_of_lt_of_eq (show k < (k0_t1_loop i).trips by omega) (trips1 i)
    have h := trip1_val 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init.2.1 init.1 init.2.2.1 init.2.2.2.2.1 init.2.2.2.1 init.2.2.2.2.2 0#32 0#32 0#32 0#32 0#32 0#32 X2 X6 X7 X8 ⟨k, by omega⟩ H12 H13 _ _ e he i2 i3
    rw [show 512 * ((i 1).val + 1 + 4 * (k + 1)) = 512 * ((i 1).val + 1 + 4 * k) + 2048 by omega]
    rw [st1_succ 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 ⟨k, by omega⟩]
    dsimp only
    rw [View.writes_append, View.writes_append, i1]
    exact h

theorem st1_end (arg1 : BitVec 32) (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (init : Acc Ideal) (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : init = e.acc (512 * ((i 1).val + 1)) ∧ arg12.view.read (Elt Ideal) G12 = e.dq H12 (512 * ((i 1).val + 1)) ∧ arg13.view.read (Elt Ideal) G13 = e.dr H13 (512 * ((i 1).val + 1))) :
    (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 = e.acc (512 * blk2 i)
      ∧ arg12.view.read (Elt Ideal) (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) = e.dq H12 (512 * blk2 i)
      ∧ arg13.view.read (Elt Ideal) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) = e.dr H13 (512 * blk2 i) := by
  have hT := trips1 i
  have hi1 : (i 1).val < 16 := (i 1).isLt
  by_cases hpos : 0 < (k0_t1_loop i).trips
  · have h := st1_val 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 H12 H13 e he (fun _ => by
      rw [show 512 * ((i 1).val + 1 + 4 * 0) = 512 * ((i 1).val + 1) by omega]; exact hi) hpos _ (le_refl _)
    rw [show 512 * blk2 i = 512 * ((i 1).val + 1 + 4 * (k0_t1_loop i).trips) by unfold blk2 at *; omega]
    exact h
  · have h0 : (k0_t1_loop i).trips = 0 := by omega
    rw [show 512 * blk2 i = 512 * ((i 1).val + 1) by unfold blk2 at *; omega]
    rw [h0]
    exact hi

theorem st3_val (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v147 : BitVec 32) (v171_0 : FVec Ideal S512x128 .f32) (v171_1 : FVec Ideal S512x128 .f32) (v171_2 : FVec Ideal S512x1 .f32) (v171_3 : FVec Ideal S512x128 .f32) (v171_4 : FVec Ideal S512x128 .f32) (v171_5 : FVec Ideal S512x1 .f32) (v182 : BitVec 32) (v196 : BitVec 1) (c1_i32_86 : BitVec 32) (init : Acc Ideal) (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : 0 < (k0_t3_loop i).trips → init = e.acc (512 * blk2 i + 1024 * 0) ∧ arg12.view.read (Elt Ideal) G12 = e.dq H12 (512 * blk2 i + 1024 * 0) ∧ arg13.view.read (Elt Ideal) G13 = e.dr H13 (512 * blk2 i + 1024 * 0)) :
    0 < (k0_t3_loop i).trips → ∀ k : ℕ, k ≤ (k0_t3_loop i).trips → (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).1 = e.acc (512 * blk2 i + 1024 * k)
      ∧ arg12.view.read (Elt Ideal) (arg12.view.writes (Elt Ideal) G12 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.1) = e.dq H12 (512 * blk2 i + 1024 * k)
      ∧ arg13.view.read (Elt Ideal) (arg13.view.writes (Elt Ideal) G13 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.2) = e.dr H13 (512 * blk2 i + 1024 * k) := by
  intro hpos k
  have hi := hi hpos
  induction k with
  | zero => intro _; exact hi
  | succ k ih =>
    intro hk
    obtain ⟨i1, i2, i3⟩ := ih (by omega)
    have hkt := lt_of_lt_of_eq (show k < (k0_t3_loop i).trips by omega) (trips3 i)
    obtain rfl : k = 0 := by omega
    have h := trip3_val 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨0, by omega⟩ H12 H13 _ _ e he i2 i3
    rw [show 512 * blk2 i + 1024 * (0 + 1) = 512 * blk2 i + 1024 by omega]
    rw [st3_succ 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 ⟨0, by omega⟩]
    dsimp only
    rw [View.writes_append, View.writes_append, i1]
    exact h

theorem st3_end (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v147 : BitVec 32) (v171_0 : FVec Ideal S512x128 .f32) (v171_1 : FVec Ideal S512x128 .f32) (v171_2 : FVec Ideal S512x1 .f32) (v171_3 : FVec Ideal S512x128 .f32) (v171_4 : FVec Ideal S512x128 .f32) (v171_5 : FVec Ideal S512x1 .f32) (v182 : BitVec 32) (v196 : BitVec 1) (c1_i32_86 : BitVec 32) (init : Acc Ideal) (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : init = e.acc (512 * blk2 i) ∧ arg12.view.read (Elt Ideal) G12 = e.dq H12 (512 * blk2 i) ∧ arg13.view.read (Elt Ideal) G13 = e.dr H13 (512 * blk2 i)) :
    (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k0_t3_loop i).trips).1 = e.acc (8192 - 512 * ((15 - (i 1).val) % 2))
      ∧ arg12.view.read (Elt Ideal) (arg12.view.writes (Elt Ideal) G12 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k0_t3_loop i).trips).2.1) = e.dq H12 (8192 - 512 * ((15 - (i 1).val) % 2))
      ∧ arg13.view.read (Elt Ideal) (arg13.view.writes (Elt Ideal) G13 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k0_t3_loop i).trips).2.2) = e.dr H13 (8192 - 512 * ((15 - (i 1).val) % 2)) := by
  have hT := trips3 i
  have hi1 : (i 1).val < 16 := (i 1).isLt
  by_cases hpos : 0 < (k0_t3_loop i).trips
  · have h := st3_val 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 H12 H13 e he (fun _ => by
      rw [show 512 * blk2 i + 1024 * 0 = 512 * blk2 i by omega]; exact hi) hpos _ (le_refl _)
    rw [show 8192 - 512 * ((15 - (i 1).val) % 2) = 512 * blk2 i + 1024 * (k0_t3_loop i).trips by unfold blk2 at *; omega]
    exact h
  · have h0 : (k0_t3_loop i).trips = 0 := by omega
    rw [show 8192 - 512 * ((15 - (i 1).val) % 2) = 512 * blk2 i by unfold blk2 at *; omega]
    rw [h0]
    exact hi

theorem st5_val (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v147 : BitVec 32) (v171_0 : FVec Ideal S512x128 .f32) (v171_1 : FVec Ideal S512x128 .f32) (v171_2 : FVec Ideal S512x1 .f32) (v171_3 : FVec Ideal S512x128 .f32) (v171_4 : FVec Ideal S512x128 .f32) (v171_5 : FVec Ideal S512x1 .f32) (v182 : BitVec 32) (v196 : BitVec 1) (c1_i32_86 : BitVec 32) (init : Acc Ideal) (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : 0 < (k0_t5_loop i).trips → init = e.acc (7680 + 512 * 0) ∧ arg12.view.read (Elt Ideal) G12 = e.dq H12 (7680 + 512 * 0) ∧ arg13.view.read (Elt Ideal) G13 = e.dr H13 (7680 + 512 * 0)) :
    0 < (k0_t5_loop i).trips → ∀ k : ℕ, k ≤ (k0_t5_loop i).trips → (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).1 = e.acc (7680 + 512 * k)
      ∧ arg12.view.read (Elt Ideal) (arg12.view.writes (Elt Ideal) G12 (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.1) = e.dq H12 (7680 + 512 * k)
      ∧ arg13.view.read (Elt Ideal) (arg13.view.writes (Elt Ideal) G13 (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 k).2.2) = e.dr H13 (7680 + 512 * k) := by
  intro hpos k
  have hi := hi hpos
  induction k with
  | zero => intro _; exact hi
  | succ k ih =>
    intro hk
    obtain ⟨i1, i2, i3⟩ := ih (by omega)
    have hkt := lt_of_lt_of_eq (show k < (k0_t5_loop i).trips by omega) (trips5 i)
    obtain rfl : k = 0 := by omega
    have h := trip5_val 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 X2 X6 X7 X8 ⟨0, by omega⟩ H12 H13 _ _ e he i2 i3
    rw [show 7680 + 512 * (0 + 1) = 7680 + 512 by omega]
    rw [st5_succ 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 ⟨0, by omega⟩]
    dsimp only
    rw [View.writes_append, View.writes_append, i1]
    exact h

theorem st5_end (v11 : FVec Ideal S512x128 .bf16) (v18 : FVec Ideal S512x128 .bf16) (v27 : FVec Ideal S512x128 .bf16) (v34 : FVec Ideal S512x128 .bf16) (v37 : FVec Ideal S512x1 .f32) (v38 : FVec Ideal S512x1 .f32) (v147 : BitVec 32) (v171_0 : FVec Ideal S512x128 .f32) (v171_1 : FVec Ideal S512x128 .f32) (v171_2 : FVec Ideal S512x1 .f32) (v171_3 : FVec Ideal S512x128 .f32) (v171_4 : FVec Ideal S512x128 .f32) (v171_5 : FVec Ideal S512x1 .f32) (v182 : BitVec 32) (v196 : BitVec 1) (c1_i32_86 : BitVec 32) (init : Acc Ideal) (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : init = e.acc (8192 - 512 * ((15 - (i 1).val) % 2)) ∧ arg12.view.read (Elt Ideal) G12 = e.dq H12 (8192 - 512 * ((15 - (i 1).val) % 2)) ∧ arg13.view.read (Elt Ideal) G13 = e.dr H13 (8192 - 512 * ((15 - (i 1).val) % 2))) :
    (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k0_t5_loop i).trips).1 = e.acc (8192)
      ∧ arg12.view.read (Elt Ideal) (arg12.view.writes (Elt Ideal) G12 (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k0_t5_loop i).trips).2.1) = e.dq H12 (8192)
      ∧ arg13.view.read (Elt Ideal) (arg13.view.writes (Elt Ideal) G13 (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 (k0_t5_loop i).trips).2.2) = e.dr H13 (8192) := by
  have hT := trips5 i
  have hi1 : (i 1).val < 16 := (i 1).isLt
  by_cases hpos : 0 < (k0_t5_loop i).trips
  · have h := st5_val 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 init X2 X6 X7 X8 G12 G13 H12 H13 e he (fun _ => by
      rw [show 7680 + 512 * 0 = 8192 - 512 * ((15 - (i 1).val) % 2) by omega]; exact hi) hpos _ (le_refl _)
    rw [show 8192 = 7680 + 512 * (k0_t5_loop i).trips by omega]
    exact h
  · have h0 : (k0_t5_loop i).trips = 0 := by omega
    rw [show 8192 = 8192 - 512 * ((15 - (i 1).val) % 2) by omega]
    rw [h0]
    exact hi

/-- The three loops together: from the diagonal block to the last row. -/
theorem tail_val  (arg1 : BitVec 32) (v11 v18 v27 v34 : FVec Ideal S512x128 .bf16) (v37 v38 : FVec Ideal S512x1 .f32) (v147 : BitVec 32) (v171_0 v171_1 : FVec Ideal S512x128 .f32) (v171_2 : FVec Ideal S512x1 .f32) (v171_3 v171_4 : FVec Ideal S512x128 .f32) (v171_5 : FVec Ideal S512x1 .f32) (v182 : BitVec 32) (v196 : BitVec 1) (c1_i32_86 : BitVec 32) (w147 : BitVec 32) (w171_0 w171_1 : FVec Ideal S512x128 .f32) (w171_2 : FVec Ideal S512x1 .f32) (w171_3 w171_4 : FVec Ideal S512x128 .f32) (w171_5 : FVec Ideal S512x1 .f32) (w182 : BitVec 32) (w196 : BitVec 1) (d1_i32_86 : BitVec 32) (init : Acc Ideal)
    (X2 : BufTy.Contents (Elt Ideal) arg2.view.ty) (X6 : BufTy.Contents (Elt Ideal) arg6.view.ty) (X7 : BufTy.Contents (Elt Ideal) arg7.view.ty) (X8 : BufTy.Contents (Elt Ideal) arg8.view.ty) (G12 : BufTy.Contents (Elt Ideal) arg12.view.ty) (G13 : BufTy.Contents (Elt Ideal) arg13.view.ty) (H12 : S8192x128.Idx → EReal) (H13 : S2x16x1x512.Idx → EReal) (e : Env) (he : e = (env v11 v18 v27 v34 v37 v38 (arg2.view.read (Elt Ideal) X2) (arg6.view.read (Elt Ideal) X6) (arg7.view.read (Elt Ideal) X7) (arg8.view.read (Elt Ideal) X8) (i 1).val))
    (hi : init = e.acc (512 * ((i 1).val + 1)) ∧ arg12.view.read (Elt Ideal) G12 = e.dq H12 (512 * ((i 1).val + 1)) ∧ arg13.view.read (Elt Ideal) G13 = e.dr H13 (512 * ((i 1).val + 1))) :
    (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 w147 w171_0 w171_1 w171_2 w171_3 w171_4 w171_5 w182 w196 d1_i32_86 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).1 X2 X6 X7 X8 (arg12.view.writes (Elt Ideal) (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.1) (arg13.view.writes (Elt Ideal) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.2) (k0_t5_loop i).trips).1 = e.acc 8192
      ∧ arg12.view.read (Elt Ideal) (arg12.view.writes (Elt Ideal) (arg12.view.writes (Elt Ideal) (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.1) (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 w147 w171_0 w171_1 w171_2 w171_3 w171_4 w171_5 w182 w196 d1_i32_86 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).1 X2 X6 X7 X8 (arg12.view.writes (Elt Ideal) (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.1) (arg13.view.writes (Elt Ideal) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.2) (k0_t5_loop i).trips).2.1) = e.dq H12 8192
      ∧ arg13.view.read (Elt Ideal) (arg13.view.writes (Elt Ideal) (arg13.view.writes (Elt Ideal) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.2) (st5 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 w147 w171_0 w171_1 w171_2 w171_3 w171_4 w171_5 w182 w196 d1_i32_86 (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).1 X2 X6 X7 X8 (arg12.view.writes (Elt Ideal) (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.1) (arg13.view.writes (Elt Ideal) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (st3 (F := Ideal) 𝒱 c bd i arg2 harg2 arg3 harg3 arg4 harg4 arg5 harg5 arg6 harg6 arg7 harg7 arg8 harg8 arg9 harg9 arg10 harg10 arg11 harg11 arg12 harg12 arg13 harg13 v11 v18 v27 v34 v37 v38 v147 v171_0 v171_1 v171_2 v171_3 v171_4 v171_5 v182 v196 c1_i32_86 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).1 X2 X6 X7 X8 (arg12.view.writes (Elt Ideal) G12 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.1) (arg13.view.writes (Elt Ideal) G13 (st1 (F := Ideal) 𝒱 c bd i arg2 harg2 arg3 harg3 arg4 harg4 arg5 harg5 arg6 harg6 arg7 harg7 arg8 harg8 arg9 harg9 arg10 harg10 arg11 harg11 arg12 harg12 arg13 harg13 arg1 v11 v18 v27 v34 v37 v38 init X2 X6 X7 X8 G12 G13 (k0_t1_loop i).trips).2.2) (k0_t3_loop i).trips).2.2) (k0_t5_loop i).trips).2.2) = e.dr H13 8192 :=
  st5_end _ _ _ _ _ _ _ _ _ _ _ _ _ _ _ _ _ _ _ _ _ _ _ _ _ _ _ _ _ _ _ _ _ _ _ _ _ _ _ _ _ _ _ _ _ _ _ _ _ _ _ H12 H13 e he (st3_end _ _ _ _ _ _ _ _ _ _ _ _ _ _ _ _ _ _ _ _ _ _ _ _ _ _ _ _ _ _ _ _ _ _ _ _ _ _ _ _ _ _ _ _ _ _ _ _ _ _ _ H12 H13 e he (st1_end _ _ _ _ _ _ _ _ _ _ _ _ _ _ _ _ _ _ _ _ _ _ _ _ _ _ _ _ _ _ _ _ _ _ _ _ _ _ _ _ _ _ H12 H13 e he hi))

end Cert.Proof.KernelIdeal
end
-- ==== Proof.KernelIdeal.Diag.lean ====
/- The diagonal block: the rows of the key block itself, masked below the diagonal. -/
module

public import proofs.«01_k».proof.Proof.KernelIdeal.Loops
public import proofs.«01_k».proof.Proof.KernelIdeal.Spec
public import Idealize.ShloMosaic.Lib.WordCmp

@[expose] public section

set_option maxRecDepth 16384
set_option maxHeartbeats 4000000

noncomputable section

namespace Cert.Proof.KernelIdeal

open Cert.KernelIdeal
open Idealize.ShloMosaic Idealize.ShloMosaic.TcCoe

theorem mask_eq : (Named.named (F := Ideal) Cert.KernelIdeal.κ "mask" (φ := .f32) 0xF149F2CA#32 : EReal) = ⊥ := rfl

open Idealize.ShloMosaic.WordCmp in
theorem select_sle (a b : ℕ) (ha : a < 512) (hb : b < 512) (s t : EReal) :
    Scalar.select (IntOp.cmpi .sle (BitVec.ofNat 32 a) (BitVec.ofNat 32 b)) s t = if a ≤ b then s else t := by
  by_cases h : a ≤ b
  · rw [if_pos h, (cmpi_sle_ofNat_eq_one_iff (by omega) (by omega)).mpr h]; rfl
  · rw [if_neg h, (cmpi_sle_ofNat_eq_zero_iff (by omega) (by omega)).mpr (by omega)]; rfl

section Diag

variable (v11 v18 v27 v34 : FVec Ideal S512x128 .bf16) (v37 v38 : FVec Ideal S512x1 .f32) (x2 x6 : S8192x128.Idx → EReal) (x7 x8 : S2x16x1x512.Idx → EReal)
  (j : ℕ) (hj : j < 16) (x45 x48 : Vec Ideal S512x128 .bf16) (x60 x64 x104 x108 : Vec Ideal S1x1x1x512 .f32)
  (h45 : ∀ (x : Fin 512) (l : Fin 128), x45 (ix2 x l) = x2 (ix2 (⟨512 * j + x.val, by omega⟩ : Fin 8192) l))
  (h48 : ∀ (x : Fin 512) (l : Fin 128), x48 (ix2 x l) = x6 (ix2 (⟨512 * j + x.val, by omega⟩ : Fin 8192) l))
  (h60 : ∀ x : Fin 512, x60 (ix4 (0 : Fin 1) (0 : Fin 1) (0 : Fin 1) x) = stat x7 0 (⟨512 * j + x.val, by omega⟩ : Fin 8192))
  (h64 : ∀ x : Fin 512, x64 (ix4 (0 : Fin 1) (0 : Fin 1) (0 : Fin 1) x) = stat x8 0 (⟨512 * j + x.val, by omega⟩ : Fin 8192))
  (h104 : ∀ x : Fin 512, x104 (ix4 (0 : Fin 1) (0 : Fin 1) (0 : Fin 1) x) = stat x7 1 (⟨512 * j + x.val, by omega⟩ : Fin 8192))
  (h108 : ∀ x : Fin 512, x108 (ix4 (0 : Fin 1) (0 : Fin 1) (0 : Fin 1) x) = stat x8 1 (⟨512 * j + x.val, by omega⟩ : Fin 8192))

include h45 h60 in
theorem diag_pr0 (κ x : Fin 512) : Gen.k0_pay180 v11 v37 x45 x60 (ix2 κ x) = prH v11 v37 x2 x7 j 0 κ (⟨512 * j + x.val, by omega⟩ : Fin 8192) := by
  unfold Gen.k0_pay180 Gen.k0_pay178
  pointwise [h45, h60]
  rw [select_sle _ _ κ.isLt x.isLt]
  unfold prH
  simp only [Nat.add_le_add_iff_left]
  rfl

include h45 h104 in
theorem diag_pr1 (κ x : Fin 512) : Gen.k0_pay189 v18 v38 (Gen.k0_pay178 x45) x104 (ix2 κ x) = prH v18 v38 x2 x7 j 1 κ (⟨512 * j + x.val, by omega⟩ : Fin 8192) := by
  unfold Gen.k0_pay189 Gen.k0_pay178
  pointwise [h45, h104]
  rw [select_sle _ _ κ.isLt x.isLt]
  unfold prH
  simp only [Nat.add_le_add_iff_left]
  rfl

include h45 h48 h60 h64 in
theorem diag_ds0 (κ x : Fin 512) : Gen.k0_pay182 v11 v27 v37 x45 x48 x60 x64 (ix2 κ x) = dsH v11 v27 v37 x2 x6 x7 x8 j 0 κ (⟨512 * j + x.val, by omega⟩ : Fin 8192) := by
  have P := diag_pr0 v11 v37 x2 x7 j hj x45 x60 h45 h60
  unfold Gen.k0_pay182 Gen.k0_pay179 dsH
  pointwise [h48, h64, P]

/-- The second head's score gradients on the diagonal block. -/
abbrev ds1 : FVec Ideal S512x512 .f32 :=
  mulf (Gen.k0_pay189 v18 v38 (Gen.k0_pay178 x45) x104) (subf (Gen.k0_pay191 v34 (Gen.k0_pay179 x48)) (Gen.k0_pay192 x108))

include h45 h48 h104 h108 in
theorem diag_ds1 (κ x : Fin 512) : ds1 v18 v34 v38 x45 x48 x104 x108 (ix2 κ x) = dsH v18 v34 v38 x2 x6 x7 x8 j 1 κ (⟨512 * j + x.val, by omega⟩ : Fin 8192) := by
  have P := diag_pr1 v18 v38 x2 x7 j hj x45 x104 h45 h104
  unfold ds1 Gen.k0_pay191 Gen.k0_pay192 Gen.k0_pay179 dsH
  pointwise [h48, h108, P]

theorem off1_eq : ∀ i : grid0.Coords, k0_off1 i = ![512 * (i 1).val, 0] := by decide +kernel
theorem off2_eq : ∀ i : grid0.Coords, k0_off2 i = ![0, (i 1).val, 0, 0] := by decide +kernel
theorem off3_eq : ∀ i : grid0.Coords, k0_off3 i = ![1, (i 1).val, 0, 0] := by decide +kernel

include hj h45 h48 h60 h64 h104 h108 in
/-- The sums after the diagonal block. -/
theorem diag_acc (e : Env) (he : e = env v11 v18 v27 v34 v37 v38 x2 x6 x7 x8 j) :
    ((Gen.k0_pay184 v11 v27 v37 (FloatOps.ofBits .f32 0#32) x45 x48 x60 x64, Gen.k0_pay181 v11 v37 x45 x48 x60,
      Gen.k0_pay186 Gen.k0_pay177 (Gen.k0_pay185 v11 v27 v37 x45 x48 x60 x64),
      addf (Gen.k0_pay175 (FloatOps.ofBits .f32 0#32)) (matmul dot_S512x512_S512x128_S512x128_1_0_0_1_n_n none (truncf .bf16 (ds1 v18 v34 v38 x45 x48 x104 x108) Gen.bitsLt_bf16_f32)
        (Gen.k0_pay178 x45) (constant S512x128 .f32 0#32)),
      Gen.k0_pay190 v18 v38 Gen.k0_pay176 (Gen.k0_pay178 x45) (Gen.k0_pay179 x48) x104,
      addf Gen.k0_pay177 (shapeCast S512x1 (multiReduction .add [1] S512 (ds1 v18 v34 v38 x45 x48 x104 x108) 0#32 Gen.reduces_S512x512_S512 (.inl rfl) rfl) Gen.shapeCasts_S512_S512x1)) : Acc Ideal)
      = e.acc (512 * (j + 1)) := by
  have P0 := diag_pr0 v11 v37 x2 x7 j hj x45 x60 h45 h60
  have P1 := diag_pr1 v18 v38 x2 x7 j hj x45 x104 h45 h104
  have D0 := diag_ds0 v11 v27 v37 x2 x6 x7 x8 j hj x45 x48 x60 x64 h45 h48 h60 h64
  have D1 := diag_ds1 v18 v34 v38 x2 x6 x7 x8 j hj x45 x48 x104 x108 h45 h48 h104 h108
  have hje : 512 * e.j ≤ 512 * j := by subst he; exact le_refl _
  have hr : 512 * j + 512 ≤ 8192 := by omega
  have Z : (FloatOps.ofBits (F := Ideal) .f32 0#32 : EReal) = 0 := Ideal.ofBits_zero_f32
  rw [show 512 * (j + 1) = 512 * j + 512 by omega]
  unfold Env.acc
  refine Prod.ext ?_ (Prod.ext ?_ (Prod.ext ?_ (Prod.ext ?_ (Prod.ext ?_ ?_))))
  · funext y
    rw [eq_ix2 y]
    refine Eq.trans ?_ (e.dk_add 0 (512 * j) 512 hje hr (y 0) (y 1)).symm
    have Z0 : e.dk 0 (512 * j) (ix2 (y 0) (y 1)) = 0 := by subst he; exact upto_self j _
    rw [Z0, zero_add]
    subst he
    dsimp only
    unfold Gen.k0_pay184 Gen.k0_pay183 Gen.k0_pay178 Gen.k0_pay175
    pointwise [D0, h45]
    rfl
  · funext y
    rw [eq_ix2 y]
    refine Eq.trans ?_ (e.dv_add 0 (512 * j) 512 hje hr (y 0) (y 1)).symm
    have Z0 : e.dv 0 (512 * j) (ix2 (y 0) (y 1)) = 0 := by subst he; exact upto_self j _
    rw [Z0, zero_add]
    subst he
    dsimp only
    unfold Gen.k0_pay181 Gen.k0_pay179 Gen.k0_pay176
    pointwise [P0, h48]
    rfl
  · funext y
    have hy : y = ix2 (y 0) (0 : Fin 1) := ext_mat rfl (by have h1 : (y 1).val < 1 := (y 1).isLt; show (y 1).val = 0; omega)
    rw [hy]
    refine Eq.trans ?_ (e.db_add 0 (512 * j) 512 hje hr (y 0)).symm
    have Z0 : e.db 0 (512 * j) (ix2 (y 0) (0 : Fin 1)) = 0 := by subst he; exact upto_self j _
    rw [Z0, zero_add]
    subst he
    dsimp only
    unfold Gen.k0_pay186 Gen.k0_pay185 Gen.k0_pay177
    pointwise [D0]
    rfl
  · funext y
    rw [eq_ix2 y]
    refine Eq.trans ?_ (e.dk_add 1 (512 * j) 512 hje hr (y 0) (y 1)).symm
    have Z0 : e.dk 1 (512 * j) (ix2 (y 0) (y 1)) = 0 := by subst he; exact upto_self j _
    rw [Z0, zero_add]
    subst he
    dsimp only
    unfold Gen.k0_pay178 Gen.k0_pay175
    pointwise [D1, h45]
    rfl
  · funext y
    rw [eq_ix2 y]
    refine Eq.trans ?_ (e.dv_add 1 (512 * j) 512 hje hr (y 0) (y 1)).symm
    have Z0 : e.dv 1 (512 * j) (ix2 (y 0) (y 1)) = 0 := by subst he; exact upto_self j _
    rw [Z0, zero_add]
    subst he
    dsimp only
    unfold Gen.k0_pay190 Gen.k0_pay179 Gen.k0_pay176
    pointwise [P1, h48]
    rfl
  · funext y
    have hy : y = ix2 (y 0) (0 : Fin 1) := ext_mat rfl (by have h1 : (y 1).val < 1 := (y 1).isLt; show (y 1).val = 0; omega)
    rw [hy]
    refine Eq.trans ?_ (e.db_add 1 (512 * j) 512 hje hr (y 0)).symm
    have Z0 : e.db 1 (512 * j) (ix2 (y 0) (0 : Fin 1)) = 0 := by subst he; exact upto_self j _
    rw [Z0, zero_add]
    subst he
    dsimp only
    unfold Gen.k0_pay177
    pointwise [D1]
    rfl

include hj h45 h48 h60 h64 h104 h108 in
theorem diag_dqp (x139 : Vec Ideal S512x128 .f32) (x : Fin 512) (l : Fin 128) :
    addf (shapeCast S512x128 x139 Gen.shapeCasts_S512x128_S512x128) (mulf (addf (Gen.k0_pay187 v11 (Gen.k0_pay183 v11 v27 v37 x45 x48 x60 x64))
      (matmul dot_S512x512_S512x128_S512x128_0_0_1_1_n_n none (truncf .bf16 (ds1 v18 v34 v38 x45 x48 x104 x108) Gen.bitsLt_bf16_f32) v18 (constant S512x128 .f32 0#32)))
      (broadcast S512x128 (FloatOps.ofBits .f32 1040187392#32))) (ix2 x l)
      = x139 (ix2 x l) + ((∑ κ : Fin 512, dsH v11 v27 v37 x2 x6 x7 x8 j 0 κ (⟨512 * j + x.val, by omega⟩ : Fin 8192) * v11 (ix2 κ l))
        + ∑ κ : Fin 512, dsH v18 v34 v38 x2 x6 x7 x8 j 1 κ (⟨512 * j + x.val, by omega⟩ : Fin 8192) * v18 (ix2 κ l)) * Ideal.ofBits .f32 0x3E000000#32 := by
  have D0 := diag_ds0 v11 v27 v37 x2 x6 x7 x8 j hj x45 x48 x60 x64 h45 h48 h60 h64
  have D1 := diag_ds1 v18 v34 v38 x2 x6 x7 x8 j hj x45 x48 x104 x108 h45 h48 h104 h108
  unfold Gen.k0_pay187 Gen.k0_pay183
  pointwise [D0, D1]

include hj h45 h48 h60 h64 in
theorem diag_dr0 (x87 : Vec Ideal S1x1x1x512 .f32) (x : Fin 512) :
    Gen.k0_pay188 (Gen.k0_pay182 v11 v27 v37 x45 x48 x60 x64) x87 (ix4 (0 : Fin 1) (0 : Fin 1) (0 : Fin 1) x)
      = x87 (ix4 (0 : Fin 1) (0 : Fin 1) (0 : Fin 1) x) + ∑ κ : Fin 512, dsH v11 v27 v37 x2 x6 x7 x8 j 0 κ (⟨512 * j + x.val, by omega⟩ : Fin 8192) := by
  have D0 := diag_ds0 v11 v27 v37 x2 x6 x7 x8 j hj x45 x48 x60 x64 h45 h48 h60 h64
  unfold Gen.k0_pay188
  pointwise [D0]

include hj h45 h48 h104 h108 in
theorem diag_dr1 (x131 : Vec Ideal S1x1x1x512 .f32) (x : Fin 512) :
    shapeCast S1x1x1x512 (addf (shapeCast S1x512 x131 Gen.shapeCasts_S1x1x1x512_S1x512)
      (shapeCast S1x512 (multiReduction .add [0] S512 (ds1 v18 v34 v38 x45 x48 x104 x108) 0#32 Gen.reduces_S512x512_S512_2 (.inl rfl) rfl) Gen.shapeCasts_S512_S1x512)) Gen.shapeCasts_S1x512_S1x1x1x512
      (ix4 (0 : Fin 1) (0 : Fin 1) (0 : Fin 1) x)
      = x131 (ix4 (0 : Fin 1) (0 : Fin 1) (0 : Fin 1) x) + ∑ κ : Fin 512, dsH v18 v34 v38 x2 x6 x7 x8 j 1 κ (⟨512 * j + x.val, by omega⟩ : Fin 8192) := by
  have D1 := diag_ds1 v18 v34 v38 x2 x6 x7 x8 j hj x45 x48 x104 x108 h45 h48 h104 h108
  pointwise [D1]

end Diag

/-! ## What the diagonal block writes -/

theorem diag_dq {sp : Space} (v : View sig .tc sp S8192x128 .f32) (f : v.ty.Contents (Elt Ideal)) (j : ℕ) (hj : j < 16) {off : Fin 2 → ℕ} (hoff : off = ![512 * j, 0])
    (inb : ∀ a : Fin 2, off a + (![512, 128] : Fin 2 → ℕ) a ≤ S8192x128.size a) (w : S512x128.Idx → EReal) (H : S8192x128.Idx → EReal) (hf : v.read (Elt Ideal) f = H)
    (e : Env) (he : e.j = j) (hw : ∀ (x : Fin 512) (l : Fin 128), w (ix2 x l) = v.read (Elt Ideal) f (ix2 (⟨512 * j + x.val, by omega⟩ : Fin 8192) l) + e.dqr (⟨512 * j + x.val, by omega⟩ : Fin 8192) l) :
    v.read (Elt Ideal) (v.writes (Elt Ideal) f [(⟨Rect.unit (s := S8192x128) off ![512, 128] inb, w⟩ : View.Piece (Elt Ideal) S8192x128 .f32)]) = e.dq H (512 * (j + 1)) := by
  subst hf
  have h0 : ∀ y, e.dq (v.read (Elt Ideal) f) (512 * j) y = v.read (Elt Ideal) f y := fun y => by
    unfold Env.dq
    rw [if_neg (by omega), add_zero]
  rw [show 512 * (j + 1) = 512 * j + 512 by omega]
  funext y
  by_cases hy : 512 * j ≤ (y 0).val ∧ (y 0).val < 512 * j + 512
  · refine (View.read_writes_cons_unit_of_mem (s := S8192x128) v f _ _ [] y (ix2 (⟨(y 0).val - 512 * j, by omega⟩ : Fin 512) (y 1)) hoff (fun a => ?_)).trans ?_
    · match a with
      | ⟨0, _⟩ => show (y 0).val = 512 * j + ((y 0).val - 512 * j); omega
      | ⟨1, _⟩ => show (y 1).val = 0 + (y 1).val; omega
    · have ey : ∀ (p : _), (⟨512 * j + ((y 0).val - 512 * j), p⟩ : Fin 8192) = y 0 := fun p => Fin.ext (by show 512 * j + ((y 0).val - 512 * j) = (y 0).val; omega)
      rw [e.dq_new _ (512 * j) 512 y (by omega) hy, h0]
      refine (hw _ (y 1)).trans ?_
      simp only [ey]
      exact congrArg₂ (· + ·) (congrArg _ (eq_ix2 y).symm) rfl
  · refine (View.read_writes_cons_unit_of_not_mem (s := S8192x128) v f _ _ [] y hoff (0 : Fin 2) ?_).trans ?_
    · show (y 0).val < 512 * j ∨ 512 * j + 512 ≤ (y 0).val
      omega
    · rw [e.dq_old _ (512 * j) 512 y (by omega), h0]
      rfl

theorem diag_dr {sp : Space} (v : View sig .tc sp S2x16x1x512 .f32) (f : v.ty.Contents (Elt Ideal)) (j : ℕ) (hj : j < 16) {off0 off1 : Fin 4 → ℕ} (hoff0 : off0 = ![0, j, 0, 0]) (hoff1 : off1 = ![1, j, 0, 0])
    (inb0 : ∀ a : Fin 4, off0 a + (![1, 1, 1, 512] : Fin 4 → ℕ) a ≤ S2x16x1x512.size a) (inb1 : ∀ a : Fin 4, off1 a + (![1, 1, 1, 512] : Fin 4 → ℕ) a ≤ S2x16x1x512.size a)
    (w0 w1 : S1x1x1x512.Idx → EReal) (H : S2x16x1x512.Idx → EReal) (hf : v.read (Elt Ideal) f = H) (e : Env) (he : e.j = j)
    (hw0 : ∀ x : Fin 512, w0 (ix4 (0 : Fin 1) (0 : Fin 1) (0 : Fin 1) x) = v.read (Elt Ideal) f (ix4 (0 : Fin 2) (⟨j, hj⟩ : Fin 16) (0 : Fin 1) x) + e.drr 0 (⟨512 * j + x.val, by omega⟩ : Fin 8192))
    (hw1 : ∀ x : Fin 512, w1 (ix4 (0 : Fin 1) (0 : Fin 1) (0 : Fin 1) x)
      = v.read (Elt Ideal) f (ix4 (1 : Fin 2) (⟨j, hj⟩ : Fin 16) (0 : Fin 1) x) + e.drr 1 (⟨512 * j + x.val, by omega⟩ : Fin 8192)) :
    v.read (Elt Ideal) (v.writes (Elt Ideal) f [(⟨Rect.unit (s := S2x16x1x512) off1 ![1, 1, 1, 512] inb1, w1⟩ : View.Piece (Elt Ideal) S2x16x1x512 .f32),
      (⟨Rect.unit (s := S2x16x1x512) off0 ![1, 1, 1, 512] inb0, w0⟩ : View.Piece (Elt Ideal) S2x16x1x512 .f32)]) = e.dr H (512 * (j + 1)) := by
  subst hf
  have h0 : ∀ y, e.dr (v.read (Elt Ideal) f) (512 * j) y = v.read (Elt Ideal) f y := fun y => by
    unfold Env.dr
    rw [if_neg (by omega), add_zero]
  rw [show 512 * (j + 1) = 512 * j + 512 by omega]
  funext y
  have hy0 : (y 0).val < 2 := (y 0).isLt
  have hy1 : (y 1).val < 16 := (y 1).isLt
  have hy3 : (y 3).val < 512 := (y 3).isLt
  have hrow : (Env.row y).val = 512 * (y 1).val + (y 3).val := rfl
  by_cases hy : 512 * j ≤ (Env.row y).val ∧ (Env.row y).val < 512 * j + 512
  · have er : ∀ (p : _), (⟨512 * j + (y 3).val, p⟩ : Fin 8192) = Env.row y := fun p => Fin.ext (by rw [hrow]; show 512 * j + (y 3).val = _; omega)
    rw [e.dr_new _ (512 * j) 512 y (by omega) hy, h0]
    by_cases h1 : (y 0).val = 1
    · refine (rd_mem v f inb1 w1 _ y 1 j hoff1 h1 (by omega)).trans ?_
      refine (hw1 (y 3)).trans ?_
      rw [er]
      refine congrArg₂ (· + ·) ?_ ?_
      · exact congrArg _ (ext_rows h1.symm (by show j = (y 1).val; omega) rfl)
      · rw [show y 0 = (1 : Fin 2) from Fin.ext h1]
    · refine (rd_not v f inb1 w1 _ y 1 j hoff1 (Or.inl h1)).trans ((rd_mem v f inb0 w0 [] y 0 j hoff0 (by omega) (by omega)).trans ?_)
      refine (hw0 (y 3)).trans ?_
      rw [er]
      refine congrArg₂ (· + ·) (congrArg _ (ext_rows (by show 0 = (y 0).val; omega) (by show j = (y 1).val; omega) rfl)) ?_
      rw [show y 0 = (0 : Fin 2) from Fin.ext (by show (y 0).val = 0; omega)]
  · rw [e.dr_old _ (512 * j) 512 y (by omega), h0]
    exact (rd_not v f inb1 w1 _ y 1 j hoff1 (by omega)).trans ((rd_not v f inb0 w0 [] y 0 j hoff0 (by omega)).trans rfl)

/-- The lanes of the first head, and of the second; a bias column. -/
def lo (x : S512x128.Idx → EReal) : S512x128.Idx → EReal := fun y => if (y 1).val < 64 then x y else 0
def hi (x : S512x128.Idx → EReal) : S512x128.Idx → EReal := fun y => if (y 1).val < 64 then 0 else x y
def bcol (h : Fin 2) (x : S1x512x2.Idx → EReal) : S512x1.Idx → EReal := fun y => x (ix3 (0 : Fin 1) (y 0) h)

/-- What the body works on, from the blocks it is given. -/
def envOf (x2 : S8192x128.Idx → EReal) (x3 x4 : S512x128.Idx → EReal) (x5 : S1x512x2.Idx → EReal) (x6 : S8192x128.Idx → EReal)
    (x7 x8 : S2x16x1x512.Idx → EReal) (j : ℕ) : Env :=
  env (lo x3) (hi x3) (lo x4) (hi x4) (bcol 0 x5) (bcol 1 x5) x2 x6 x7 x8 j

/-- The blocks it leaves: each head's sums on its own lanes. -/
def Env.outk (e : Env) : S512x128.Idx → EReal := fun y =>
  (if (y 1).val < 64 then e.dk 0 8192 y else e.dk 1 8192 y) * ((Real.log 2 : ℝ) : EReal)
def Env.outv (e : Env) : S512x128.Idx → EReal := fun y => if (y 1).val < 64 then e.dv 0 8192 y else e.dv 1 8192 y
def Env.outb (e : Env) : S512x128.Idx → EReal := fun y =>
  if (y 1).val < 64 then e.db 0 8192 (ix2 (y 0) (0 : Fin 1)) else e.db 1 8192 (ix2 (y 0) (0 : Fin 1))

open Idealize.ShloMosaic.WordCmp in
theorem select_slt (a b : ℕ) (ha : a < 512) (hb : b < 512) (s t : EReal) :
    Scalar.select (IntOp.cmpi .slt (BitVec.ofNat 32 a) (BitVec.ofNat 32 b)) s t = if a < b then s else t := by
  by_cases h : a < b
  · rw [if_pos h, (cmpi_slt_ofNat_eq_one_iff (by omega) (by omega)).mpr h]; rfl
  · rw [if_neg h, (cmpi_slt_ofNat_eq_zero_iff (by omega) (by omega)).mpr (by omega)]; rfl

theorem rd_q (i : grid0.Coords) {φ : EltTy} (v : View sig .tc .vmem S8192x128 φ) (X : BufTy.Contents (Elt Ideal) v.ty)
    (inb : ∀ a : Fin 2, (k0_off1 i) a + S512x128.size a ≤ S8192x128.size a) (x : Fin 512) (l : Fin 128) :
    View.readAt (Elt Ideal) v (Rect.unit (s := S8192x128) (k0_off1 i) S512x128.size inb).toLoadRect X (ix2 x l)
      = v.read (Elt Ideal) X (ix2 (⟨512 * (i 1).val + x.val, by have h : (i 1).val < 16 := (i 1).isLt; omega⟩ : Fin 8192) l) := by
  simp only [View.readAt_eq_ld]
  pointwise []
  simp only [off1_eq]
  exact congrArg _ (ext_mat rfl (by show 0 + l.val = l.val; omega))

theorem rd_st0 (i : grid0.Coords) (v : View sig .tc .vmem S2x16x1x512 .f32) (X : BufTy.Contents (Elt Ideal) v.ty)
    (inb : ∀ a : Fin 4, (k0_off2 i) a + S1x1x1x512.size a ≤ S2x16x1x512.size a) (x : Fin 512) :
    View.readAt (Elt Ideal) v (Rect.unit (s := S2x16x1x512) (k0_off2 i) S1x1x1x512.size inb).toLoadRect X (ix4 (0 : Fin 1) (0 : Fin 1) (0 : Fin 1) x)
      = v.read (Elt Ideal) X (ix4 (0 : Fin 2) (⟨(i 1).val, (i 1).isLt⟩ : Fin 16) (0 : Fin 1) x) := by
  simp only [View.readAt_eq_ld]
  pointwise []
  simp only [off2_eq]
  exact congrArg _ (ext_rows rfl rfl (by show 0 + x.val = x.val; omega))

theorem stat_0 (f : S2x16x1x512.Idx → EReal) (j : ℕ) (hj : j < 16) (x : Fin 512) (p : 512 * j + x.val < 8192) :
    f (ix4 (0 : Fin 2) (⟨j, hj⟩ : Fin 16) (0 : Fin 1) x) = stat f 0 ⟨512 * j + x.val, p⟩ :=
  stat_of _ _ _ _ rfl rfl

theorem rd_st1 (i : grid0.Coords) (v : View sig .tc .vmem S2x16x1x512 .f32) (X : BufTy.Contents (Elt Ideal) v.ty)
    (inb : ∀ a : Fin 4, (k0_off3 i) a + S1x1x1x512.size a ≤ S2x16x1x512.size a) (x : Fin 512) :
    View.readAt (Elt Ideal) v (Rect.unit (s := S2x16x1x512) (k0_off3 i) S1x1x1x512.size inb).toLoadRect X (ix4 (0 : Fin 1) (0 : Fin 1) (0 : Fin 1) x)
      = v.read (Elt Ideal) X (ix4 (1 : Fin 2) (⟨(i 1).val, (i 1).isLt⟩ : Fin 16) (0 : Fin 1) x) := by
  simp only [View.readAt_eq_ld]
  pointwise []
  simp only [off3_eq]
  exact congrArg _ (ext_rows rfl rfl (by show 0 + x.val = x.val; omega))

theorem stat_1 (f : S2x16x1x512.Idx → EReal) (j : ℕ) (hj : j < 16) (x : Fin 512) (p : 512 * j + x.val < 8192) :
    f (ix4 (1 : Fin 2) (⟨j, hj⟩ : Fin 16) (0 : Fin 1) x) = stat f 1 ⟨512 * j + x.val, p⟩ :=
  stat_of _ _ _ _ rfl rfl

theorem rd_stat0 (i : grid0.Coords) (v : View sig .tc .vmem S2x16x1x512 .f32) (X : BufTy.Contents (Elt Ideal) v.ty)
    (inb : ∀ a : Fin 4, (k0_off2 i) a + S1x1x1x512.size a ≤ S2x16x1x512.size a) (x : Fin 512) :
    View.readAt (Elt Ideal) v (Rect.unit (s := S2x16x1x512) (k0_off2 i) S1x1x1x512.size inb).toLoadRect X (ix4 (0 : Fin 1) (0 : Fin 1) (0 : Fin 1) x)
      = stat (v.read (Elt Ideal) X) 0 (⟨512 * (i 1).val + x.val, by have h : (i 1).val < 16 := (i 1).isLt; omega⟩ : Fin 8192) :=
  (rd_st0 i v X inb x).trans (stat_0 _ _ (i 1).isLt x _)

theorem off2_inb (i : grid0.Coords) : ∀ a : Fin 4, (k0_off2 i) a + (![1, 1, 1, 512] : Fin 4 → ℕ) a ≤ S2x16x1x512.size a := by
  have h : (i 1).val < 16 := (i 1).isLt
  rw [off2_eq]
  intro a
  match a with
  | ⟨0, _⟩ => show 0 + 1 ≤ 2; omega
  | ⟨1, _⟩ => show (i 1).val + 1 ≤ 16; omega
  | ⟨2, _⟩ => show 0 + 1 ≤ 1; omega
  | ⟨3, _⟩ => show 0 + 512 ≤ 512; omega

theorem rd_stat1 (i : grid0.Coords) (v : View sig .tc .vmem S2x16x1x512 .f32) (X : BufTy.Contents (Elt Ideal) v.ty)
    (inb : ∀ a : Fin 4, (k0_off3 i) a + S1x1x1x512.size a ≤ S2x16x1x512.size a) (x : Fin 512) :
    View.readAt (Elt Ideal) v (Rect.unit (s := S2x16x1x512) (k0_off3 i) S1x1x1x512.size inb).toLoadRect X (ix4 (0 : Fin 1) (0 : Fin 1) (0 : Fin 1) x)
      = stat (v.read (Elt Ideal) X) 1 (⟨512 * (i 1).val + x.val, by have h : (i 1).val < 16 := (i 1).isLt; omega⟩ : Fin 8192) :=
  (rd_st1 i v X inb x).trans (stat_1 _ _ (i 1).isLt x _)

theorem off3_inb (i : grid0.Coords) : ∀ a : Fin 4, (k0_off3 i) a + (![1, 1, 1, 512] : Fin 4 → ℕ) a ≤ S2x16x1x512.size a := by
  have h : (i 1).val < 16 := (i 1).isLt
  rw [off3_eq]
  intro a
  match a with
  | ⟨0, _⟩ => show 1 + 1 ≤ 2; omega
  | ⟨1, _⟩ => show (i 1).val + 1 ≤ 16; omega
  | ⟨2, _⟩ => show 0 + 1 ≤ 1; omega
  | ⟨3, _⟩ => show 0 + 512 ≤ 512; omega

theorem off1_inb (i : grid0.Coords) : ∀ a : Fin 2, (k0_off1 i) a + (![512, 128] : Fin 2 → ℕ) a ≤ S8192x128.size a := by
  have h : (i 1).val < 16 := (i 1).isLt
  rw [off1_eq]
  intro a
  match a with
  | ⟨0, _⟩ => show 512 * (i 1).val + 512 ≤ 8192; omega
  | ⟨1, _⟩ => show 0 + 128 ≤ 128; omega

theorem runA_v11 (arg3 : Memref sig .tc .vmem S512x128 .bf16) (X3 : BufTy.Contents (Elt Ideal) arg3.view.ty) :
    runA.sl.v11 (F := Ideal) arg3 X3 = lo (arg3.view.read (Elt Ideal) X3) := by
  funext y
  rw [eq_ix2 y]
  simp only [runA.sl.v11, runA.sl.v10, runA.sl.v5, runA.sl.v6, runA.sl.v8, runA.sl.v4, runA.sl.v9, runA.sl.cst_111, View.readAt_eq_ld]
  pointwise []
  rw [show (64#32 : BitVec 32) = BitVec.ofNat 32 64 from rfl, select_slt _ _ (by have h : (y 1).val < 128 := (y 1).isLt; omega) (by omega)]
  rfl

theorem runA_v18 (arg3 : Memref sig .tc .vmem S512x128 .bf16) (X3 : BufTy.Contents (Elt Ideal) arg3.view.ty) :
    runA.sl.v18 (F := Ideal) arg3 X3 = hi (arg3.view.read (Elt Ideal) X3) := by
  funext y
  rw [eq_ix2 y]
  simp only [runA.sl.v18, runA.sl.v17, runA.sl.v5, runA.sl.v6, runA.sl.v9, runA.sl.cst_111, runA.sl.v8, runA.sl.v4, View.readAt_eq_ld]
  pointwise []
  rw [show (64#32 : BitVec 32) = BitVec.ofNat 32 64 from rfl, select_slt _ _ (by have h : (y 1).val < 128 := (y 1).isLt; omega) (by omega)]
  rfl

theorem runA_v27 (arg4 : Memref sig .tc .vmem S512x128 .bf16) (X4 : BufTy.Contents (Elt Ideal) arg4.view.ty) :
    runA.sl.v27 (F := Ideal) arg4 X4 = lo (arg4.view.read (Elt Ideal) X4) := by
  funext y
  rw [eq_ix2 y]
  simp only [runA.sl.v27, runA.sl.v26, runA.sl.v5, runA.sl.v6, runA.sl.v24, runA.sl.v20, runA.sl.v9, runA.sl.cst_111, View.readAt_eq_ld]
  pointwise []
  rw [show (64#32 : BitVec 32) = BitVec.ofNat 32 64 from rfl, select_slt _ _ (by have h : (y 1).val < 128 := (y 1).isLt; omega) (by omega)]
  rfl

theorem runA_v34 (arg4 : Memref sig .tc .vmem S512x128 .bf16) (X4 : BufTy.Contents (Elt Ideal) arg4.view.ty) :
    runA.sl.v34 (F := Ideal) arg4 X4 = hi (arg4.view.read (Elt Ideal) X4) := by
  funext y
  rw [eq_ix2 y]
  simp only [runA.sl.v34, runA.sl.v33, runA.sl.v5, runA.sl.v6, runA.sl.v9, runA.sl.cst_111, runA.sl.v24, runA.sl.v20, View.readAt_eq_ld]
  pointwise []
  rw [show (64#32 : BitVec 32) = BitVec.ofNat 32 64 from rfl, select_slt _ _ (by have h : (y 1).val < 128 := (y 1).isLt; omega) (by omega)]
  rfl

theorem runA_v37 (arg5 : Memref sig .tc .vmem S1x512x2 .f32) (X5 : BufTy.Contents (Elt Ideal) arg5.view.ty) :
    runA.sl.v37 (F := Ideal) arg5 X5 = bcol 0 (arg5.view.read (Elt Ideal) X5) := by
  funext y
  have hy : y = ix2 (y 0) (0 : Fin 1) := ext_mat rfl (by have h1 : (y 1).val < 1 := (y 1).isLt; show (y 1).val = 0; omega)
  rw [hy]
  simp only [runA.sl.v37, runA.sl.v36, View.readAt_eq_ld]
  pointwise []
  rfl

theorem runA_v38 (arg5 : Memref sig .tc .vmem S1x512x2 .f32) (X5 : BufTy.Contents (Elt Ideal) arg5.view.ty) :
    runA.sl.v38 (F := Ideal) arg5 X5 = bcol 1 (arg5.view.read (Elt Ideal) X5) := by
  funext y
  have hy : y = ix2 (y 0) (0 : Fin 1) := ext_mat rfl (by have h1 : (y 1).val < 1 := (y 1).isLt; show (y 1).val = 0; omega)
  rw [hy]
  simp only [runA.sl.v38, runA.sl.v36, View.readAt_eq_ld]
  pointwise []
  rfl

theorem runB_v11 (arg3 : Memref sig .tc .vmem S512x128 .bf16) (X3 : BufTy.Contents (Elt Ideal) arg3.view.ty) :
    runB.sl.v11 (F := Ideal) arg3 X3 = lo (arg3.view.read (Elt Ideal) X3) := by
  funext y
  rw [eq_ix2 y]
  simp only [runB.sl.v11, runB.sl.v10, runB.sl.v5, runB.sl.v6, runB.sl.v8, runB.sl.v4, runB.sl.v9, runB.sl.cst, View.readAt_eq_ld]
  pointwise []
  rw [show (64#32 : BitVec 32) = BitVec.ofNat 32 64 from rfl, select_slt _ _ (by have h : (y 1).val < 128 := (y 1).isLt; omega) (by omega)]
  rfl

theorem runB_v18 (arg3 : Memref sig .tc .vmem S512x128 .bf16) (X3 : BufTy.Contents (Elt Ideal) arg3.view.ty) :
    runB.sl.v18 (F := Ideal) arg3 X3 = hi (arg3.view.read (Elt Ideal) X3) := by
  funext y
  rw [eq_ix2 y]
  simp only [runB.sl.v18, runB.sl.v17, runB.sl.v5, runB.sl.v6, runB.sl.v9, runB.sl.cst, runB.sl.v8, runB.sl.v4, View.readAt_eq_ld]
  pointwise []
  rw [show (64#32 : BitVec 32) = BitVec.ofNat 32 64 from rfl, select_slt _ _ (by have h : (y 1).val < 128 := (y 1).isLt; omega) (by omega)]
  rfl

theorem runB_v27 (arg4 : Memref sig .tc .vmem S512x128 .bf16) (X4 : BufTy.Contents (Elt Ideal) arg4.view.ty) :
    runB.sl.v27 (F := Ideal) arg4 X4 = lo (arg4.view.read (Elt Ideal) X4) := by
  funext y
  rw [eq_ix2 y]
  simp only [runB.sl.v27, runB.sl.v26, runB.sl.v5, runB.sl.v6, runB.sl.v24, runB.sl.v20, runB.sl.v9, runB.sl.cst, View.readAt_eq_ld]
  pointwise []
  rw [show (64#32 : BitVec 32) = BitVec.ofNat 32 64 from rfl, select_slt _ _ (by have h : (y 1).val < 128 := (y 1).isLt; omega) (by omega)]
  rfl

theorem runB_v34 (arg4 : Memref sig .tc .vmem S512x128 .bf16) (X4 : BufTy.Contents (Elt Ideal) arg4.view.ty) :
    runB.sl.v34 (F := Ideal) arg4 X4 = hi (arg4.view.read (Elt Ideal) X4) := by
  funext y
  rw [eq_ix2 y]
  simp only [runB.sl.v34, runB.sl.v33, runB.sl.v5, runB.sl.v6, runB.sl.v9, runB.sl.cst, runB.sl.v24, runB.sl.v20, View.readAt_eq_ld]
  pointwise []
  rw [show (64#32 : BitVec 32) = BitVec.ofNat 32 64 from rfl, select_slt _ _ (by have h : (y 1).val < 128 := (y 1).isLt; omega) (by omega)]
  rfl

theorem runB_v37 (arg5 : Memref sig .tc .vmem S1x512x2 .f32) (X5 : BufTy.Contents (Elt Ideal) arg5.view.ty) :
    runB.sl.v37 (F := Ideal) arg5 X5 = bcol 0 (arg5.view.read (Elt Ideal) X5) := by
  funext y
  have hy : y = ix2 (y 0) (0 : Fin 1) := ext_mat rfl (by have h1 : (y 1).val < 1 := (y 1).isLt; show (y 1).val = 0; omega)
  rw [hy]
  simp only [runB.sl.v37, runB.sl.v36, View.readAt_eq_ld]
  pointwise []
  rfl

theorem runB_v38 (arg5 : Memref sig .tc .vmem S1x512x2 .f32) (X5 : BufTy.Contents (Elt Ideal) arg5.view.ty) :
    runB.sl.v38 (F := Ideal) arg5 X5 = bcol 1 (arg5.view.read (Elt Ideal) X5) := by
  funext y
  have hy : y = ix2 (y 0) (0 : Fin 1) := ext_mat rfl (by have h1 : (y 1).val < 1 := (y 1).isLt; show (y 1).val = 0; omega)
  rw [hy]
  simp only [runB.sl.v38, runB.sl.v36, View.readAt_eq_ld]
  pointwise []
  rfl

theorem outk_eq (e : Env) : Gen.k0_pay203 (F := Ideal) (e.dk 0 8192) (e.dk 1 8192) = e.outk := by
  funext y
  rw [eq_ix2 y]
  unfold Gen.k0_pay203
  pointwise []
  rw [show (64#32 : BitVec 32) = BitVec.ofNat 32 64 from rfl, select_slt _ _ (by have h : (y 1).val < 128 := (y 1).isLt; omega) (by omega)]
  rfl

theorem outv_eq (e : Env) : Gen.k0_pay204 (F := Ideal) (e.dv 0 8192) (e.dv 1 8192) = e.outv := by
  funext y
  rw [eq_ix2 y]
  unfold Gen.k0_pay204
  pointwise []
  rw [show (64#32 : BitVec 32) = BitVec.ofNat 32 64 from rfl, select_slt _ _ (by have h : (y 1).val < 128 := (y 1).isLt; omega) (by omega)]
  rfl

theorem outb_eq (e : Env) : Gen.k0_pay1 (F := Ideal) (e.db 0 8192) (e.db 1 8192) = e.outb := by
  funext y
  rw [eq_ix2 y]
  unfold Gen.k0_pay1
  pointwise []
  rw [show (64#32 : BitVec 32) = BitVec.ofNat 32 64 from rfl, select_slt _ _ (by have h : (y 1).val < 128 := (y 1).isLt; omega) (by omega)]
  rfl

theorem read_whole {φ : EltTy} {s : Shape} (v : View sig .tc .vmem s φ) (f : v.ty.Contents (Elt Ideal)) {off : Fin s.rank → ℕ} (hoff : ∀ a, off a = 0)
    (inb : ∀ a : Fin s.rank, off a + s.size a ≤ s.size a) (w : s.Idx → Elt Ideal φ) :
    v.read (Elt Ideal) (v.writes (Elt Ideal) f [(⟨Rect.unit (s := s) off s.size inb, w⟩ : View.Piece (Elt Ideal) s φ)]) = w := by
  funext y
  exact View.read_writes_cons_unit_of_mem (s := s) v f inb w [] y y rfl fun a => by rw [hoff a, Nat.zero_add]

theorem read_whole512 {φ : EltTy} (v : View sig .tc .vmem S512x128 φ) (f : v.ty.Contents (Elt Ideal))
    (inb : ∀ a : Fin 2, (![0, 0] : Fin 2 → ℕ) a + (![512, 128] : Fin 2 → ℕ) a ≤ S512x128.size a) (w : S512x128.Idx → Elt Ideal φ) :
    v.read (Elt Ideal) (v.writes (Elt Ideal) f [(⟨Rect.unit (s := S512x128) ![0, 0] ![512, 128] inb, w⟩ : View.Piece (Elt Ideal) S512x128 φ)]) = w :=
  read_whole v f (off := ![0, 0]) (fun a => match a with | ⟨0, _⟩ => rfl | ⟨1, _⟩ => rfl) inb w

theorem runA_env (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) :
    envOf (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (i 1).val = env (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (arg2.view.read (Elt Ideal) X2) (arg6.view.read (Elt Ideal) X6) (arg7.view.read (Elt Ideal) X7) (arg8.view.read (Elt Ideal) X8) (i 1).val := by
  rw [runA_v11, runA_v18, runA_v27, runA_v34, runA_v37, runA_v38]
  rfl

theorem runA_acc (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (e : Env) (he : e = env (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (arg2.view.read (Elt Ideal) X2) (arg6.view.read (Elt Ideal) X6) (arg7.view.read (Elt Ideal) X7) (arg8.view.read (Elt Ideal) X8) (i 1).val) :
    ((runA.sl.r_6 (F := Ideal) i arg2 arg3 arg4 arg5 arg6 arg7 arg8 X2 X3 X4 X5 X6 X7 X8, runA.sl.r_3 (F := Ideal) i arg2 arg3 arg5 arg6 arg7 X2 X3 X5 X6 X7, runA.sl.r_8 (F := Ideal) i arg2 arg3 arg4 arg5 arg6 arg7 arg8 X2 X3 X4 X5 X6 X7 X8, runA.sl.v122 (F := Ideal) i arg2 arg3 arg4 arg5 arg6 arg7 arg8 X2 X3 X4 X5 X6 X7 X8, runA.sl.r_11 (F := Ideal) i arg2 arg3 arg5 arg6 arg7 X2 X3 X5 X6 X7, runA.sl.v125 (F := Ideal) i arg2 arg3 arg4 arg5 arg6 arg7 arg8 X2 X3 X4 X5 X6 X7 X8) : Acc Ideal) = e.acc (512 * ((i 1).val + 1)) :=
  diag_acc (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (arg2.view.read (Elt Ideal) X2) (arg6.view.read (Elt Ideal) X6) (arg7.view.read (Elt Ideal) X7) (arg8.view.read (Elt Ideal) X8) (i 1).val (i 1).isLt _ _ _ _ _ _ (fun x l => rd_q i arg2.view X2 _ x l) (fun x l => rd_q i arg6.view X6 _ x l) (fun x => rd_stat0 i arg7.view X7 _ x) (fun x => rd_stat0 i arg8.view X8 _ x) (fun x => rd_stat1 i arg7.view X7 _ x) (fun x => rd_stat1 i arg8.view X8 _ x) e he

theorem runA_dq (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (arg12 : Memref sig .tc .vmem S8192x128 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (inb1 : ∀ a : Fin 2, (k0_off1 i) a + (![512, 128] : Fin 2 → ℕ) a ≤ S8192x128.size a) (e : Env) (he : e = env (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (arg2.view.read (Elt Ideal) X2) (arg6.view.read (Elt Ideal) X6) (arg7.view.read (Elt Ideal) X7) (arg8.view.read (Elt Ideal) X8) (i 1).val) :
    arg12.view.read (Elt Ideal) (arg12.view.writes (Elt Ideal) arg12.view.junk ((⟨Rect.unit (s := S8192x128) (k0_off1 i) ![512, 128] inb1, runA.sl.v144 (F := Ideal) i arg2 arg3 arg4 arg5 arg6 arg7 arg8 arg12 X2 X3 X4 X5 X6 X7 X8⟩ : View.Piece (Elt Ideal) S8192x128 .f32) :: runA.sl.HW_arg12_1)) = e.dq (fun _ => 0) (512 * ((i 1).val + 1)) := by
  have h0 : arg12.view.read (Elt Ideal) (arg12.view.writes (Elt Ideal) arg12.view.junk runA.sl.HW_arg12_1) = fun _ => (0 : EReal) :=
    (read_whole arg12.view arg12.view.junk (by decide) _ _).trans (by funext y; exact Ideal.ofBits_zero_f32)
  refine Eq.trans (congrArg _ (View.writes_append (Val := Elt Ideal) arg12.view arg12.view.junk [(⟨Rect.unit (s := S8192x128) (k0_off1 i) ![512, 128] inb1, runA.sl.v144 (F := Ideal) i arg2 arg3 arg4 arg5 arg6 arg7 arg8 arg12 X2 X3 X4 X5 X6 X7 X8⟩ : View.Piece (Elt Ideal) S8192x128 .f32)] runA.sl.HW_arg12_1)) ?_
  refine diag_dq arg12.view (arg12.view.writes (Elt Ideal) arg12.view.junk runA.sl.HW_arg12_1) (i 1).val (i 1).isLt (off1_eq i) _ _ _ h0 e (by subst he; rfl) (fun x l => ?_)
  refine Eq.trans (diag_dqp (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (arg2.view.read (Elt Ideal) X2) (arg6.view.read (Elt Ideal) X6) (arg7.view.read (Elt Ideal) X7) (arg8.view.read (Elt Ideal) X8) (i 1).val (i 1).isLt _ _ _ _ _ _ (fun x l => rd_q i arg2.view X2 _ x l) (fun x l => rd_q i arg6.view X6 _ x l) (fun x => rd_stat0 i arg7.view X7 _ x) (fun x => rd_stat0 i arg8.view X8 _ x) (fun x => rd_stat1 i arg7.view X7 _ x) (fun x => rd_stat1 i arg8.view X8 _ x) (View.readAt (Elt Ideal) arg12.view (Rect.unit (s := S8192x128) (k0_off1 i) ![512, 128] inb1).toLoadRect (arg12.view.writes (Elt Ideal) arg12.view.junk runA.sl.HW_arg12_1)) x l) ?_
  subst he
  exact congrArg₂ (· + ·) (rd_q i arg12.view (arg12.view.writes (Elt Ideal) arg12.view.junk runA.sl.HW_arg12_1) _ x l) rfl

theorem runA_dr (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (arg13 : Memref sig .tc .vmem S2x16x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (inb2 : ∀ a : Fin 4, (k0_off2 i) a + (![1, 1, 1, 512] : Fin 4 → ℕ) a ≤ S2x16x1x512.size a) (inb3 : ∀ a : Fin 4, (k0_off3 i) a + (![1, 1, 1, 512] : Fin 4 → ℕ) a ≤ S2x16x1x512.size a) (e : Env) (he : e = env (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (arg2.view.read (Elt Ideal) X2) (arg6.view.read (Elt Ideal) X6) (arg7.view.read (Elt Ideal) X7) (arg8.view.read (Elt Ideal) X8) (i 1).val) :
    arg13.view.read (Elt Ideal) (arg13.view.writes (Elt Ideal) arg13.view.junk ((⟨Rect.unit (s := S2x16x1x512) (k0_off3 i) ![1, 1, 1, 512] inb3, runA.sl.v137 (F := Ideal) i arg2 arg3 arg4 arg5 arg6 arg7 arg8 arg13 X2 X3 X4 X5 X6 X7 X8⟩ : View.Piece (Elt Ideal) S2x16x1x512 .f32) :: runA.sl.HW_arg13_2 (F := Ideal) i arg2 arg3 arg4 arg5 arg6 arg7 arg8 arg13 X2 X3 X4 X5 X6 X7 X8)) = e.dr (fun _ => 0) (512 * ((i 1).val + 1)) := by
  have h0 : arg13.view.read (Elt Ideal) (arg13.view.writes (Elt Ideal) arg13.view.junk runA.sl.HW_arg13_1) = fun _ => (0 : EReal) :=
    (read_whole arg13.view arg13.view.junk (by decide) _ _).trans (by funext y; exact Ideal.ofBits_zero_f32)
  refine Eq.trans (congrArg _ (View.writes_append (Val := Elt Ideal) arg13.view arg13.view.junk [(⟨Rect.unit (s := S2x16x1x512) (k0_off3 i) ![1, 1, 1, 512] inb3, runA.sl.v137 (F := Ideal) i arg2 arg3 arg4 arg5 arg6 arg7 arg8 arg13 X2 X3 X4 X5 X6 X7 X8⟩ : View.Piece (Elt Ideal) S2x16x1x512 .f32), (⟨Rect.unit (s := S2x16x1x512) (k0_off2 i) ![1, 1, 1, 512] inb2, Gen.k0_pay188 (runA.sl.r_4 (F := Ideal) i arg2 arg3 arg4 arg5 arg6 arg7 arg8 X2 X3 X4 X5 X6 X7 X8) (View.readAt (Elt Ideal) arg13.view (Rect.unit (s := S2x16x1x512) (k0_off2 i) ![1, 1, 1, 512] inb2).toLoadRect (arg13.view.writes (Elt Ideal) arg13.view.junk runA.sl.HW_arg13_1))⟩ : View.Piece (Elt Ideal) S2x16x1x512 .f32)] runA.sl.HW_arg13_1)) ?_
  refine diag_dr arg13.view (arg13.view.writes (Elt Ideal) arg13.view.junk runA.sl.HW_arg13_1) (i 1).val (i 1).isLt (off2_eq i) (off3_eq i) _ _ _ _ _ h0 e (by subst he; rfl) (fun x => ?_) (fun x => ?_)
  · refine Eq.trans (diag_dr0 (runA.sl.v11 (F := Ideal) arg3 X3) (runA.sl.v27 (F := Ideal) arg4 X4) (runA.sl.v37 (F := Ideal) arg5 X5) (arg2.view.read (Elt Ideal) X2) (arg6.view.read (Elt Ideal) X6) (arg7.view.read (Elt Ideal) X7) (arg8.view.read (Elt Ideal) X8) (i 1).val (i 1).isLt _ _ _ _ (fun x l => rd_q i arg2.view X2 _ x l) (fun x l => rd_q i arg6.view X6 _ x l) (fun x => rd_stat0 i arg7.view X7 _ x) (fun x => rd_stat0 i arg8.view X8 _ x) _ x) ?_
    subst he
    exact congrArg₂ (· + ·) (rd_st0 i arg13.view (arg13.view.writes (Elt Ideal) arg13.view.junk runA.sl.HW_arg13_1) _ x) rfl
  · refine Eq.trans (diag_dr1 (runA.sl.v18 (F := Ideal) arg3 X3) (runA.sl.v34 (F := Ideal) arg4 X4) (runA.sl.v38 (F := Ideal) arg5 X5) (arg2.view.read (Elt Ideal) X2) (arg6.view.read (Elt Ideal) X6) (arg7.view.read (Elt Ideal) X7) (arg8.view.read (Elt Ideal) X8) (i 1).val (i 1).isLt _ _ _ _ (fun x l => rd_q i arg2.view X2 _ x l) (fun x l => rd_q i arg6.view X6 _ x l) (fun x => rd_stat1 i arg7.view X7 _ x) (fun x => rd_stat1 i arg8.view X8 _ x) (View.readAt (Elt Ideal) arg13.view (Rect.unit (s := S2x16x1x512) (k0_off3 i) ![1, 1, 1, 512] inb3).toLoadRect (arg13.view.writes (Elt Ideal) arg13.view.junk (runA.sl.HW_arg13_2 (F := Ideal) i arg2 arg3 arg4 arg5 arg6 arg7 arg8 arg13 X2 X3 X4 X5 X6 X7 X8))) x) ?_
    subst he
    refine congrArg₂ (· + ·) ((rd_st1 i arg13.view (arg13.view.writes (Elt Ideal) arg13.view.junk (runA.sl.HW_arg13_2 (F := Ideal) i arg2 arg3 arg4 arg5 arg6 arg7 arg8 arg13 X2 X3 X4 X5 X6 X7 X8)) _ x).trans ?_) rfl
    exact rd_not arg13.view arg13.view.junk inb2 _ runA.sl.HW_arg13_1 _ 0 (i 1).val (off2_eq i) (Or.inl (by show ¬ (1 : ℕ) = 0; omega))

theorem runB_env (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) :
    envOf (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (i 1).val = env (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (arg2.view.read (Elt Ideal) X2) (arg6.view.read (Elt Ideal) X6) (arg7.view.read (Elt Ideal) X7) (arg8.view.read (Elt Ideal) X8) (i 1).val := by
  rw [runB_v11, runB_v18, runB_v27, runB_v34, runB_v37, runB_v38]
  rfl

theorem runB_acc (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (e : Env) (he : e = env (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (arg2.view.read (Elt Ideal) X2) (arg6.view.read (Elt Ideal) X6) (arg7.view.read (Elt Ideal) X7) (arg8.view.read (Elt Ideal) X8) (i 1).val) :
    ((runB.sl.r_6 (F := Ideal) i arg2 arg3 arg4 arg5 arg6 arg7 arg8 X2 X3 X4 X5 X6 X7 X8, runB.sl.r_3 (F := Ideal) i arg2 arg3 arg5 arg6 arg7 X2 X3 X5 X6 X7, runB.sl.r_8 (F := Ideal) i arg2 arg3 arg4 arg5 arg6 arg7 arg8 X2 X3 X4 X5 X6 X7 X8, runB.sl.v122 (F := Ideal) i arg2 arg3 arg4 arg5 arg6 arg7 arg8 X2 X3 X4 X5 X6 X7 X8, runB.sl.r_11 (F := Ideal) i arg2 arg3 arg5 arg6 arg7 X2 X3 X5 X6 X7, runB.sl.v125 (F := Ideal) i arg2 arg3 arg4 arg5 arg6 arg7 arg8 X2 X3 X4 X5 X6 X7 X8) : Acc Ideal) = e.acc (512 * ((i 1).val + 1)) :=
  diag_acc (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (arg2.view.read (Elt Ideal) X2) (arg6.view.read (Elt Ideal) X6) (arg7.view.read (Elt Ideal) X7) (arg8.view.read (Elt Ideal) X8) (i 1).val (i 1).isLt _ _ _ _ _ _ (fun x l => rd_q i arg2.view X2 _ x l) (fun x l => rd_q i arg6.view X6 _ x l) (fun x => rd_stat0 i arg7.view X7 _ x) (fun x => rd_stat0 i arg8.view X8 _ x) (fun x => rd_stat1 i arg7.view X7 _ x) (fun x => rd_stat1 i arg8.view X8 _ x) e he

theorem runB_dq (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (arg12 : Memref sig .tc .vmem S8192x128 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f12 : BufTy.Contents (Elt Ideal) arg12.view.ty) (inb1 : ∀ a : Fin 2, (k0_off1 i) a + (![512, 128] : Fin 2 → ℕ) a ≤ S8192x128.size a) (e : Env) (he : e = env (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (arg2.view.read (Elt Ideal) X2) (arg6.view.read (Elt Ideal) X6) (arg7.view.read (Elt Ideal) X7) (arg8.view.read (Elt Ideal) X8) (i 1).val) :
    arg12.view.read (Elt Ideal) (arg12.view.writes (Elt Ideal) f12 [(⟨Rect.unit (s := S8192x128) (k0_off1 i) ![512, 128] inb1, runB.sl.v144 (F := Ideal) i arg2 arg3 arg4 arg5 arg6 arg7 arg8 arg12 X2 X3 X4 X5 X6 X7 X8 f12⟩ : View.Piece (Elt Ideal) S8192x128 .f32)]) = e.dq (arg12.view.read (Elt Ideal) f12) (512 * ((i 1).val + 1)) := by
  have h0 : arg12.view.read (Elt Ideal) f12 = arg12.view.read (Elt Ideal) f12 := rfl
  refine diag_dq arg12.view f12 (i 1).val (i 1).isLt (off1_eq i) _ _ _ h0 e (by subst he; rfl) (fun x l => ?_)
  refine Eq.trans (diag_dqp (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (arg2.view.read (Elt Ideal) X2) (arg6.view.read (Elt Ideal) X6) (arg7.view.read (Elt Ideal) X7) (arg8.view.read (Elt Ideal) X8) (i 1).val (i 1).isLt _ _ _ _ _ _ (fun x l => rd_q i arg2.view X2 _ x l) (fun x l => rd_q i arg6.view X6 _ x l) (fun x => rd_stat0 i arg7.view X7 _ x) (fun x => rd_stat0 i arg8.view X8 _ x) (fun x => rd_stat1 i arg7.view X7 _ x) (fun x => rd_stat1 i arg8.view X8 _ x) (View.readAt (Elt Ideal) arg12.view (Rect.unit (s := S8192x128) (k0_off1 i) ![512, 128] inb1).toLoadRect f12) x l) ?_
  subst he
  exact congrArg₂ (· + ·) (rd_q i arg12.view f12 _ x l) rfl

theorem runB_dr (i : grid0.Coords) (arg2 : Memref sig .tc .vmem S8192x128 .bf16) (arg3 : Memref sig .tc .vmem S512x128 .bf16) (arg4 : Memref sig .tc .vmem S512x128 .bf16) (arg5 : Memref sig .tc .vmem S1x512x2 .f32) (arg6 : Memref sig .tc .vmem S8192x128 .bf16) (arg7 : Memref sig .tc .vmem S2x16x1x512 .f32) (arg8 : Memref sig .tc .vmem S2x16x1x512 .f32) (arg13 : Memref sig .tc .vmem S2x16x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f13 : BufTy.Contents (Elt Ideal) arg13.view.ty) (inb2 : ∀ a : Fin 4, (k0_off2 i) a + (![1, 1, 1, 512] : Fin 4 → ℕ) a ≤ S2x16x1x512.size a) (inb3 : ∀ a : Fin 4, (k0_off3 i) a + (![1, 1, 1, 512] : Fin 4 → ℕ) a ≤ S2x16x1x512.size a) (e : Env) (he : e = env (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (arg2.view.read (Elt Ideal) X2) (arg6.view.read (Elt Ideal) X6) (arg7.view.read (Elt Ideal) X7) (arg8.view.read (Elt Ideal) X8) (i 1).val) :
    arg13.view.read (Elt Ideal) (arg13.view.writes (Elt Ideal) f13 [(⟨Rect.unit (s := S2x16x1x512) (k0_off3 i) ![1, 1, 1, 512] inb3, runB.sl.v137 (F := Ideal) i arg2 arg3 arg4 arg5 arg6 arg7 arg8 arg13 X2 X3 X4 X5 X6 X7 X8 f13⟩ : View.Piece (Elt Ideal) S2x16x1x512 .f32), (⟨Rect.unit (s := S2x16x1x512) (k0_off2 i) ![1, 1, 1, 512] inb2, Gen.k0_pay188 (runB.sl.r_4 (F := Ideal) i arg2 arg3 arg4 arg5 arg6 arg7 arg8 X2 X3 X4 X5 X6 X7 X8) (View.readAt (Elt Ideal) arg13.view (Rect.unit (s := S2x16x1x512) (k0_off2 i) ![1, 1, 1, 512] inb2).toLoadRect f13)⟩ : View.Piece (Elt Ideal) S2x16x1x512 .f32)]) = e.dr (arg13.view.read (Elt Ideal) f13) (512 * ((i 1).val + 1)) := by
  have h0 : arg13.view.read (Elt Ideal) f13 = arg13.view.read (Elt Ideal) f13 := rfl
  refine diag_dr arg13.view f13 (i 1).val (i 1).isLt (off2_eq i) (off3_eq i) _ _ _ _ _ h0 e (by subst he; rfl) (fun x => ?_) (fun x => ?_)
  · refine Eq.trans (diag_dr0 (runB.sl.v11 (F := Ideal) arg3 X3) (runB.sl.v27 (F := Ideal) arg4 X4) (runB.sl.v37 (F := Ideal) arg5 X5) (arg2.view.read (Elt Ideal) X2) (arg6.view.read (Elt Ideal) X6) (arg7.view.read (Elt Ideal) X7) (arg8.view.read (Elt Ideal) X8) (i 1).val (i 1).isLt _ _ _ _ (fun x l => rd_q i arg2.view X2 _ x l) (fun x l => rd_q i arg6.view X6 _ x l) (fun x => rd_stat0 i arg7.view X7 _ x) (fun x => rd_stat0 i arg8.view X8 _ x) _ x) ?_
    subst he
    exact congrArg₂ (· + ·) (rd_st0 i arg13.view f13 _ x) rfl
  · refine Eq.trans (diag_dr1 (runB.sl.v18 (F := Ideal) arg3 X3) (runB.sl.v34 (F := Ideal) arg4 X4) (runB.sl.v38 (F := Ideal) arg5 X5) (arg2.view.read (Elt Ideal) X2) (arg6.view.read (Elt Ideal) X6) (arg7.view.read (Elt Ideal) X7) (arg8.view.read (Elt Ideal) X8) (i 1).val (i 1).isLt _ _ _ _ (fun x l => rd_q i arg2.view X2 _ x l) (fun x l => rd_q i arg6.view X6 _ x l) (fun x => rd_stat1 i arg7.view X7 _ x) (fun x => rd_stat1 i arg8.view X8 _ x) (View.readAt (Elt Ideal) arg13.view (Rect.unit (s := S2x16x1x512) (k0_off3 i) ![1, 1, 1, 512] inb3).toLoadRect f13) x) ?_
    subst he
    refine congrArg₂ (· + ·) ((rd_st1 i arg13.view f13 _ x).trans ?_) rfl
    rfl

end Cert.Proof.KernelIdeal
end
-- ==== Proof.KernelIdeal.RunVal.lean ====
/- What one run of the body leaves in each output block. -/
module

public import proofs.«01_k».proof.Proof.KernelIdeal.Diag

@[expose] public section

set_option maxRecDepth 16384
set_option maxHeartbeats 4000000

noncomputable section

namespace Cert.Proof.KernelIdeal

open Cert.KernelIdeal
open Idealize.ShloMosaic Idealize.ShloMosaic.TcCoe

attribute [local irreducible] st1 st3 st5

variable (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole)

/-- At the first key block the running outputs start at zero; at a later one they add to what they hold. -/
theorem runA_val     (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hj : Scalar.cmpi .ne (Scalar.extui (Scalar.cmpi .eq (BitVec.ofNat 32 (i 1).val) 0#32)) 0#32 = 1#1) (e : Env) (he : e = envOf (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (i 1).val) :
    arg9.view.read (Elt Ideal) (runA (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).1 = e.outk ∧ arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.1 = e.outv ∧ arg11.view.read (Elt Ideal) (runA (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.2.1 = e.outb
      ∧ arg12.view.read (Elt Ideal) (runA (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.2.2.1 = e.dq (fun _ => 0) 8192 ∧ arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.2.2.2.1 = e.dr (fun _ => 0) 8192 := by
  have he' := he.trans (runA_env i arg2 arg3 arg4 arg5 arg6 arg7 arg8 X2 X3 X4 X5 X6 X7 X8)
  unfold runA
  dsimp only
  simp only [runA.sl.r_20, runA.sl.r_21, runA.sl.r_22, View.writes_append]
  have T := tail_val Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (runA.sl.v11 (F := Ideal) arg3 X3) (runA.sl.v18 (F := Ideal) arg3 X3) (runA.sl.v27 (F := Ideal) arg4 X4) (runA.sl.v34 (F := Ideal) arg4 X4) (runA.sl.v37 (F := Ideal) arg5 X5) (runA.sl.v38 (F := Ideal) arg5 X5) (runA.sl.v147 i) (runA.sl.r_14 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_15 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_16 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_17 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_18 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_19 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.v182 i) (runA.sl.v196 i) 1#32 (runA.sl.v147 i) (runA.sl.r_14 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_15 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_16 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_17 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_18 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.r_19 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8) (runA.sl.v182 i) (runA.sl.v196 i) 1#32 (runA.sl.r_6 (F := Ideal) i arg2 arg3 arg4 arg5 arg6 arg7 arg8 X2 X3 X4 X5 X6 X7 X8, runA.sl.r_3 (F := Ideal) i arg2 arg3 arg5 arg6 arg7 X2 X3 X5 X6 X7, runA.sl.r_8 (F := Ideal) i arg2 arg3 arg4 arg5 arg6 arg7 arg8 X2 X3 X4 X5 X6 X7 X8, runA.sl.v122 (F := Ideal) i arg2 arg3 arg4 arg5 arg6 arg7 arg8 X2 X3 X4 X5 X6 X7 X8, runA.sl.r_11 (F := Ideal) i arg2 arg3 arg5 arg6 arg7 X2 X3 X5 X6 X7, runA.sl.v125 (F := Ideal) i arg2 arg3 arg4 arg5 arg6 arg7 arg8 X2 X3 X4 X5 X6 X7 X8) X2 X6 X7 X8 _ _ _ _ e he'
    ⟨runA_acc i arg2 arg3 arg4 arg5 arg6 arg7 arg8 X2 X3 X4 X5 X6 X7 X8 e he', runA_dq i arg2 arg3 arg4 arg5 arg6 arg7 arg8 arg12 X2 X3 X4 X5 X6 X7 X8 (off1_inb i) e he', runA_dr i arg2 arg3 arg4 arg5 arg6 arg7 arg8 arg13 X2 X3 X4 X5 X6 X7 X8 (off2_inb i) (off3_inb i) e he'⟩
  refine ⟨(read_whole512 _ _ _ _).trans (Eq.trans ?_ (outk_eq e)), (read_whole512 _ _ _ _).trans (Eq.trans ?_ (outv_eq e)), (read_whole512 _ _ _ _).trans (Eq.trans ?_ (outb_eq e)), ?_, ?_⟩
  · exact congrArg₂ Gen.k0_pay203 (congrArg (fun a : Acc Ideal => a.1) T.1) (congrArg (fun a : Acc Ideal => a.2.2.2.1) T.1)
  · exact congrArg₂ Gen.k0_pay204 (congrArg (fun a : Acc Ideal => a.2.1) T.1) (congrArg (fun a : Acc Ideal => a.2.2.2.2.1) T.1)
  · exact congrArg₂ Gen.k0_pay1 (congrArg (fun a : Acc Ideal => a.2.2.1) T.1) (congrArg (fun a : Acc Ideal => a.2.2.2.2.2) T.1)
  · exact T.2.1
  · exact T.2.2

theorem runB_val     (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hj : Scalar.cmpi .ne (Scalar.extui (Scalar.cmpi .eq (BitVec.ofNat 32 (i 1).val) 0#32)) 0#32 ≠ 1#1) (e : Env) (he : e = envOf (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (i 1).val) :
    arg9.view.read (Elt Ideal) (runB (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).1 = e.outk ∧ arg10.view.read (Elt Ideal) (runB (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.1 = e.outv ∧ arg11.view.read (Elt Ideal) (runB (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.2.1 = e.outb
      ∧ arg12.view.read (Elt Ideal) (runB (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.2.2.1 = e.dq (arg12.view.read (Elt Ideal) f12) 8192 ∧ arg13.view.read (Elt Ideal) (runB (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f9 f10 f11 f12 f13 hj).2.2.2.2.1 = e.dr (arg13.view.read (Elt Ideal) f13) 8192 := by
  have he' := he.trans (runB_env i arg2 arg3 arg4 arg5 arg6 arg7 arg8 X2 X3 X4 X5 X6 X7 X8)
  unfold runB
  dsimp only
  simp only [runB.sl.r_20, runB.sl.r_21, runB.sl.r_22, View.writes_append]
  have T := tail_val Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (runB.sl.v11 (F := Ideal) arg3 X3) (runB.sl.v18 (F := Ideal) arg3 X3) (runB.sl.v27 (F := Ideal) arg4 X4) (runB.sl.v34 (F := Ideal) arg4 X4) (runB.sl.v37 (F := Ideal) arg5 X5) (runB.sl.v38 (F := Ideal) arg5 X5) (runB.sl.v147 i) (runB.sl.r_14 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_15 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_16 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_17 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_18 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_19 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.v182 i) (runB.sl.v196 i) 1#32 (runB.sl.v147 i) (runB.sl.r_14 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_15 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_16 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_17 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_18 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.r_19 (F := Ideal) c i arg2 harg2 arg3 harg3 arg4 harg4 arg5 harg5 arg6 harg6 arg7 harg7 arg8 harg8 arg9 harg9 arg10 harg10 arg11 harg11 arg12 harg12 arg13 harg13 X2 X3 X4 X5 X6 X7 X8 f12 f13) (runB.sl.v182 i) (runB.sl.v196 i) 1#32 (runB.sl.r_6 (F := Ideal) i arg2 arg3 arg4 arg5 arg6 arg7 arg8 X2 X3 X4 X5 X6 X7 X8, runB.sl.r_3 (F := Ideal) i arg2 arg3 arg5 arg6 arg7 X2 X3 X5 X6 X7, runB.sl.r_8 (F := Ideal) i arg2 arg3 arg4 arg5 arg6 arg7 arg8 X2 X3 X4 X5 X6 X7 X8, runB.sl.v122 (F := Ideal) i arg2 arg3 arg4 arg5 arg6 arg7 arg8 X2 X3 X4 X5 X6 X7 X8, runB.sl.r_11 (F := Ideal) i arg2 arg3 arg5 arg6 arg7 X2 X3 X5 X6 X7, runB.sl.v125 (F := Ideal) i arg2 arg3 arg4 arg5 arg6 arg7 arg8 X2 X3 X4 X5 X6 X7 X8) X2 X6 X7 X8 _ _ _ _ e he'
    ⟨runB_acc i arg2 arg3 arg4 arg5 arg6 arg7 arg8 X2 X3 X4 X5 X6 X7 X8 e he', runB_dq i arg2 arg3 arg4 arg5 arg6 arg7 arg8 arg12 X2 X3 X4 X5 X6 X7 X8 f12 (off1_inb i) e he', runB_dr i arg2 arg3 arg4 arg5 arg6 arg7 arg8 arg13 X2 X3 X4 X5 X6 X7 X8 f13 (off2_inb i) (off3_inb i) e he'⟩
  refine ⟨(read_whole512 _ _ _ _).trans (Eq.trans ?_ (outk_eq e)), (read_whole512 _ _ _ _).trans (Eq.trans ?_ (outv_eq e)), (read_whole512 _ _ _ _).trans (Eq.trans ?_ (outb_eq e)), ?_, ?_⟩
  · exact congrArg₂ Gen.k0_pay203 (congrArg (fun a : Acc Ideal => a.1) T.1) (congrArg (fun a : Acc Ideal => a.2.2.2.1) T.1)
  · exact congrArg₂ Gen.k0_pay204 (congrArg (fun a : Acc Ideal => a.2.1) T.1) (congrArg (fun a : Acc Ideal => a.2.2.2.2.1) T.1)
  · exact congrArg₂ Gen.k0_pay1 (congrArg (fun a : Acc Ideal => a.2.2.1) T.1) (congrArg (fun a : Acc Ideal => a.2.2.2.2.2) T.1)
  · exact T.2.1
  · exact T.2.2

end Cert.Proof.KernelIdeal
end
-- ==== Proof.KernelIdeal.Value.lean ====
/- The launch at the values: every window at what the bodies make of the arrays. -/
module

public import proofs.«01_k».proof.Proof.KernelIdeal.RunVal
public import proofs.«01_k».proof.Proof.Gen.KernelIdeal.Frame

@[expose] public section

set_option maxRecDepth 16384
set_option maxHeartbeats 4000000

noncomputable section

namespace Cert.Proof.KernelIdeal

open Cert.KernelIdeal
open Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄I" => MT nD τ sig Unit (Elt Ideal) ℕ (UR sig nD τ) ℕ

theorem first_iff (j : ℕ) (hj : j < 16) : Scalar.cmpi .ne (Scalar.extui (Scalar.cmpi .eq (BitVec.ofNat 32 j) 0#32)) 0#32 = 1#1 ↔ j = 0 := by
  revert j
  decide

/-- The body's triple at the values: the operands kept, each output block at the sums the blocks make. -/
theorem bodyVal (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x2 .f32) (harg5 : arg5.IsWhole) (arg6 : Memref sig .tc .vmem S8192x128 .bf16) (harg6 : arg6.IsWhole) (arg7 : Memref sig .tc .vmem S2x16x1x512 .f32) (harg7 : arg7.IsWhole) (arg8 : Memref sig .tc .vmem S2x16x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S8192x128 .f32) (harg12 : arg12.IsWhole) (arg13 : Memref sig .tc .vmem S2x16x1x512 .f32) (harg13 : arg13.IsWhole)
    (x2 : S8192x128.Idx → EReal) (x3 : S512x128.Idx → EReal) (x4 : S512x128.Idx → EReal) (x5 : S1x512x2.Idx → EReal) (x6 : S8192x128.Idx → EReal) (x7 : S2x16x1x512.Idx → EReal) (x8 : S2x16x1x512.Idx → EReal) (y12 : S8192x128.Idx → EReal) (y13 : S2x16x1x512.Idx → EReal) (K : PUnit → sProp 𝕄I) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y12 ∗ owns (c : Thread nD τ) arg13 fullShare y13
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (envOf x2 x3 x4 x5 x6 x7 x8 (i 1).val).outk ∗ owns (c : Thread nD τ) arg10 fullShare (envOf x2 x3 x4 x5 x6 x7 x8 (i 1).val).outv ∗ owns (c : Thread nD τ) arg11 fullShare (envOf x2 x3 x4 x5 x6 x7 x8 (i 1).val).outb
        ∗ owns (c : Thread nD τ) arg12 fullShare ((envOf x2 x3 x4 x5 x6 x7 x8 (i 1).val).dq (if (i 1).val = 0 then fun _ => 0 else y12) 8192) ∗ owns (c : Thread nD τ) arg13 fullShare ((envOf x2 x3 x4 x5 x6 x7 x8 (i 1).val).dr (if (i 1).val = 0 then fun _ => 0 else y13) 8192)) -∗ K ⟨⟩))
      ⊢ wp frame (wpE (defs₀ (F := Ideal)) Variants.none c none) Set.univ (cc0_fox_attn_bwd (F := Ideal) i arg2 harg2 arg3 harg3 arg4 harg4 arg5 harg5 arg6 harg6 arg7 harg7 arg8 harg8 arg9 harg9 arg10 harg10 arg11 harg11 arg12 harg12 arg13 harg13) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%f12, %e12, H12⟩, ⟨%f13, %e13, H13⟩, Hk⟩
  have hi : (i 1).val < 16 := (i 1).isLt
  by_cases hj : Scalar.cmpi .ne (Scalar.extui (Scalar.cmpi .eq (BitVec.ofNat 32 (i 1).val) 0#32)) 0#32 = 1#1
  · have h0 : (i 1).val = 0 := (first_iff _ hi).mp hj
    obtain ⟨r9, r10, r11, r12, r13⟩ := runA_val c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hj (envOf x2 x3 x4 x5 x6 x7 x8 (i 1).val) (by rw [← e2, ← e3, ← e4, ← e5, ← e6, ← e7, ← e8])
    rw [if_pos h0, if_pos h0]
    iapply (wp_wand_r Idealize.ShloMosaic.frame (wpE (defs₀ (F := Ideal)) Variants.none (c : Thread nD τ) none) Set.univ)
    isplitl [H2 H3 H4 H5 H6 H7 H8 H9 H10 H11 H12 H13]
    · iapply ((runA (F := Ideal) c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hj).2.2.2.2.2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro %yld ⟨H2, H3, H4, H5, H6, H7, H8, H9, H10, H11, H12, H13⟩
      iapply Hk
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      isplitl [H5]
      · iexists _; isplitr; swap; · iexact H5
        ipureintro; exact e5
      isplitl [H6]
      · iexists _; isplitr; swap; · iexact H6
        ipureintro; exact e6
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro; exact r9
      isplitl [H10]
      · iexists _; isplitr; swap; · iexact H10
        ipureintro; exact r10
      isplitl [H11]
      · iexists _; isplitr; swap; · iexact H11
        ipureintro; exact r11
      isplitl [H12]
      · iexists _; isplitr; swap; · iexact H12
        ipureintro; exact r12
      iexists _; isplitr; swap; · iexact H13
      ipureintro; exact r13
  · have h0 : ¬ (i 1).val = 0 := fun h => hj ((first_iff _ hi).mpr h)
    obtain ⟨r9, r10, r11, r12, r13⟩ := runB_val c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hj (envOf x2 x3 x4 x5 x6 x7 x8 (i 1).val) (by rw [← e2, ← e3, ← e4, ← e5, ← e6, ← e7, ← e8])
    rw [if_neg h0, if_neg h0]
    iapply (wp_wand_r Idealize.ShloMosaic.frame (wpE (defs₀ (F := Ideal)) Variants.none (c : Thread nD τ) none) Set.univ)
    isplitl [H2 H3 H4 H5 H6 H7 H8 H9 H10 H11 H12 H13]
    · iapply ((runB (F := Ideal) c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hj).2.2.2.2.2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro %yld ⟨H2, H3, H4, H5, H6, H7, H8, H9, H10, H11, H12, H13⟩
      iapply Hk
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      isplitl [H5]
      · iexists _; isplitr; swap; · iexact H5
        ipureintro; exact e5
      isplitl [H6]
      · iexists _; isplitr; swap; · iexact H6
        ipureintro; exact e6
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro; exact r9
      isplitl [H10]
      · iexists _; isplitr; swap; · iexact H10
        ipureintro; exact r10
      isplitl [H11]
      · iexists _; isplitr; swap; · iexact H11
        ipureintro; exact r11
      isplitl [H12]
      · iexists _; isplitr; swap; · iexact H12
        ipureintro; exact r12.trans (by rw [e12])
      iexists _; isplitr; swap; · iexact H13
      ipureintro; exact r13.trans (by rw [e13])

/-! ## The launch -/

variable (m : (ℓ : Loc nD τ sig) → Buf (Elt Ideal) ℓ) (ρ : Dev nD → PrngReg)

theorem coord1 : ∀ t : Fin cfg0.N, (cfg0.grid.coords t 1).val = t.val % 16 := (by decide +kernel : ∀ t : Fin grid0.N, (grid0.coords t 1).val = t.val % 16)

/-- What the body works on at a point. -/
def E (c : Dev nD) (t : Fin cfg0.N) : Env :=
  envOf (Gen.iblk m c 0 t) (Gen.iblk m c 1 t) (Gen.iblk m c 2 t) (Gen.iblk m c 3 t) (Gen.iblk m c 4 t) (Gen.iblk m c 5 t) (Gen.iblk m c 6 t) (cfg0.grid.coords t 1).val

theorem E_j (c : Dev nD) (t : Fin cfg0.N) : (E m c t).j = t.val % 16 := coord1 t

/-- A point's share of the query gradients, and of the row sums. -/
def termq (c : Dev nD) (n : ℕ) : S8192x128.Idx → EReal := fun y =>
  if h : n < cfg0.N then (if 512 * (n % 16) ≤ (y 0).val then (E m c ⟨n, h⟩).dqr (y 0) (y 1) else 0) else 0
def termr (c : Dev nD) (n : ℕ) : S2x16x1x512.Idx → EReal := fun y =>
  if h : n < cfg0.N then (if 512 * (n % 16) ≤ (Env.row y).val then (E m c ⟨n, h⟩).drr (y 0) (Env.row y) else 0) else 0

/-- The running outputs: the shares of the points of the lane block so far. -/
def accq (c : Dev nD) (t : Fin cfg0.N) : S8192x128.Idx → EReal := fun y => ∑ s ∈ Finset.range (t.val % 16 + 1), termq m c (16 * (t.val / 16) + s) y
def accr (c : Dev nD) (t : Fin cfg0.N) : S2x16x1x512.Idx → EReal := fun y => ∑ s ∈ Finset.range (t.val % 16 + 1), termr m c (16 * (t.val / 16) + s) y

/-- The proof data: each input's block, each output's block at what the body leaves. -/
def dat (c : Dev nD) : Dat τ (Elt Ideal) Unit ℕ (UR sig nD τ) ℕ cfg0 c where
  A w := Gen.V m c (Pipeline.arrRef spec0 w)
  after w t := match w with
    | 0 => Gen.iblk m c 0 t
    | 1 => Gen.iblk m c 1 t
    | 2 => Gen.iblk m c 2 t
    | 3 => Gen.iblk m c 3 t
    | 4 => Gen.iblk m c 4 t
    | 5 => Gen.iblk m c 5 t
    | 6 => Gen.iblk m c 6 t
    | 7 => (E m c t).outk
    | 8 => (E m c t).outv
    | 9 => (E m c t).outb
    | 10 => accq m c t
    | 11 => accr m c t
  Φ _ := Pipeline.ΦA spec0 c
  q w := Pipeline.shareOf spec0 w
  owed _ := 0

theorem stepq (c : Dev nD) (t : Fin cfg0.N) (d : S8192x128.Idx → EReal) :
    (E m c t).dq (if (cfg0.grid.coords t 1).val = 0 then fun _ => 0 else (dat m c).before 10 t d) 8192 = accq m c t := by
  have hN : cfg0.N = 128 := Gen.N_0
  have ht := t.isLt
  have T : ∀ (G : S8192x128.Idx → EReal) (y : S8192x128.Idx), (E m c t).dq G 8192 y = G y + termq m c t.val y := fun G y => by
    unfold Env.dq termq
    rw [E_j, dif_pos t.isLt]
    refine congrArg _ ?_
    have hy : (y 0).val < 8192 := (y 0).isLt
    by_cases h : 512 * (t.val % 16) ≤ (y 0).val
    · rw [if_pos ⟨h, hy⟩, if_pos h]
    · rw [if_neg (fun h' => h h'.1), if_neg h]
  funext y
  rw [T, coord1]
  unfold accq
  rw [Finset.sum_range_succ]
  refine congrArg₂ (· + ·) ?_ (congrArg (fun n => termq m c n y) (by omega))
  by_cases h0 : t.val % 16 = 0
  · rw [if_pos h0, h0]; rfl
  · rw [if_neg h0]
    have h1 : t.val ≠ 0 := by omega
    have hfl : (cfg0.win 10).flush ⟨t.val - 1, Nat.lt_of_le_of_lt (Nat.sub_le _ _) t.isLt⟩ = false := by
      rw [Bool.eq_false_iff]
      intro hf
      have := (Gen.flush0_10 _).mp hf
      simp only at this
      omega
    rw [(dat m c).before_out_kept 10 rfl t h1 hfl (fun _ => rfl) (fun _ _ => rfl) d]
    show accq m c ⟨t.val - 1, _⟩ y = _
    unfold accq
    rw [show (t.val - 1) % 16 + 1 = t.val % 16 by omega, show (t.val - 1) / 16 = t.val / 16 by omega]

theorem stepr (c : Dev nD) (t : Fin cfg0.N) (d : S2x16x1x512.Idx → EReal) :
    (E m c t).dr (if (cfg0.grid.coords t 1).val = 0 then fun _ => 0 else (dat m c).before 11 t d) 8192 = accr m c t := by
  have hN : cfg0.N = 128 := Gen.N_0
  have ht := t.isLt
  have T : ∀ (G : S2x16x1x512.Idx → EReal) (y : S2x16x1x512.Idx), (E m c t).dr G 8192 y = G y + termr m c t.val y := fun G y => by
    unfold Env.dr termr
    rw [E_j, dif_pos t.isLt]
    refine congrArg _ ?_
    have hy : (Env.row y).val < 8192 := (Env.row y).isLt
    by_cases h : 512 * (t.val % 16) ≤ (Env.row y).val
    · rw [if_pos ⟨h, hy⟩, if_pos h]
    · rw [if_neg (fun h' => h h'.1), if_neg h]
  funext y
  rw [T, coord1]
  unfold accr
  rw [Finset.sum_range_succ]
  refine congrArg₂ (· + ·) ?_ (congrArg (fun n => termr m c n y) (by omega))
  by_cases h0 : t.val % 16 = 0
  · rw [if_pos h0, h0]; rfl
  · rw [if_neg h0]
    have h1 : t.val ≠ 0 := by omega
    have hfl : (cfg0.win 11).flush ⟨t.val - 1, Nat.lt_of_le_of_lt (Nat.sub_le _ _) t.isLt⟩ = false := by
      rw [Bool.eq_false_iff]
      intro hf
      have := (Gen.flush0_11 _).mp hf
      simp only at this
      omega
    rw [(dat m c).before_out_kept 11 rfl t h1 hfl (fun _ => rfl) (fun _ _ => rfl) d]
    show accr m c ⟨t.val - 1, _⟩ y = _
    unfold accr
    rw [show (t.val - 1) % 16 + 1 = t.val % 16 by omega, show (t.val - 1) / 16 = t.val / 16 by omega]

end Cert.Proof.KernelIdeal
end
-- ==== Proof.KernelIdeal.Launch.lean ====
/- The launch at the values: the body at every point, and the run. -/
module

public import proofs.«01_k».proof.Proof.KernelIdeal.Value

@[expose] public section

set_option maxRecDepth 16384
set_option maxHeartbeats 4000000

noncomputable section

namespace Cert.Proof.KernelIdeal

open Cert.KernelIdeal
open Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄I" => MT nD τ sig Unit (Elt Ideal) ℕ (UR sig nD τ) ℕ

variable (m : (ℓ : Loc nD τ sig) → Buf (Elt Ideal) ℓ) (ρ : Dev nD → PrngReg)

theorem dat_A (c : Dev nD) (w : Fin cfg0.W) : (dat m c).A w = Gen.V m c (Pipeline.arrRef spec0 w) := rfl
theorem after_0 (c : Dev nD) (t : Fin cfg0.N) : (dat m c).after 0 t = Gen.iblk m c 0 t := by
  unfold dat
  rfl
theorem after_1 (c : Dev nD) (t : Fin cfg0.N) : (dat m c).after 1 t = Gen.iblk m c 1 t := by
  unfold dat
  rfl
theorem after_2 (c : Dev nD) (t : Fin cfg0.N) : (dat m c).after 2 t = Gen.iblk m c 2 t := by
  unfold dat
  rfl
theorem after_3 (c : Dev nD) (t : Fin cfg0.N) : (dat m c).after 3 t = Gen.iblk m c 3 t := by
  unfold dat
  rfl
theorem after_4 (c : Dev nD) (t : Fin cfg0.N) : (dat m c).after 4 t = Gen.iblk m c 4 t := by
  unfold dat
  rfl
theorem after_5 (c : Dev nD) (t : Fin cfg0.N) : (dat m c).after 5 t = Gen.iblk m c 5 t := by
  unfold dat
  rfl
theorem after_6 (c : Dev nD) (t : Fin cfg0.N) : (dat m c).after 6 t = Gen.iblk m c 6 t := by
  unfold dat
  rfl

open Gen in
theorem sound_val (c : Dev nD) (t : Fin cfg0.N) :
    iprop((dat m c).Φ t.castSucc ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ∗ (∃ d, owns (c : Thread nD τ) (st0_11 t) fullShare ((dat m c).before 11 t d)))
      ⊢ wp frame (wpE (defs₀ (F := Ideal)) Variants.none c none) Set.univ (bodyAt0 (F := Ideal) t) (fun _ =>
        iprop((dat m c).Φ t.succ ∗ (dat m c).owesAt () t.succ ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ owns (c : Thread nD τ) (st0_5 t) fullShare ((dat m c).after 5 t) ∗ owns (c : Thread nD τ) (st0_6 t) fullShare ((dat m c).after 6 t) ∗ owns (c : Thread nD τ) (st0_7 t) fullShare ((dat m c).after 7 t) ∗ owns (c : Thread nD τ) (st0_8 t) fullShare ((dat m c).after 8 t) ∗ owns (c : Thread nD τ) (st0_9 t) fullShare ((dat m c).after 9 t) ∗ owns (c : Thread nD τ) (st0_10 t) fullShare ((dat m c).after 10 t) ∗ owns (c : Thread nD τ) (st0_11 t) fullShare ((dat m c).after 11 t))) := by
  rw [show (dat m c).Φ t.succ = (dat m c).Φ t.castSucc from rfl, show (dat m c).owesAt () t.succ = (dat m c).owesAt () t.castSucc from rfl]
  unfold bodyAt0
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0_of m (dat m c) (dat_A m c 0) (after_0 m c) t d0, before0_1_of m (dat m c) (dat_A m c 1) (after_1 m c) t d1, before0_2_of m (dat m c) (dat_A m c 2) (after_2 m c) t d2, before0_3_of m (dat m c) (dat_A m c 3) (after_3 m c) t d3, before0_4_of m (dat m c) (dat_A m c 4) (after_4 m c) t d4, before0_5_of m (dat m c) (dat_A m c 5) (after_5 m c) t d5, before0_6_of m (dat m c) (dat_A m c 6) (after_6 m c) t d6]
  have sq := stepq m c t d10
  have sr := stepr m c t d11
  iapply (bodyVal c _ (st0_0 t) _ (st0_1 t) _ (st0_2 t) _ (st0_3 t) _ (st0_4 t) _ (st0_5 t) _ (st0_6 t) _ (st0_7 t) _ (st0_8 t) _ (st0_9 t) _ (st0_10 t) _ (st0_11 t) _
    (iblk m c 0 t) (iblk m c 1 t) (iblk m c 2 t) (iblk m c 3 t) (iblk m c 4 t) (iblk m c 5 t) (iblk m c 6 t) ((dat m c).before 10 t d10) ((dat m c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  iintro ⟨H0, H1, H2, H3, H4, H5, H6, H7, H8, H9, H10, H11⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [show (dat m c).after 10 t = accq m c t from rfl, ← sq]
    iexact H10
  · rw [show (dat m c).after 11 t = accr m c t from rfl, ← sr]
    iexact H11

theorem defs₀_at (t : Fin cfg0.N) : defs₀ (F := Ideal) .tc cfg0.body (cfg0.bodyArgs t (cfg0.slots t)) = Gen.bodyAt0 t := by
  unfold defs₀; rw [Defs.onTc_tc]

theorem body_obligation_val (c : Dev nD) : BodyObligationLoose (dat m c) (defs₀ (F := Ideal)) Variants.none () Set.univ := fun t => by
  rw [Gen.bigSep_W0, Gen.bigSep_W0, defs₀_at]
  exact triple_restated (sound_val m c t) rfl .rfl fun _ => .rfl

/-- The proof data of the one launch. -/
abbrev dats (p : Fin 1) (c : Dev nD) : Dat τ (Elt Ideal) Unit ℕ (UR sig nD τ) ℕ (cfgs p) c := match p with | 0 => dat m c

set_option backward.isDefEq.respectTransparency.types false in
/-- @main runs, and every window's array ends at the fold of the blocks written back. -/
theorem run_val :
    θ_run defs (onTc (τ := τ) (main (F := Ideal))) (s₀ m ρ)
      (fun r => Pipeline.FramePost cfgs (dats m) 0 (Pipeline.afterTail₀ cfgs (dats m) 0 (Gen.V0 m) [Gen.hostOps1]) r ∧ r.2.sem = fun _ => 0) :=
  Pipeline.θ_run_frame_around_shared (Q' := _) cfgs (dats m) (0 : Fin 1) Gen.launch₀0 defs₀ Variants.none m ρ main
    (body_obligation_val m) (fun _ _ _ => rfl) (fun _ _ => rfl) (Gen.V0 m) [Gen.hostOps1] Gen.sfx_sub Gen.sfx_fresh Gen.sfx_keeps
    (Gen.hmain m Variants.none) (fun c w => dat_A m c w) (fun _ _ => rfl)

end Cert.Proof.KernelIdeal
end
-- ==== Proof.KernelIdeal.Arrays.lean ====
/- The arrays the launch leaves, element by element. -/
module

public import proofs.«01_k».proof.Proof.KernelIdeal.Launch
public import Idealize.ShloMosaic.Lib.Pipeline.ValueKit

@[expose] public section

set_option maxRecDepth 16384
set_option maxHeartbeats 4000000

noncomputable section

namespace Cert.Proof.KernelIdeal

open Cert.KernelIdeal
open Idealize.ShloMosaic Idealize.ShloMosaic.TcCoe

open Idealize.SL Idealize.SL.Sem
open Idealize.ShloMosaic.Pipeline (Dat Cfg Window)

variable (m : (ℓ : Loc nD τ sig) → Buf (Elt Ideal) ℓ)

/-- The point of lane block `h` and key block `j`. -/
def pt (h j : ℕ) (hh : h < 8) (hj : j < 16) : Fin cfg0.N := ⟨16 * h + j, by rw [show cfg0.N = 128 from Gen.N_0]; omega⟩

theorem pt_eq (t : Fin cfg0.N) (h j : ℕ) (hh : h < 8) (hj : j < 16) (e1 : h = t.val / 16) (e2 : j = t.val % 16) : pt h j hh hj = t :=
  Fin.ext (by show 16 * h + j = t.val; omega)

theorem idxs : ∀ t : Fin cfg0.N, win0_7.index t = ![t.val % 16, t.val / 16] ∧ win0_8.index t = ![t.val % 16, t.val / 16] ∧ win0_9.index t = ![t.val % 16, t.val / 16]
    ∧ win0_10.index t = ![0, t.val / 16] ∧ win0_11.index t = ![t.val / 16, 0, 0, 0] := (by decide +kernel : ∀ t : Fin grid0.N, _)

/-- An array whose every 512 by 128 block is one point's. -/
def tile (f : Fin cfg0.N → S512x128.Idx → EReal) : S8192x1024.Idx → EReal := fun y =>
  f (pt ((y 1).val / 128) ((y 0).val / 512) (by have h : (y 1).val < 1024 := (y 1).isLt; omega) (by have h : (y 0).val < 8192 := (y 0).isLt; omega))
    (ix2 (⟨(y 0).val % 512, by omega⟩ : Fin 512) (⟨(y 1).val % 128, by omega⟩ : Fin 128))

theorem tile_at (f : Fin cfg0.N → S512x128.Idx → EReal) (t : Fin cfg0.N) (y : S512x128.Idx) (i : S8192x1024.Idx)
    (h0 : (i 0).val = t.val % 16 * 512 + (y 0).val) (h1 : (i 1).val = t.val / 16 * 128 + (y 1).val) : f t y = tile f i := by
  have y0 : (y 0).val < 512 := (y 0).isLt
  have y1 : (y 1).val < 128 := (y 1).isLt
  unfold tile
  rw [pt_eq t _ _ _ _ (by omega) (by omega)]
  exact congrArg (f t) (ext_mat (by show (y 0).val = (i 0).val % 512; omega) (by show (y 1).val = (i 1).val % 128; omega))

/-- An array whose every 8192 by 128 block is one lane block's. -/
def cols (f : Fin cfg0.N → S8192x128.Idx → EReal) : S8192x1024.Idx → EReal := fun y =>
  f (pt ((y 1).val / 128) 15 (by have h : (y 1).val < 1024 := (y 1).isLt; omega) (by omega)) (ix2 (y 0) (⟨(y 1).val % 128, by omega⟩ : Fin 128))

theorem cols_at (f : Fin cfg0.N → S8192x128.Idx → EReal) (t : Fin cfg0.N) (ht : t.val % 16 = 15) (y : S8192x128.Idx) (i : S8192x1024.Idx)
    (h0 : (i 0).val = 0 * 8192 + (y 0).val) (h1 : (i 1).val = t.val / 16 * 128 + (y 1).val) : f t y = cols f i := by
  have y1 : (y 1).val < 128 := (y 1).isLt
  unfold cols
  rw [pt_eq t _ _ _ _ (by omega) (by omega)]
  exact congrArg (f t) (ext_mat (by show (y 0).val = (i 0).val; omega) (by show (y 1).val = (i 1).val % 128; omega))

/-- An array of rows by head whose every pair of heads is one lane block's. -/
def pairs (f : Fin cfg0.N → S2x16x1x512.Idx → EReal) : S16x16x1x512.Idx → EReal := fun y =>
  f (pt ((y 0).val / 2) 15 (by have h : (y 0).val < 16 := (y 0).isLt; omega) (by omega)) (ix4 (⟨(y 0).val % 2, by omega⟩ : Fin 2) (y 1) (0 : Fin 1) (y 3))

theorem pairs_at (f : Fin cfg0.N → S2x16x1x512.Idx → EReal) (t : Fin cfg0.N) (ht : t.val % 16 = 15) (y : S2x16x1x512.Idx) (i : S16x16x1x512.Idx)
    (h0 : (i 0).val = t.val / 16 * 2 + (y 0).val) (h1 : (i 1).val = 0 * 16 + (y 1).val) (h3 : (i 3).val = 0 * 512 + (y 3).val) : f t y = pairs f i := by
  have y0 : (y 0).val < 2 := (y 0).isLt
  unfold pairs
  rw [pt_eq t _ _ _ _ (by omega) (by omega)]
  exact congrArg (f t) (ext_rows (by show (y 0).val = (i 0).val % 2; omega) (by show (y 1).val = (i 1).val; omega) (by show (y 3).val = (i 3).val; omega))

theorem final7 (c : Dev nD) : (dat m c).arrAt 7 cfg0.N = tile fun t => (E m c t).outk := by
  refine (dat m c).arrAt_eq_of_covers 7 _ (by decide +kernel) fun t _ y => ?_
  blk_simp
  obtain ⟨i7, i8, i9, -, -⟩ := idxs t
  refine tile_at _ t y _ ?_ ?_ <;> blk_simp [i7] <;> rfl

theorem final8 (c : Dev nD) : (dat m c).arrAt 8 cfg0.N = tile fun t => (E m c t).outv := by
  refine (dat m c).arrAt_eq_of_covers 8 _ (by decide +kernel) fun t _ y => ?_
  blk_simp
  obtain ⟨i7, i8, i9, -, -⟩ := idxs t
  refine tile_at _ t y _ ?_ ?_ <;> blk_simp [i8] <;> rfl

theorem final9 (c : Dev nD) : (dat m c).arrAt 9 cfg0.N = tile fun t => (E m c t).outb := by
  refine (dat m c).arrAt_eq_of_covers 9 _ (by decide +kernel) fun t _ y => ?_
  blk_simp
  obtain ⟨i7, i8, i9, -, -⟩ := idxs t
  refine tile_at _ t y _ ?_ ?_ <;> blk_simp [i9] <;> rfl

theorem final10 (c : Dev nD) : (dat m c).arrAt 10 cfg0.N = cols fun t => accq m c t := by
  refine (dat m c).arrAt_eq_of_covers 10 _ (by decide +kernel) fun t hf y => ?_
  blk_simp
  obtain ⟨-, -, -, i10, i11⟩ := idxs t
  refine cols_at _ t ((Gen.flush0_10 t).mp hf) y _ ?_ ?_ <;> blk_simp [i10] <;> rfl

theorem final11 (c : Dev nD) : (dat m c).arrAt 11 cfg0.N = pairs fun t => accr m c t := by
  refine (dat m c).arrAt_eq_of_covers 11 _ (by decide +kernel) fun t hf y => ?_
  blk_simp
  obtain ⟨-, -, -, i10, i11⟩ := idxs t
  refine pairs_at _ t ((Gen.flush0_11 t).mp hf) y _ ?_ ?_ ?_ <;> blk_simp [i11] <;> rfl

end Cert.Proof.KernelIdeal
end
-- ==== Proof.Fox.lean ====
/- The attention's gradients over the real numbers, head by head, and the few facts on the extended reals that put
   both programs' values there. -/
module

public import Idealize.ShloMosaic.PureOps.Ideal
public import Idealize.ShloMosaic.PureOps.Ideal.Laws
public import Idealize.ShloMosaic.Lib.WordCmp

@[expose] public section

noncomputable section

namespace Cert.Proof.Fox

open Idealize.ShloMosaic

theorem coe_sum {ι : Type} [Fintype ι] (f : ι → ℝ) : (∑ i, (f i : EReal)) = ((∑ i, f i : ℝ) : EReal) := by
  classical
  refine Finset.induction_on (Finset.univ : Finset ι) (by simp) ?_
  intro a s ha h
  rw [Finset.sum_insert ha, Finset.sum_insert ha, h, EReal.coe_add]

theorem div_coe (x y : ℝ) (h : y ≠ 0) : Ideal.div (x : EReal) (y : EReal) = ((x / y : ℝ) : EReal) := by
  have h' : (y : EReal) ≠ 0 := by exact_mod_cast h
  unfold Ideal.div
  rw [if_neg h', ← EReal.coe_inv, ← EReal.coe_mul, div_eq_mul_inv]

theorem exp_coe (x : ℝ) : Ideal.exp (x : EReal) = ((Real.exp x : ℝ) : EReal) := rfl
theorem exp_bot : Ideal.exp ⊥ = 0 := rfl
theorem exp_sub_coe (x y : ℝ) : Ideal.exp ((x : EReal) - (y : EReal)) = ((Real.exp (x - y) : ℝ) : EReal) := by
  rw [← EReal.coe_sub, exp_coe]
theorem exp_bot_sub (y : ℝ) : Ideal.exp (⊥ - (y : EReal)) = ((0 : ℝ) : EReal) := by
  rw [EReal.bot_sub, exp_bot, EReal.coe_zero]
theorem div_add_mul (a z t e : ℝ) (h : z ≠ 0) :
    (Ideal.div (a : EReal) (z : EReal) + (t : EReal)) * (e : EReal) = (((a / z + t) * e : ℝ) : EReal) := by
  rw [div_coe a z h, ← EReal.coe_add, ← EReal.coe_mul]
theorem exp2_coe (x : ℝ) : Ideal.exp2 (x : EReal) = ((Real.exp (x * Real.log 2) : ℝ) : EReal) :=
  congrArg (fun r : ℝ => (r : EReal)) ((Real.rpow_def_of_pos (by norm_num) x).trans (by rw [mul_comm]))
theorem exp2_bot : Ideal.exp2 ⊥ = 0 := rfl
theorem log_coe (x : ℝ) (h : 0 < x) : Ideal.log (x : EReal) = ((Real.log x : ℝ) : EReal) := by
  show (if x ≤ 0 then (⊥ : EReal) else _) = _
  rw [if_neg (not_le.mpr h)]

theorem bits_eighth : Ideal.ofBits .f32 0x3E000000#32 = ((1 / 8 : ℝ) : EReal) := by
  simp [Ideal.ofBits, Ideal.ieee]; norm_num; rw [← EReal.coe_mul]; congr 1; norm_num
theorem bits_one : Ideal.ofBits .f32 0x3F800000#32 = ((1 : ℝ) : EReal) := by
  simp [Ideal.ofBits, Ideal.ieee]; rw [← EReal.coe_mul, ← EReal.coe_one]; congr 1; norm_num
theorem bits_two : Ideal.ofBits .f32 0x40000000#32 = ((2 : ℝ) : EReal) := by
  simp [Ideal.ofBits, Ideal.ieee]; rw [← EReal.coe_mul]; congr 1; norm_num
theorem bits_bot : Ideal.ofBits .f32 0xFF800000#32 = (⊥ : EReal) := by
  simp [Ideal.ofBits, Ideal.ieee]

/-- The largest of finitely many values, none of them infinite upwards and one of them a real number, is a real number. -/
theorem fold_max_real {ι : Type} (s : Finset ι) (f : ι → EReal) (hf : ∀ i ∈ s, f i ≠ ⊤) (i₀ : ι) (h₀ : i₀ ∈ s) (hb : f i₀ ≠ ⊥) :
    ∃ r : ℝ, s.fold max ⊥ f = (r : EReal) := by
  classical
  have ht : s.fold max ⊥ f ≠ ⊤ := by
    refine Finset.induction_on (motive := fun s => (∀ i ∈ s, f i ≠ ⊤) → s.fold max ⊥ f ≠ ⊤) s (fun _ => by simp) ?_ hf
    intro a s ha ih h
    rw [Finset.fold_insert ha]
    rcases max_choice (f a) (s.fold max ⊥ f) with e | e <;> rw [e]
    · exact h a (Finset.mem_insert_self a s)
    · exact ih fun i hi => h i (Finset.mem_insert_of_mem hi)
  have hb' : s.fold max ⊥ f ≠ ⊥ := by
    have := (Finset.le_fold_max (f i₀) (s := s) (f := f) (b := ⊥)).mpr (Or.inr ⟨i₀, h₀, le_refl _⟩)
    intro e
    exact hb (le_bot_iff.mp (e ▸ this))
  exact ⟨(s.fold max ⊥ f).toReal, (EReal.coe_toReal ht hb').symm⟩

theorem sel_one (s t : EReal) : Scalar.select (1#1) s t = s := rfl

open Idealize.ShloMosaic.WordCmp in
theorem select_sge (a b : ℕ) (ha : a < 8192) (hb : b < 8192) (s t : EReal) :
    Scalar.select (IntOp.cmpi .sge (BitVec.ofNat 32 a) (BitVec.ofNat 32 b)) s t = if b ≤ a then s else t := by
  by_cases h : b ≤ a
  · rw [if_pos h, (cmpi_sge_ofNat_eq_one_iff (by omega) (by omega)).mpr h]; rfl
  · rw [if_neg h, (cmpi_sge_ofNat_eq_zero_iff (by omega) (by omega)).mpr (by omega)]; rfl

/-- Lane `l` of head `n`. -/
def col (n : Fin 16) (l : Fin 64) : Fin 1024 := ⟨64 * n.val + l.val, by omega⟩

/-- The arguments, as real numbers, and the row maxima of the masked scores. -/
structure Ins where
  (q k v g : Fin 8192 → Fin 1024 → ℝ)
  cum : Fin 8192 → Fin 16 → ℝ
  mx : Fin 16 → Fin 8192 → ℝ

namespace Ins
variable (I : Ins)

def s (n : Fin 16) (i j : Fin 8192) : ℝ :=
  (∑ l : Fin 64, I.q i (col n l) * I.k j (col n l)) * (1 / 8) + (I.cum i n - I.cum j n)
/-- The unnormalised weights. -/
def e (n : Fin 16) (i j : Fin 8192) : ℝ := if j.val ≤ i.val then Real.exp (I.s n i j - I.mx n i) else 0
def z (n : Fin 16) (i : Fin 8192) : ℝ := ∑ j, I.e n i j
def p (n : Fin 16) (i j : Fin 8192) : ℝ := I.e n i j / I.z n i
def dp (n : Fin 16) (i j : Fin 8192) : ℝ := ∑ l : Fin 64, I.g i (col n l) * I.v j (col n l)
def dl (n : Fin 16) (i : Fin 8192) : ℝ := ∑ j, I.dp n i j * I.p n i j
def ds (n : Fin 16) (i j : Fin 8192) : ℝ := I.p n i j * (I.dp n i j - I.dl n i)
def dq (n : Fin 16) (i : Fin 8192) (l : Fin 64) : ℝ := (∑ j, I.ds n i j * I.k j (col n l)) * (1 / 8)
def dk (n : Fin 16) (j : Fin 8192) (l : Fin 64) : ℝ := (∑ i, I.ds n i j * I.q i (col n l)) * (1 / 8)
def dv (n : Fin 16) (j : Fin 8192) (l : Fin 64) : ℝ := ∑ i, I.p n i j * I.g i (col n l)
def dc (n : Fin 16) (i : Fin 8192) : ℝ := (∑ j, I.ds n i j) - ∑ i', I.ds n i' i

theorem e_nonneg (n i j) : 0 ≤ I.e n i j := by unfold e; split <;> positivity
theorem z_pos (n i) : 0 < I.z n i := by
  refine lt_of_lt_of_le (?_ : 0 < I.e n i i) (Finset.single_le_sum (f := fun j => I.e n i j) (fun j _ => I.e_nonneg n i j) (Finset.mem_univ i))
  rw [e, if_pos (le_refl _)]; positivity
theorem z_ne (n i) : I.z n i ≠ 0 := (I.z_pos n i).ne'
theorem p_mask (n) (i j : Fin 8192) (h : ¬ j.val ≤ i.val) : I.p n i j = 0 := by rw [p, e, if_neg h, zero_div]
theorem ds_mask (n) (i j : Fin 8192) (h : ¬ j.val ≤ i.val) : I.ds n i j = 0 := by rw [ds, p_mask I n i j h, zero_mul]

/-- The reference's way of writing the softmax's gradient. -/
theorem ds_ref (n i j) :
    (I.dp n i j / I.z n i + -∑ j', I.dp n i j' * (1 / (I.z n i * I.z n i)) * I.e n i j') * I.e n i j = I.ds n i j := by
  have h : ∑ j', I.dp n i j' * (1 / (I.z n i * I.z n i)) * I.e n i j' = I.dl n i / I.z n i := by
    rw [dl, Finset.sum_div]
    refine Finset.sum_congr rfl fun j' _ => ?_
    have := I.z_ne n i
    rw [p]; field_simp
  rw [h, ds, p]
  have := I.z_ne n i
  field_simp
  ring

/-- The weights by the kernel's formula. -/
theorem p_exp (n) (i j : Fin 8192) (h : j.val ≤ i.val) :
    I.p n i j = Real.exp (I.s n i j - (I.mx n i + Real.log (I.z n i))) := by
  rw [p, e, if_pos h, ← sub_sub, Real.exp_sub _ (Real.log _), Real.exp_log (I.z_pos n i)]

/-- The row sum of the output's gradient times the output. -/
theorem dl_out (n) (i : Fin 8192) :
    ∑ l : Fin 64, I.g i (col n l) * ∑ j, I.v j (col n l) * I.p n i j = I.dl n i := by
  simp only [dl, dp, Finset.mul_sum, Finset.sum_mul]
  rw [Finset.sum_comm]
  exact Finset.sum_congr rfl fun j _ => Finset.sum_congr rfl fun l _ => by ring

end Ins

end Cert.Proof.Fox

end
-- ==== Proof.Ref.lean ====
/- The reference's arrays, at finite arguments, over the real numbers. -/
module

public import proofs.«01_k».proof.Proof.Fox
public import proofs.«01_k».proof.Proof.Gen.ReferenceIdeal.Read

@[expose] public section

set_option maxRecDepth 16384
set_option maxHeartbeats 2000000

noncomputable section

namespace Cert.Proof.Fox

open Cert.ReferenceIdeal Cert.ReferenceIdeal.Gen Cert.ReferenceIdeal.Read Idealize.ShloMosaic Idealize.ShloMosaic.TcCoe Idealize.SL.Sem

abbrev Arr := (⟨S8192x1024, .f32⟩ : BufTy).Contents (Elt Ideal)
abbrev Arc := (⟨S8192x16, .f32⟩ : BufTy).Contents (Elt Ideal)

/-- The arguments are these real numbers. -/
structure Has (I : Ins) (x0 x1 x2 : Arr) (x3 : Arc) (x4 : Arr) : Prop where
  q : ∀ i, x0 i = ((I.q (i 0) (i 1) : ℝ) : EReal)
  k : ∀ i, x1 i = ((I.k (i 0) (i 1) : ℝ) : EReal)
  v : ∀ i, x2 i = ((I.v (i 0) (i 1) : ℝ) : EReal)
  c : ∀ i, x3 i = ((I.cum (i 0) (i 1) : ℝ) : EReal)
  g : ∀ i, x4 i = ((I.g (i 0) (i 1) : ℝ) : EReal)

/-- The row maxima are these real numbers. -/
def HasMax (I : Ins) (x0 x1 : Arr) (x3 : Arc) : Prop :=
  ∀ i, val_main_v20 (F := Ideal) x0 x1 x3 i = ((I.mx (i 0) (i 1) : ℝ) : EReal)

variable {I : Ins} {x0 x1 x2 : Arr} {x3 : Arc} {x4 : Arr} (H : Has I x0 x1 x2 x3 x4) (M : HasMax I x0 x1 x3)

include H in
theorem a_v0 (i : S8192x16x64.Idx) : val_main_v0 (F := Ideal) x0 i = ((I.q (i 0) (col (i 1) (i 2)) : ℝ) : EReal) := by
  rw [val_main_v0_apply, H.q]
  have h0 : (i 0).val < 8192 := (i 0).isLt; have h1 : (i 1).val < 16 := (i 1).isLt; have h2 : (i 2).val < 64 := (i 2).isLt
  exact congrArg (fun r : ℝ => (r : EReal)) (congrArg₂ I.q (Fin.ext (by show (((i 0).val * 16 + (i 1).val) * 64 + (i 2).val) / 1024 = (i 0).val; omega)) (Fin.ext (by show (((i 0).val * 16 + (i 1).val) * 64 + (i 2).val) % 1024 = 64 * (i 1).val + (i 2).val; omega)))

include H in
theorem a_v1 (i : S8192x16x64.Idx) : val_main_v1 (F := Ideal) x1 i = ((I.k (i 0) (col (i 1) (i 2)) : ℝ) : EReal) := by
  rw [val_main_v1_apply, H.k]
  have h0 : (i 0).val < 8192 := (i 0).isLt; have h1 : (i 1).val < 16 := (i 1).isLt; have h2 : (i 2).val < 64 := (i 2).isLt
  exact congrArg (fun r : ℝ => (r : EReal)) (congrArg₂ I.k (Fin.ext (by show (((i 0).val * 16 + (i 1).val) * 64 + (i 2).val) / 1024 = (i 0).val; omega)) (Fin.ext (by show (((i 0).val * 16 + (i 1).val) * 64 + (i 2).val) % 1024 = 64 * (i 1).val + (i 2).val; omega)))

include H in
theorem a_v48 (i : S8192x16x64.Idx) : val_main_v48 (F := Ideal) x2 i = ((I.v (i 0) (col (i 1) (i 2)) : ℝ) : EReal) := by
  rw [val_main_v48_apply, H.v]
  have h0 : (i 0).val < 8192 := (i 0).isLt; have h1 : (i 1).val < 16 := (i 1).isLt; have h2 : (i 2).val < 64 := (i 2).isLt
  exact congrArg (fun r : ℝ => (r : EReal)) (congrArg₂ I.v (Fin.ext (by show (((i 0).val * 16 + (i 1).val) * 64 + (i 2).val) / 1024 = (i 0).val; omega)) (Fin.ext (by show (((i 0).val * 16 + (i 1).val) * 64 + (i 2).val) % 1024 = 64 * (i 1).val + (i 2).val; omega)))

include H in
theorem a_v52 (i : S8192x16x64.Idx) : val_main_v52 (F := Ideal) x4 i = ((I.g (i 0) (col (i 1) (i 2)) : ℝ) : EReal) := by
  rw [val_main_v52_apply, H.g]
  have h0 : (i 0).val < 8192 := (i 0).isLt; have h1 : (i 1).val < 16 := (i 1).isLt; have h2 : (i 2).val < 64 := (i 2).isLt
  exact congrArg (fun r : ℝ => (r : EReal)) (congrArg₂ I.g (Fin.ext (by show (((i 0).val * 16 + (i 1).val) * 64 + (i 2).val) / 1024 = (i 0).val; omega)) (Fin.ext (by show (((i 0).val * 16 + (i 1).val) * 64 + (i 2).val) % 1024 = 64 * (i 1).val + (i 2).val; omega)))

include H in
theorem a_v2 (i : S16x8192.Idx) : val_main_v2 (F := Ideal) x3 i = ((I.cum (i 1) (i 0) : ℝ) : EReal) := by
  rw [val_main_v2_apply, H.c]; rfl

include H in
theorem a_v3 (i : S16x8192x8192.Idx) : val_main_v3 (F := Ideal) x0 x1 i = ((∑ l : Fin 64, I.q (i 1) (col (i 0) l) * I.k (i 2) (col (i 0) l) : ℝ) : EReal) := by
  rw [val_main_v3_apply]
  simp only [a_v0 H, a_v1 H, ← EReal.coe_mul]
  exact coe_sum _

include H in
theorem a_v11 (i : S16x8192x8192.Idx) : val_main_v11 (F := Ideal) x0 x1 x3 i = ((I.s (i 0) (i 1) (i 2) : ℝ) : EReal) := by
  rw [val_main_v11_apply, val_main_v5_apply, a_v3 H, val_main_v4_apply, val_main_cst_apply, val_main_v10_apply, val_main_v8_apply, val_main_v9_apply, val_main_v6_apply, val_main_v7_apply, a_v2 H, a_v2 H]
  show _ * Ideal.ofBits .f32 0x3E000000#32 + (_ - _) = _
  rw [bits_eighth, ← EReal.coe_mul, ← EReal.coe_sub, ← EReal.coe_add]
  rfl

include H in
theorem a_v19_0 (i : S16x8192x8192.Idx) : val_main_v19_0 (F := Ideal) x0 x1 x3 i = if (i 2).val ≤ (i 1).val then ((I.s (i 0) (i 1) (i 2) : ℝ) : EReal) else (⊥ : EReal) := by
  have h0 : (i 0).val < 16 := (i 0).isLt; have h1 : (i 1).val < 8192 := (i 1).isLt; have h2 : (i 2).val < 8192 := (i 2).isLt
  rw [val_main_v19_0_apply, a_v11 H, val_main_v19_1_apply, val_main_v18_apply, val_main_v16_apply, val_main_v17_apply, val_main_v13_apply, val_main_v15_apply, val_main_v12_apply, val_main_v14_apply, val_main_call0_v2_apply, val_main_call0_v0_apply, val_main_cst_0_apply]
  exact (select_sge _ _ h1 h2 _ _).trans (by rw [show (FloatOps.ofBits (F := Ideal) .f32 0xFF800000#32 : EReal) = ⊥ from bits_bot])

include H in
theorem max_real (i : S16x8192.Idx) : ∃ r : ℝ, val_main_v20 (F := Ideal) x0 x1 x3 i = (r : EReal) := by
  unfold val_main_v20
  rw [Host.reduce_eq_fold]
  have hb : (val_main_cst_1 (F := Ideal)) (Shape.Idx.first h_S_) = (⊥ : EReal) := bits_bot
  rw [hb]
  let w : S16x8192x8192.Idx := fun a => match a with
    | ⟨0, _⟩ => ⟨(i 0).val, (i 0).isLt⟩
    | ⟨1, _⟩ => ⟨(i 1).val, (i 1).isLt⟩
    | ⟨2, _⟩ => ⟨(i 1).val, (i 1).isLt⟩
  refine fold_max_real _ _ (fun j _ => ?_) w ?_ ?_
  · rw [a_v19_0 H]; split
    · exact EReal.coe_ne_top _
    · exact bot_ne_top
  · refine Finset.mem_filter.mpr ⟨Finset.mem_univ _, ?_⟩
    funext b
    match b with
    | ⟨0, _⟩ => exact Fin.ext rfl
    | ⟨1, _⟩ => exact Fin.ext rfl
  · rw [a_v19_0 H, if_pos (le_refl _)]; exact EReal.coe_ne_bot _

include M in
theorem a_v27 (i : S16x8192.Idx) : val_main_v27 (F := Ideal) x0 x1 x3 i = ((I.mx (i 0) (i 1) : ℝ) : EReal) := by
  rw [val_main_v27_apply, val_main_v26_apply, val_main_cst_3_apply, M]
  show max (Ideal.ofBits .f32 0xFF800000#32) _ = _
  rw [bits_bot]; exact max_eq_right bot_le

include H M in
theorem a_v40 (i : S16x8192x8192.Idx) : val_main_v40 (F := Ideal) x0 x1 x3 i = ((I.e (i 0) (i 1) (i 2) : ℝ) : EReal) := by
  rw [val_main_v40_apply, val_main_v39_apply, a_v19_0 H, val_main_v38_apply, val_main_v37_apply, a_v27 M]
  unfold Ins.e
  by_cases h : (i 2).val ≤ (i 1).val
  · rw [if_pos h, if_pos h]
    exact exp_sub_coe _ _
  · rw [if_neg h, if_neg h]
    exact exp_bot_sub (I.mx (i 0) (i 1))

include H M in
theorem a_v41 (i : S16x8192.Idx) : val_main_v41 (F := Ideal) x0 x1 x3 i = ((I.z (i 0) (i 1) : ℝ) : EReal) := by
  rw [val_main_v41_apply]
  simp only [a_v40 H M]
  rw [coe_sum]
  show Ideal.ofBits .f32 0x00000000#32 + _ = _
  rw [Ideal.ofBits_zero_f32, zero_add]; rfl

include H M in
theorem a_v42 (i : S16x8192x1.Idx) : val_main_v42 (F := Ideal) x0 x1 x3 i = ((I.z (i 0) (i 1) : ℝ) : EReal) := by
  rw [val_main_v42_apply, a_v41 H M]; rfl

include H M in
theorem a_v44 (i : S16x8192x8192.Idx) : val_main_v44 (F := Ideal) x0 x1 x3 i = ((I.p (i 0) (i 1) (i 2) : ℝ) : EReal) := by
  rw [val_main_v44_apply, val_main_v43_apply, a_v42 H M, a_v40 H M]
  exact div_coe _ _ (I.z_ne _ _)

include H M in
theorem a_v47 (i : S16x8192x1.Idx) : val_main_v47 (F := Ideal) x0 x1 x3 i = ((1 / (I.z (i 0) (i 1) * I.z (i 0) (i 1)) : ℝ) : EReal) := by
  rw [val_main_v47_apply, val_main_v46_apply, val_main_cst_10_apply, val_main_v45_apply, a_v42 H M]
  show Ideal.div (Ideal.ofBits .f32 0x3F800000#32) (_ * _) = _
  rw [bits_one, ← EReal.coe_mul]
  exact div_coe _ _ (mul_ne_zero (I.z_ne _ _) (I.z_ne _ _))

include H M in
theorem a_v49 (i : S16x64x8192.Idx) : val_main_v49 (F := Ideal) x0 x1 x2 x3 i = ((∑ j, I.v j (col (i 0) (i 1)) * I.p (i 0) (i 2) j : ℝ) : EReal) := by
  rw [val_main_v49_apply]
  simp only [a_v48 H, a_v44 H M, ← EReal.coe_mul]
  exact coe_sum _

include H M in
theorem a_v50 (i : S8192x16x64.Idx) : val_main_v50 (F := Ideal) x0 x1 x2 x3 i = ((∑ j, I.v j (col (i 1) (i 2)) * I.p (i 1) (i 0) j : ℝ) : EReal) := by
  rw [val_main_v50_apply, a_v49 H M]; rfl

include H in
theorem a_v53 (i : S16x64x8192.Idx) : val_main_v53 (F := Ideal) x4 i = ((I.g (i 2) (col (i 0) (i 1)) : ℝ) : EReal) := by
  rw [val_main_v53_apply, a_v52 H]; rfl

include H in
theorem a_v54 (i : S16x8192x8192.Idx) : val_main_v54 (F := Ideal) x2 x4 i = ((I.dp (i 0) (i 1) (i 2) : ℝ) : EReal) := by
  rw [val_main_v54_apply]
  simp only [a_v53 H, a_v48 H, ← EReal.coe_mul]
  exact coe_sum _

include H M in
theorem a_v55 (i : S16x64x8192.Idx) : val_main_v55 (F := Ideal) x0 x1 x3 x4 i = ((I.dv (i 0) (i 2) (i 1) : ℝ) : EReal) := by
  rw [val_main_v55_apply]
  simp only [a_v53 H, a_v44 H M, ← EReal.coe_mul]
  refine (coe_sum _).trans (congrArg (fun r : ℝ => (r : EReal)) ?_)
  exact Finset.sum_congr rfl fun j _ => mul_comm _ _

include H M in
theorem a_v56 (i : S8192x16x64.Idx) : val_main_v56 (F := Ideal) x0 x1 x3 x4 i = ((I.dv (i 1) (i 0) (i 2) : ℝ) : EReal) := by
  rw [val_main_v56_apply, a_v55 H M]; rfl

include H M in
theorem a_v60 (i : S16x8192x8192.Idx) : val_main_v60 (F := Ideal) x0 x1 x2 x3 x4 i = ((I.dp (i 0) (i 1) (i 2) * (1 / (I.z (i 0) (i 1) * I.z (i 0) (i 1))) * I.e (i 0) (i 1) (i 2) : ℝ) : EReal) := by
  rw [val_main_v60_apply, val_main_v59_apply, a_v54 H, val_main_v58_apply, a_v47 H M, a_v40 H M]
  show _ * _ * _ = _
  rw [← EReal.coe_mul, ← EReal.coe_mul]; rfl

include H M in
theorem a_v61 (i : S16x8192.Idx) : val_main_v61 (F := Ideal) x0 x1 x2 x3 x4 i = ((∑ j, I.dp (i 0) (i 1) j * (1 / (I.z (i 0) (i 1) * I.z (i 0) (i 1))) * I.e (i 0) (i 1) j : ℝ) : EReal) := by
  rw [val_main_v61_apply]
  simp only [a_v60 H M]
  rw [coe_sum]
  show Ideal.ofBits .f32 0x00000000#32 + _ = _
  rw [Ideal.ofBits_zero_f32, zero_add]; rfl

include H M in
theorem a_v63 (i : S16x8192x1.Idx) : val_main_v63 (F := Ideal) x0 x1 x2 x3 x4 i = ((-∑ j, I.dp (i 0) (i 1) j * (1 / (I.z (i 0) (i 1) * I.z (i 0) (i 1))) * I.e (i 0) (i 1) j : ℝ) : EReal) := by
  have h0 : (i 0).val < 16 := (i 0).isLt; have h1 : (i 1).val < 8192 := (i 1).isLt; have h2 : (i 2).val < 1 := (i 2).isLt
  rw [val_main_v63_apply, val_main_v62_apply, a_v61 H M]
  have e0 : idx_main_v62 i 0 = (i 0) := Fin.ext (by show ((((i 0).val * 8192 + (i 1).val) * 1 + (i 2).val) / 8192) = (i 0).val; omega)
  have e1 : idx_main_v62 i 1 = (i 1) := Fin.ext (by show ((((i 0).val * 8192 + (i 1).val) * 1 + (i 2).val) % 8192) = (i 1).val; omega)
  rw [e0, e1]
  exact (EReal.coe_neg _).symm

include H M in
theorem a_v66 (i : S16x8192.Idx) : val_main_v66 (F := Ideal) x0 x1 x2 x3 x4 i = ((-∑ j, I.dp (i 0) (i 1) j * (1 / (I.z (i 0) (i 1) * I.z (i 0) (i 1))) * I.e (i 0) (i 1) j : ℝ) : EReal) := by
  rw [val_main_v66_apply]
  simp only [a_v63 H M]
  rw [coe_sum, Fin.sum_univ_one]
  show Ideal.ofBits .f32 0x00000000#32 + _ = _
  rw [Ideal.ofBits_zero_f32, zero_add]; rfl

include H M in
theorem a_v69 (i : S16x8192x8192.Idx) : val_main_v69 (F := Ideal) x0 x1 x2 x3 x4 i = ((I.ds (i 0) (i 1) (i 2) : ℝ) : EReal) := by
  rw [val_main_v69_apply, val_main_v68_apply, val_main_v65_apply, a_v54 H, val_main_v64_apply, a_v42 H M, val_main_v67_apply, a_v66 H M, a_v40 H M]
  refine Eq.trans ?_ (congrArg (fun r : ℝ => (r : EReal)) (I.ds_ref (i 0) (i 1) (i 2)))
  exact div_add_mul _ _ _ _ (I.z_ne (i 0) (i 1))

include H M in
theorem a_v70 (i : S16x8192x8192.Idx) : val_main_v70 (F := Ideal) x0 x1 x2 x3 x4 i = ((I.ds (i 0) (i 1) (i 2) : ℝ) : EReal) := by
  have h0 : (i 0).val < 16 := (i 0).isLt; have h1 : (i 1).val < 8192 := (i 1).isLt; have h2 : (i 2).val < 8192 := (i 2).isLt
  rw [val_main_v70_apply, a_v69 H M, val_main_v19_1_apply, val_main_v18_apply, val_main_v16_apply, val_main_v17_apply, val_main_v13_apply, val_main_v15_apply, val_main_v12_apply, val_main_v14_apply, val_main_call1_v0_apply, val_main_call1_cst_apply]
  refine (select_sge _ _ h1 h2 _ _).trans ?_
  by_cases h : (i 2).val ≤ (i 1).val
  · rw [if_pos h]
  · rw [if_neg h]; exact Ideal.ofBits_zero_f32.trans (congrArg (fun r : ℝ => (r : EReal)) (I.ds_mask (i 0) (i 1) (i 2) h).symm)

include H M in
theorem a_v71 (i : S16x8192.Idx) : val_main_v71 (F := Ideal) x0 x1 x2 x3 x4 i = ((∑ j, I.ds (i 0) (i 1) j : ℝ) : EReal) := by
  rw [val_main_v71_apply]
  simp only [a_v70 H M]
  rw [coe_sum]
  show Ideal.ofBits .f32 0x00000000#32 + _ = _
  rw [Ideal.ofBits_zero_f32, zero_add]; rfl

include H M in
theorem a_v72 (i : S16x8192x1.Idx) : val_main_v72 (F := Ideal) x0 x1 x2 x3 x4 i = ((∑ j, I.ds (i 0) (i 1) j : ℝ) : EReal) := by
  have h0 : (i 0).val < 16 := (i 0).isLt; have h1 : (i 1).val < 8192 := (i 1).isLt; have h2 : (i 2).val < 1 := (i 2).isLt
  rw [val_main_v72_apply, a_v71 H M]
  have e0 : idx_main_v72 i 0 = (i 0) := Fin.ext (by show ((((i 0).val * 8192 + (i 1).val) * 1 + (i 2).val) / 8192) = (i 0).val; omega)
  have e1 : idx_main_v72 i 1 = (i 1) := Fin.ext (by show ((((i 0).val * 8192 + (i 1).val) * 1 + (i 2).val) % 8192) = (i 1).val; omega)
  rw [e0, e1]

include H M in
theorem a_v73 (i : S16x8192x8192.Idx) : val_main_v73 (F := Ideal) x0 x1 x2 x3 x4 i = ((-I.ds (i 0) (i 1) (i 2) : ℝ) : EReal) := by
  rw [val_main_v73_apply, a_v70 H M]
  show -_ = _
  rw [← EReal.coe_neg]

include H M in
theorem a_v74 (i : S16x8192.Idx) : val_main_v74 (F := Ideal) x0 x1 x2 x3 x4 i = ((∑ i', -I.ds (i 0) i' (i 1) : ℝ) : EReal) := by
  rw [val_main_v74_apply]
  simp only [a_v73 H M]
  rw [coe_sum]
  show Ideal.ofBits .f32 0x00000000#32 + _ = _
  rw [Ideal.ofBits_zero_f32, zero_add]; rfl

include H M in
theorem a_v75 (i : S16x1x8192.Idx) : val_main_v75 (F := Ideal) x0 x1 x2 x3 x4 i = ((∑ i', -I.ds (i 0) i' (i 2) : ℝ) : EReal) := by
  have h0 : (i 0).val < 16 := (i 0).isLt; have h1 : (i 1).val < 1 := (i 1).isLt; have h2 : (i 2).val < 8192 := (i 2).isLt
  rw [val_main_v75_apply, a_v74 H M]
  have e0 : idx_main_v75 i 0 = (i 0) := Fin.ext (by show ((((i 0).val * 1 + (i 1).val) * 8192 + (i 2).val) / 8192) = (i 0).val; omega)
  have e1 : idx_main_v75 i 1 = (i 2) := Fin.ext (by show ((((i 0).val * 1 + (i 1).val) * 8192 + (i 2).val) % 8192) = (i 2).val; omega)
  rw [e0, e1]

include H M in
theorem a_v76 (i : S16x8192.Idx) : val_main_v76 (F := Ideal) x0 x1 x2 x3 x4 i = ((∑ i', -I.ds (i 0) i' (i 1) : ℝ) : EReal) := by
  rw [val_main_v76_apply]
  simp only [a_v75 H M]
  rw [coe_sum, Fin.sum_univ_one]
  show Ideal.ofBits .f32 0x00000000#32 + _ = _
  rw [Ideal.ofBits_zero_f32, zero_add]; rfl

include H M in
theorem a_v77 (i : S16x8192.Idx) : val_main_v77 (F := Ideal) x0 x1 x2 x3 x4 i = ((∑ j, I.ds (i 0) (i 1) j : ℝ) : EReal) := by
  rw [val_main_v77_apply]
  simp only [a_v72 H M]
  rw [coe_sum, Fin.sum_univ_one]
  show Ideal.ofBits .f32 0x00000000#32 + _ = _
  rw [Ideal.ofBits_zero_f32, zero_add]; rfl

include H M in
theorem a_v85 (i : S8192x16.Idx) : val_main_v85 (F := Ideal) x0 x1 x2 x3 x4 i = ((I.dc (i 1) (i 0) : ℝ) : EReal) := by
  rw [val_main_v85_apply, val_main_v78_apply, a_v76 H M, a_v77 H M]
  show _ + _ = _
  rw [← EReal.coe_add]
  refine congrArg (fun r : ℝ => (r : EReal)) ?_
  rw [Finset.sum_neg_distrib]
  exact neg_add_eq_sub _ _

include H M in
theorem a_v80 (i : S16x8192x8192.Idx) : val_main_v80 (F := Ideal) x0 x1 x2 x3 x4 i = ((I.ds (i 0) (i 1) (i 2) * (1 / 8) : ℝ) : EReal) := by
  rw [val_main_v80_apply, a_v70 H M, val_main_v79_apply, val_main_cst_17_apply]
  show _ * Ideal.ofBits .f32 0x3E000000#32 = _
  rw [bits_eighth, ← EReal.coe_mul]

include H M in
theorem a_v81 (i : S16x8192x64.Idx) : val_main_v81 (F := Ideal) x0 x1 x2 x3 x4 i = ((I.dk (i 0) (i 1) (i 2) : ℝ) : EReal) := by
  rw [val_main_v81_apply]
  simp only [a_v80 H M, a_v0 H, ← EReal.coe_mul]
  refine (coe_sum _).trans (congrArg (fun r : ℝ => (r : EReal)) ?_)
  refine Eq.trans ?_ (Finset.sum_mul _ _ _).symm
  exact Finset.sum_congr rfl fun j _ => mul_right_comm _ _ _

include H M in
theorem a_v83 (i : S16x8192x64.Idx) : val_main_v83 (F := Ideal) x0 x1 x2 x3 x4 i = ((I.dq (i 0) (i 1) (i 2) : ℝ) : EReal) := by
  rw [val_main_v83_apply]
  simp only [a_v80 H M, a_v1 H, ← EReal.coe_mul]
  refine (coe_sum _).trans (congrArg (fun r : ℝ => (r : EReal)) ?_)
  refine Eq.trans ?_ (Finset.sum_mul _ _ _).symm
  exact Finset.sum_congr rfl fun j _ => mul_right_comm _ _ _

include H M in
theorem a_v82 (i : S8192x16x64.Idx) : val_main_v82 (F := Ideal) x0 x1 x2 x3 x4 i = ((I.dk (i 1) (i 0) (i 2) : ℝ) : EReal) := by
  rw [val_main_v82_apply, a_v81 H M]; rfl

include H M in
theorem a_v84 (i : S8192x16x64.Idx) : val_main_v84 (F := Ideal) x0 x1 x2 x3 x4 i = ((I.dq (i 1) (i 0) (i 2) : ℝ) : EReal) := by
  rw [val_main_v84_apply, a_v83 H M]; rfl

/-- The head and the lane in it of a column. -/
def hd (y : Fin 1024) : Fin 16 := ⟨y.val / 64, by omega⟩
def ln (y : Fin 1024) : Fin 64 := ⟨y.val % 64, by omega⟩

include H M in
theorem a_v57 (i : S8192x1024.Idx) : val_main_v57 (F := Ideal) x0 x1 x3 x4 i = ((I.dv (hd (i 1)) (i 0) (ln (i 1)) : ℝ) : EReal) := by
  have h0 : (i 0).val < 8192 := (i 0).isLt; have h1 : (i 1).val < 1024 := (i 1).isLt
  rw [val_main_v57_apply, a_v56 H M]
  have e0 : idx_main_v57 i 0 = (i 0) := Fin.ext (by show ((i 0).val * 1024 + (i 1).val) / 1024 = (i 0).val; omega)
  have e1 : idx_main_v57 i 1 = hd (i 1) := Fin.ext (by show ((i 0).val * 1024 + (i 1).val) / 64 % 16 = (i 1).val / 64; omega)
  have e2 : idx_main_v57 i 2 = ln (i 1) := Fin.ext (by show ((i 0).val * 1024 + (i 1).val) % 64 = (i 1).val % 64; omega)
  rw [e0, e1, e2]

include H M in
theorem a_v86 (i : S8192x1024.Idx) : val_main_v86 (F := Ideal) x0 x1 x2 x3 x4 i = ((I.dk (hd (i 1)) (i 0) (ln (i 1)) : ℝ) : EReal) := by
  have h0 : (i 0).val < 8192 := (i 0).isLt; have h1 : (i 1).val < 1024 := (i 1).isLt
  rw [val_main_v86_apply, a_v82 H M]
  have e0 : idx_main_v86 i 0 = (i 0) := Fin.ext (by show ((i 0).val * 1024 + (i 1).val) / 1024 = (i 0).val; omega)
  have e1 : idx_main_v86 i 1 = hd (i 1) := Fin.ext (by show ((i 0).val * 1024 + (i 1).val) / 64 % 16 = (i 1).val / 64; omega)
  have e2 : idx_main_v86 i 2 = ln (i 1) := Fin.ext (by show ((i 0).val * 1024 + (i 1).val) % 64 = (i 1).val % 64; omega)
  rw [e0, e1, e2]

include H M in
theorem a_v87 (i : S8192x1024.Idx) : val_main_v87 (F := Ideal) x0 x1 x2 x3 x4 i = ((I.dq (hd (i 1)) (i 0) (ln (i 1)) : ℝ) : EReal) := by
  have h0 : (i 0).val < 8192 := (i 0).isLt; have h1 : (i 1).val < 1024 := (i 1).isLt
  rw [val_main_v87_apply, a_v84 H M]
  have e0 : idx_main_v87 i 0 = (i 0) := Fin.ext (by show ((i 0).val * 1024 + (i 1).val) / 1024 = (i 0).val; omega)
  have e1 : idx_main_v87 i 1 = hd (i 1) := Fin.ext (by show ((i 0).val * 1024 + (i 1).val) / 64 % 16 = (i 1).val / 64; omega)
  have e2 : idx_main_v87 i 2 = ln (i 1) := Fin.ext (by show ((i 0).val * 1024 + (i 1).val) % 64 = (i 1).val % 64; omega)
  rw [e0, e1, e2]

include H M in
theorem a_v88 (i : S8192x1024.Idx) : val_main_v88 (F := Ideal) x0 x1 x2 x3 x4 i = ((I.dk (hd (i 1)) (i 0) (ln (i 1)) : ℝ) : EReal) := by
  rw [val_main_v88_apply, a_v86 H M]; rfl

include H M in
theorem a_v89 (i : S8192x1024.Idx) : val_main_v89 (F := Ideal) x0 x1 x3 x4 i = ((I.dv (hd (i 1)) (i 0) (ln (i 1)) : ℝ) : EReal) := by
  rw [val_main_v89_apply, a_v57 H M]; rfl

end Cert.Proof.Fox

end
-- ==== Proof.KernelIdeal.Entry.lean ====
/- The arrays the launch finds, as the lines before it leave them, over the real numbers. -/
module

public import proofs.«01_k».proof.Proof.KernelIdeal.Arrays
public import proofs.«01_k».proof.Proof.Ref

@[expose] public section

set_option maxRecDepth 16384
set_option maxHeartbeats 4000000

noncomputable section

namespace Cert.Proof.KernelIdeal

open Cert.KernelIdeal
open Idealize.ShloMosaic Idealize.ShloMosaic.TcCoe

open Idealize.SL Idealize.SL.Sem
open Cert.Proof.Fox (Arr Arc Ins Has HasMax col)

variable (m : (ℓ : Loc nD τ sig) → Buf (Elt Ideal) ℓ)

abbrev a0 (c : Dev nD) : Arr := m (c, Proc.tc.devRef main_arg0)
abbrev a1 (c : Dev nD) : Arr := m (c, Proc.tc.devRef main_arg1)
abbrev a2 (c : Dev nD) : Arr := m (c, Proc.tc.devRef main_arg2)
abbrev a3 (c : Dev nD) : Arc := m (c, Proc.tc.devRef main_arg3)
abbrev a4 (c : Dev nD) : Arr := m (c, Proc.tc.devRef main_arg4)

/-- One over the natural logarithm of two, as the host computes it. -/
def lamV : FVec Ideal S_ .f32 := Host.divf (constant S_ .f32 0x3F800000#32) (Host.log (constant S_ .f32 0x40000000#32))
def lam : ℝ := 1 / Real.log 2

theorem log2_pos : 0 < Real.log 2 := Real.log_pos (by norm_num)
theorem lamV_at (i : S_.Idx) : lamV i = ((lam : ℝ) : EReal) := by
  show Ideal.div (Ideal.ofBits .f32 0x3F800000#32) (Ideal.log (Ideal.ofBits .f32 0x40000000#32)) = _
  rw [Fox.bits_one, Fox.bits_two, Fox.log_coe 2 (by norm_num), Fox.div_coe _ _ log2_pos.ne']
  rfl

def pieces (c : Dev nD) : Fin 3 → (S8192x1024.Idx → EReal) :=
  ![mulf (F := Ideal) (φ := .f32) (a0 m c) (broadcastInDim S8192x1024 ![] Gen.bcast_S_S8192x1024 (mulf (constant S_ .f32 0x3E000000#32) lamV)), a1 m c, a2 m c]

set_option maxRecDepth 100000 in
theorem V_v6 (c : Dev nD) : Gen.V m c main_v6 = truncf (F := Ideal) .bf16 (concatenate S8192x3072 1
    [⟨S8192x1024, pieces m c 0⟩, ⟨S8192x1024, pieces m c 1⟩, ⟨S8192x1024, pieces m c 2⟩] Gen.concatenates_S8192x1024_S8192x1024_S8192x1024_S8192x3072_d1) Gen.bitsLt_bf16_f32 := by
  show StableHlo.after _ _ _ = _
  simp only [Gen.hostOps0, Gen.hostOps0_1, Gen.hostOps0_2, Gen.hostOps0_3, Gen.hostOps0_4, List.flatten_cons, List.flatten_nil, List.append_nil, List.cons_append, List.nil_append]
  after_results_simp
  all_goals rfl

theorem V_v78 (c : Dev nD) : Gen.V m c main_v78 = truncf (F := Ideal) (φ := .f32) .bf16 (a4 m c) Gen.bitsLt_bf16_f32 := by
  show StableHlo.after _ _ _ = _
  simp only [Gen.hostOps0, Gen.hostOps0_1, Gen.hostOps0_2, Gen.hostOps0_3, Gen.hostOps0_4, List.flatten_cons, List.flatten_nil, List.append_nil, List.cons_append, List.nil_append]
  after_results_simp

theorem V_v80 (c : Dev nD) : Gen.V m c main_v80 = transpose S8x8192x2 [1, 0, 2] (shapeCast S8192x8x2
    (mulf (F := Ideal) (φ := .f32) (a3 m c) (broadcastInDim S8192x16 ![] Gen.bcast_S_S8192x16 (Host.negf lamV))) Gen.shapeCasts_S8192x16_S8192x8x2) Gen.transposes_S8192x8x2_S8x8192x2_1_0_2 := by
  show StableHlo.after _ _ _ = _
  simp only [Gen.hostOps0, Gen.hostOps0_1, Gen.hostOps0_2, Gen.hostOps0_3, Gen.hostOps0_4, List.flatten_cons, List.flatten_nil, List.append_nil, List.cons_append, List.nil_append]
  after_results_simp
  all_goals rfl

open Cert.ReferenceIdeal.Read in
def lseV (c : Dev nD) : FVec Ideal S16x8192 .f32 :=
  mulf (subf (addf (val_main_v20 (F := Ideal) (a0 m c) (a1 m c) (a3 m c))
      (Host.log (Host.reduceAdd (Host.exp (subf (val_main_v19_0 (F := Ideal) (a0 m c) (a1 m c) (a3 m c))
        (broadcastInDim S16x8192x8192 ![0, 1, 2] Gen.bcast_S16x8192x1_S16x8192x8192_0_1_2
          (broadcastInDim S16x8192x1 ![0, 1] Gen.bcast_S16x8192_S16x8192x1_0_1 (val_main_v20 (F := Ideal) (a0 m c) (a1 m c) (a3 m c))))))
        (constant S_ .f32 0x00000000#32) Gen.reducesTo_S16x8192x8192_S16x8192_d2 Gen.h_S_)))
    (transpose S16x8192 [1, 0] (a3 m c) Gen.transposes_S8192x16_S16x8192_1_0)) (broadcastInDim S16x8192 ![] Gen.bcast_S_S16x8192 lamV)

theorem V_v77 (c : Dev nD) : Gen.V m c main_v77 = shapeCast S16x16x1x512 (lseV m c) Gen.shapeCasts_S16x8192_S16x16x1x512 := by
  show StableHlo.after _ _ _ = _
  simp only [Gen.hostOps0, Gen.hostOps0_1, Gen.hostOps0_2, Gen.hostOps0_3, Gen.hostOps0_4, List.flatten_cons, List.flatten_nil, List.append_nil, List.cons_append, List.nil_append]
  after_results_simp
  all_goals rfl

open Cert.ReferenceIdeal.Read in
def delV (c : Dev nD) : FVec Ideal S8192x16 .f32 :=
  Host.reduceAdd (shapeCast S8192x16x64 (mulf (F := Ideal) (φ := .f32) (a4 m c) (val_main_v51 (F := Ideal) (a0 m c) (a1 m c) (a2 m c) (a3 m c))) Gen.shapeCasts_S8192x1024_S8192x16x64)
    (constant S_ .f32 0x00000000#32) Gen.reducesTo_S8192x16x64_S8192x16_d2 Gen.h_S_

theorem V_v86 (c : Dev nD) : Gen.V m c main_v86 = shapeCast S16x16x1x512 (transpose S16x8192 [1, 0] (delV m c) Gen.transposes_S8192x16_S16x8192_1_0) Gen.shapeCasts_S16x8192_S16x16x1x512 := by
  show StableHlo.after _ _ _ = _
  simp only [Gen.hostOps0, Gen.hostOps0_1, Gen.hostOps0_2, Gen.hostOps0_3, Gen.hostOps0_4, List.flatten_cons, List.flatten_nil, List.append_nil, List.cons_append, List.nil_append]
  after_results_simp
  all_goals rfl

end Cert.Proof.KernelIdeal
end
-- ==== Proof.KernelIdeal.Cells.lean ====
/- The cells of the arrays the launch finds, and of its windows' blocks, over the real numbers. -/
module

public import proofs.«01_k».proof.Proof.KernelIdeal.Entry

@[expose] public section

set_option maxRecDepth 16384
set_option maxHeartbeats 4000000

noncomputable section

namespace Cert.Proof.KernelIdeal

open Cert.KernelIdeal
open Idealize.ShloMosaic Idealize.ShloMosaic.TcCoe

open Idealize.SL Idealize.SL.Sem
open Cert.Proof.Fox (Arr Arc Ins Has HasMax col coe_sum)

variable (m : (ℓ : Loc nD τ sig) → Buf (Elt Ideal) ℓ)

/-- The launch memory of device `c` holds the arguments `I`. -/
structure Holds (I : Ins) (c : Dev nD) : Prop where
  has : Has I (a0 m c) (a1 m c) (a2 m c) (a3 m c) (a4 m c)
  max : HasMax I (a0 m c) (a1 m c) (a3 m c)

variable {m} {I : Ins} {c : Dev nD} (H : Holds m I c)

theorem v6_at (i : Fin 8192) (n : Fin 3) (x : Fin 1024) :
    Gen.V m c main_v6 (ix2 i (⟨1024 * n.val + x.val, by omega⟩ : Fin 3072)) = pieces m c n (ix2 i x) := by
  rw [V_v6]
  refine (concatenate_ofFn_apply (t := S8192x3072) (s₁ := S8192x1024) 1 (pieces m c) (Gen.concatenates_S8192x1024_S8192x1024_S8192x1024_S8192x3072_d1) rfl 1024 rfl
    (ix2 i (⟨1024 * n.val + x.val, by omega⟩ : Fin 3072)) n ?_ (ix2 i x) ?_ ?_ :)
  · show (1024 * n.val + x.val) / 1024 = n.val; omega
  · show x.val = (1024 * n.val + x.val) % 1024; omega
  · intro b hb
    match b with
    | ⟨0, _⟩ => rfl
    | ⟨1, _⟩ => exact absurd rfl hb

include H in
theorem q_at (i : Fin 8192) (x : Fin 1024) (y : S8192x3072.Idx) (h0 : (y 0).val = i.val) (h1 : (y 1).val = x.val) :
    Gen.V m c main_v6 y = ((I.q i x * (1 / 8 * lam) : ℝ) : EReal) := by
  have e : y = ix2 i (⟨1024 * (0 : Fin 3).val + x.val, by omega⟩ : Fin 3072) := ext_mat h0 (by show (y 1).val = 1024 * 0 + x.val; omega)
  rw [e, v6_at]
  refine Eq.trans (congrArg₂ (fun a b : EReal => a * (Ideal.ofBits .f32 0x3E000000#32 * b)) (H.has.q (ix2 i x)) (lamV_at _)) ?_
  rw [Fox.bits_eighth, ← EReal.coe_mul, ← EReal.coe_mul]
  rfl

include H in
theorem k_at (i : Fin 8192) (x : Fin 1024) (y : S8192x3072.Idx) (h0 : (y 0).val = i.val) (h1 : (y 1).val = 1024 + x.val) :
    Gen.V m c main_v6 y = ((I.k i x : ℝ) : EReal) := by
  have e : y = ix2 i (⟨1024 * (1 : Fin 3).val + x.val, by show 1024 * 1 + x.val < 3072; omega⟩ : Fin 3072) := ext_mat h0 (by show (y 1).val = 1024 * 1 + x.val; omega)
  rw [e, v6_at]
  exact H.has.k (ix2 i x)

include H in
theorem v_at (i : Fin 8192) (x : Fin 1024) (y : S8192x3072.Idx) (h0 : (y 0).val = i.val) (h1 : (y 1).val = 2048 + x.val) :
    Gen.V m c main_v6 y = ((I.v i x : ℝ) : EReal) := by
  have e : y = ix2 i (⟨1024 * (2 : Fin 3).val + x.val, by show 1024 * 2 + x.val < 3072; omega⟩ : Fin 3072) := ext_mat h0 (by show (y 1).val = 1024 * 2 + x.val; omega)
  rw [e, v6_at]
  exact H.has.v (ix2 i x)

include H in
theorem g_at (y : S8192x1024.Idx) : Gen.V m c main_v78 y = ((I.g (y 0) (y 1) : ℝ) : EReal) := by
  rw [V_v78]; exact H.has.g y

include H in
theorem b_at (n : Fin 16) (i : Fin 8192) (y : S8x8192x2.Idx) (h0 : (y 0).val = n.val / 2) (h1 : (y 1).val = i.val) (h2 : (y 2).val = n.val % 2) :
    Gen.V m c main_v80 y = ((I.cum i n * -lam : ℝ) : EReal) := by
  rw [V_v80]
  have e : transpose S8x8192x2 [1, 0, 2] (shapeCast S8192x8x2
    (mulf (F := Ideal) (φ := .f32) (a3 m c) (broadcastInDim S8192x16 ![] Gen.bcast_S_S8192x16 (Host.negf lamV))) Gen.shapeCasts_S8192x16_S8192x8x2) Gen.transposes_S8192x8x2_S8x8192x2_1_0_2 y
      = mulf (F := Ideal) (φ := .f32) (a3 m c) (broadcastInDim S8192x16 ![] Gen.bcast_S_S8192x16 (Host.negf lamV)) (ix2 i n) := by
    refine (transpose_apply _ _ _ y (ix3 (n0 := 8192) (n1 := 8) (n2 := 2) (y 1) (y 0) (y 2)) ?_).trans ?_
    rotate_left
    · refine shapeCast_apply _ _ _ (ix2 i n) ?_
      rw [Shape.rowMajor_val_two, Shape.rowMajor_val_three]
      have := n.isLt
      show i.val * 16 + n.val = ((y 1).val * 8 + (y 0).val) * 2 + (y 2).val
      omega
    · intro b
      match b with
      | ⟨0, _⟩ => rfl
      | ⟨1, _⟩ => rfl
      | ⟨2, _⟩ => rfl
  rw [e]
  refine Eq.trans (congrArg₂ (fun a b : EReal => a * -b) (H.has.c (ix2 i n)) (lamV_at _)) ?_
  rw [← EReal.coe_neg, ← EReal.coe_mul]
  rfl

theorem rows_cast (X : FVec Ideal S16x8192 .f32) (n : Fin 16) (i : Fin 8192) (y : S16x16x1x512.Idx) (h0 : (y 0).val = n.val)
    (h1 : 512 * (y 1).val + (y 3).val = i.val) : shapeCast S16x16x1x512 X Gen.shapeCasts_S16x8192_S16x16x1x512 y = X (ix2 n i) := by
  refine shapeCast_apply _ _ _ (ix2 n i) ?_
  rw [Shape.rowMajor_val_two, Shape.rowMajor_val_four]
  have h2 : (y 2).val < 1 := (y 2).isLt
  show n.val * 8192 + i.val = (((y 0).val * 16 + (y 1).val) * 1 + (y 2).val) * 512 + (y 3).val
  omega

theorem lse_cell (A B T : FVec Ideal S16x8192 .f32) (y : S16x8192.Idx) (a b t : ℝ) (hA : A y = (a : EReal)) (hB : B y = (b : EReal)) (hb : 0 < b) (hT : T y = (t : EReal)) :
    mulf (F := Ideal) (subf (addf A (Host.log B)) T) (broadcastInDim S16x8192 ![] Gen.bcast_S_S16x8192 lamV) y = (((a + Real.log b - t) * lam : ℝ) : EReal) := by
  refine Eq.trans (congrArg₂ (fun u v : EReal => u * v) (congrArg₂ (fun u v : EReal => u - v) (congrArg₂ (fun u v : EReal => u + Ideal.log v) hA hB) hT) (lamV_at _)) ?_
  show ((a : EReal) + Ideal.log (b : EReal) - (t : EReal)) * (lam : EReal) = _
  rw [Fox.log_coe _ hb, ← EReal.coe_add, ← EReal.coe_sub, ← EReal.coe_mul]

theorem max_swap (hM : HasMax I (a0 m c) (a1 m c) (a3 m c)) : Cert.ReferenceIdeal.Read.val_main_v20 (F := Ideal) (a0 m c) (a1 m c) (a3 m c) = Cert.ReferenceIdeal.Read.val_main_v27 (F := Ideal) (a0 m c) (a1 m c) (a3 m c) := by
  funext j
  exact (hM j).trans (Fox.a_v27 hM j).symm

def sumV (Z : FVec Ideal S16x8192x8192 .f32) (X : FVec Ideal S16x8192 .f32) : FVec Ideal S16x8192 .f32 :=
  Host.reduceAdd (Host.exp (subf Z (broadcastInDim S16x8192x8192 ![0, 1, 2] Gen.bcast_S16x8192x1_S16x8192x8192_0_1_2
          (broadcastInDim S16x8192x1 ![0, 1] Gen.bcast_S16x8192_S16x8192x1_0_1 X)))) (constant S_ .f32 0x00000000#32) Gen.reducesTo_S16x8192x8192_S16x8192_d2 Gen.h_S_

open Cert.ReferenceIdeal.Read in
theorem sumV_eq : sumV (val_main_v19_0 (F := Ideal) (a0 m c) (a1 m c) (a3 m c)) (val_main_v27 (F := Ideal) (a0 m c) (a1 m c) (a3 m c))
    = (val_main_v41 (F := Ideal) (a0 m c) (a1 m c) (a3 m c) : FVec Ideal S16x8192 .f32) := by
  unfold sumV val_main_v41 val_main_v40 val_main_v39 val_main_v38 val_main_v37 val_main_cst_9
  rfl

open Cert.ReferenceIdeal.Read in
include H in
theorem sumV_at (n : Fin 16) (i : Fin 8192) : sumV (val_main_v19_0 (F := Ideal) (a0 m c) (a1 m c) (a3 m c)) (val_main_v20 (F := Ideal) (a0 m c) (a1 m c) (a3 m c)) (ix2 n i)
    = ((I.z n i : ℝ) : EReal) := by
  rw [max_swap H.max, sumV_eq]
  exact Fox.a_v41 H.has H.max (ix2 n i)

open Cert.ReferenceIdeal.Read in
theorem lseV_eq : lseV m c = mulf (F := Ideal) (subf (addf (val_main_v20 (F := Ideal) (a0 m c) (a1 m c) (a3 m c)) (Host.log (sumV (val_main_v19_0 (F := Ideal) (a0 m c) (a1 m c) (a3 m c)) (val_main_v20 (F := Ideal) (a0 m c) (a1 m c) (a3 m c)))))
    (transpose S16x8192 [1, 0] (a3 m c) Gen.transposes_S8192x16_S16x8192_1_0)) (broadcastInDim S16x8192 ![] Gen.bcast_S_S16x8192 lamV) := by
  unfold lseV sumV
  rfl

include H in
theorem lse_at (n : Fin 16) (i : Fin 8192) (y : S16x16x1x512.Idx) (h0 : (y 0).val = n.val) (h1 : 512 * (y 1).val + (y 3).val = i.val) :
    Gen.V m c main_v77 y = (((I.mx n i + Real.log (I.z n i) - I.cum i n) * lam : ℝ) : EReal) := by
  rw [V_v77, rows_cast _ n i y h0 h1, lseV_eq]
  exact lse_cell _ _ _ (ix2 n i) _ _ _ (H.max (ix2 n i)) (sumV_at H n i) (I.z_pos n i) (Fox.a_v2 H.has (ix2 n i))

open Cert.ReferenceIdeal.Read in
include H in
theorem out_at (i : Fin 8192) (n : Fin 16) (l : Fin 64) :
    val_main_v51 (F := Ideal) (a0 m c) (a1 m c) (a2 m c) (a3 m c) (ix2 i (col n l)) = ((∑ j, I.v j (col n l) * I.p n i j : ℝ) : EReal) := by
  rw [val_main_v51_apply, Fox.a_v50 H.has H.max]
  have hn := n.isLt
  have hl := l.isLt
  have e0 : idx_main_v51 (ix2 i (col n l)) 0 = i := Fin.ext (by show (i.val * 1024 + (64 * n.val + l.val)) / 1024 = i.val; omega)
  have e1 : idx_main_v51 (ix2 i (col n l)) 1 = n := Fin.ext (by show (i.val * 1024 + (64 * n.val + l.val)) / 64 % 16 = n.val; omega)
  have e2 : idx_main_v51 (ix2 i (col n l)) 2 = l := Fin.ext (by show (i.val * 1024 + (64 * n.val + l.val)) % 64 = l.val; omega)
  rw [e0, e1, e2]

include H in
theorem del_at (n : Fin 16) (i : Fin 8192) (y : S16x16x1x512.Idx) (h0 : (y 0).val = n.val) (h1 : 512 * (y 1).val + (y 3).val = i.val) :
    Gen.V m c main_v86 y = ((I.dl n i : ℝ) : EReal) := by
  rw [V_v86, rows_cast _ n i y h0 h1]
  have et : transpose S16x8192 [1, 0] (delV m c) Gen.transposes_S8192x16_S16x8192_1_0 (ix2 n i) = delV m c (ix2 i n) := by
    refine transpose_apply _ _ _ (ix2 n i) (ix2 i n) ?_
    intro b
    match b with
    | ⟨0, _⟩ => rfl
    | ⟨1, _⟩ => rfl
  rw [et]
  unfold delV
  simp only [Host.reduceAdd, Ideal.hostReduceAdd_def]
  rw [Ideal.hostReduceAdd_single Gen.reducesTo_S8192x16x64_S8192x16_d2 (by decide)]
  have hs : ∀ l : Fin 64, shapeCast S8192x16x64 (mulf (F := Ideal) (φ := .f32) (a4 m c) (Cert.ReferenceIdeal.Read.val_main_v51 (F := Ideal) (a0 m c) (a1 m c) (a2 m c) (a3 m c))) Gen.shapeCasts_S8192x1024_S8192x16x64 (ix3 i n l)
      = ((I.g i (col n l) * ∑ j, I.v j (col n l) * I.p n i j : ℝ) : EReal) := by
    intro l
    rw [shapeCast_apply _ _ _ (ix2 i (col n l)) (by
      rw [Shape.rowMajor_val_two, Shape.rowMajor_val_three]
      show i.val * 1024 + (64 * n.val + l.val) = (i.val * 16 + n.val) * 64 + l.val
      omega)]
    refine Eq.trans (congrArg₂ (fun a b : EReal => a * b) (H.has.g (ix2 i (col n l))) (out_at H i n l)) ?_
    rw [← EReal.coe_mul]
    rfl
  rw [← I.dl_out n i, ← coe_sum]
  have key : ∀ f f' : Fin 64 → EReal, (∀ l, f l = f' l) → Ideal.ofBits .f32 0x00000000#32 + ∑ l, f l = ∑ l, f' l := by
    intro f f' h
    rw [Ideal.ofBits_zero_f32, zero_add]
    exact Finset.sum_congr rfl fun l _ => h l
  refine key _ _ fun l => ?_
  refine Eq.trans (congrArg _ ?_) (hs l)
  funext a
  exact Fin.ext (by match a with | ⟨0, _⟩ => rfl | ⟨1, _⟩ => rfl | ⟨2, _⟩ => rfl)

end Cert.Proof.KernelIdeal
end
-- ==== Proof.KernelIdeal.Model.lean ====
/- What one run of the body computes, over the real numbers: a key block's share of the gradients of its two heads. -/
module

public import proofs.«01_k».proof.Proof.KernelIdeal.Cells

@[expose] public section

set_option maxRecDepth 16384
set_option maxHeartbeats 4000000

noncomputable section

namespace Cert.Proof.KernelIdeal

open Cert.KernelIdeal
open Idealize.ShloMosaic Idealize.ShloMosaic.TcCoe

open Cert.Proof.Fox (Ins col hd ln coe_sum)

theorem sum_blocks (f : Fin 8192 → ℝ) : ∑ j : Fin 8192, f j = ∑ s : Fin 16, ∑ κ : Fin 512, f ⟨512 * s.val + κ.val, by omega⟩ := by
  rw [← Fintype.sum_prod_type']
  refine (Equiv.sum_comp (finProdFinEquiv (m := 16) (n := 512)) (fun j : Fin 8192 => f j)).symm.trans ?_
  refine Finset.sum_congr rfl fun x _ => congrArg f (Fin.ext ?_)
  show x.2.val + 512 * x.1.val = 512 * x.1.val + x.2.val
  omega

/-- Head `h` of lane block `b`, column `l` of it, and key row `κ` of block `j`. -/
def head (b : Fin 8) (h : Fin 2) : Fin 16 := ⟨2 * b.val + h.val, by omega⟩
def cl (b : Fin 8) (l : Fin 128) : Fin 1024 := ⟨128 * b.val + l.val, by omega⟩
def key (j : Fin 16) (κ : Fin 512) : Fin 8192 := ⟨512 * j.val + κ.val, by omega⟩
/-- The head of a lane, of the two of its block. -/
def half (l : Fin 128) : Fin 2 := ⟨l.val / 64, by omega⟩

theorem col_hd (x : Fin 1024) : col (hd x) (ln x) = x := Fin.ext (by show 64 * (x.val / 64) + x.val % 64 = x.val; omega)
theorem hd_cl (b : Fin 8) (l : Fin 128) : hd (cl b l) = head b (half l) := Fin.ext (by show (128 * b.val + l.val) / 64 = 2 * b.val + l.val / 64; omega)

/-- Of the 128 lanes those of one head. -/
theorem sum_half (b : Fin 8) (h : Fin 2) (A B : Fin 1024 → ℝ) :
    ∑ l : Fin 128, (if half l = h then A (cl b l) else 0) * B (cl b l) = ∑ l : Fin 64, A (col (head b h) l) * B (col (head b h) l) := by
  rw [Fin.sum_univ_two_halves 64 64 rfl]
  have h0 : ∀ l : Fin 64, half (⟨l.val, by omega⟩ : Fin 128) = 0 := fun l => Fin.ext (by show l.val / 64 = 0; omega)
  have h1 : ∀ l : Fin 64, half (⟨64 + l.val, by omega⟩ : Fin 128) = 1 := fun l => Fin.ext (by show (64 + l.val) / 64 = 1; omega)
  simp only [h0, h1]
  match h with
  | ⟨0, _⟩ =>
    have c : ∀ l : Fin 64, cl b (⟨l.val, by omega⟩ : Fin 128) = col (head b 0) l := fun l => Fin.ext (by show 128 * b.val + l.val = 64 * (2 * b.val + 0) + l.val; omega)
    simp [c]
  | ⟨1, _⟩ =>
    have c : ∀ l : Fin 64, cl b (⟨64 + l.val, by omega⟩ : Fin 128) = col (head b 1) l := fun l => Fin.ext (by show 128 * b.val + (64 + l.val) = 64 * (2 * b.val + 1) + l.val; omega)
    simp [c]

/-- The blocks a run of the body is given hold the arguments `I` at lane block `b` and key block `j`. -/
structure EnvOK (I : Ins) (e : Env) (b : Fin 8) (j : Fin 16) : Prop where
  x2 : ∀ q l, e.x2 (ix2 q l) = ((I.q q (cl b l) * (1 / 8 * lam) : ℝ) : EReal)
  k : ∀ h κ l, e.k h (ix2 κ l) = (((if half l = h then I.k (key j κ) (cl b l) else 0) : ℝ) : EReal)
  v : ∀ h κ l, e.v h (ix2 κ l) = (((if half l = h then I.v (key j κ) (cl b l) else 0) : ℝ) : EReal)
  x5 : ∀ h κ, e.b h (ix2 κ (0 : Fin 1)) = ((I.cum (key j κ) (head b h) * -lam : ℝ) : EReal)
  x6 : ∀ q l, e.x6 (ix2 q l) = ((I.g q (cl b l) : ℝ) : EReal)
  x7 : ∀ h q, stat e.x7 h q = (((I.mx (head b h) q + Real.log (I.z (head b h) q) - I.cum q (head b h)) * lam : ℝ) : EReal)
  x8 : ∀ h q, stat e.x8 h q = ((I.dl (head b h) q : ℝ) : EReal)
  j : e.j = j.val

namespace EnvOK

variable {I : Ins} {e : Env} {b : Fin 8} {j : Fin 16} (H : EnvOK I e b j)

theorem lam_log : lam * Real.log 2 = 1 := by
  have := log2_pos.ne'
  unfold lam; field_simp

include H in
theorem pr_eq (h : Fin 2) (κ : Fin 512) (q : Fin 8192) : e.pr h κ q = ((I.p (head b h) q (key j κ) : ℝ) : EReal) := by
  show Ideal.exp2 ((if 512 * e.j + κ.val ≤ q.val then (∑ l : Fin 128, e.k h (ix2 κ l) * e.x2 (ix2 q l)) + e.b h (ix2 κ (0 : Fin 1)) else ⊥) - stat e.x7 h q) = _
  rw [H.x7, H.j]
  by_cases hm : 512 * j.val + κ.val ≤ q.val
  · rw [if_pos hm, H.x5]
    simp only [H.k, H.x2, ← EReal.coe_mul]
    rw [coe_sum, ← EReal.coe_add, ← EReal.coe_sub, Fox.exp2_coe, I.p_exp _ _ _ (show (key j κ).val ≤ q.val from hm),
      sum_half b h (fun x => I.k (key j κ) x) (fun x => I.q q x * (1 / 8 * lam))]
    refine congrArg (fun r : ℝ => ((Real.exp r : ℝ) : EReal)) ?_
    have e1 : ∑ l : Fin 64, I.k (key j κ) (col (head b h) l) * (I.q q (col (head b h) l) * (1 / 8 * lam))
        = (∑ l : Fin 64, I.q q (col (head b h) l) * I.k (key j κ) (col (head b h) l)) * (1 / 8) * lam := by
      rw [Finset.sum_mul, Finset.sum_mul]
      exact Finset.sum_congr rfl fun l _ => by ring
    rw [e1, Ins.s]
    have hl := lam_log
    linear_combination ((∑ l : Fin 64, I.q q (col (head b h) l) * I.k (key j κ) (col (head b h) l)) * (1 / 8) - I.cum (key j κ) (head b h)
      - (I.mx (head b h) q + Real.log (I.z (head b h) q) - I.cum q (head b h))) * hl
  · rw [if_neg hm, EReal.bot_sub, Fox.exp2_bot, I.p_mask _ _ _ (show ¬ (key j κ).val ≤ q.val from hm), EReal.coe_zero]

include H in
theorem ds_eq (h : Fin 2) (κ : Fin 512) (q : Fin 8192) : e.ds h κ q = ((I.ds (head b h) q (key j κ) : ℝ) : EReal) := by
  show e.pr h κ q * ((∑ l : Fin 128, e.v h (ix2 κ l) * e.x6 (ix2 q l)) - stat e.x8 h q) = _
  rw [H.pr_eq, H.x8]
  simp only [H.v, H.x6, ← EReal.coe_mul]
  rw [coe_sum, ← EReal.coe_sub, ← EReal.coe_mul, sum_half b h (fun x => I.v (key j κ) x) (fun x => I.g q x)]
  refine congrArg (fun r : ℝ => (r : EReal)) ?_
  rw [Ins.ds, Ins.dp]
  refine congrArg (fun r : ℝ => I.p (head b h) q (key j κ) * (r - I.dl (head b h) q)) ?_
  exact Finset.sum_congr rfl fun l _ => mul_comm _ _

/-- The rows before the key block's add nothing, and there are no more than 8192. -/
theorem upto_coe (f : Fin 8192 → ℝ) (hf : ∀ q : Fin 8192, ¬ 512 * j.val ≤ q.val → f q = 0) :
    upto j.val 8192 (fun q => ((f q : ℝ) : EReal)) = ((∑ q, f q : ℝ) : EReal) := by
  rw [← coe_sum]
  refine Finset.sum_congr rfl fun q _ => ?_
  by_cases h : 512 * j.val ≤ q.val
  · rw [if_pos ⟨h, q.isLt⟩]
  · rw [if_neg fun h' => h h'.1, hf q h, EReal.coe_zero]

theorem key_gt {κ : Fin 512} {q : Fin 8192} (h : ¬ 512 * j.val ≤ q.val) : ¬ (key j κ).val ≤ q.val := by
  show ¬ 512 * j.val + κ.val ≤ q.val
  omega

include H in
theorem db_eq (h : Fin 2) (κ : Fin 512) : e.db h 8192 (ix2 κ (0 : Fin 1)) = ((∑ q, I.ds (head b h) q (key j κ) : ℝ) : EReal) := by
  show upto e.j 8192 (fun q => e.ds h κ q) = _
  simp only [H.ds_eq, H.j]
  exact upto_coe _ fun q hq => I.ds_mask _ _ _ (key_gt hq)

include H in
theorem dv_eq (h : Fin 2) (κ : Fin 512) (l : Fin 128) : e.dv h 8192 (ix2 κ l) = ((∑ q, I.p (head b h) q (key j κ) * I.g q (cl b l) : ℝ) : EReal) := by
  show upto e.j 8192 (fun q => e.pr h κ q * e.x6 (ix2 q l)) = _
  simp only [H.pr_eq, H.x6, H.j, ← EReal.coe_mul]
  exact upto_coe (fun q => I.p (head b h) q (key j κ) * I.g q (cl b l)) fun q hq => by rw [I.p_mask _ _ _ (key_gt hq), zero_mul]

include H in
theorem dk_eq (h : Fin 2) (κ : Fin 512) (l : Fin 128) : e.dk h 8192 (ix2 κ l) = ((∑ q, I.ds (head b h) q (key j κ) * (I.q q (cl b l) * (1 / 8 * lam)) : ℝ) : EReal) := by
  show upto e.j 8192 (fun q => e.ds h κ q * e.x2 (ix2 q l)) = _
  simp only [H.ds_eq, H.x2, H.j, ← EReal.coe_mul]
  exact upto_coe (fun q => I.ds (head b h) q (key j κ) * (I.q q (cl b l) * (1 / 8 * lam))) fun q hq => by rw [I.ds_mask _ _ _ (key_gt hq), zero_mul]

theorem pick {α : Type} (l : Fin 128) (f : Fin 2 → α) : (if l.val < 64 then f 0 else f 1) = f (half l) := by
  by_cases h : l.val < 64
  · rw [if_pos h]; exact congrArg f (Fin.ext (by show 0 = l.val / 64; omega))
  · rw [if_neg h]; exact congrArg f (Fin.ext (by show 1 = l.val / 64; omega))

include H in
theorem outk_eq (κ : Fin 512) (l : Fin 128) : e.outk (ix2 κ l) = ((I.dk (hd (cl b l)) (key j κ) (ln (cl b l)) : ℝ) : EReal) := by
  show (if l.val < 64 then e.dk 0 8192 (ix2 κ l) else e.dk 1 8192 (ix2 κ l)) * ((Real.log 2 : ℝ) : EReal) = _
  rw [pick l (fun h => e.dk h 8192 (ix2 κ l)), H.dk_eq, ← EReal.coe_mul]
  refine congrArg (fun r : ℝ => (r : EReal)) ?_
  rw [Ins.dk, col_hd, hd_cl, Finset.sum_mul, Finset.sum_mul]
  refine Finset.sum_congr rfl fun q _ => ?_
  have hl := lam_log
  linear_combination (I.ds (head b (half l)) q (key j κ) * I.q q (cl b l) * (1 / 8)) * hl

include H in
theorem outv_eq (κ : Fin 512) (l : Fin 128) : e.outv (ix2 κ l) = ((I.dv (hd (cl b l)) (key j κ) (ln (cl b l)) : ℝ) : EReal) := by
  show (if l.val < 64 then e.dv 0 8192 (ix2 κ l) else e.dv 1 8192 (ix2 κ l)) = _
  rw [pick l (fun h => e.dv h 8192 (ix2 κ l)), H.dv_eq, Ins.dv, col_hd, hd_cl]

include H in
theorem outb_eq (κ : Fin 512) (l : Fin 128) : e.outb (ix2 κ l) = ((∑ q, I.ds (hd (cl b l)) q (key j κ) : ℝ) : EReal) := by
  show (if l.val < 64 then e.db 0 8192 (ix2 κ (0 : Fin 1)) else e.db 1 8192 (ix2 κ (0 : Fin 1))) = _
  rw [pick l (fun h => e.db h 8192 (ix2 κ (0 : Fin 1))), H.db_eq, hd_cl]

include H in
theorem drr_eq (h : Fin 2) (q : Fin 8192) : e.drr h q = ((∑ κ, I.ds (head b h) q (key j κ) : ℝ) : EReal) := by
  show ∑ κ : Fin 512, e.ds h κ q = _
  simp only [H.ds_eq]
  exact coe_sum _

include H in
theorem dqr_eq (q : Fin 8192) (l : Fin 128) : e.dqr q l = (((∑ κ, I.ds (hd (cl b l)) q (key j κ) * I.k (key j κ) (cl b l)) * (1 / 8) : ℝ) : EReal) := by
  show ((∑ κ : Fin 512, e.ds 0 κ q * e.k 0 (ix2 κ l)) + ∑ κ : Fin 512, e.ds 1 κ q * e.k 1 (ix2 κ l)) * Ideal.ofBits .f32 0x3E000000#32 = _
  simp only [H.ds_eq, H.k, ← EReal.coe_mul]
  rw [coe_sum, coe_sum, Fox.bits_eighth, ← EReal.coe_add, ← EReal.coe_mul, hd_cl]
  refine congrArg (fun r : ℝ => ((r * (1 / 8) : ℝ) : EReal)) ?_
  by_cases h : l.val < 64
  · have e0 : half l = 0 := Fin.ext (by show l.val / 64 = 0; omega)
    simp [e0]
  · have e1 : half l = 1 := Fin.ext (by show l.val / 64 = 1; omega)
    simp [e1]

end EnvOK

end Cert.Proof.KernelIdeal
end
-- ==== Proof.KernelIdeal.Point.lean ====
/- What the grid points are given, and the five arrays the call leaves, over the real numbers. -/
module

public import proofs.«01_k».proof.Proof.KernelIdeal.Model

@[expose] public section

set_option maxRecDepth 16384
set_option maxHeartbeats 4000000

noncomputable section

namespace Cert.Proof.KernelIdeal

open Cert.KernelIdeal
open Idealize.ShloMosaic Idealize.ShloMosaic.TcCoe

open Cert.Proof.Fox (Ins col hd ln coe_sum)

variable {m : (ℓ : Loc nD τ sig) → Buf (Elt Ideal) ℓ}

theorem idxs_in : ∀ t : Fin cfg0.N, win0_0.index t = ![0, t.val / 16] ∧ win0_1.index t = ![t.val % 16, 8 + t.val / 16] ∧ win0_2.index t = ![t.val % 16, 16 + t.val / 16]
    ∧ win0_3.index t = ![t.val / 16, t.val % 16, 0] ∧ win0_4.index t = ![0, t.val / 16] ∧ win0_5.index t = ![t.val / 16, 0, 0, 0] ∧ win0_6.index t = ![t.val / 16, 0, 0, 0] :=
  (by decide +kernel : ∀ t : Fin grid0.N, _)

theorem t_lt (t : Fin cfg0.N) : t.val < 128 := Gen.N_0 ▸ t.isLt

/-- The lane block and the key block of a point. -/
def bk (t : Fin cfg0.N) : Fin 8 := ⟨t.val / 16, by have := t_lt t; omega⟩
def jk (t : Fin cfg0.N) : Fin 16 := ⟨t.val % 16, by omega⟩

/-! A block is its array's cells, whatever the array holds. -/

theorem cut0 (t : Fin cfg0.N) (A : S8192x3072.Idx → EReal) (y : S8192x128.Idx) : @Eq EReal (((cfg0.win 0).blk t).view.read (Elt Ideal) A y) (A (((cfg0.win 0).blk t).view.emb y)) := rfl
theorem ref0 (m : (ℓ : Loc nD τ sig) → Buf (Elt Ideal) ℓ) (c : Dev nD) : @Eq (S8192x3072.Idx → EReal) (Gen.V m c (Pipeline.arrRef spec0 0)) (Gen.V m c main_v6) := rfl
theorem rd0 (m : (ℓ : Loc nD τ sig) → Buf (Elt Ideal) ℓ) (c : Dev nD) (t : Fin cfg0.N) (y : S8192x128.Idx) : @Eq EReal (Gen.iblk m c 0 t y) (Gen.V m c main_v6 (((cfg0.win 0).blk t).view.emb y)) := by
  unfold Gen.iblk
  exact (cut0 t _ y).trans (congrFun (ref0 m c) _)

theorem cut1 (t : Fin cfg0.N) (A : S8192x3072.Idx → EReal) (y : S512x128.Idx) : @Eq EReal (((cfg0.win 1).blk t).view.read (Elt Ideal) A y) (A (((cfg0.win 1).blk t).view.emb y)) := rfl
theorem ref1 (m : (ℓ : Loc nD τ sig) → Buf (Elt Ideal) ℓ) (c : Dev nD) : @Eq (S8192x3072.Idx → EReal) (Gen.V m c (Pipeline.arrRef spec0 1)) (Gen.V m c main_v6) := rfl
theorem rd1 (m : (ℓ : Loc nD τ sig) → Buf (Elt Ideal) ℓ) (c : Dev nD) (t : Fin cfg0.N) (y : S512x128.Idx) : @Eq EReal (Gen.iblk m c 1 t y) (Gen.V m c main_v6 (((cfg0.win 1).blk t).view.emb y)) := by
  unfold Gen.iblk
  exact (cut1 t _ y).trans (congrFun (ref1 m c) _)

theorem cut2 (t : Fin cfg0.N) (A : S8192x3072.Idx → EReal) (y : S512x128.Idx) : @Eq EReal (((cfg0.win 2).blk t).view.read (Elt Ideal) A y) (A (((cfg0.win 2).blk t).view.emb y)) := rfl
theorem ref2 (m : (ℓ : Loc nD τ sig) → Buf (Elt Ideal) ℓ) (c : Dev nD) : @Eq (S8192x3072.Idx → EReal) (Gen.V m c (Pipeline.arrRef spec0 2)) (Gen.V m c main_v6) := rfl
theorem rd2 (m : (ℓ : Loc nD τ sig) → Buf (Elt Ideal) ℓ) (c : Dev nD) (t : Fin cfg0.N) (y : S512x128.Idx) : @Eq EReal (Gen.iblk m c 2 t y) (Gen.V m c main_v6 (((cfg0.win 2).blk t).view.emb y)) := by
  unfold Gen.iblk
  exact (cut2 t _ y).trans (congrFun (ref2 m c) _)

theorem cut3 (t : Fin cfg0.N) (A : S8x8192x2.Idx → EReal) (y : S1x512x2.Idx) : @Eq EReal (((cfg0.win 3).blk t).view.read (Elt Ideal) A y) (A (((cfg0.win 3).blk t).view.emb y)) := rfl
theorem ref3 (m : (ℓ : Loc nD τ sig) → Buf (Elt Ideal) ℓ) (c : Dev nD) : @Eq (S8x8192x2.Idx → EReal) (Gen.V m c (Pipeline.arrRef spec0 3)) (Gen.V m c main_v80) := rfl
theorem rd3 (m : (ℓ : Loc nD τ sig) → Buf (Elt Ideal) ℓ) (c : Dev nD) (t : Fin cfg0.N) (y : S1x512x2.Idx) : @Eq EReal (Gen.iblk m c 3 t y) (Gen.V m c main_v80 (((cfg0.win 3).blk t).view.emb y)) := by
  unfold Gen.iblk
  exact (cut3 t _ y).trans (congrFun (ref3 m c) _)

theorem cut4 (t : Fin cfg0.N) (A : S8192x1024.Idx → EReal) (y : S8192x128.Idx) : @Eq EReal (((cfg0.win 4).blk t).view.read (Elt Ideal) A y) (A (((cfg0.win 4).blk t).view.emb y)) := rfl
theorem ref4 (m : (ℓ : Loc nD τ sig) → Buf (Elt Ideal) ℓ) (c : Dev nD) : @Eq (S8192x1024.Idx → EReal) (Gen.V m c (Pipeline.arrRef spec0 4)) (Gen.V m c main_v78) := rfl
theorem rd4 (m : (ℓ : Loc nD τ sig) → Buf (Elt Ideal) ℓ) (c : Dev nD) (t : Fin cfg0.N) (y : S8192x128.Idx) : @Eq EReal (Gen.iblk m c 4 t y) (Gen.V m c main_v78 (((cfg0.win 4).blk t).view.emb y)) := by
  unfold Gen.iblk
  exact (cut4 t _ y).trans (congrFun (ref4 m c) _)

theorem cut5 (t : Fin cfg0.N) (A : S16x16x1x512.Idx → EReal) (y : S2x16x1x512.Idx) : @Eq EReal (((cfg0.win 5).blk t).view.read (Elt Ideal) A y) (A (((cfg0.win 5).blk t).view.emb y)) := rfl
theorem ref5 (m : (ℓ : Loc nD τ sig) → Buf (Elt Ideal) ℓ) (c : Dev nD) : @Eq (S16x16x1x512.Idx → EReal) (Gen.V m c (Pipeline.arrRef spec0 5)) (Gen.V m c main_v77) := rfl
theorem rd5 (m : (ℓ : Loc nD τ sig) → Buf (Elt Ideal) ℓ) (c : Dev nD) (t : Fin cfg0.N) (y : S2x16x1x512.Idx) : @Eq EReal (Gen.iblk m c 5 t y) (Gen.V m c main_v77 (((cfg0.win 5).blk t).view.emb y)) := by
  unfold Gen.iblk
  exact (cut5 t _ y).trans (congrFun (ref5 m c) _)

theorem cut6 (t : Fin cfg0.N) (A : S16x16x1x512.Idx → EReal) (y : S2x16x1x512.Idx) : @Eq EReal (((cfg0.win 6).blk t).view.read (Elt Ideal) A y) (A (((cfg0.win 6).blk t).view.emb y)) := rfl
theorem ref6 (m : (ℓ : Loc nD τ sig) → Buf (Elt Ideal) ℓ) (c : Dev nD) : @Eq (S16x16x1x512.Idx → EReal) (Gen.V m c (Pipeline.arrRef spec0 6)) (Gen.V m c main_v86) := rfl
theorem rd6 (m : (ℓ : Loc nD τ sig) → Buf (Elt Ideal) ℓ) (c : Dev nD) (t : Fin cfg0.N) (y : S2x16x1x512.Idx) : @Eq EReal (Gen.iblk m c 6 t y) (Gen.V m c main_v86 (((cfg0.win 6).blk t).view.emb y)) := by
  unfold Gen.iblk
  exact (cut6 t _ y).trans (congrFun (ref6 m c) _)

variable {I : Ins} {c : Dev nD} (H : Holds m I c)

include H in
theorem in0 (t : Fin cfg0.N) (q : Fin 8192) (l : Fin 128) : @Eq EReal (Gen.iblk m c 0 t (ix2 q l)) ((I.q q (cl (bk t) l) * (1 / 8 * lam) : ℝ) : EReal) := by
  obtain ⟨i0, i1, i2, i3, i4, i5, i6⟩ := idxs_in t
  refine (rd0 m c t _).trans (q_at H q (cl (bk t) l) _ ?_ ?_)
  · blk_simp [i0]
  · blk_simp [i0]; show t.val / 16 * 128 + l.val = 128 * (t.val / 16) + l.val; omega

include H in
theorem in1 (t : Fin cfg0.N) (κ : Fin 512) (l : Fin 128) : @Eq EReal (Gen.iblk m c 1 t (ix2 κ l)) ((I.k (key (jk t) κ) (cl (bk t) l) : ℝ) : EReal) := by
  obtain ⟨i0, i1, i2, i3, i4, i5, i6⟩ := idxs_in t
  refine (rd1 m c t _).trans (k_at H (key (jk t) κ) (cl (bk t) l) _ ?_ ?_)
  · blk_simp [i1]; show t.val % 16 * 512 + κ.val = 512 * (t.val % 16) + κ.val; omega
  · blk_simp [i1]; show (8 + t.val / 16) * 128 + l.val = 1024 + (128 * (t.val / 16) + l.val); omega

include H in
theorem in2 (t : Fin cfg0.N) (κ : Fin 512) (l : Fin 128) : @Eq EReal (Gen.iblk m c 2 t (ix2 κ l)) ((I.v (key (jk t) κ) (cl (bk t) l) : ℝ) : EReal) := by
  obtain ⟨i0, i1, i2, i3, i4, i5, i6⟩ := idxs_in t
  refine (rd2 m c t _).trans (v_at H (key (jk t) κ) (cl (bk t) l) _ ?_ ?_)
  · blk_simp [i2]; show t.val % 16 * 512 + κ.val = 512 * (t.val % 16) + κ.val; omega
  · blk_simp [i2]; show (16 + t.val / 16) * 128 + l.val = 2048 + (128 * (t.val / 16) + l.val); omega

include H in
theorem in3 (t : Fin cfg0.N) (κ : Fin 512) (h : Fin 2) : @Eq EReal (Gen.iblk m c 3 t (ix3 (0 : Fin 1) κ h)) ((I.cum (key (jk t) κ) (head (bk t) h) * -lam : ℝ) : EReal) := by
  obtain ⟨i0, i1, i2, i3, i4, i5, i6⟩ := idxs_in t
  refine (rd3 m c t _).trans (b_at H (head (bk t) h) (key (jk t) κ) _ ?_ ?_ ?_)
  · blk_simp [i3]; show t.val / 16 + 0 = (2 * (t.val / 16) + h.val) / 2; omega
  · blk_simp [i3]; show t.val % 16 * 512 + κ.val = 512 * (t.val % 16) + κ.val; omega
  · blk_simp [i3]; show h.val = (2 * (t.val / 16) + h.val) % 2; omega

include H in
theorem in4 (t : Fin cfg0.N) (q : Fin 8192) (l : Fin 128) : @Eq EReal (Gen.iblk m c 4 t (ix2 q l)) ((I.g q (cl (bk t) l) : ℝ) : EReal) := by
  obtain ⟨i0, i1, i2, i3, i4, i5, i6⟩ := idxs_in t
  refine (rd4 m c t _).trans <| (g_at H _).trans (congrArg₂ (fun a b => ((I.g a b : ℝ) : EReal)) (Fin.ext ?_) (Fin.ext ?_))
  · blk_simp [i4]
  · blk_simp [i4]; show t.val / 16 * 128 + l.val = 128 * (t.val / 16) + l.val; omega

include H in
theorem in5 (t : Fin cfg0.N) (h : Fin 2) (q : Fin 8192) :
    stat (Gen.iblk m c 5 t) h q = (((I.mx (head (bk t) h) q + Real.log (I.z (head (bk t) h) q) - I.cum q (head (bk t) h)) * lam : ℝ) : EReal) := by
  obtain ⟨i0, i1, i2, i3, i4, i5, i6⟩ := idxs_in t
  unfold stat
  refine (rd5 m c t _).trans (lse_at H (head (bk t) h) q _ ?_ ?_)
  · blk_simp [i5]; show t.val / 16 * 2 + h.val = 2 * (t.val / 16) + h.val; omega
  · blk_simp [i5]; show 512 * (q.val / 512) + q.val % 512 = q.val; omega

include H in
theorem in6 (t : Fin cfg0.N) (h : Fin 2) (q : Fin 8192) : stat (Gen.iblk m c 6 t) h q = ((I.dl (head (bk t) h) q : ℝ) : EReal) := by
  obtain ⟨i0, i1, i2, i3, i4, i5, i6⟩ := idxs_in t
  unfold stat
  refine (rd6 m c t _).trans (del_at H (head (bk t) h) q _ ?_ ?_)
  · blk_simp [i6]; show t.val / 16 * 2 + h.val = 2 * (t.val / 16) + h.val; omega
  · blk_simp [i6]; show 512 * (q.val / 512) + q.val % 512 = q.val; omega

theorem lo_hi (x : S512x128.Idx → EReal) (f : Fin 512 → Fin 128 → ℝ) (hx : ∀ κ l, x (ix2 κ l) = ((f κ l : ℝ) : EReal)) (h : Fin 2) (κ : Fin 512) (l : Fin 128) :
    (![lo x, hi x] : Fin 2 → S512x128.Idx → EReal) h (ix2 κ l) = (((if half l = h then f κ l else 0) : ℝ) : EReal) := by
  match h with
  | ⟨0, _⟩ =>
    show (if l.val < 64 then x (ix2 κ l) else 0) = _
    by_cases hl : l.val < 64
    · rw [if_pos hl, if_pos (Fin.ext (by show l.val / 64 = 0; omega)), hx]
    · rw [if_neg hl, if_neg (fun e => by have := congrArg Fin.val e; change l.val / 64 = 0 at this; omega), EReal.coe_zero]
  | ⟨1, _⟩ =>
    show (if l.val < 64 then 0 else x (ix2 κ l)) = _
    by_cases hl : l.val < 64
    · rw [if_pos hl, if_neg (fun e => by have := congrArg Fin.val e; change l.val / 64 = 1 at this; omega), EReal.coe_zero]
    · rw [if_neg hl, if_pos (Fin.ext (by show l.val / 64 = 1; omega)), hx]

include H in
theorem envOK (t : Fin cfg0.N) : EnvOK I (E m c t) (bk t) (jk t) where
  x2 := in0 H t
  k := lo_hi (Gen.iblk m c 1 t) (fun κ l => I.k (key (jk t) κ) (cl (bk t) l)) (in1 H t)
  v := lo_hi (Gen.iblk m c 2 t) (fun κ l => I.v (key (jk t) κ) (cl (bk t) l)) (in2 H t)
  x5 h κ := by
    match h with
    | ⟨0, _⟩ => exact in3 H t κ 0
    | ⟨1, _⟩ => exact in3 H t κ 1
  x6 := in4 H t
  x7 := in5 H t
  x8 := in6 H t
  j := E_j m c t

/-- The point of a key row and a column. -/
theorem bk_pt (a b : ℕ) (ha hb) : (bk (pt a b ha hb)).val = a := by show (16 * a + b) / 16 = a; omega
theorem jk_pt (a b : ℕ) (ha hb) : (jk (pt a b ha hb)).val = b := by show (16 * a + b) % 16 = b; omega

theorem tile_val (f : Fin cfg0.N → S512x128.Idx → EReal) (g : Fin 1024 → Fin 8192 → ℝ) (hf : ∀ t κ l, f t (ix2 κ l) = ((g (cl (bk t) l) (key (jk t) κ) : ℝ) : EReal))
    (y : S8192x1024.Idx) : tile f y = ((g (y 1) (y 0) : ℝ) : EReal) := by
  have h1 : (y 1).val < 1024 := (y 1).isLt
  have h0 : (y 0).val < 8192 := (y 0).isLt
  refine (hf _ _ _).trans (congrArg₂ (fun a b => ((g a b : ℝ) : EReal)) (Fin.ext ?_) (Fin.ext ?_))
  · show 128 * ((16 * ((y 1).val / 128) + (y 0).val / 512) / 16) + (y 1).val % 128 = (y 1).val
    omega
  · show 512 * ((16 * ((y 1).val / 128) + (y 0).val / 512) % 16) + (y 0).val % 512 = (y 0).val
    omega

include H in
theorem dk_at (y : S8192x1024.Idx) : (dat m c).arrAt 7 cfg0.N y = ((I.dk (hd (y 1)) (y 0) (ln (y 1)) : ℝ) : EReal) := by
  rw [final7]
  exact tile_val _ (fun x j => I.dk (hd x) j (ln x)) (fun t κ l => (envOK H t).outk_eq κ l) y

include H in
theorem dv_at (y : S8192x1024.Idx) : (dat m c).arrAt 8 cfg0.N y = ((I.dv (hd (y 1)) (y 0) (ln (y 1)) : ℝ) : EReal) := by
  rw [final8]
  exact tile_val _ (fun x j => I.dv (hd x) j (ln x)) (fun t κ l => (envOK H t).outv_eq κ l) y

include H in
theorem db_at (y : S8192x1024.Idx) : (dat m c).arrAt 9 cfg0.N y = ((∑ q, I.ds (hd (y 1)) q (y 0) : ℝ) : EReal) := by
  rw [final9]
  exact tile_val _ (fun x j => ∑ q, I.ds (hd x) q j) (fun t κ l => (envOK H t).outb_eq κ l) y

/-- The shares of the sixteen key blocks together. -/
theorem shares (f : Fin 8192 → ℝ) (T : ℕ → EReal) (hT : ∀ s : Fin 16, T s.val = ((∑ κ : Fin 512, f (key s κ) : ℝ) : EReal)) (n : ℕ) (hn : n = 16) :
    ∑ s ∈ Finset.range n, T s = ((∑ j, f j : ℝ) : EReal) := by
  subst hn
  rw [Finset.sum_range, sum_blocks, ← coe_sum]
  exact Finset.sum_congr rfl fun s _ => hT s

include H in
theorem termq_eq (b : Fin 8) (s : Fin 16) (q : Fin 8192) (l : Fin 128) : termq m c (16 * b.val + s.val) (ix2 q l)
    = ((∑ κ : Fin 512, I.ds (hd (cl b l)) q (key s κ) * I.k (key s κ) (cl b l) * (1 / 8) : ℝ) : EReal) := by
  have hlt : 16 * b.val + s.val < cfg0.N := by have hN : cfg0.N = 128 := Gen.N_0; omega
  have eb : bk ⟨_, hlt⟩ = b := Fin.ext (by show (16 * b.val + s.val) / 16 = b.val; omega)
  have es : jk ⟨_, hlt⟩ = s := Fin.ext (by show (16 * b.val + s.val) % 16 = s.val; omega)
  unfold termq
  rw [dif_pos hlt]
  have A := (envOK H ⟨_, hlt⟩).dqr_eq q l
  rw [eb, es] at A
  show (if 512 * ((16 * b.val + s.val) % 16) ≤ q.val then (E m c ⟨_, hlt⟩).dqr q l else 0) = _
  rw [A, show (16 * b.val + s.val) % 16 = s.val by omega]
  by_cases h : 512 * s.val ≤ q.val
  · rw [if_pos h, Finset.sum_mul]
  · rw [if_neg h, Finset.sum_eq_zero fun κ _ => by rw [I.ds_mask _ _ _ (EnvOK.key_gt h), zero_mul, zero_mul], EReal.coe_zero]

include H in
theorem termr_eq (b : Fin 8) (s : Fin 16) (y : S2x16x1x512.Idx) : termr m c (16 * b.val + s.val) y
    = ((∑ κ : Fin 512, I.ds (head b (y 0)) (Env.row y) (key s κ) : ℝ) : EReal) := by
  have hlt : 16 * b.val + s.val < cfg0.N := by have hN : cfg0.N = 128 := Gen.N_0; omega
  have eb : bk ⟨_, hlt⟩ = b := Fin.ext (by show (16 * b.val + s.val) / 16 = b.val; omega)
  have es : jk ⟨_, hlt⟩ = s := Fin.ext (by show (16 * b.val + s.val) % 16 = s.val; omega)
  unfold termr
  rw [dif_pos hlt]
  have A := (envOK H ⟨_, hlt⟩).drr_eq (y 0) (Env.row y)
  rw [eb, es] at A
  rw [A, show (16 * b.val + s.val) % 16 = s.val by omega]
  by_cases h : 512 * s.val ≤ (Env.row y).val
  · rw [if_pos h]
  · rw [if_neg h, Finset.sum_eq_zero fun κ _ => I.ds_mask _ _ _ (EnvOK.key_gt h), EReal.coe_zero]

theorem dq_of (I : Ins) (x : Fin 1024) (q : Fin 8192) : ∑ j, I.ds (hd x) q j * I.k j x * (1 / 8) = I.dq (hd x) q (ln x) := by
  rw [Ins.dq, col_hd, Finset.sum_mul]

include H in
theorem dq_at (y : S8192x1024.Idx) : (dat m c).arrAt 10 cfg0.N y = ((I.dq (hd (y 1)) (y 0) (ln (y 1)) : ℝ) : EReal) := by
  have h1 : (y 1).val < 1024 := (y 1).isLt
  rw [final10]
  let b : Fin 8 := ⟨(y 1).val / 128, by omega⟩
  let l : Fin 128 := ⟨(y 1).val % 128, by omega⟩
  have ec : cl b l = y 1 := Fin.ext (by show 128 * ((y 1).val / 128) + (y 1).val % 128 = (y 1).val; omega)
  have e1 : (16 * ((y 1).val / 128) + 15) / 16 = b.val := by show _ = (y 1).val / 128; omega
  show ∑ s ∈ Finset.range ((16 * ((y 1).val / 128) + 15) % 16 + 1), termq m c (16 * ((16 * ((y 1).val / 128) + 15) / 16) + s) (ix2 (y 0) l) = _
  rw [e1]
  refine (shares (fun j => I.ds (hd (cl b l)) (y 0) j * I.k j (cl b l) * (1 / 8)) _ (fun s => termq_eq H b s (y 0) l) _ (by omega)).trans ?_
  rw [ec]
  exact congrArg (fun r : ℝ => (r : EReal)) (dq_of I (y 1) (y 0))

include H in
theorem dr_at (y : S16x16x1x512.Idx) : (dat m c).arrAt 11 cfg0.N y
    = ((∑ j, I.ds (y 0) (⟨512 * (y 1).val + (y 3).val, by have h1 : (y 1).val < 16 := (y 1).isLt; have h3 : (y 3).val < 512 := (y 3).isLt; omega⟩ : Fin 8192) j : ℝ) : EReal) := by
  have h0 : (y 0).val < 16 := (y 0).isLt
  rw [final11]
  let b : Fin 8 := ⟨(y 0).val / 2, by omega⟩
  let h : Fin 2 := ⟨(y 0).val % 2, by omega⟩
  have ec : head b h = y 0 := Fin.ext (by show 2 * ((y 0).val / 2) + (y 0).val % 2 = (y 0).val; omega)
  have e1 : (16 * ((y 0).val / 2) + 15) / 16 = b.val := by show _ = (y 0).val / 2; omega
  show ∑ s ∈ Finset.range ((16 * ((y 0).val / 2) + 15) % 16 + 1), termr m c (16 * ((16 * ((y 0).val / 2) + 15) / 16) + s) (ix4 h (y 1) (0 : Fin 1) (y 3)) = _
  rw [e1]
  refine (shares _ _ (fun s => termr_eq H b s (ix4 h (y 1) (0 : Fin 1) (y 3))) _ (by omega)).trans ?_
  show ((∑ j, I.ds (head b h) _ j : ℝ) : EReal) = _
  rw [ec]
  rfl

end Cert.Proof.KernelIdeal
end
-- ==== Proof.KernelIdeal.Final.lean ====
/- The results of the two programs are one. -/
module

public import proofs.«01_k».proof.Proof.KernelIdeal.Point
public import proofs.«01_k».proof.Defs
public import proofs.«01_k».proof.Proof.Gen.ReferenceIdeal.Run

@[expose] public section

set_option maxRecDepth 16384
set_option maxHeartbeats 4000000

noncomputable section

namespace Cert.Proof.KernelIdeal

open Cert.KernelIdeal
open Idealize.ShloMosaic Idealize.ShloMosaic.TcCoe

open Cert.Proof.Fox (Arr Arc Ins Has HasMax col hd ln coe_sum)
open Cert.ReferenceIdeal.Read (val_main_v20 val_main_v85 val_main_v87 val_main_v88 val_main_v89)

/-- The side conditions of the precondition's lines. -/
theorem pre_facts : Cert.Pre_finite.Facts := ⟨by decide, by decide⟩

/-- A value whose magnitude is below infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

variable (m : (ℓ : Loc nD τ sig) → Buf (Elt Ideal) ℓ)

theorem exists_ins (x0 x1 x2 : Arr) (x3 : Arc) (x4 : Arr) (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) (h4 : ∀ i, ∃ r : ℝ, x4 i = (r : EReal)) :
    ∃ I : Ins, Has I x0 x1 x2 x3 x4 ∧ HasMax I x0 x1 x3 := by
  choose f0 e0 using h0
  choose f1 e1 using h1
  choose f2 e2 using h2
  choose f3 e3 using h3
  choose f4 e4 using h4
  have g : ∀ f : S8192x1024.Idx → ℝ, ∀ i : S8192x1024.Idx, ((f i : ℝ) : EReal) = ((f (ix2 (i 0) (i 1)) : ℝ) : EReal) := fun f i => congrArg (fun i => ((f i : ℝ) : EReal)) (eq_ix2 i)
  have g' : ∀ f : S8192x16.Idx → ℝ, ∀ i : S8192x16.Idx, ((f i : ℝ) : EReal) = ((f (ix2 (i 0) (i 1)) : ℝ) : EReal) := fun f i => congrArg (fun i => ((f i : ℝ) : EReal)) (eq_ix2 i)
  have H : ∀ M : Fin 16 → Fin 8192 → ℝ, Has ⟨fun a b => f0 (ix2 a b), fun a b => f1 (ix2 a b), fun a b => f2 (ix2 a b), fun a b => f4 (ix2 a b), fun a b => f3 (ix2 a b), M⟩ x0 x1 x2 x3 x4 := fun M =>
    ⟨fun i => (e0 i).trans (g f0 i), fun i => (e1 i).trans (g f1 i), fun i => (e2 i).trans (g f2 i), fun i => (e3 i).trans (g' f3 i), fun i => (e4 i).trans (g f4 i)⟩
  have hm := fun i => Fox.max_real (H fun _ _ => 0) i
  choose M eM using hm
  exact ⟨_, H fun a b => M (ix2 a b), fun i => (eM i).trans (congrArg (fun i => ((M i : ℝ) : EReal)) (eq_ix2 i))⟩

theorem exists_holds [hP : Cert.Pre_finite.Facts] (h : Cert.Pre_KernelIdeal_finite m) (c : Dev nD) : ∃ I : Ins, Holds m I c := by
  obtain ⟨h0, h1, h2, h3, h4⟩ := h c
  obtain ⟨I, H, M⟩ := exists_ins (a0 m c) (a1 m c) (a2 m c) (a3 m c) (a4 m c) (fun i => real_of_lt _ (congrFun h0 i)) (fun i => real_of_lt _ (congrFun h1 i)) (fun i => real_of_lt _ (congrFun h2 i))
    (fun i => real_of_lt _ (congrFun h3 i)) (fun i => real_of_lt _ (congrFun h4 i))
  exact ⟨I, H, M⟩

/-- What the host makes of the row sums and of the key sums. -/
def tailV (X : S16x16x1x512.Idx → EReal) (Y : S8192x1024.Idx → EReal) : S8192x16.Idx → EReal :=
  subf (F := Ideal) (φ := .f32) (transpose S8192x16 [1, 0] (shapeCast S16x8192 X Gen.shapeCasts_S16x16x1x512_S16x8192) Gen.transposes_S16x8192_S8192x16_1_0)
    (Host.slice S8192x16 ![0, 0] ![1, 64] Y Gen.slicesBy_S8192x1024_S8192x16_0s1_0s64)

theorem tail_after (W : Valuation τ sig (Elt Ideal)) :
    StableHlo.after [Gen.hostOps1].flatten W (Proc.devRef .tc main_v91) = tailV (W (Proc.devRef .tc main_v87_4)) (W (Proc.devRef .tc main_v87_2)) := by
  simp only [Gen.hostOps1, List.flatten_cons, List.flatten_nil, List.append_nil, List.cons_append, List.nil_append]
  after_results_simp
  all_goals rfl

theorem tail_eq (c : Dev nD) : Pipeline.afterTail₀ cfgs (dats m) 0 (Gen.V0 m) [Gen.hostOps1] c main_v91 = tailV ((dat m c).arrAt 11 cfg0.N) ((dat m c).arrAt 9 cfg0.N) := by
  unfold Pipeline.afterTail₀
  rw [tail_after]
  have e11 := (dat m c).withArrays_arrAt Gen.sharedIn0 (Gen.V0 m c) (fun w => dat_A m c w) 11
  have e9 := (dat m c).withArrays_arrAt Gen.sharedIn0 (Gen.V0 m c) (fun w => dat_A m c w) 9
  exact congrArg₂ tailV e11 e9

theorem tailV_at (X : S16x16x1x512.Idx → EReal) (Y : S8192x1024.Idx → EReal) (i : Fin 8192) (n : Fin 16) :
    tailV X Y (ix2 i n) = X (ix4 n (⟨i.val / 512, by omega⟩ : Fin 16) (0 : Fin 1) (⟨i.val % 512, by omega⟩ : Fin 512)) - Y (ix2 i (⟨64 * n.val, by omega⟩ : Fin 1024)) := by
  unfold tailV
  refine congrArg₂ (fun a b : EReal => a - b) ?_ ?_
  · refine (transpose_apply _ _ _ (ix2 i n) (ix2 n i) ?_).trans (shapeCast_apply _ _ (ix2 n i) _ ?_)
    · intro k; match k with
      | ⟨0, _⟩ => rfl
      | ⟨1, _⟩ => rfl
    · simp [Shape.rowMajor_val_two, Shape.rowMajor_val_four]
      omega
  · rw [Host.slice_apply]
    refine congrArg Y (ext_mat ?_ ?_)
    · show 0 + 1 * i.val = i.val; omega
    · show 0 + 64 * n.val = 64 * n.val; omega

variable {m} {I : Ins} {c : Dev nD} (H : Holds m I c)

include H in
theorem dc_at (y : S8192x16.Idx) : tailV ((dat m c).arrAt 11 cfg0.N) ((dat m c).arrAt 9 cfg0.N) y = ((I.dc (y 1) (y 0) : ℝ) : EReal) := by
  have g : ∀ (i : Fin 8192) (n : Fin 16), tailV ((dat m c).arrAt 11 cfg0.N) ((dat m c).arrAt 9 cfg0.N) (ix2 i n) = ((I.dc n i : ℝ) : EReal) := fun i n => by
    refine (tailV_at _ _ i n).trans ?_
    refine (congrArg₂ (fun a b : EReal => a - b) (dr_at H _) (db_at H _)).trans ?_
    rw [← EReal.coe_sub]
    refine congrArg (fun r : ℝ => (r : EReal)) ?_
    unfold Ins.dc
    refine congrArg₂ (fun a b : ℝ => a - b) ?_ ?_
    · exact congrArg (fun i => ∑ j, I.ds n i j) (Fin.ext (by show 512 * (i.val / 512) + i.val % 512 = i.val; omega))
    · exact congrArg (fun n => ∑ q, I.ds n q i) (Fin.ext (by show 64 * n.val / 64 = n.val; omega))
  exact (congrArg _ (eq_ix2 y)).trans (g (y 0) (y 1))

include H in
theorem dq_same : (dat m c).arrAt 10 cfg0.N = val_main_v87 (F := Ideal) (a0 m c) (a1 m c) (a2 m c) (a3 m c) (a4 m c) :=
  funext fun y => (dq_at H y).trans (Fox.a_v87 H.has H.max y).symm
include H in
theorem dk_same : (dat m c).arrAt 7 cfg0.N = val_main_v88 (F := Ideal) (a0 m c) (a1 m c) (a2 m c) (a3 m c) (a4 m c) :=
  funext fun y => (dk_at H y).trans (Fox.a_v88 H.has H.max y).symm
include H in
theorem dv_same : (dat m c).arrAt 8 cfg0.N = val_main_v89 (F := Ideal) (a0 m c) (a1 m c) (a3 m c) (a4 m c) :=
  funext fun y => (dv_at H y).trans (Fox.a_v89 H.has H.max y).symm
include H in
theorem dc_same : Pipeline.afterTail₀ cfgs (dats m) 0 (Gen.V0 m) [Gen.hostOps1] c main_v91 = val_main_v85 (F := Ideal) (a0 m c) (a1 m c) (a2 m c) (a3 m c) (a4 m c) :=
  (tail_eq m c).trans (funext fun y => (dc_at H y).trans (Fox.a_v85 H.has H.max y).symm)

theorem kernel_run [hP : Cert.Pre_finite.Facts] (m : (ℓ : Loc nD τ sig) → Buf (Elt Ideal) ℓ) (g : Dev nD → PrngReg) (h : Cert.Pre_KernelIdeal_finite m) :
    θ_run (defs (F := Ideal)) (onTc (τ := τ) (main (F := Ideal))) ⟨m, fun _ => 0, g⟩ (fun r => ∀ c : Dev nD,
      r.2.mem ((c.tc : Thread nD τ).loc main_v87_3) = val_main_v87 (F := Ideal) (a0 m c) (a1 m c) (a2 m c) (a3 m c) (a4 m c)
      ∧ r.2.mem ((c.tc : Thread nD τ).loc main_v87_0) = val_main_v88 (F := Ideal) (a0 m c) (a1 m c) (a2 m c) (a3 m c) (a4 m c)
      ∧ r.2.mem ((c.tc : Thread nD τ).loc main_v87_1) = val_main_v89 (F := Ideal) (a0 m c) (a1 m c) (a3 m c) (a4 m c)
      ∧ r.2.mem ((c.tc : Thread nD τ).loc main_v91) = val_main_v85 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (run_val m g)
  obtain ⟨I, H⟩ := exists_holds m h c
  obtain ⟨ha, hb⟩ := hr.1 c
  exact ⟨(ha 10).trans (dq_same H), (ha 7).trans (dk_same H), (ha 8).trans (dv_same H),
    (hb main_v91 (Pipeline.mem_restRefs_of main_v91 (by decide) (by decide))).trans (dc_same H),
    (hb main_arg0 (Pipeline.mem_restRefs_of main_arg0 (by decide) (by decide))).trans (Gen.W_main_arg0 m (dats m) c),
    (hb main_arg1 (Pipeline.mem_restRefs_of main_arg1 (by decide) (by decide))).trans (Gen.W_main_arg1 m (dats m) c),
    (hb main_arg2 (Pipeline.mem_restRefs_of main_arg2 (by decide) (by decide))).trans (Gen.W_main_arg2 m (dats m) c),
    (hb main_arg3 (Pipeline.mem_restRefs_of main_arg3 (by decide) (by decide))).trans (Gen.W_main_arg3 m (dats m) c),
    (hb main_arg4 (Pipeline.mem_restRefs_of main_arg4 (by decide) (by decide))).trans (Gen.W_main_arg4 m (dats m) c)⟩

theorem algebraic [hP : Cert.Pre_finite.Facts] : Cert.algebraic_KernelIdeal_ReferenceIdeal_pre_finite := by
  intro m g m' g' hpre hargs
  refine ⟨fun c => val_main_v87 (F := Ideal) (a0 m c) (a1 m c) (a2 m c) (a3 m c) (a4 m c), fun c => val_main_v88 (F := Ideal) (a0 m c) (a1 m c) (a2 m c) (a3 m c) (a4 m c), fun c => val_main_v89 (F := Ideal) (a0 m c) (a1 m c) (a3 m c) (a4 m c),
    fun c => val_main_v85 (F := Ideal) (a0 m c) (a1 m c) (a2 m c) (a3 m c) (a4 m c), kernel_run m g hpre, ?_⟩
  refine (θ_run Cert.ReferenceIdeal.defs _ _).mono (fun r hr c => ?_) (Cert.ReferenceIdeal.Value.run (F := Ideal) m' g')
  obtain ⟨h87, h88, h89, h85, hr⟩ := hr c
  obtain ⟨e0, e1, e2, e3, e4⟩ := hargs c
  refine ⟨h87.trans ?_, h88.trans ?_, h89.trans ?_, h85.trans ?_, hr⟩
  · rw [Cert.ReferenceIdeal.Read.val_main_v87_eq, e0, e1, e2, e3, e4]
  · rw [Cert.ReferenceIdeal.Read.val_main_v88_eq, e0, e1, e2, e3, e4]
  · rw [Cert.ReferenceIdeal.Read.val_main_v89_eq, e0, e1, e3, e4]
  · rw [Cert.ReferenceIdeal.Read.val_main_v85_eq, e0, e1, e2, e3, e4]

end Cert.Proof.KernelIdeal
end
-- ==== Proof.Products.lean ====
/- What the proofs of the matrix products share: indices of rank two, and a sum cut into four consecutive pieces. -/
module

public import Idealize.ShloMosaic.Lib.Pointwise

@[expose] public section

noncomputable section

namespace Cert.Proof.Products

open Idealize.ShloMosaic

/-- Two indices of rank two are equal when their coordinates are. -/
theorem ext_at {a b : ℕ} (x y : (⟨2, ![a, b]⟩ : Shape).Idx) (h0 : (x 0).val = (y 0).val) (h1 : (x 1).val = (y 1).val) : x = y :=
  funext fun d => Fin.ext (by match d with
    | ⟨0, _⟩ => exact h0
    | ⟨1, _⟩ => exact h1)

/-- Place `s` of a run of four points. -/
theorem mod_four (r s : ℕ) (h : s < 4) : (4 * r + s) % 4 = s := by omega

/-- A sum over an axis is the sum of its four quarters, added from the left. -/
theorem sum_quarters {K B : ℕ} (hK : K = 4 * B) (f : Fin K → EReal) :
    ∑ k : Fin K, f k = ∑ k : Fin B, f ⟨B * 0 + k.val, by omega⟩ + ∑ k : Fin B, f ⟨B * 1 + k.val, by omega⟩
      + ∑ k : Fin B, f ⟨B * 2 + k.val, by omega⟩ + ∑ k : Fin B, f ⟨B * 3 + k.val, by omega⟩ := by
  subst hK
  refine (Equiv.sum_comp (finProdFinEquiv (m := 4) (n := B)) f).symm.trans ((Fintype.sum_prod_type _).trans ((Fin.sum_univ_four _).trans ?_))
  refine congrArg₂ (· + ·) (congrArg₂ (· + ·) (congrArg₂ (· + ·) ?_ ?_) ?_) ?_ <;>
    exact Finset.sum_congr rfl fun k _ => congrArg f (Fin.ext (Nat.add_comm _ _))

end Cert.Proof.Products
end
-- ==== Proof.Kernel2Ideal.Product.lean ====
/- The product of the call ffn_up_dx, block by block, against the derivative of the up-projection in its input. -/
module

public import proofs.«01_k».proof.Proof.Products
public import proofs.«01_k».proof.Proof.Gen.Kernel2Ideal.Value
public import proofs.«01_k».proof.Proof.Gen.Reference2Ideal.Read
public import Idealize.ShloMosaic.Lib.Pipeline.ValueKit
public import proofs.«01_k».proof.Defs

@[expose] public section

set_option maxRecDepth 16384

noncomputable section

namespace Cert.Proof.K2

open Cert.Kernel2Ideal Cert.Kernel2Ideal.Gen Cert.Kernel2Ideal.Value Cert.Reference2Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 32 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S1024x1408.Idx → EReal) (y : S1024x1408.Idx → EReal) (i : S1024x1024.Idx) : @Eq EReal (k0_pay1 (F := Ideal) x y i) (∑ k : Fin 1408, x (ix2 (i 0) k) * y (ix2 (i 1) k)) := by
  pointwise [k0_pay1]

theorem pay2 (x : S1024x1408.Idx → EReal) (y : S1024x1408.Idx → EReal) (i : S1024x1024.Idx) : @Eq EReal (k0_pay2 (F := Ideal) x y i) (k0_pay1 (F := Ideal) x y i) := by
  unfold k0_pay2
  generalize k0_pay1 (F := Ideal) x y = p
  pointwise

theorem pay3 (x : S1024x1408.Idx → EReal) (y : S1024x1408.Idx → EReal) (z : S1024x1024.Idx → EReal) (i : S1024x1024.Idx) : @Eq EReal (k0_pay3 (F := Ideal) x y z i) ((z i : EReal) + (k0_pay1 (F := Ideal) x y i : EReal)) := by
  unfold k0_pay3
  generalize k0_pay1 (F := Ideal) x y = p
  pointwise

theorem pay4 (z : S1024x1024.Idx → EReal) (i : S1024x1024.Idx) : @Eq EReal (k0_pay4 (F := Ideal) z i) (z i) := rfl

/-! A block is its array's cells. -/

abbrev a0 : S8192x5632.Idx → EReal := m ((c.tc : Thread nD τ).loc main_arg0)
abbrev a1 : S1024x5632.Idx → EReal := m ((c.tc : Thread nD τ).loc main_arg1)

theorem rd0 (t : Fin cfg0.N) (y : S1024x1408.Idx) : @Eq EReal (iblk m c 0 t y) (a0 m c (((cfg0.win 0).blk t).view.emb y)) :=
  congrFun (V_main_arg0 m c) _
theorem rd1 (t : Fin cfg0.N) (y : S1024x1408.Idx) : @Eq EReal (iblk m c 1 t y) (a1 m c (((cfg0.win 1).blk t).view.emb y)) :=
  congrFun (V_main_arg1 m c) _

theorem idxs : ∀ t : Fin cfg0.N, win0_0.index t = ![t.val / 4, t.val % 4] ∧ win0_1.index t = ![0, t.val % 4] :=
  (by decide +kernel : ∀ t : Fin grid0.N, _)

/-! The product. -/

def summand (i : S8192x1024.Idx) (k : Fin 5632) : EReal := a0 m c (lidx_main_v4 i k) * a1 m c (ridx_main_v4 i k)

theorem run_lt (i : S8192x1024.Idx) (s : Fin 4) : 4 * run2Of i + s.val < cfg0.N := by
  have h0 : (i 0).val < 8192 := (i 0).isLt
  have h1 : (i 1).val < 1024 := (i 1).isLt
  rw [show cfg0.N = 32 from N_0]
  unfold run2Of
  omega

abbrev pt (i : S8192x1024.Idx) (s : Fin 4) : Fin cfg0.N := ⟨4 * run2Of i + s.val, run_lt i s⟩

theorem part_at (i : S8192x1024.Idx) (s : Fin 4) : @Eq EReal (k0_pay1 (F := Ideal) (iblk m c 0 (pt i s)) (iblk m c 1 (pt i s)) (loc2Of i))
    (∑ k : Fin 1408, summand m c i ⟨1408 * s.val + k.val, by omega⟩) := by
  refine (part _ _ _).trans (Finset.sum_congr rfl fun k _ => ?_)
  obtain ⟨e0, e1⟩ := idxs (pt i s)
  have h0 : (i 0).val < 8192 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show ((4 * run2Of i + s.val) / 4) * 1024 + _ = _
    try unfold run2Of
    omega
  · show win0_0.index _ (1 : Fin 2) * 1408 + 1 * k.val = 1408 * s.val + k.val
    rw [e0]; show ((4 * run2Of i + s.val) % 4) * 1408 + _ = _
    try unfold run2Of
    omega
  · show win0_1.index _ (0 : Fin 2) * 1024 + 1 * ((i 1).val % 1024) = (i 1).val
    rw [e1]; show (0) * 1024 + _ = _
    try unfold run2Of
    omega
  · show win0_1.index _ (1 : Fin 2) * 1408 + 1 * k.val = 1408 * s.val + k.val
    rw [e1]; show ((4 * run2Of i + s.val) % 4) * 1408 + _ = _
    try unfold run2Of
    omega

theorem G2_at (i : S8192x1024.Idx) : @Eq EReal (G2 m c i) (∑ k : Fin 5632, summand m c i k) := by
  have hl : pt2Of i < cfg0.N := run_lt i 3
  rw [sum_quarters (B := 1408) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v5 (F := Ideal) (a0 m c) (a1 m c) :=
  funext fun i => (G2_at m c i).trans (val_main_v4_apply (a0 m c) (a1 m c) i).symm

theorem frame_r : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic : Cert.algebraic_Kernel2Ideal_Reference2Ideal := by
  intro m g m' g' _ hargs
  refine ⟨fun c => val_main_v5 (F := Ideal) (a0 m c) (a1 m c), ?_, ?_⟩
  · exact (θ_run Cert.Kernel2Ideal.defs _ _).mono (fun r hr c => ⟨(hr c).1.trans (value m c), (hr c).2⟩) (Cert.Kernel2Ideal.Value.run (F := Ideal) m g)
  · refine (θ_run Cert.Reference2Ideal.defs _ _).mono (fun r hr c => ?_) (Cert.Reference2Ideal.Value.run (F := Ideal) m' g')
    obtain ⟨h, hr⟩ := hr c
    obtain ⟨e0, e1⟩ := hargs c
    refine ⟨h.trans ?_, hr⟩
    rw [val_main_v5_eq, e0, e1]

end Cert.Proof.K2
end
-- ==== Proof.Kernel3Ideal.Product.lean ====
/- The product of the call ffn_up_dw, block by block, against the derivative of the up-projection in its weight. -/
module

public import proofs.«01_k».proof.Proof.Products
public import proofs.«01_k».proof.Proof.Gen.Kernel3Ideal.Value
public import proofs.«01_k».proof.Proof.Gen.Reference3Ideal.Read
public import Idealize.ShloMosaic.Lib.Pipeline.ValueKit
public import proofs.«01_k».proof.Defs

@[expose] public section

set_option maxRecDepth 16384

noncomputable section

namespace Cert.Proof.K3

open Cert.Kernel3Ideal Cert.Kernel3Ideal.Gen Cert.Kernel3Ideal.Value Cert.Reference3Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 16 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x1024.Idx → EReal) (y : S2048x1408.Idx → EReal) (i : S1024x1408.Idx) : @Eq EReal (k0_pay1 (F := Ideal) x y i) (∑ k : Fin 2048, x (ix2 k (i 0)) * y (ix2 k (i 1))) := by
  pointwise [k0_pay1]

theorem pay2 (x : S2048x1024.Idx → EReal) (y : S2048x1408.Idx → EReal) (i : S1024x1408.Idx) : @Eq EReal (k0_pay2 (F := Ideal) x y i) (k0_pay1 (F := Ideal) x y i) := by
  unfold k0_pay2
  generalize k0_pay1 (F := Ideal) x y = p
  pointwise

theorem pay3 (x : S2048x1024.Idx → EReal) (y : S2048x1408.Idx → EReal) (z : S1024x1408.Idx → EReal) (i : S1024x1408.Idx) : @Eq EReal (k0_pay3 (F := Ideal) x y z i) ((z i : EReal) + (k0_pay1 (F := Ideal) x y i : EReal)) := by
  unfold k0_pay3
  generalize k0_pay1 (F := Ideal) x y = p
  pointwise

theorem pay4 (z : S1024x1408.Idx → EReal) (i : S1024x1408.Idx) : @Eq EReal (k0_pay4 (F := Ideal) z i) (z i) := rfl

/-! A block is its array's cells. -/

abbrev a0 : S8192x1024.Idx → EReal := m ((c.tc : Thread nD τ).loc main_arg0)
abbrev a1 : S8192x5632.Idx → EReal := m ((c.tc : Thread nD τ).loc main_arg1)

theorem rd0 (t : Fin cfg0.N) (y : S2048x1024.Idx) : @Eq EReal (iblk m c 0 t y) (a0 m c (((cfg0.win 0).blk t).view.emb y)) :=
  congrFun (V_main_arg0 m c) _
theorem rd1 (t : Fin cfg0.N) (y : S2048x1408.Idx) : @Eq EReal (iblk m c 1 t y) (a1 m c (((cfg0.win 1).blk t).view.emb y)) :=
  congrFun (V_main_arg1 m c) _

theorem idxs : ∀ t : Fin cfg0.N, win0_0.index t = ![t.val % 4, 0] ∧ win0_1.index t = ![t.val % 4, t.val / 4] :=
  (by decide +kernel : ∀ t : Fin grid0.N, _)

/-! The product. -/

def summand (i : S1024x5632.Idx) (k : Fin 8192) : EReal := a0 m c (ridx_main_v4 (idx_main_v5 i) k) * a1 m c (lidx_main_v4 (idx_main_v5 i) k)

theorem run_lt (i : S1024x5632.Idx) (s : Fin 4) : 4 * run2Of i + s.val < cfg0.N := by
  have h0 : (i 0).val < 1024 := (i 0).isLt
  have h1 : (i 1).val < 5632 := (i 1).isLt
  rw [show cfg0.N = 16 from N_0]
  unfold run2Of
  omega

abbrev pt (i : S1024x5632.Idx) (s : Fin 4) : Fin cfg0.N := ⟨4 * run2Of i + s.val, run_lt i s⟩

theorem part_at (i : S1024x5632.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 1024 := (i 0).isLt
  have h1 : (i 1).val < 5632 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 1024 + 1 * ((i 0).val % 1024) = (i 0).val
    rw [e0]; show (0) * 1024 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 1408 + 1 * ((i 1).val % 1408) = (i 1).val
    rw [e1]; show ((4 * run2Of i + s.val) / 4) * 1408 + _ = _
    try unfold run2Of
    omega

theorem G2_at (i : S1024x5632.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v6 (F := Ideal) (a0 m c) (a1 m c) :=
  funext fun i => (G2_at m c i).trans ((Finset.sum_congr rfl fun k _ => mul_comm _ _).trans ((val_main_v4_apply (a0 m c) (a1 m c) (idx_main_v5 i)).symm.trans (val_main_v5_apply (F := Ideal) (a0 m c) (a1 m c) i).symm))

theorem frame_r : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic : Cert.algebraic_Kernel3Ideal_Reference3Ideal := by
  intro m g m' g' _ hargs
  refine ⟨fun c => val_main_v6 (F := Ideal) (a0 m c) (a1 m c), ?_, ?_⟩
  · exact (θ_run Cert.Kernel3Ideal.defs _ _).mono (fun r hr c => ⟨(hr c).1.trans (value m c), (hr c).2⟩) (Cert.Kernel3Ideal.Value.run (F := Ideal) m g)
  · refine (θ_run Cert.Reference3Ideal.defs _ _).mono (fun r hr c => ?_) (Cert.Reference3Ideal.Value.run (F := Ideal) m' g')
    obtain ⟨h, hr⟩ := hr c
    obtain ⟨e0, e1⟩ := hargs c
    refine ⟨h.trans ?_, hr⟩
    rw [val_main_v6_eq, e0, e1]

end Cert.Proof.K3
end
-- ==== Proof.Kernel4Ideal.Product.lean ====
/- The product of the call ffn_down_dw, block by block, against the derivative of the down-projection in its weight. -/
module

public import proofs.«01_k».proof.Proof.Products
public import proofs.«01_k».proof.Proof.Gen.Kernel4Ideal.Value
public import proofs.«01_k».proof.Proof.Gen.Reference4Ideal.Read
public import Idealize.ShloMosaic.Lib.Pipeline.ValueKit
public import proofs.«01_k».proof.Defs

@[expose] public section

set_option maxRecDepth 16384

noncomputable section

namespace Cert.Proof.K4

open Cert.Kernel4Ideal Cert.Kernel4Ideal.Gen Cert.Kernel4Ideal.Value Cert.Reference4Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 8 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x1408.Idx → EReal) (y : S2048x1024.Idx → EReal) (i : S1408x1024.Idx) : @Eq EReal (k0_pay1 (F := Ideal) x y i) (∑ k : Fin 2048, x (ix2 k (i 0)) * y (ix2 k (i 1))) := by
  pointwise [k0_pay1]

theorem pay2 (x : S2048x1408.Idx → EReal) (y : S2048x1024.Idx → EReal) (i : S1408x1024.Idx) : @Eq EReal (k0_pay2 (F := Ideal) x y i) (k0_pay1 (F := Ideal) x y i) := by
  unfold k0_pay2
  generalize k0_pay1 (F := Ideal) x y = p
  pointwise

theorem pay3 (x : S2048x1408.Idx → EReal) (y : S2048x1024.Idx → EReal) (z : S1408x1024.Idx → EReal) (i : S1408x1024.Idx) : @Eq EReal (k0_pay3 (F := Ideal) x y z i) ((z i : EReal) + (k0_pay1 (F := Ideal) x y i : EReal)) := by
  unfold k0_pay3
  generalize k0_pay1 (F := Ideal) x y = p
  pointwise

theorem pay4 (z : S1408x1024.Idx → EReal) (i : S1408x1024.Idx) : @Eq EReal (k0_pay4 (F := Ideal) z i) (z i) := rfl

/-! A block is its array's cells. -/

abbrev a0 : S8192x2816.Idx → EReal := m ((c.tc : Thread nD τ).loc main_arg0)
abbrev a1 : S8192x1024.Idx → EReal := m ((c.tc : Thread nD τ).loc main_arg1)

theorem rd0 (t : Fin cfg0.N) (y : S2048x1408.Idx) : @Eq EReal (iblk m c 0 t y) (a0 m c (((cfg0.win 0).blk t).view.emb y)) :=
  congrFun (V_main_arg0 m c) _
theorem rd1 (t : Fin cfg0.N) (y : S2048x1024.Idx) : @Eq EReal (iblk m c 1 t y) (a1 m c (((cfg0.win 1).blk t).view.emb y)) :=
  congrFun (V_main_arg1 m c) _

theorem idxs : ∀ t : Fin cfg0.N, win0_0.index t = ![t.val % 4, t.val / 4] ∧ win0_1.index t = ![t.val % 4, 0] :=
  (by decide +kernel : ∀ t : Fin grid0.N, _)

/-! The product. -/

def summand (i : S2816x1024.Idx) (k : Fin 8192) : EReal := a0 m c (ridx_main_v4 (idx_main_v5 i) k) * a1 m c (lidx_main_v4 (idx_main_v5 i) k)

theorem run_lt (i : S2816x1024.Idx) (s : Fin 4) : 4 * run2Of i + s.val < cfg0.N := by
  have h0 : (i 0).val < 2816 := (i 0).isLt
  have h1 : (i 1).val < 1024 := (i 1).isLt
  rw [show cfg0.N = 8 from N_0]
  unfold run2Of
  omega

abbrev pt (i : S2816x1024.Idx) (s : Fin 4) : Fin cfg0.N := ⟨4 * run2Of i + s.val, run_lt i s⟩

theorem part_at (i : S2816x1024.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 2816 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 1408 + 1 * ((i 0).val % 1408) = (i 0).val
    rw [e0]; show ((4 * run2Of i + s.val) / 4) * 1408 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 1024 + 1 * ((i 1).val % 1024) = (i 1).val
    rw [e1]; show (0) * 1024 + _ = _
    try unfold run2Of
    omega

theorem G2_at (i : S2816x1024.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v6 (F := Ideal) (a0 m c) (a1 m c) :=
  funext fun i => (G2_at m c i).trans ((Finset.sum_congr rfl fun k _ => mul_comm _ _).trans ((val_main_v4_apply (a0 m c) (a1 m c) (idx_main_v5 i)).symm.trans (val_main_v5_apply (F := Ideal) (a0 m c) (a1 m c) i).symm))

theorem frame_r : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic : Cert.algebraic_Kernel4Ideal_Reference4Ideal := by
  intro m g m' g' _ hargs
  refine ⟨fun c => val_main_v6 (F := Ideal) (a0 m c) (a1 m c), ?_, ?_⟩
  · exact (θ_run Cert.Kernel4Ideal.defs _ _).mono (fun r hr c => ⟨(hr c).1.trans (value m c), (hr c).2⟩) (Cert.Kernel4Ideal.Value.run (F := Ideal) m g)
  · refine (θ_run Cert.Reference4Ideal.defs _ _).mono (fun r hr c => ?_) (Cert.Reference4Ideal.Value.run (F := Ideal) m' g')
    obtain ⟨h, hr⟩ := hr c
    obtain ⟨e0, e1⟩ := hargs c
    refine ⟨h.trans ?_, hr⟩
    rw [val_main_v6_eq, e0, e1]

end Cert.Proof.K4
end
-- ==== Proof.Kernel5Ideal.Product.lean ====
/- The product of the call ffn_down_dx, block by block, against the derivative of the down-projection in its input. -/
module

public import proofs.«01_k».proof.Proof.Products
public import proofs.«01_k».proof.Proof.Gen.Kernel5Ideal.Value
public import proofs.«01_k».proof.Proof.Gen.Reference5Ideal.Read
public import Idealize.ShloMosaic.Lib.Pipeline.ValueKit
public import proofs.«01_k».proof.Defs

@[expose] public section

set_option maxRecDepth 16384

noncomputable section

namespace Cert.Proof.K5

open Cert.Kernel5Ideal Cert.Kernel5Ideal.Gen Cert.Kernel5Ideal.Value Cert.Reference5Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x1024.Idx → EReal) (y : S1408x1024.Idx → EReal) (i : S1024x1408.Idx) : @Eq EReal (k0_pay1 (F := Ideal) x y i) (∑ k : Fin 1024, x (ix2 (i 0) k) * y (ix2 (i 1) k)) := by
  pointwise [k0_pay1]

theorem left_eq (x : S1024x1024.Idx → EReal) (y : S1408x1024.Idx → EReal) : out0_2 (F := Ideal) x y = k0_pay1 (F := Ideal) x y := by
  frame_out

/-! A block is its array's cells. -/

abbrev a0 : S8192x1024.Idx → EReal := m ((c.tc : Thread nD τ).loc main_arg0)
abbrev a1 : S2816x1024.Idx → EReal := m ((c.tc : Thread nD τ).loc main_arg1)

theorem rd0 (t : Fin cfg0.N) (y : S1024x1024.Idx) : @Eq EReal (iblk m c 0 t y) (a0 m c (((cfg0.win 0).blk t).view.emb y)) :=
  congrFun (V_main_arg0 m c) _
theorem rd1 (t : Fin cfg0.N) (y : S1408x1024.Idx) : @Eq EReal (iblk m c 1 t y) (a1 m c (((cfg0.win 1).blk t).view.emb y)) :=
  congrFun (V_main_arg1 m c) _
theorem cut2 (t : Fin cfg0.N) (A : S8192x2816.Idx → EReal) (y : S1024x1408.Idx) : @Eq EReal (((cfg0.win 2).blk t).view.read (Elt Ideal) A y) (A (((cfg0.win 2).blk t).view.emb y)) := rfl
theorem keep2 (t : Fin cfg0.N) (z : S1024x1408.Idx → EReal) (y : S1024x1408.Idx) : @Eq EReal ((cfg0.win 2).cut (α := EReal) (grid0.coords t) z y) (z y) := rfl

theorem idxs : ∀ t : Fin cfg0.N, win0_0.index t = ![t.val / 2, 0] ∧ win0_1.index t = ![t.val % 2, 0] ∧ win0_2.index t = ![t.val / 2, t.val % 2] :=
  (by decide +kernel : ∀ t : Fin grid0.N, _)

/-! The product. -/

/-- The grid point that writes the block of cell `i`, and the cell's place in the block. -/
def pt (i : S8192x2816.Idx) : Fin cfg0.N := ⟨(i 0).val / 1024 * 2 + (i 1).val / 1408, by
    have h0 : (i 0).val < 8192 := (i 0).isLt
    have h1 : (i 1).val < 2816 := (i 1).isLt
    rw [show cfg0.N = 16 from N_0]
    omega⟩

def cell (i : S8192x2816.Idx) : S1024x1408.Idx := ix2 ⟨(i 0).val % 1024, Nat.mod_lt _ (by decide)⟩ ⟨(i 1).val % 1408, Nat.mod_lt _ (by decide)⟩

theorem part_at (i : S8192x2816.Idx) : @Eq EReal (k0_pay1 (F := Ideal) (iblk m c 0 (pt i)) (iblk m c 1 (pt i)) (cell i))
    (∑ k : Fin 1024, a0 m c (lidx_main_v4 i k) * a1 m c (ridx_main_v4 i k)) := by
  refine (part _ _ _).trans (Finset.sum_congr rfl fun k _ => ?_)
  obtain ⟨e0, e1, _⟩ := idxs (pt i)
  have h0 : (i 0).val < 8192 := (i 0).isLt
  have h1 : (i 1).val < 2816 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024 * 2 + (i 1).val / 1408) / 2) * 1024 + _ = _
    omega
  · show win0_0.index _ (1 : Fin 2) * 1024 + 1 * k.val = k.val
    rw [e0]; show (0) * 1024 + _ = _
    omega
  · show win0_1.index _ (0 : Fin 2) * 1408 + 1 * ((i 1).val % 1408) = (i 1).val
    rw [e1]; show (((i 0).val / 1024 * 2 + (i 1).val / 1408) % 2) * 1408 + _ = _
    omega
  · show win0_1.index _ (1 : Fin 2) * 1024 + 1 * k.val = k.val
    rw [e1]; show (0) * 1024 + _ = _
    omega

theorem emb_cell (i : S8192x2816.Idx) : ((cfg0.win 2).blk (pt i)).view.emb (cell i) = i := by
  obtain ⟨_, _, e2⟩ := idxs (pt i)
  have h0 : (i 0).val < 8192 := (i 0).isLt
  have h1 : (i 1).val < 2816 := (i 1).isLt
  refine ext_at _ _ ?_ ?_
  · show win0_2.index _ (0 : Fin 2) * 1024 + 1 * ((i 0).val % 1024) = (i 0).val
    rw [e2]; show (((i 0).val / 1024 * 2 + (i 1).val / 1408) / 2) * 1024 + _ = _
    omega
  · show win0_2.index _ (1 : Fin 2) * 1408 + 1 * ((i 1).val % 1408) = (i 1).val
    rw [e2]; show (((i 0).val / 1024 * 2 + (i 1).val / 1408) % 2) * 1408 + _ = _
    omega

abbrev res : S8192x2816.Idx → EReal := (dats m 0 c).arrAt 2 cfg0.N

theorem res_at (i : S8192x2816.Idx) : @Eq EReal (res m c i) (∑ k : Fin 1024, a0 m c (lidx_main_v4 i k) * a1 m c (ridx_main_v4 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v4 (F := Ideal) (a0 m c) (a1 m c) :=
  funext fun i => (res_at m c i).trans (val_main_v4_apply (a0 m c) (a1 m c) i).symm

theorem frame_r : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic : Cert.algebraic_Kernel5Ideal_Reference5Ideal := by
  intro m g m' g' _ hargs
  refine ⟨fun c => val_main_v4 (F := Ideal) (a0 m c) (a1 m c), ?_, ?_⟩
  · exact (θ_run Cert.Kernel5Ideal.defs _ _).mono (fun r hr c => ⟨(hr c).1.trans (value m c), (hr c).2⟩) (Cert.Kernel5Ideal.Value.run_blocks (F := Ideal) m g)
  · refine (θ_run Cert.Reference5Ideal.defs _ _).mono (fun r hr c => ?_) (Cert.Reference5Ideal.Value.run (F := Ideal) m' g')
    obtain ⟨h, hr⟩ := hr c
    obtain ⟨e0, e1⟩ := hargs c
    refine ⟨h.trans ?_, hr⟩
    rw [val_main_v4_eq, e0, e1]

end Cert.Proof.K5
end
-- ==== Proof.Kernel6Ideal.Product.lean ====
/- The product of the call fox_out_dw, block by block, against the derivative of the output projection in its weight. -/
module

public import proofs.«01_k».proof.Proof.Products
public import proofs.«01_k».proof.Proof.Gen.Kernel6Ideal.Value
public import proofs.«01_k».proof.Proof.Gen.Reference6Ideal.Read
public import Idealize.ShloMosaic.Lib.Pipeline.ValueKit
public import proofs.«01_k».proof.Defs

@[expose] public section

set_option maxRecDepth 16384

noncomputable section

namespace Cert.Proof.K6

open Cert.Kernel6Ideal Cert.Kernel6Ideal.Gen Cert.Kernel6Ideal.Value Cert.Reference6Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 4 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x1024.Idx → EReal) (y : S2048x1024.Idx → EReal) (i : S1024x1024.Idx) : @Eq EReal (k0_pay1 (F := Ideal) x y i) (∑ k : Fin 2048, x (ix2 k (i 0)) * y (ix2 k (i 1))) := by
  pointwise [k0_pay1]

theorem pay2 (x : S2048x1024.Idx → EReal) (y : S2048x1024.Idx → EReal) (i : S1024x1024.Idx) : @Eq EReal (k0_pay2 (F := Ideal) x y i) (k0_pay1 (F := Ideal) x y i) := by
  unfold k0_pay2
  generalize k0_pay1 (F := Ideal) x y = p
  pointwise

theorem pay3 (x : S2048x1024.Idx → EReal) (y : S2048x1024.Idx → EReal) (z : S1024x1024.Idx → EReal) (i : S1024x1024.Idx) : @Eq EReal (k0_pay3 (F := Ideal) x y z i) ((z i : EReal) + (k0_pay1 (F := Ideal) x y i : EReal)) := by
  unfold k0_pay3
  generalize k0_pay1 (F := Ideal) x y = p
  pointwise

theorem pay4 (z : S1024x1024.Idx → EReal) (i : S1024x1024.Idx) : @Eq EReal (k0_pay4 (F := Ideal) z i) (z i) := rfl

/-! A block is its array's cells. -/

abbrev a0 : S8192x1024.Idx → EReal := m ((c.tc : Thread nD τ).loc main_arg0)
abbrev a1 : S8192x1024.Idx → EReal := m ((c.tc : Thread nD τ).loc main_arg1)

theorem rd0 (t : Fin cfg0.N) (y : S2048x1024.Idx) : @Eq EReal (iblk m c 0 t y) (a0 m c (((cfg0.win 0).blk t).view.emb y)) :=
  congrFun (V_main_arg0 m c) _
theorem rd1 (t : Fin cfg0.N) (y : S2048x1024.Idx) : @Eq EReal (iblk m c 1 t y) (a1 m c (((cfg0.win 1).blk t).view.emb y)) :=
  congrFun (V_main_arg1 m c) _

theorem idxs : ∀ t : Fin cfg0.N, win0_0.index t = ![t.val % 4, 0] ∧ win0_1.index t = ![t.val % 4, 0] :=
  (by decide +kernel : ∀ t : Fin grid0.N, _)

/-! The product. -/

def summand (i : S1024x1024.Idx) (k : Fin 8192) : EReal := a0 m c (ridx_main_v3 (idx_main_v4 i) k) * a1 m c (lidx_main_v3 (idx_main_v4 i) k)

theorem run_lt (i : S1024x1024.Idx) (s : Fin 4) : 4 * run2Of i + s.val < cfg0.N := by
  have h0 : (i 0).val < 1024 := (i 0).isLt
  have h1 : (i 1).val < 1024 := (i 1).isLt
  rw [show cfg0.N = 4 from N_0]
  unfold run2Of
  omega

abbrev pt (i : S1024x1024.Idx) (s : Fin 4) : Fin cfg0.N := ⟨4 * run2Of i + s.val, run_lt i s⟩

theorem part_at (i : S1024x1024.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 1024 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 1024 + 1 * ((i 0).val % 1024) = (i 0).val
    rw [e0]; show (0) * 1024 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 1024 + 1 * ((i 1).val % 1024) = (i 1).val
    rw [e1]; show (0) * 1024 + _ = _
    try unfold run2Of
    omega

theorem G2_at (i : S1024x1024.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v5 (F := Ideal) (a0 m c) (a1 m c) :=
  funext fun i => (G2_at m c i).trans ((Finset.sum_congr rfl fun k _ => mul_comm _ _).trans ((val_main_v3_apply (a0 m c) (a1 m c) (idx_main_v4 i)).symm.trans (val_main_v4_apply (F := Ideal) (a0 m c) (a1 m c) i).symm))

theorem frame_r : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal := by
  intro m g m' g' _ hargs
  refine ⟨fun c => val_main_v5 (F := Ideal) (a0 m c) (a1 m c), ?_, ?_⟩
  · exact (θ_run Cert.Kernel6Ideal.defs _ _).mono (fun r hr c => ⟨(hr c).1.trans (value m c), (hr c).2⟩) (Cert.Kernel6Ideal.Value.run (F := Ideal) m g)
  · refine (θ_run Cert.Reference6Ideal.defs _ _).mono (fun r hr c => ?_) (Cert.Reference6Ideal.Value.run (F := Ideal) m' g')
    obtain ⟨h, hr⟩ := hr c
    obtain ⟨e0, e1⟩ := hargs c
    refine ⟨h.trans ?_, hr⟩
    rw [val_main_v5_eq, e0, e1]

end Cert.Proof.K6
end
-- ==== Proof.Kernel7Ideal.Product.lean ====
/- The product of the call fox_out_dx, block by block, against the derivative of the output projection in its input. -/
module

public import proofs.«01_k».proof.Proof.Products
public import proofs.«01_k».proof.Proof.Gen.Kernel7Ideal.Value
public import proofs.«01_k».proof.Proof.Gen.Reference7Ideal.Read
public import Idealize.ShloMosaic.Lib.Pipeline.ValueKit
public import proofs.«01_k».proof.Defs

@[expose] public section

set_option maxRecDepth 16384

noncomputable section

namespace Cert.Proof.K7

open Cert.Kernel7Ideal Cert.Kernel7Ideal.Gen Cert.Kernel7Ideal.Value Cert.Reference7Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x1024.Idx → EReal) (y : S1024x1024.Idx → EReal) (i : S1024x1024.Idx) : @Eq EReal (k0_pay1 (F := Ideal) x y i) (∑ k : Fin 1024, x (ix2 (i 0) k) * y (ix2 (i 1) k)) := by
  pointwise [k0_pay1]

theorem left_eq (x : S1024x1024.Idx → EReal) (y : S1024x1024.Idx → EReal) : out0_2 (F := Ideal) x y = k0_pay1 (F := Ideal) x y := by
  frame_out

/-! A block is its array's cells. -/

abbrev a0 : S8192x1024.Idx → EReal := m ((c.tc : Thread nD τ).loc main_arg0)
abbrev a1 : S1024x1024.Idx → EReal := m ((c.tc : Thread nD τ).loc main_arg1)

theorem rd0 (t : Fin cfg0.N) (y : S1024x1024.Idx) : @Eq EReal (iblk m c 0 t y) (a0 m c (((cfg0.win 0).blk t).view.emb y)) :=
  congrFun (V_main_arg0 m c) _
theorem rd1 (t : Fin cfg0.N) (y : S1024x1024.Idx) : @Eq EReal (iblk m c 1 t y) (a1 m c (((cfg0.win 1).blk t).view.emb y)) :=
  congrFun (V_main_arg1 m c) _
theorem cut2 (t : Fin cfg0.N) (A : S8192x1024.Idx → EReal) (y : S1024x1024.Idx) : @Eq EReal (((cfg0.win 2).blk t).view.read (Elt Ideal) A y) (A (((cfg0.win 2).blk t).view.emb y)) := rfl
theorem keep2 (t : Fin cfg0.N) (z : S1024x1024.Idx → EReal) (y : S1024x1024.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x1024.Idx) : Fin cfg0.N := ⟨(i 0).val / 1024, by
    have h0 : (i 0).val < 8192 := (i 0).isLt
    have h1 : (i 1).val < 1024 := (i 1).isLt
    rw [show cfg0.N = 8 from N_0]
    omega⟩

def cell (i : S8192x1024.Idx) : S1024x1024.Idx := ix2 ⟨(i 0).val % 1024, Nat.mod_lt _ (by decide)⟩ ⟨(i 1).val % 1024, Nat.mod_lt _ (by decide)⟩

theorem part_at (i : S8192x1024.Idx) : @Eq EReal (k0_pay1 (F := Ideal) (iblk m c 0 (pt i)) (iblk m c 1 (pt i)) (cell i))
    (∑ k : Fin 1024, a0 m c (lidx_main_v4 i k) * a1 m c (ridx_main_v4 i k)) := by
  refine (part _ _ _).trans (Finset.sum_congr rfl fun k _ => ?_)
  obtain ⟨e0, e1, _⟩ := idxs (pt i)
  have h0 : (i 0).val < 8192 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 1024 + 1 * k.val = k.val
    rw [e0]; show (0) * 1024 + _ = _
    omega
  · show win0_1.index _ (0 : Fin 2) * 1024 + 1 * ((i 1).val % 1024) = (i 1).val
    rw [e1]; show (0) * 1024 + _ = _
    omega
  · show win0_1.index _ (1 : Fin 2) * 1024 + 1 * k.val = k.val
    rw [e1]; show (0) * 1024 + _ = _
    omega

theorem emb_cell (i : S8192x1024.Idx) : ((cfg0.win 2).blk (pt i)).view.emb (cell i) = i := by
  obtain ⟨_, _, e2⟩ := idxs (pt i)
  have h0 : (i 0).val < 8192 := (i 0).isLt
  have h1 : (i 1).val < 1024 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 1024 + 1 * ((i 1).val % 1024) = (i 1).val
    rw [e2]; show (0) * 1024 + _ = _
    omega

abbrev res : S8192x1024.Idx → EReal := (dats m 0 c).arrAt 2 cfg0.N

theorem res_at (i : S8192x1024.Idx) : @Eq EReal (res m c i) (∑ k : Fin 1024, a0 m c (lidx_main_v4 i k) * a1 m c (ridx_main_v4 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v5 (F := Ideal) (a0 m c) (a1 m c) :=
  funext fun i => (res_at m c i).trans (val_main_v4_apply (a0 m c) (a1 m c) i).symm

theorem frame_r : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal := by
  intro m g m' g' _ hargs
  refine ⟨fun c => val_main_v5 (F := Ideal) (a0 m c) (a1 m c), ?_, ?_⟩
  · exact (θ_run Cert.Kernel7Ideal.defs _ _).mono (fun r hr c => ⟨(hr c).1.trans (value m c), (hr c).2⟩) (Cert.Kernel7Ideal.Value.run_blocks (F := Ideal) m g)
  · refine (θ_run Cert.Reference7Ideal.defs _ _).mono (fun r hr c => ?_) (Cert.Reference7Ideal.Value.run (F := Ideal) m' g')
    obtain ⟨h, hr⟩ := hr c
    obtain ⟨e0, e1⟩ := hargs c
    refine ⟨h.trans ?_, hr⟩
    rw [val_main_v5_eq, e0, e1]

end Cert.Proof.K7
end
-- ==== Proof.Kernel8Ideal.Product.lean ====
/- The product of the call ffn_up, block by block, against the up-projection. -/
module

public import proofs.«01_k».proof.Proof.Products
public import proofs.«01_k».proof.Proof.Gen.Kernel8Ideal.Value
public import proofs.«01_k».proof.Proof.Gen.Reference8Ideal.Read
public import Idealize.ShloMosaic.Lib.Pipeline.ValueKit
public import proofs.«01_k».proof.Defs

@[expose] public section

set_option maxRecDepth 16384

noncomputable section

namespace Cert.Proof.K8

open Cert.Kernel8Ideal Cert.Kernel8Ideal.Gen Cert.Kernel8Ideal.Value Cert.Reference8Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x1024.Idx → EReal) (y : S1024x1408.Idx → EReal) (i : S1024x1408.Idx) : @Eq EReal (k0_pay1 (F := Ideal) x y i) (∑ k : Fin 1024, x (ix2 (i 0) k) * y (ix2 k (i 1))) := by
  pointwise [k0_pay1]

theorem left_eq (x : S1024x1024.Idx → EReal) (y : S1024x1408.Idx → EReal) : out0_2 (F := Ideal) x y = k0_pay1 (F := Ideal) x y := by
  frame_out

/-! A block is its array's cells. -/

abbrev a0 : S8192x1024.Idx → EReal := m ((c.tc : Thread nD τ).loc main_arg0)
abbrev a1 : S1024x5632.Idx → EReal := m ((c.tc : Thread nD τ).loc main_arg1)

theorem rd0 (t : Fin cfg0.N) (y : S1024x1024.Idx) : @Eq EReal (iblk m c 0 t y) (a0 m c (((cfg0.win 0).blk t).view.emb y)) :=
  congrFun (V_main_arg0 m c) _
theorem rd1 (t : Fin cfg0.N) (y : S1024x1408.Idx) : @Eq EReal (iblk m c 1 t y) (a1 m c (((cfg0.win 1).blk t).view.emb y)) :=
  congrFun (V_main_arg1 m c) _
theorem cut2 (t : Fin cfg0.N) (A : S8192x5632.Idx → EReal) (y : S1024x1408.Idx) : @Eq EReal (((cfg0.win 2).blk t).view.read (Elt Ideal) A y) (A (((cfg0.win 2).blk t).view.emb y)) := rfl
theorem keep2 (t : Fin cfg0.N) (z : S1024x1408.Idx → EReal) (y : S1024x1408.Idx) : @Eq EReal ((cfg0.win 2).cut (α := EReal) (grid0.coords t) z y) (z y) := rfl

theorem idxs : ∀ t : Fin cfg0.N, win0_0.index t = ![t.val / 4, 0] ∧ win0_1.index t = ![0, t.val % 4] ∧ win0_2.index t = ![t.val / 4, t.val % 4] :=
  (by decide +kernel : ∀ t : Fin grid0.N, _)

/-! The product. -/

/-- The grid point that writes the block of cell `i`, and the cell's place in the block. -/
def pt (i : S8192x5632.Idx) : Fin cfg0.N := ⟨(i 0).val / 1024 * 4 + (i 1).val / 1408, by
    have h0 : (i 0).val < 8192 := (i 0).isLt
    have h1 : (i 1).val < 5632 := (i 1).isLt
    rw [show cfg0.N = 32 from N_0]
    omega⟩

def cell (i : S8192x5632.Idx) : S1024x1408.Idx := ix2 ⟨(i 0).val % 1024, Nat.mod_lt _ (by decide)⟩ ⟨(i 1).val % 1408, Nat.mod_lt _ (by decide)⟩

theorem part_at (i : S8192x5632.Idx) : @Eq EReal (k0_pay1 (F := Ideal) (iblk m c 0 (pt i)) (iblk m c 1 (pt i)) (cell i))
    (∑ k : Fin 1024, a0 m c (lidx_main_v2 i k) * a1 m c (ridx_main_v2 i k)) := by
  refine (part _ _ _).trans (Finset.sum_congr rfl fun k _ => ?_)
  obtain ⟨e0, e1, _⟩ := idxs (pt i)
  have h0 : (i 0).val < 8192 := (i 0).isLt
  have h1 : (i 1).val < 5632 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024 * 4 + (i 1).val / 1408) / 4) * 1024 + _ = _
    omega
  · show win0_0.index _ (1 : Fin 2) * 1024 + 1 * k.val = k.val
    rw [e0]; show (0) * 1024 + _ = _
    omega
  · show win0_1.index _ (0 : Fin 2) * 1024 + 1 * k.val = k.val
    rw [e1]; show (0) * 1024 + _ = _
    omega
  · show win0_1.index _ (1 : Fin 2) * 1408 + 1 * ((i 1).val % 1408) = (i 1).val
    rw [e1]; show (((i 0).val / 1024 * 4 + (i 1).val / 1408) % 4) * 1408 + _ = _
    omega

theorem emb_cell (i : S8192x5632.Idx) : ((cfg0.win 2).blk (pt i)).view.emb (cell i) = i := by
  obtain ⟨_, _, e2⟩ := idxs (pt i)
  have h0 : (i 0).val < 8192 := (i 0).isLt
  have h1 : (i 1).val < 5632 := (i 1).isLt
  refine ext_at _ _ ?_ ?_
  · show win0_2.index _ (0 : Fin 2) * 1024 + 1 * ((i 0).val % 1024) = (i 0).val
    rw [e2]; show (((i 0).val / 1024 * 4 + (i 1).val / 1408) / 4) * 1024 + _ = _
    omega
  · show win0_2.index _ (1 : Fin 2) * 1408 + 1 * ((i 1).val % 1408) = (i 1).val
    rw [e2]; show (((i 0).val / 1024 * 4 + (i 1).val / 1408) % 4) * 1408 + _ = _
    omega

abbrev res : S8192x5632.Idx → EReal := (dats m 0 c).arrAt 2 cfg0.N

theorem res_at (i : S8192x5632.Idx) : @Eq EReal (res m c i) (∑ k : Fin 1024, a0 m c (lidx_main_v2 i k) * a1 m c (ridx_main_v2 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v2 (F := Ideal) (a0 m c) (a1 m c) :=
  funext fun i => (res_at m c i).trans (val_main_v2_apply (a0 m c) (a1 m c) i).symm

theorem frame_r : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic : Cert.algebraic_Kernel8Ideal_Reference8Ideal := by
  intro m g m' g' _ hargs
  refine ⟨fun c => val_main_v2 (F := Ideal) (a0 m c) (a1 m c), ?_, ?_⟩
  · exact (θ_run Cert.Kernel8Ideal.defs _ _).mono (fun r hr c => ⟨(hr c).1.trans (value m c), (hr c).2⟩) (Cert.Kernel8Ideal.Value.run_blocks (F := Ideal) m g)
  · refine (θ_run Cert.Reference8Ideal.defs _ _).mono (fun r hr c => ?_) (Cert.Reference8Ideal.Value.run (F := Ideal) m' g')
    obtain ⟨h, hr⟩ := hr c
    obtain ⟨e0, e1⟩ := hargs c
    refine ⟨h.trans ?_, hr⟩
    rw [val_main_v2_eq, e0, e1]

end Cert.Proof.K8
end
-- ==== Proof.Kernel9Ideal.Product.lean ====
/- The product of the call ffn_down, block by block, against the down-projection. -/
module

public import proofs.«01_k».proof.Proof.Products
public import proofs.«01_k».proof.Proof.Gen.Kernel9Ideal.Value
public import proofs.«01_k».proof.Proof.Gen.Reference9Ideal.Read
public import Idealize.ShloMosaic.Lib.Pipeline.ValueKit
public import proofs.«01_k».proof.Defs

@[expose] public section

set_option maxRecDepth 16384

noncomputable section

namespace Cert.Proof.K9

open Cert.Kernel9Ideal Cert.Kernel9Ideal.Gen Cert.Kernel9Ideal.Value Cert.Reference9Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x2816.Idx → EReal) (y : S2816x1024.Idx → EReal) (i : S1024x1024.Idx) : @Eq EReal (k0_pay1 (F := Ideal) x y i) (∑ k : Fin 2816, x (ix2 (i 0) k) * y (ix2 k (i 1))) := by
  pointwise [k0_pay1]

theorem left_eq (x : S1024x2816.Idx → EReal) (y : S2816x1024.Idx → EReal) : out0_2 (F := Ideal) x y = k0_pay1 (F := Ideal) x y := by
  frame_out

/-! A block is its array's cells. -/

abbrev a0 : S8192x2816.Idx → EReal := m ((c.tc : Thread nD τ).loc main_arg0)
abbrev a1 : S2816x1024.Idx → EReal := m ((c.tc : Thread nD τ).loc main_arg1)

theorem rd0 (t : Fin cfg0.N) (y : S1024x2816.Idx) : @Eq EReal (iblk m c 0 t y) (a0 m c (((cfg0.win 0).blk t).view.emb y)) :=
  congrFun (V_main_arg0 m c) _
theorem rd1 (t : Fin cfg0.N) (y : S2816x1024.Idx) : @Eq EReal (iblk m c 1 t y) (a1 m c (((cfg0.win 1).blk t).view.emb y)) :=
  congrFun (V_main_arg1 m c) _
theorem cut2 (t : Fin cfg0.N) (A : S8192x1024.Idx → EReal) (y : S1024x1024.Idx) : @Eq EReal (((cfg0.win 2).blk t).view.read (Elt Ideal) A y) (A (((cfg0.win 2).blk t).view.emb y)) := rfl
theorem keep2 (t : Fin cfg0.N) (z : S1024x1024.Idx → EReal) (y : S1024x1024.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x1024.Idx) : Fin cfg0.N := ⟨(i 0).val / 1024, by
    have h0 : (i 0).val < 8192 := (i 0).isLt
    have h1 : (i 1).val < 1024 := (i 1).isLt
    rw [show cfg0.N = 8 from N_0]
    omega⟩

def cell (i : S8192x1024.Idx) : S1024x1024.Idx := ix2 ⟨(i 0).val % 1024, Nat.mod_lt _ (by decide)⟩ ⟨(i 1).val % 1024, Nat.mod_lt _ (by decide)⟩

theorem part_at (i : S8192x1024.Idx) : @Eq EReal (k0_pay1 (F := Ideal) (iblk m c 0 (pt i)) (iblk m c 1 (pt i)) (cell i))
    (∑ k : Fin 2816, a0 m c (lidx_main_v2 i k) * a1 m c (ridx_main_v2 i k)) := by
  refine (part _ _ _).trans (Finset.sum_congr rfl fun k _ => ?_)
  obtain ⟨e0, e1, _⟩ := idxs (pt i)
  have h0 : (i 0).val < 8192 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 2816 + 1 * k.val = k.val
    rw [e0]; show (0) * 2816 + _ = _
    omega
  · show win0_1.index _ (0 : Fin 2) * 2816 + 1 * k.val = k.val
    rw [e1]; show (0) * 2816 + _ = _
    omega
  · show win0_1.index _ (1 : Fin 2) * 1024 + 1 * ((i 1).val % 1024) = (i 1).val
    rw [e1]; show (0) * 1024 + _ = _
    omega

theorem emb_cell (i : S8192x1024.Idx) : ((cfg0.win 2).blk (pt i)).view.emb (cell i) = i := by
  obtain ⟨_, _, e2⟩ := idxs (pt i)
  have h0 : (i 0).val < 8192 := (i 0).isLt
  have h1 : (i 1).val < 1024 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 1024 + 1 * ((i 1).val % 1024) = (i 1).val
    rw [e2]; show (0) * 1024 + _ = _
    omega

abbrev res : S8192x1024.Idx → EReal := (dats m 0 c).arrAt 2 cfg0.N

theorem res_at (i : S8192x1024.Idx) : @Eq EReal (res m c i) (∑ k : Fin 2816, a0 m c (lidx_main_v2 i k) * a1 m c (ridx_main_v2 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v2 (F := Ideal) (a0 m c) (a1 m c) :=
  funext fun i => (res_at m c i).trans (val_main_v2_apply (a0 m c) (a1 m c) i).symm

theorem frame_r : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem algebraic : Cert.algebraic_Kernel9Ideal_Reference9Ideal := by
  intro m g m' g' _ hargs
  refine ⟨fun c => val_main_v2 (F := Ideal) (a0 m c) (a1 m c), ?_, ?_⟩
  · exact (θ_run Cert.Kernel9Ideal.defs _ _).mono (fun r hr c => ⟨(hr c).1.trans (value m c), (hr c).2⟩) (Cert.Kernel9Ideal.Value.run_blocks (F := Ideal) m g)
  · refine (θ_run Cert.Reference9Ideal.defs _ _).mono (fun r hr c => ?_) (Cert.Reference9Ideal.Value.run (F := Ideal) m' g')
    obtain ⟨h, hr⟩ := hr c
    obtain ⟨e0, e1⟩ := hargs c
    refine ⟨h.trans ?_, hr⟩
    rw [val_main_v2_eq, e0, e1]

end Cert.Proof.K9
end
-- ==== Proof.Kernel10Ideal.Product.lean ====
/- The product of the call fox_out, block by block, against the output projection. -/
module

public import proofs.«01_k».proof.Proof.Products
public import proofs.«01_k».proof.Proof.Gen.Kernel10Ideal.Value
public import proofs.«01_k».proof.Proof.Gen.Reference10Ideal.Read
public import Idealize.ShloMosaic.Lib.Pipeline.ValueKit
public import proofs.«01_k».proof.Defs

@[expose] public section

set_option maxRecDepth 16384

noncomputable section

namespace Cert.Proof.K10

open Cert.Kernel10Ideal Cert.Kernel10Ideal.Gen Cert.Kernel10Ideal.Value Cert.Reference10Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x1024.Idx → EReal) (y : S1024x1024.Idx → EReal) (i : S1024x1024.Idx) : @Eq EReal (k0_pay1 (F := Ideal) x y i) (∑ k : Fin 1024, x (ix2 (i 0) k) * y (ix2 k (i 1))) := by
  pointwise [k0_pay1]

theorem left_eq (x : S1024x1024.Idx → EReal) (y : S1024x1024.Idx → EReal) : out0_2 (F := Ideal) x y = k0_pay1 (F := Ideal) x y := by
  frame_out

/-! A block is its array's cells. -/

abbrev a0 : S8192x1024.Idx → EReal := m ((c.tc : Thread nD τ).loc main_arg0)
abbrev a1 : S1024x1024.Idx → EReal := m ((c.tc : Thread nD τ).loc main_arg1)

theorem rd0 (t : Fin cfg0.N) (y : S1024x1024.Idx) : @Eq EReal (iblk m c 0 t y) (a0 m c (((cfg0.win 0).blk t).view.emb y)) :=
  congrFun (V_main_arg0 m c) _
theorem rd1 (t : Fin cfg0.N) (y : S1024x1024.Idx) : @Eq EReal (iblk m c 1 t y) (a1 m c (((cfg0.win 1).blk t).view.emb y)) :=
  congrFun (V_main_arg1 m c) _
theorem cut2 (t : Fin cfg0.N) (A : S8192x1024.Idx → EReal) (y : S1024x1024.Idx) : @Eq EReal (((cfg0.win 2).blk t).view.read (Elt Ideal) A y) (A (((cfg0.win 2).blk t).view.emb y)) := rfl
theorem keep2 (t : Fin cfg0.N) (z : S1024x1024.Idx → EReal) (y : S1024x1024.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x1024.Idx) : Fin cfg0.N := ⟨(i 0).val / 1024, by
    have h0 : (i 0).val < 8192 := (i 0).isLt
    have h1 : (i 1).val < 1024 := (i 1).isLt
    rw [show cfg0.N = 8 from N_0]
    omega⟩

def cell (i : S8192x1024.Idx) : S1024x1024.Idx := ix2 ⟨(i 0).val % 1024, Nat.mod_lt _ (by decide)⟩ ⟨(i 1).val % 1024, Nat.mod_lt _ (by decide)⟩

theorem part_at (i : S8192x1024.Idx) : @Eq EReal (k0_pay1 (F := Ideal) (iblk m c 0 (pt i)) (iblk m c 1 (pt i)) (cell i))
    (∑ k : Fin 1024, a0 m c (lidx_main_v1 i k) * a1 m c (ridx_main_v1 i k)) := by
  refine (part _ _ _).trans (Finset.sum_congr rfl fun k _ => ?_)
  obtain ⟨e0, e1, _⟩ := idxs (pt i)
  have h0 : (i 0).val < 8192 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 1024 + 1 * k.val = k.val
    rw [e0]; show (0) * 1024 + _ = _
    omega
  · show win0_1.index _ (0 : Fin 2) * 1024 + 1 * k.val = k.val
    rw [e1]; show (0) * 1024 + _ = _
    omega
  · show win0_1.index _ (1 : Fin 2) * 1024 + 1 * ((i 1).val % 1024) = (i 1).val
    rw [e1]; show (0) * 1024 + _ = _
    omega

theorem emb_cell (i : S8192x1024.Idx) : ((cfg0.win 2).blk (pt i)).view.emb (cell i) = i := by
  obtain ⟨_, _, e2⟩ := idxs (pt i)
  have h0 : (i 0).val < 8192 := (i 0).isLt
  have h1 : (i 1).val < 1024 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 1024 + 1 * ((i 1).val % 1024) = (i 1).val
    rw [e2]; show (0) * 1024 + _ = _
    omega

abbrev res : S8192x1024.Idx → EReal := (dats m 0 c).arrAt 2 cfg0.N

theorem res_at (i : S8192x1024.Idx) : @Eq EReal (res m c i) (∑ k : Fin 1024, a0 m c (lidx_main_v1 i k) * a1 m c (ridx_main_v1 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v1 (F := Ideal) (a0 m c) (a1 m c) :=
  funext fun i => (res_at m c i).trans (val_main_v1_apply (a0 m c) (a1 m c) i).symm

theorem frame_r : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem algebraic : Cert.algebraic_Kernel10Ideal_Reference10Ideal := by
  intro m g m' g' _ hargs
  refine ⟨fun c => val_main_v1 (F := Ideal) (a0 m c) (a1 m c), ?_, ?_⟩
  · exact (θ_run Cert.Kernel10Ideal.defs _ _).mono (fun r hr c => ⟨(hr c).1.trans (value m c), (hr c).2⟩) (Cert.Kernel10Ideal.Value.run_blocks (F := Ideal) m g)
  · refine (θ_run Cert.Reference10Ideal.defs _ _).mono (fun r hr c => ?_) (Cert.Reference10Ideal.Value.run (F := Ideal) m' g')
    obtain ⟨h, hr⟩ := hr c
    obtain ⟨e0, e1⟩ := hargs c
    refine ⟨h.trans ?_, hr⟩
    rw [val_main_v1_eq, e0, e1]

end Cert.Proof.K10
end
-- ==== Proof.Kernel11Ideal.Product.lean ====
/- The product of the call fox_proj_dw, block by block, against the derivative of the FoX input projection in its weight. -/
module

public import proofs.«01_k».proof.Proof.Products
public import proofs.«01_k».proof.Proof.Gen.Kernel11Ideal.Value
public import proofs.«01_k».proof.Proof.Gen.Reference11Ideal.Read
public import Idealize.ShloMosaic.Lib.Pipeline.ValueKit
public import proofs.«01_k».proof.Defs

@[expose] public section

set_option maxRecDepth 16384

noncomputable section

namespace Cert.Proof.K11

open Cert.Kernel11Ideal Cert.Kernel11Ideal.Gen Cert.Kernel11Ideal.Value Cert.Reference11Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 20 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x1024.Idx → EReal) (y : S2048x640.Idx → EReal) (i : S1024x640.Idx) : @Eq EReal (k0_pay1 (F := Ideal) x y i) (∑ k : Fin 2048, x (ix2 k (i 0)) * y (ix2 k (i 1))) := by
  pointwise [k0_pay1]

theorem pay2 (x : S2048x1024.Idx → EReal) (y : S2048x640.Idx → EReal) (i : S1024x640.Idx) : @Eq EReal (k0_pay2 (F := Ideal) x y i) (k0_pay1 (F := Ideal) x y i) := by
  unfold k0_pay2
  generalize k0_pay1 (F := Ideal) x y = p
  pointwise

theorem pay3 (x : S2048x1024.Idx → EReal) (y : S2048x640.Idx → EReal) (z : S1024x640.Idx → EReal) (i : S1024x640.Idx) : @Eq EReal (k0_pay3 (F := Ideal) x y z i) ((z i : EReal) + (k0_pay1 (F := Ideal) x y i : EReal)) := by
  unfold k0_pay3
  generalize k0_pay1 (F := Ideal) x y = p
  pointwise

theorem pay4 (z : S1024x640.Idx → EReal) (i : S1024x640.Idx) : @Eq EReal (k0_pay4 (F := Ideal) z i) (z i) := rfl

/-! A block is its array's cells. -/

abbrev a0 : S8192x1024.Idx → EReal := m ((c.tc : Thread nD τ).loc main_arg0)
abbrev a1 : S8192x3200.Idx → EReal := m ((c.tc : Thread nD τ).loc main_arg1)

theorem rd0 (t : Fin cfg0.N) (y : S2048x1024.Idx) : @Eq EReal (iblk m c 0 t y) (a0 m c (((cfg0.win 0).blk t).view.emb y)) :=
  congrFun (V_main_arg0 m c) _
theorem rd1 (t : Fin cfg0.N) (y : S2048x640.Idx) : @Eq EReal (iblk m c 1 t y) (a1 m c (((cfg0.win 1).blk t).view.emb y)) :=
  congrFun (V_main_arg1 m c) _

theorem idxs : ∀ t : Fin cfg0.N, win0_0.index t = ![t.val % 4, 0] ∧ win0_1.index t = ![t.val % 4, t.val / 4] :=
  (by decide +kernel : ∀ t : Fin grid0.N, _)

/-! The product. -/

def summand (i : S1024x3200.Idx) (k : Fin 8192) : EReal := a0 m c (ridx_main_v4 (idx_main_v5 i) k) * a1 m c (lidx_main_v4 (idx_main_v5 i) k)

theorem run_lt (i : S1024x3200.Idx) (s : Fin 4) : 4 * run2Of i + s.val < cfg0.N := by
  have h0 : (i 0).val < 1024 := (i 0).isLt
  have h1 : (i 1).val < 3200 := (i 1).isLt
  rw [show cfg0.N = 20 from N_0]
  unfold run2Of
  omega

abbrev pt (i : S1024x3200.Idx) (s : Fin 4) : Fin cfg0.N := ⟨4 * run2Of i + s.val, run_lt i s⟩

theorem part_at (i : S1024x3200.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 1024 := (i 0).isLt
  have h1 : (i 1).val < 3200 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 1024 + 1 * ((i 0).val % 1024) = (i 0).val
    rw [e0]; show (0) * 1024 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 640 + 1 * ((i 1).val % 640) = (i 1).val
    rw [e1]; show ((4 * run2Of i + s.val) / 4) * 640 + _ = _
    try unfold run2Of
    omega

theorem G2_at (i : S1024x3200.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v6 (F := Ideal) (a0 m c) (a1 m c) :=
  funext fun i => (G2_at m c i).trans ((Finset.sum_congr rfl fun k _ => mul_comm _ _).trans ((val_main_v4_apply (a0 m c) (a1 m c) (idx_main_v5 i)).symm.trans (val_main_v5_apply (F := Ideal) (a0 m c) (a1 m c) i).symm))

theorem frame_r : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem algebraic : Cert.algebraic_Kernel11Ideal_Reference11Ideal := by
  intro m g m' g' _ hargs
  refine ⟨fun c => val_main_v6 (F := Ideal) (a0 m c) (a1 m c), ?_, ?_⟩
  · exact (θ_run Cert.Kernel11Ideal.defs _ _).mono (fun r hr c => ⟨(hr c).1.trans (value m c), (hr c).2⟩) (Cert.Kernel11Ideal.Value.run (F := Ideal) m g)
  · refine (θ_run Cert.Reference11Ideal.defs _ _).mono (fun r hr c => ?_) (Cert.Reference11Ideal.Value.run (F := Ideal) m' g')
    obtain ⟨h, hr⟩ := hr c
    obtain ⟨e0, e1⟩ := hargs c
    refine ⟨h.trans ?_, hr⟩
    rw [val_main_v6_eq, e0, e1]

end Cert.Proof.K11
end
-- ==== Proof.Kernel12Ideal.Product.lean ====
/- The product of the call fox_proj_dx, block by block, against the derivative of the FoX input projection in its input. -/
module

public import proofs.«01_k».proof.Proof.Products
public import proofs.«01_k».proof.Proof.Gen.Kernel12Ideal.Value
public import proofs.«01_k».proof.Proof.Gen.Reference12Ideal.Read
public import Idealize.ShloMosaic.Lib.Pipeline.ValueKit
public import proofs.«01_k».proof.Defs

@[expose] public section

set_option maxRecDepth 16384

noncomputable section

namespace Cert.Proof.K12

open Cert.Kernel12Ideal Cert.Kernel12Ideal.Gen Cert.Kernel12Ideal.Value Cert.Reference12Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x3200.Idx → EReal) (y : S1024x3200.Idx → EReal) (i : S1024x1024.Idx) : @Eq EReal (k0_pay1 (F := Ideal) x y i) (∑ k : Fin 3200, x (ix2 (i 0) k) * y (ix2 (i 1) k)) := by
  pointwise [k0_pay1]

theorem left_eq (x : S1024x3200.Idx → EReal) (y : S1024x3200.Idx → EReal) : out0_2 (F := Ideal) x y = k0_pay1 (F := Ideal) x y := by
  frame_out

/-! A block is its array's cells. -/

abbrev a0 : S8192x3200.Idx → EReal := m ((c.tc : Thread nD τ).loc main_arg0)
abbrev a1 : S1024x3200.Idx → EReal := m ((c.tc : Thread nD τ).loc main_arg1)

theorem rd0 (t : Fin cfg0.N) (y : S1024x3200.Idx) : @Eq EReal (iblk m c 0 t y) (a0 m c (((cfg0.win 0).blk t).view.emb y)) :=
  congrFun (V_main_arg0 m c) _
theorem rd1 (t : Fin cfg0.N) (y : S1024x3200.Idx) : @Eq EReal (iblk m c 1 t y) (a1 m c (((cfg0.win 1).blk t).view.emb y)) :=
  congrFun (V_main_arg1 m c) _
theorem cut2 (t : Fin cfg0.N) (A : S8192x1024.Idx → EReal) (y : S1024x1024.Idx) : @Eq EReal (((cfg0.win 2).blk t).view.read (Elt Ideal) A y) (A (((cfg0.win 2).blk t).view.emb y)) := rfl
theorem keep2 (t : Fin cfg0.N) (z : S1024x1024.Idx → EReal) (y : S1024x1024.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x1024.Idx) : Fin cfg0.N := ⟨(i 0).val / 1024, by
    have h0 : (i 0).val < 8192 := (i 0).isLt
    have h1 : (i 1).val < 1024 := (i 1).isLt
    rw [show cfg0.N = 8 from N_0]
    omega⟩

def cell (i : S8192x1024.Idx) : S1024x1024.Idx := ix2 ⟨(i 0).val % 1024, Nat.mod_lt _ (by decide)⟩ ⟨(i 1).val % 1024, Nat.mod_lt _ (by decide)⟩

theorem part_at (i : S8192x1024.Idx) : @Eq EReal (k0_pay1 (F := Ideal) (iblk m c 0 (pt i)) (iblk m c 1 (pt i)) (cell i))
    (∑ k : Fin 3200, a0 m c (lidx_main_v4 i k) * a1 m c (ridx_main_v4 i k)) := by
  refine (part _ _ _).trans (Finset.sum_congr rfl fun k _ => ?_)
  obtain ⟨e0, e1, _⟩ := idxs (pt i)
  have h0 : (i 0).val < 8192 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 3200 + 1 * k.val = k.val
    rw [e0]; show (0) * 3200 + _ = _
    omega
  · show win0_1.index _ (0 : Fin 2) * 1024 + 1 * ((i 1).val % 1024) = (i 1).val
    rw [e1]; show (0) * 1024 + _ = _
    omega
  · show win0_1.index _ (1 : Fin 2) * 3200 + 1 * k.val = k.val
    rw [e1]; show (0) * 3200 + _ = _
    omega

theorem emb_cell (i : S8192x1024.Idx) : ((cfg0.win 2).blk (pt i)).view.emb (cell i) = i := by
  obtain ⟨_, _, e2⟩ := idxs (pt i)
  have h0 : (i 0).val < 8192 := (i 0).isLt
  have h1 : (i 1).val < 1024 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 1024 + 1 * ((i 1).val % 1024) = (i 1).val
    rw [e2]; show (0) * 1024 + _ = _
    omega

abbrev res : S8192x1024.Idx → EReal := (dats m 0 c).arrAt 2 cfg0.N

theorem res_at (i : S8192x1024.Idx) : @Eq EReal (res m c i) (∑ k : Fin 3200, a0 m c (lidx_main_v4 i k) * a1 m c (ridx_main_v4 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v5 (F := Ideal) (a0 m c) (a1 m c) :=
  funext fun i => (res_at m c i).trans (val_main_v4_apply (a0 m c) (a1 m c) i).symm

theorem frame_r : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem algebraic : Cert.algebraic_Kernel12Ideal_Reference12Ideal := by
  intro m g m' g' _ hargs
  refine ⟨fun c => val_main_v5 (F := Ideal) (a0 m c) (a1 m c), ?_, ?_⟩
  · exact (θ_run Cert.Kernel12Ideal.defs _ _).mono (fun r hr c => ⟨(hr c).1.trans (value m c), (hr c).2⟩) (Cert.Kernel12Ideal.Value.run_blocks (F := Ideal) m g)
  · refine (θ_run Cert.Reference12Ideal.defs _ _).mono (fun r hr c => ?_) (Cert.Reference12Ideal.Value.run (F := Ideal) m' g')
    obtain ⟨h, hr⟩ := hr c
    obtain ⟨e0, e1⟩ := hargs c
    refine ⟨h.trans ?_, hr⟩
    rw [val_main_v5_eq, e0, e1]

end Cert.Proof.K12
end
-- ==== Proof.Kernel13Ideal.Product.lean ====
/- The product of the call mla_uq_dw, block by block, against the derivative of the MLA query up-projection in its weight. -/
module

public import proofs.«01_k».proof.Proof.Products
public import proofs.«01_k».proof.Proof.Gen.Kernel13Ideal.Value
public import proofs.«01_k».proof.Proof.Gen.Reference13Ideal.Read
public import Idealize.ShloMosaic.Lib.Pipeline.ValueKit
public import proofs.«01_k».proof.Defs

@[expose] public section

set_option maxRecDepth 16384

noncomputable section

namespace Cert.Proof.K13

open Cert.Kernel13Ideal Cert.Kernel13Ideal.Gen Cert.Kernel13Ideal.Value Cert.Reference13Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 8 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x384.Idx → EReal) (y : S2048x1024.Idx → EReal) (i : S384x1024.Idx) : @Eq EReal (k0_pay1 (F := Ideal) x y i) (∑ k : Fin 2048, x (ix2 k (i 0)) * y (ix2 k (i 1))) := by
  pointwise [k0_pay1]

theorem pay2 (x : S2048x384.Idx → EReal) (y : S2048x1024.Idx → EReal) (i : S384x1024.Idx) : @Eq EReal (k0_pay2 (F := Ideal) x y i) (k0_pay1 (F := Ideal) x y i) := by
  unfold k0_pay2
  generalize k0_pay1 (F := Ideal) x y = p
  pointwise

theorem pay3 (x : S2048x384.Idx → EReal) (y : S2048x1024.Idx → EReal) (z : S384x1024.Idx → EReal) (i : S384x1024.Idx) : @Eq EReal (k0_pay3 (F := Ideal) x y z i) ((z i : EReal) + (k0_pay1 (F := Ideal) x y i : EReal)) := by
  unfold k0_pay3
  generalize k0_pay1 (F := Ideal) x y = p
  pointwise

theorem pay4 (z : S384x1024.Idx → EReal) (i : S384x1024.Idx) : @Eq EReal (k0_pay4 (F := Ideal) z i) (z i) := rfl

/-! A block is its array's cells. -/

abbrev a0 : S8192x384.Idx → EReal := m ((c.tc : Thread nD τ).loc main_arg0)
abbrev a1 : S8192x2048.Idx → EReal := m ((c.tc : Thread nD τ).loc main_arg1)

theorem rd0 (t : Fin cfg0.N) (y : S2048x384.Idx) : @Eq EReal (iblk m c 0 t y) (a0 m c (((cfg0.win 0).blk t).view.emb y)) :=
  congrFun (V_main_arg0 m c) _
theorem rd1 (t : Fin cfg0.N) (y : S2048x1024.Idx) : @Eq EReal (iblk m c 1 t y) (a1 m c (((cfg0.win 1).blk t).view.emb y)) :=
  congrFun (V_main_arg1 m c) _

theorem idxs : ∀ t : Fin cfg0.N, win0_0.index t = ![t.val % 4, 0] ∧ win0_1.index t = ![t.val % 4, t.val / 4] :=
  (by decide +kernel : ∀ t : Fin grid0.N, _)

/-! The product. -/

def summand (i : S384x2048.Idx) (k : Fin 8192) : EReal := a0 m c (ridx_main_v4 (idx_main_v5 i) k) * a1 m c (lidx_main_v4 (idx_main_v5 i) k)

theorem run_lt (i : S384x2048.Idx) (s : Fin 4) : 4 * run2Of i + s.val < cfg0.N := by
  have h0 : (i 0).val < 384 := (i 0).isLt
  have h1 : (i 1).val < 2048 := (i 1).isLt
  rw [show cfg0.N = 8 from N_0]
  unfold run2Of
  omega

abbrev pt (i : S384x2048.Idx) (s : Fin 4) : Fin cfg0.N := ⟨4 * run2Of i + s.val, run_lt i s⟩

theorem part_at (i : S384x2048.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 384 := (i 0).isLt
  have h1 : (i 1).val < 2048 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 384 + 1 * ((i 0).val % 384) = (i 0).val
    rw [e0]; show (0) * 384 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 1024 + 1 * ((i 1).val % 1024) = (i 1).val
    rw [e1]; show ((4 * run2Of i + s.val) / 4) * 1024 + _ = _
    try unfold run2Of
    omega

theorem G2_at (i : S384x2048.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v6 (F := Ideal) (a0 m c) (a1 m c) :=
  funext fun i => (G2_at m c i).trans ((Finset.sum_congr rfl fun k _ => mul_comm _ _).trans ((val_main_v4_apply (a0 m c) (a1 m c) (idx_main_v5 i)).symm.trans (val_main_v5_apply (F := Ideal) (a0 m c) (a1 m c) i).symm))

theorem frame_r : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem algebraic : Cert.algebraic_Kernel13Ideal_Reference13Ideal := by
  intro m g m' g' _ hargs
  refine ⟨fun c => val_main_v6 (F := Ideal) (a0 m c) (a1 m c), ?_, ?_⟩
  · exact (θ_run Cert.Kernel13Ideal.defs _ _).mono (fun r hr c => ⟨(hr c).1.trans (value m c), (hr c).2⟩) (Cert.Kernel13Ideal.Value.run (F := Ideal) m g)
  · refine (θ_run Cert.Reference13Ideal.defs _ _).mono (fun r hr c => ?_) (Cert.Reference13Ideal.Value.run (F := Ideal) m' g')
    obtain ⟨h, hr⟩ := hr c
    obtain ⟨e0, e1⟩ := hargs c
    refine ⟨h.trans ?_, hr⟩
    rw [val_main_v6_eq, e0, e1]

end Cert.Proof.K13
end
-- ==== Proof.Kernel14Ideal.Product.lean ====
/- The product of the call mla_uq_dx, block by block, against the derivative of the MLA query up-projection in its input. -/
module

public import proofs.«01_k».proof.Proof.Products
public import proofs.«01_k».proof.Proof.Gen.Kernel14Ideal.Value
public import proofs.«01_k».proof.Proof.Gen.Reference14Ideal.Read
public import Idealize.ShloMosaic.Lib.Pipeline.ValueKit
public import proofs.«01_k».proof.Defs

@[expose] public section

set_option maxRecDepth 16384

noncomputable section

namespace Cert.Proof.K14

open Cert.Kernel14Ideal Cert.Kernel14Ideal.Gen Cert.Kernel14Ideal.Value Cert.Reference14Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x2048.Idx → EReal) (y : S384x2048.Idx → EReal) (i : S1024x384.Idx) : @Eq EReal (k0_pay1 (F := Ideal) x y i) (∑ k : Fin 2048, x (ix2 (i 0) k) * y (ix2 (i 1) k)) := by
  pointwise [k0_pay1]

theorem left_eq (x : S1024x2048.Idx → EReal) (y : S384x2048.Idx → EReal) : out0_2 (F := Ideal) x y = k0_pay1 (F := Ideal) x y := by
  frame_out

/-! A block is its array's cells. -/

abbrev a0 : S8192x2048.Idx → EReal := m ((c.tc : Thread nD τ).loc main_arg0)
abbrev a1 : S384x2048.Idx → EReal := m ((c.tc : Thread nD τ).loc main_arg1)

theorem rd0 (t : Fin cfg0.N) (y : S1024x2048.Idx) : @Eq EReal (iblk m c 0 t y) (a0 m c (((cfg0.win 0).blk t).view.emb y)) :=
  congrFun (V_main_arg0 m c) _
theorem rd1 (t : Fin cfg0.N) (y : S384x2048.Idx) : @Eq EReal (iblk m c 1 t y) (a1 m c (((cfg0.win 1).blk t).view.emb y)) :=
  congrFun (V_main_arg1 m c) _
theorem cut2 (t : Fin cfg0.N) (A : S8192x384.Idx → EReal) (y : S1024x384.Idx) : @Eq EReal (((cfg0.win 2).blk t).view.read (Elt Ideal) A y) (A (((cfg0.win 2).blk t).view.emb y)) := rfl
theorem keep2 (t : Fin cfg0.N) (z : S1024x384.Idx → EReal) (y : S1024x384.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x384.Idx) : Fin cfg0.N := ⟨(i 0).val / 1024, by
    have h0 : (i 0).val < 8192 := (i 0).isLt
    have h1 : (i 1).val < 384 := (i 1).isLt
    rw [show cfg0.N = 8 from N_0]
    omega⟩

def cell (i : S8192x384.Idx) : S1024x384.Idx := ix2 ⟨(i 0).val % 1024, Nat.mod_lt _ (by decide)⟩ ⟨(i 1).val % 384, Nat.mod_lt _ (by decide)⟩

theorem part_at (i : S8192x384.Idx) : @Eq EReal (k0_pay1 (F := Ideal) (iblk m c 0 (pt i)) (iblk m c 1 (pt i)) (cell i))
    (∑ k : Fin 2048, a0 m c (lidx_main_v4 i k) * a1 m c (ridx_main_v4 i k)) := by
  refine (part _ _ _).trans (Finset.sum_congr rfl fun k _ => ?_)
  obtain ⟨e0, e1, _⟩ := idxs (pt i)
  have h0 : (i 0).val < 8192 := (i 0).isLt
  have h1 : (i 1).val < 384 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 2048 + 1 * k.val = k.val
    rw [e0]; show (0) * 2048 + _ = _
    omega
  · show win0_1.index _ (0 : Fin 2) * 384 + 1 * ((i 1).val % 384) = (i 1).val
    rw [e1]; show (0) * 384 + _ = _
    omega
  · show win0_1.index _ (1 : Fin 2) * 2048 + 1 * k.val = k.val
    rw [e1]; show (0) * 2048 + _ = _
    omega

theorem emb_cell (i : S8192x384.Idx) : ((cfg0.win 2).blk (pt i)).view.emb (cell i) = i := by
  obtain ⟨_, _, e2⟩ := idxs (pt i)
  have h0 : (i 0).val < 8192 := (i 0).isLt
  have h1 : (i 1).val < 384 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 384 + 1 * ((i 1).val % 384) = (i 1).val
    rw [e2]; show (0) * 384 + _ = _
    omega

abbrev res : S8192x384.Idx → EReal := (dats m 0 c).arrAt 2 cfg0.N

theorem res_at (i : S8192x384.Idx) : @Eq EReal (res m c i) (∑ k : Fin 2048, a0 m c (lidx_main_v4 i k) * a1 m c (ridx_main_v4 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v4 (F := Ideal) (a0 m c) (a1 m c) :=
  funext fun i => (res_at m c i).trans (val_main_v4_apply (a0 m c) (a1 m c) i).symm

theorem frame_r : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem algebraic : Cert.algebraic_Kernel14Ideal_Reference14Ideal := by
  intro m g m' g' _ hargs
  refine ⟨fun c => val_main_v4 (F := Ideal) (a0 m c) (a1 m c), ?_, ?_⟩
  · exact (θ_run Cert.Kernel14Ideal.defs _ _).mono (fun r hr c => ⟨(hr c).1.trans (value m c), (hr c).2⟩) (Cert.Kernel14Ideal.Value.run_blocks (F := Ideal) m g)
  · refine (θ_run Cert.Reference14Ideal.defs _ _).mono (fun r hr c => ?_) (Cert.Reference14Ideal.Value.run (F := Ideal) m' g')
    obtain ⟨h, hr⟩ := hr c
    obtain ⟨e0, e1⟩ := hargs c
    refine ⟨h.trans ?_, hr⟩
    rw [val_main_v4_eq, e0, e1]

end Cert.Proof.K14
end
-- ==== Proof.Kernel15Ideal.Product.lean ====
/- The product of the call mla_ukv_dw, block by block, against the derivative of the MLA key and value up-projection in its weight. -/
module

public import proofs.«01_k».proof.Proof.Products
public import proofs.«01_k».proof.Proof.Gen.Kernel15Ideal.Value
public import proofs.«01_k».proof.Proof.Gen.Reference15Ideal.Read
public import Idealize.ShloMosaic.Lib.Pipeline.ValueKit
public import proofs.«01_k».proof.Defs

@[expose] public section

set_option maxRecDepth 16384

noncomputable section

namespace Cert.Proof.K15

open Cert.Kernel15Ideal Cert.Kernel15Ideal.Gen Cert.Kernel15Ideal.Value Cert.Reference15Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 8 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x256.Idx → EReal) (y : S2048x1024.Idx → EReal) (i : S256x1024.Idx) : @Eq EReal (k0_pay1 (F := Ideal) x y i) (∑ k : Fin 2048, x (ix2 k (i 0)) * y (ix2 k (i 1))) := by
  pointwise [k0_pay1]

theorem pay2 (x : S2048x256.Idx → EReal) (y : S2048x1024.Idx → EReal) (i : S256x1024.Idx) : @Eq EReal (k0_pay2 (F := Ideal) x y i) (k0_pay1 (F := Ideal) x y i) := by
  unfold k0_pay2
  generalize k0_pay1 (F := Ideal) x y = p
  pointwise

theorem pay3 (x : S2048x256.Idx → EReal) (y : S2048x1024.Idx → EReal) (z : S256x1024.Idx → EReal) (i : S256x1024.Idx) : @Eq EReal (k0_pay3 (F := Ideal) x y z i) ((z i : EReal) + (k0_pay1 (F := Ideal) x y i : EReal)) := by
  unfold k0_pay3
  generalize k0_pay1 (F := Ideal) x y = p
  pointwise

theorem pay4 (z : S256x1024.Idx → EReal) (i : S256x1024.Idx) : @Eq EReal (k0_pay4 (F := Ideal) z i) (z i) := rfl

/-! A block is its array's cells. -/

abbrev a0 : S8192x256.Idx → EReal := m ((c.tc : Thread nD τ).loc main_arg0)
abbrev a1 : S8192x2048.Idx → EReal := m ((c.tc : Thread nD τ).loc main_arg1)

theorem rd0 (t : Fin cfg0.N) (y : S2048x256.Idx) : @Eq EReal (iblk m c 0 t y) (a0 m c (((cfg0.win 0).blk t).view.emb y)) :=
  congrFun (V_main_arg0 m c) _
theorem rd1 (t : Fin cfg0.N) (y : S2048x1024.Idx) : @Eq EReal (iblk m c 1 t y) (a1 m c (((cfg0.win 1).blk t).view.emb y)) :=
  congrFun (V_main_arg1 m c) _

theorem idxs : ∀ t : Fin cfg0.N, win0_0.index t = ![t.val % 4, 0] ∧ win0_1.index t = ![t.val % 4, t.val / 4] :=
  (by decide +kernel : ∀ t : Fin grid0.N, _)

/-! The product. -/

def summand (i : S256x2048.Idx) (k : Fin 8192) : EReal := a0 m c (ridx_main_v4 (idx_main_v5 i) k) * a1 m c (lidx_main_v4 (idx_main_v5 i) k)

theorem run_lt (i : S256x2048.Idx) (s : Fin 4) : 4 * run2Of i + s.val < cfg0.N := by
  have h0 : (i 0).val < 256 := (i 0).isLt
  have h1 : (i 1).val < 2048 := (i 1).isLt
  rw [show cfg0.N = 8 from N_0]
  unfold run2Of
  omega

abbrev pt (i : S256x2048.Idx) (s : Fin 4) : Fin cfg0.N := ⟨4 * run2Of i + s.val, run_lt i s⟩

theorem part_at (i : S256x2048.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 256 := (i 0).isLt
  have h1 : (i 1).val < 2048 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 256 + 1 * ((i 0).val % 256) = (i 0).val
    rw [e0]; show (0) * 256 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 1024 + 1 * ((i 1).val % 1024) = (i 1).val
    rw [e1]; show ((4 * run2Of i + s.val) / 4) * 1024 + _ = _
    try unfold run2Of
    omega

theorem G2_at (i : S256x2048.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v6 (F := Ideal) (a0 m c) (a1 m c) :=
  funext fun i => (G2_at m c i).trans ((Finset.sum_congr rfl fun k _ => mul_comm _ _).trans ((val_main_v4_apply (a0 m c) (a1 m c) (idx_main_v5 i)).symm.trans (val_main_v5_apply (F := Ideal) (a0 m c) (a1 m c) i).symm))

theorem frame_r : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

theorem algebraic : Cert.algebraic_Kernel15Ideal_Reference15Ideal := by
  intro m g m' g' _ hargs
  refine ⟨fun c => val_main_v6 (F := Ideal) (a0 m c) (a1 m c), ?_, ?_⟩
  · exact (θ_run Cert.Kernel15Ideal.defs _ _).mono (fun r hr c => ⟨(hr c).1.trans (value m c), (hr c).2⟩) (Cert.Kernel15Ideal.Value.run (F := Ideal) m g)
  · refine (θ_run Cert.Reference15Ideal.defs _ _).mono (fun r hr c => ?_) (Cert.Reference15Ideal.Value.run (F := Ideal) m' g')
    obtain ⟨h, hr⟩ := hr c
    obtain ⟨e0, e1⟩ := hargs c
    refine ⟨h.trans ?_, hr⟩
    rw [val_main_v6_eq, e0, e1]

end Cert.Proof.K15
end
-- ==== Proof.Kernel16Ideal.Product.lean ====
/- The product of the call mla_ukv_dx, block by block, against the derivative of the MLA key and value up-projection in its input. -/
module

public import proofs.«01_k».proof.Proof.Products
public import proofs.«01_k».proof.Proof.Gen.Kernel16Ideal.Value
public import proofs.«01_k».proof.Proof.Gen.Reference16Ideal.Read
public import Idealize.ShloMosaic.Lib.Pipeline.ValueKit
public import proofs.«01_k».proof.Defs

@[expose] public section

set_option maxRecDepth 16384

noncomputable section

namespace Cert.Proof.K16

open Cert.Kernel16Ideal Cert.Kernel16Ideal.Gen Cert.Kernel16Ideal.Value Cert.Reference16Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x2048.Idx → EReal) (y : S256x2048.Idx → EReal) (i : S1024x256.Idx) : @Eq EReal (k0_pay1 (F := Ideal) x y i) (∑ k : Fin 2048, x (ix2 (i 0) k) * y (ix2 (i 1) k)) := by
  pointwise [k0_pay1]

theorem left_eq (x : S1024x2048.Idx → EReal) (y : S256x2048.Idx → EReal) : out0_2 (F := Ideal) x y = k0_pay1 (F := Ideal) x y := by
  frame_out

/-! A block is its array's cells. -/

abbrev a0 : S8192x2048.Idx → EReal := m ((c.tc : Thread nD τ).loc main_arg0)
abbrev a1 : S256x2048.Idx → EReal := m ((c.tc : Thread nD τ).loc main_arg1)

theorem rd0 (t : Fin cfg0.N) (y : S1024x2048.Idx) : @Eq EReal (iblk m c 0 t y) (a0 m c (((cfg0.win 0).blk t).view.emb y)) :=
  congrFun (V_main_arg0 m c) _
theorem rd1 (t : Fin cfg0.N) (y : S256x2048.Idx) : @Eq EReal (iblk m c 1 t y) (a1 m c (((cfg0.win 1).blk t).view.emb y)) :=
  congrFun (V_main_arg1 m c) _
theorem cut2 (t : Fin cfg0.N) (A : S8192x256.Idx → EReal) (y : S1024x256.Idx) : @Eq EReal (((cfg0.win 2).blk t).view.read (Elt Ideal) A y) (A (((cfg0.win 2).blk t).view.emb y)) := rfl
theorem keep2 (t : Fin cfg0.N) (z : S1024x256.Idx → EReal) (y : S1024x256.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x256.Idx) : Fin cfg0.N := ⟨(i 0).val / 1024, by
    have h0 : (i 0).val < 8192 := (i 0).isLt
    have h1 : (i 1).val < 256 := (i 1).isLt
    rw [show cfg0.N = 8 from N_0]
    omega⟩

def cell (i : S8192x256.Idx) : S1024x256.Idx := ix2 ⟨(i 0).val % 1024, Nat.mod_lt _ (by decide)⟩ ⟨(i 1).val % 256, Nat.mod_lt _ (by decide)⟩

theorem part_at (i : S8192x256.Idx) : @Eq EReal (k0_pay1 (F := Ideal) (iblk m c 0 (pt i)) (iblk m c 1 (pt i)) (cell i))
    (∑ k : Fin 2048, a0 m c (lidx_main_v4 i k) * a1 m c (ridx_main_v4 i k)) := by
  refine (part _ _ _).trans (Finset.sum_congr rfl fun k _ => ?_)
  obtain ⟨e0, e1, _⟩ := idxs (pt i)
  have h0 : (i 0).val < 8192 := (i 0).isLt
  have h1 : (i 1).val < 256 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 2048 + 1 * k.val = k.val
    rw [e0]; show (0) * 2048 + _ = _
    omega
  · show win0_1.index _ (0 : Fin 2) * 256 + 1 * ((i 1).val % 256) = (i 1).val
    rw [e1]; show (0) * 256 + _ = _
    omega
  · show win0_1.index _ (1 : Fin 2) * 2048 + 1 * k.val = k.val
    rw [e1]; show (0) * 2048 + _ = _
    omega

theorem emb_cell (i : S8192x256.Idx) : ((cfg0.win 2).blk (pt i)).view.emb (cell i) = i := by
  obtain ⟨_, _, e2⟩ := idxs (pt i)
  have h0 : (i 0).val < 8192 := (i 0).isLt
  have h1 : (i 1).val < 256 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 256 + 1 * ((i 1).val % 256) = (i 1).val
    rw [e2]; show (0) * 256 + _ = _
    omega

abbrev res : S8192x256.Idx → EReal := (dats m 0 c).arrAt 2 cfg0.N

theorem res_at (i : S8192x256.Idx) : @Eq EReal (res m c i) (∑ k : Fin 2048, a0 m c (lidx_main_v4 i k) * a1 m c (ridx_main_v4 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v4 (F := Ideal) (a0 m c) (a1 m c) :=
  funext fun i => (res_at m c i).trans (val_main_v4_apply (a0 m c) (a1 m c) i).symm

theorem frame_r : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem algebraic : Cert.algebraic_Kernel16Ideal_Reference16Ideal := by
  intro m g m' g' _ hargs
  refine ⟨fun c => val_main_v4 (F := Ideal) (a0 m c) (a1 m c), ?_, ?_⟩
  · exact (θ_run Cert.Kernel16Ideal.defs _ _).mono (fun r hr c => ⟨(hr c).1.trans (value m c), (hr c).2⟩) (Cert.Kernel16Ideal.Value.run_blocks (F := Ideal) m g)
  · refine (θ_run Cert.Reference16Ideal.defs _ _).mono (fun r hr c => ?_) (Cert.Reference16Ideal.Value.run (F := Ideal) m' g')
    obtain ⟨h, hr⟩ := hr c
    obtain ⟨e0, e1⟩ := hargs c
    refine ⟨h.trans ?_, hr⟩
    rw [val_main_v4_eq, e0, e1]

end Cert.Proof.K16
end
-- ==== Proof.Kernel17Ideal.Product.lean ====
/- The product of the call mla_a_dw, block by block, against the derivative of the MLA input projection in its weight. -/
module

public import proofs.«01_k».proof.Proof.Products
public import proofs.«01_k».proof.Proof.Gen.Kernel17Ideal.Value
public import proofs.«01_k».proof.Proof.Gen.Reference17Ideal.Read
public import Idealize.ShloMosaic.Lib.Pipeline.ValueKit
public import proofs.«01_k».proof.Defs

@[expose] public section

set_option maxRecDepth 16384

noncomputable section

namespace Cert.Proof.K17

open Cert.Kernel17Ideal Cert.Kernel17Ideal.Gen Cert.Kernel17Ideal.Value Cert.Reference17Ideal.Read Cert.Proof.Products
open Idealize.ShloMosaic Idealize.ShloMosaic.TcCoe Idealize.SL.Sem

variable (m : (ℓ : Loc nD τ sig) → Buf (Elt Ideal) ℓ) (c : Dev nD)

/-! What a grid point leaves in the accumulator and in the output block. -/

theorem first (t : Fin cfg0.N) (h : t.val % 4 = 0) : (outsAt0 m c t.val t.isLt).2 = k0_pay2 (iblk m c 0 t) (iblk m c 1 t) := by
  have hN : t.val < 4 := lt_of_lt_of_eq t.isLt N_0
  rw [outsAt0_A m c t h (by omega) (by omega)]
  frame_out

theorem next (t : Fin cfg0.N) (h : t.val % 4 ≠ 0) (h3 : t.val % 4 ≠ 3) : (outsAt0 m c t.val t.isLt).2 = k0_pay3 (iblk m c 0 t) (iblk m c 1 t) (outsAt0 m c (t.val - 1) (Nat.lt_of_le_of_lt (Nat.sub_le _ _) t.isLt)).2 := by
  rw [outsAt0_B m c t h (by omega) h3]
  frame_out
  exact congrArg (k0_pay3 (iblk m c 0 t) (iblk m c 1 t)) ((Memref.isWhole_whole _).read_unread _)

theorem last (t : Fin cfg0.N) (h : t.val % 4 = 3) : (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_C m c t (by omega) (by omega) h]
  frame_out
  exact congrArg (fun x => k0_pay4 (k0_pay3 (iblk m c 0 t) (iblk m c 1 t) x)) ((Memref.isWhole_whole _).read_unread _)

/-! The payloads at an index. -/

theorem part (x : S2048x1024.Idx → EReal) (y : S2048x768.Idx → EReal) (i : S1024x768.Idx) : @Eq EReal (k0_pay1 (F := Ideal) x y i) (∑ k : Fin 2048, x (ix2 k (i 0)) * y (ix2 k (i 1))) := by
  pointwise [k0_pay1]

theorem pay2 (x : S2048x1024.Idx → EReal) (y : S2048x768.Idx → EReal) (i : S1024x768.Idx) : @Eq EReal (k0_pay2 (F := Ideal) x y i) (k0_pay1 (F := Ideal) x y i) := by
  unfold k0_pay2
  generalize k0_pay1 (F := Ideal) x y = p
  pointwise

theorem pay3 (x : S2048x1024.Idx → EReal) (y : S2048x768.Idx → EReal) (z : S1024x768.Idx → EReal) (i : S1024x768.Idx) : @Eq EReal (k0_pay3 (F := Ideal) x y z i) ((z i : EReal) + (k0_pay1 (F := Ideal) x y i : EReal)) := by
  unfold k0_pay3
  generalize k0_pay1 (F := Ideal) x y = p
  pointwise

theorem pay4 (z : S1024x768.Idx → EReal) (i : S1024x768.Idx) : @Eq EReal (k0_pay4 (F := Ideal) z i) (z i) := rfl

/-! A block is its array's cells. -/

abbrev a0 : S8192x1024.Idx → EReal := m ((c.tc : Thread nD τ).loc main_arg0)
abbrev a1 : S8192x768.Idx → EReal := m ((c.tc : Thread nD τ).loc main_arg1)

theorem rd0 (t : Fin cfg0.N) (y : S2048x1024.Idx) : @Eq EReal (iblk m c 0 t y) (a0 m c (((cfg0.win 0).blk t).view.emb y)) :=
  congrFun (V_main_arg0 m c) _
theorem rd1 (t : Fin cfg0.N) (y : S2048x768.Idx) : @Eq EReal (iblk m c 1 t y) (a1 m c (((cfg0.win 1).blk t).view.emb y)) :=
  congrFun (V_main_arg1 m c) _

theorem idxs : ∀ t : Fin cfg0.N, win0_0.index t = ![t.val % 4, 0] ∧ win0_1.index t = ![t.val % 4, 0] :=
  (by decide +kernel : ∀ t : Fin grid0.N, _)

/-! The product. -/

def summand (i : S1024x768.Idx) (k : Fin 8192) : EReal := a0 m c (ridx_main_v4 (idx_main_v5 i) k) * a1 m c (lidx_main_v4 (idx_main_v5 i) k)

theorem run_lt (i : S1024x768.Idx) (s : Fin 4) : 4 * run2Of i + s.val < cfg0.N := by
  have h0 : (i 0).val < 1024 := (i 0).isLt
  have h1 : (i 1).val < 768 := (i 1).isLt
  rw [show cfg0.N = 4 from N_0]
  unfold run2Of
  omega

abbrev pt (i : S1024x768.Idx) (s : Fin 4) : Fin cfg0.N := ⟨4 * run2Of i + s.val, run_lt i s⟩

theorem part_at (i : S1024x768.Idx) (s : Fin 4) : @Eq EReal (k0_pay1 (F := Ideal) (iblk m c 0 (pt i s)) (iblk m c 1 (pt i s)) (loc2Of i))
    (∑ k : Fin 2048, summand m c i ⟨2048 * s.val + k.val, by omega⟩) := by
  refine (part _ _ _).trans (Finset.sum_congr rfl fun k _ => ?_)
  obtain ⟨e0, e1⟩ := idxs (pt i s)
  have h0 : (i 0).val < 1024 := (i 0).isLt
  have h1 : (i 1).val < 768 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 2048 + 1 * k.val = 2048 * s.val + k.val
    rw [e0]; show ((4 * run2Of i + s.val) % 4) * 2048 + _ = _
    try unfold run2Of
    omega
  · show win0_0.index _ (1 : Fin 2) * 1024 + 1 * ((i 0).val % 1024) = (i 0).val
    rw [e0]; show (0) * 1024 + _ = _
    try unfold run2Of
    omega
  · show win0_1.index _ (0 : Fin 2) * 2048 + 1 * k.val = 2048 * s.val + k.val
    rw [e1]; show ((4 * run2Of i + s.val) % 4) * 2048 + _ = _
    try unfold run2Of
    omega
  · show win0_1.index _ (1 : Fin 2) * 768 + 1 * ((i 1).val % 768) = (i 1).val
    rw [e1]; show (0) * 768 + _ = _
    try unfold run2Of
    omega

theorem G2_at (i : S1024x768.Idx) : @Eq EReal (G2 m c i) (∑ k : Fin 8192, summand m c i k) := by
  have hl : pt2Of i < cfg0.N := run_lt i 3
  rw [sum_quarters (B := 2048) rfl]
  unfold G2
  rw [dif_pos hl]
  refine (congrFun (congrArg Prod.fst (outsAt0_sweep m c (pt2Of i) hl).symm) _).trans ?_
  refine (congrFun (last m c (pt i 3) (mod_four _ 3 (by decide))) _).trans ((pay4 _ _).trans ((pay3 _ _ _ _).trans (congrArg₂ (fun a b : EReal => a + b) ?_ (part_at m c i 3))))
  refine (congrFun (next m c (pt i 2) ((mod_four _ 2 (by decide)).trans_ne (by decide)) ((mod_four _ 2 (by decide)).trans_ne (by decide))) _).trans ((pay3 _ _ _ _).trans (congrArg₂ (fun a b : EReal => a + b) ?_ (part_at m c i 2)))
  refine (congrFun (next m c (pt i 1) ((mod_four _ 1 (by decide)).trans_ne (by decide)) ((mod_four _ 1 (by decide)).trans_ne (by decide))) _).trans ((pay3 _ _ _ _).trans (congrArg₂ (fun a b : EReal => a + b) ?_ (part_at m c i 1)))
  exact (congrFun (first m c (pt i 0) (mod_four _ 0 (by decide))) _).trans ((pay2 _ _ _).trans (part_at m c i 0))

theorem value : G2 m c = val_main_v6 (F := Ideal) (a0 m c) (a1 m c) :=
  funext fun i => (G2_at m c i).trans ((Finset.sum_congr rfl fun k _ => mul_comm _ _).trans ((val_main_v4_apply (a0 m c) (a1 m c) (idx_main_v5 i)).symm.trans (val_main_v5_apply (F := Ideal) (a0 m c) (a1 m c) i).symm))

theorem frame_r : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

theorem algebraic : Cert.algebraic_Kernel17Ideal_Reference17Ideal := by
  intro m g m' g' _ hargs
  refine ⟨fun c => val_main_v6 (F := Ideal) (a0 m c) (a1 m c), ?_, ?_⟩
  · exact (θ_run Cert.Kernel17Ideal.defs _ _).mono (fun r hr c => ⟨(hr c).1.trans (value m c), (hr c).2⟩) (Cert.Kernel17Ideal.Value.run (F := Ideal) m g)
  · refine (θ_run Cert.Reference17Ideal.defs _ _).mono (fun r hr c => ?_) (Cert.Reference17Ideal.Value.run (F := Ideal) m' g')
    obtain ⟨h, hr⟩ := hr c
    obtain ⟨e0, e1⟩ := hargs c
    refine ⟨h.trans ?_, hr⟩
    rw [val_main_v6_eq, e0, e1]

end Cert.Proof.K17
end
-- ==== Proof.Kernel18Ideal.Product.lean ====
/- The product of the call mla_a_dx, block by block, against the derivative of the MLA input projection in its input. -/
module

public import proofs.«01_k».proof.Proof.Products
public import proofs.«01_k».proof.Proof.Gen.Kernel18Ideal.Value
public import proofs.«01_k».proof.Proof.Gen.Reference18Ideal.Read
public import Idealize.ShloMosaic.Lib.Pipeline.ValueKit
public import proofs.«01_k».proof.Defs

@[expose] public section

set_option maxRecDepth 16384

noncomputable section

namespace Cert.Proof.K18

open Cert.Kernel18Ideal Cert.Kernel18Ideal.Gen Cert.Kernel18Ideal.Value Cert.Reference18Ideal.Read Cert.Proof.Products
open Idealize.ShloMosaic Idealize.ShloMosaic.TcCoe Idealize.SL.Sem

variable (m : (ℓ : Loc nD τ sig) → Buf (Elt Ideal) ℓ) (c : Dev nD)

/-! What a grid point leaves in the output block, at an index. -/

theorem part (x : S1024x768.Idx → EReal) (y : S1024x768.Idx → EReal) (i : S1024x1024.Idx) : @Eq EReal (k0_pay1 (F := Ideal) x y i) (∑ k : Fin 768, x (ix2 (i 0) k) * y (ix2 (i 1) k)) := by
  pointwise [k0_pay1]

theorem left_eq (x : S1024x768.Idx → EReal) (y : S1024x768.Idx → EReal) : out0_2 (F := Ideal) x y = k0_pay1 (F := Ideal) x y := by
  frame_out

/-! A block is its array's cells. -/

abbrev a0 : S8192x768.Idx → EReal := m ((c.tc : Thread nD τ).loc main_arg0)
abbrev a1 : S1024x768.Idx → EReal := m ((c.tc : Thread nD τ).loc main_arg1)

theorem rd0 (t : Fin cfg0.N) (y : S1024x768.Idx) : @Eq EReal (iblk m c 0 t y) (a0 m c (((cfg0.win 0).blk t).view.emb y)) :=
  congrFun (V_main_arg0 m c) _
theorem rd1 (t : Fin cfg0.N) (y : S1024x768.Idx) : @Eq EReal (iblk m c 1 t y) (a1 m c (((cfg0.win 1).blk t).view.emb y)) :=
  congrFun (V_main_arg1 m c) _
theorem cut2 (t : Fin cfg0.N) (A : S8192x1024.Idx → EReal) (y : S1024x1024.Idx) : @Eq EReal (((cfg0.win 2).blk t).view.read (Elt Ideal) A y) (A (((cfg0.win 2).blk t).view.emb y)) := rfl
theorem keep2 (t : Fin cfg0.N) (z : S1024x1024.Idx → EReal) (y : S1024x1024.Idx) : @Eq EReal ((cfg0.win 2).cut (α := EReal) (grid0.coords t) z y) (z y) := rfl

theorem idxs : ∀ t : Fin cfg0.N, win0_0.index t = ![t.val, 0] ∧ win0_1.index t = ![0, 0] ∧ win0_2.index t = ![t.val, 0] :=
  (by decide +kernel : ∀ t : Fin grid0.N, _)

/-! The product. -/

/-- The grid point that writes the block of cell `i`, and the cell's place in the block. -/
def pt (i : S8192x1024.Idx) : Fin cfg0.N := ⟨(i 0).val / 1024, by
    have h0 : (i 0).val < 8192 := (i 0).isLt
    have h1 : (i 1).val < 1024 := (i 1).isLt
    rw [show cfg0.N = 8 from N_0]
    omega⟩

def cell (i : S8192x1024.Idx) : S1024x1024.Idx := ix2 ⟨(i 0).val % 1024, Nat.mod_lt _ (by decide)⟩ ⟨(i 1).val % 1024, Nat.mod_lt _ (by decide)⟩

theorem part_at (i : S8192x1024.Idx) : @Eq EReal (k0_pay1 (F := Ideal) (iblk m c 0 (pt i)) (iblk m c 1 (pt i)) (cell i))
    (∑ k : Fin 768, a0 m c (lidx_main_v4 i k) * a1 m c (ridx_main_v4 i k)) := by
  refine (part _ _ _).trans (Finset.sum_congr rfl fun k _ => ?_)
  obtain ⟨e0, e1, _⟩ := idxs (pt i)
  have h0 : (i 0).val < 8192 := (i 0).isLt
  have h1 : (i 1).val < 1024 := (i 1).isLt
  refine congrArg₂ (fun a b : EReal => a * b) ((rd0 m c _ _).trans (congrArg (a0 m c) (ext_at _ _ ?_ ?_))) ((rd1 m c _ _).trans (congrArg (a1 m c) (ext_at _ _ ?_ ?_)))
  · show win0_0.index _ (0 : Fin 2) * 1024 + 1 * ((i 0).val % 1024) = (i 0).val
    rw [e0]; show (((i 0).val / 1024)) * 1024 + _ = _
    omega
  · show win0_0.index _ (1 : Fin 2) * 768 + 1 * k.val = k.val
    rw [e0]; show (0) * 768 + _ = _
    omega
  · show win0_1.index _ (0 : Fin 2) * 1024 + 1 * ((i 1).val % 1024) = (i 1).val
    rw [e1]; show (0) * 1024 + _ = _
    omega
  · show win0_1.index _ (1 : Fin 2) * 768 + 1 * k.val = k.val
    rw [e1]; show (0) * 768 + _ = _
    omega

theorem emb_cell (i : S8192x1024.Idx) : ((cfg0.win 2).blk (pt i)).view.emb (cell i) = i := by
  obtain ⟨_, _, e2⟩ := idxs (pt i)
  have h0 : (i 0).val < 8192 := (i 0).isLt
  have h1 : (i 1).val < 1024 := (i 1).isLt
  refine ext_at _ _ ?_ ?_
  · show win0_2.index _ (0 : Fin 2) * 1024 + 1 * ((i 0).val % 1024) = (i 0).val
    rw [e2]; show (((i 0).val / 1024)) * 1024 + _ = _
    omega
  · show win0_2.index _ (1 : Fin 2) * 1024 + 1 * ((i 1).val % 1024) = (i 1).val
    rw [e2]; show (0) * 1024 + _ = _
    omega

abbrev res : S8192x1024.Idx → EReal := (dats m 0 c).arrAt 2 cfg0.N

theorem res_at (i : S8192x1024.Idx) : @Eq EReal (res m c i) (∑ k : Fin 768, a0 m c (lidx_main_v4 i k) * a1 m c (ridx_main_v4 i k)) := by
  refine (congrArg (res m c) (emb_cell i)).symm.trans ((cut2 _ (res m c) (cell i)).symm.trans ?_)
  refine (congrFun (blocks2 m c (pt i) (flush0_2 _)) (cell i)).trans ((congrFun (flushed2 m c _) (cell i)).trans ((keep2 _ _ _).trans ?_))
  exact (congrFun (left_eq _ _) _).trans (part_at m c i)

theorem value : res m c = val_main_v5 (F := Ideal) (a0 m c) (a1 m c) :=
  funext fun i => (res_at m c i).trans (val_main_v4_apply (a0 m c) (a1 m c) i).symm

theorem frame_r : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

theorem algebraic : Cert.algebraic_Kernel18Ideal_Reference18Ideal := by
  intro m g m' g' _ hargs
  refine ⟨fun c => val_main_v5 (F := Ideal) (a0 m c) (a1 m c), ?_, ?_⟩
  · exact (θ_run Cert.Kernel18Ideal.defs _ _).mono (fun r hr c => ⟨(hr c).1.trans (value m c), (hr c).2⟩) (Cert.Kernel18Ideal.Value.run_blocks (F := Ideal) m g)
  · refine (θ_run Cert.Reference18Ideal.defs _ _).mono (fun r hr c => ?_) (Cert.Reference18Ideal.Value.run (F := Ideal) m' g')
    obtain ⟨h, hr⟩ := hr c
    obtain ⟨e0, e1⟩ := hargs c
    refine ⟨h.trans ?_, hr⟩
    rw [val_main_v5_eq, e0, e1]

end Cert.Proof.K18
end
-- ==== Proof.Norm.lean ====
/- The gradient of the root-mean-square normalisation on the extended reals, with no condition on the arguments:
   a row with an infinite mean square has the scale zero, and any other row has a positive real scale. -/
module

public import Idealize.ShloMosaic.Lib.Pointwise

@[expose] public section

noncomputable section

namespace Cert.Proof.Norm

open Idealize.ShloMosaic

/-- The width of a row. -/
abbrev K : EReal := Ideal.ofBits .f32 0x44800000#32
/-- What is added to the mean square. -/
abbrev E : EReal := Ideal.ofBits .f32 0x358637BD#32
/-- Minus one half. -/
abbrev H : EReal := Ideal.ofBits .f32 0xBF000000#32

theorem bits_width : K = ((1024 : ℝ) : EReal) := by
  simp [K, Ideal.ofBits, Ideal.ieee]; rw [← EReal.coe_mul]; congr 1; norm_num

theorem bits_half : H = ((-(1 / 2) : ℝ) : EReal) := by
  simp [H, Ideal.ofBits, Ideal.ieee]; rw [← EReal.coe_mul]; congr 1; norm_num

theorem bits_one : Ideal.ofBits .f32 0x3F800000#32 = 1 := by
  simp [Ideal.ofBits, Ideal.ieee]; rw [← EReal.coe_mul, ← EReal.coe_one]; congr 1; norm_num

theorem bits_eps : ∃ e : ℝ, 0 < e ∧ E = (e : EReal) := by
  refine ⟨8796093 / 2 ^ 43, by norm_num, ?_⟩
  simp [E, Ideal.ofBits, Ideal.ieee]; rw [← EReal.coe_mul]; congr 1

theorem square_nonneg (a : EReal) : 0 ≤ a * a := by
  rcases le_total 0 a with h | h
  · exact mul_nonneg h h
  · have h' : 0 ≤ -a := by rwa [EReal.le_neg, neg_zero]
    have := mul_nonneg h' h'
    rwa [neg_mul_neg] at this

/-- The mean square of a row and the constant. -/
abbrev var (x : Fin 1024 → EReal) : EReal := Ideal.div (∑ k, x k * x k) K + E

theorem var_cases (x : Fin 1024 → EReal) : var x = ⊤ ∨ ∃ p : ℝ, 0 < p ∧ var x = (p : EReal) := by
  obtain ⟨e, he, hE⟩ := bits_eps
  have h0 : (0 : EReal) ≤ Ideal.div (∑ k, x k * x k) K := by
    rw [bits_width, Ideal.div_coe (by norm_num)]
    exact mul_nonneg (Finset.sum_nonneg fun k _ => square_nonneg _) (by exact_mod_cast (by norm_num : (0 : ℝ) ≤ 1 / 1024))
  unfold var
  rw [hE]
  generalize Ideal.div (∑ k, x k * x k) K = a at h0 ⊢
  induction a with
  | bot => exact absurd h0 (by simp)
  | top => exact Or.inl (EReal.top_add_coe e)
  | coe a => exact Or.inr ⟨a + e, add_pos_of_nonneg_of_pos (by exact_mod_cast h0) he, (EReal.coe_add a e).symm⟩

/-- A nonnegative real factor goes into a sum. -/
theorem mul_sum {n : ℕ} (r : ℝ) (hr : 0 ≤ r) (f : Fin n → EReal) : (r : EReal) * ∑ k, f k = ∑ k, (r : EReal) * f k := by
  induction n with
  | zero => simp
  | succ n ih => rw [Fin.sum_univ_succ, Fin.sum_univ_succ, EReal.left_distrib_of_nonneg_of_ne_top (by exact_mod_cast hr) (EReal.coe_ne_top r), ih]

/-- The kernel's formula and the derivative's, for one cell of a row. -/
theorem grad (x g : Fin 1024 → EReal) (j : Fin 1024) (d : EReal) :
    Ideal.rsqrt (var x) * (g j - x j * Ideal.rsqrt (var x) * Ideal.div (∑ k, g k * (x k * Ideal.rsqrt (var x))) K) + d
      = d + g j * Ideal.rsqrt (var x) + x j * Ideal.div ((∑ k, x k * g k) * (H * Ideal.div (Ideal.rsqrt (var x)) (var x))) K
        + Ideal.div ((∑ k, x k * g k) * (H * Ideal.div (Ideal.rsqrt (var x)) (var x))) K * x j := by
  rw [bits_width, bits_half]
  rcases var_cases x with h | ⟨p, hp, h⟩
  · rw [h]
    simp [Ideal.div]
  · rw [h, Ideal.rsqrt_coe, if_neg (not_lt.mpr hp.le), if_neg hp.ne']
    have hr : 0 ≤ (Real.sqrt p)⁻¹ := inv_nonneg.mpr (Real.sqrt_nonneg p)
    have hrp : (Real.sqrt p)⁻¹ * (1 / p) = (Real.sqrt p)⁻¹ * (Real.sqrt p)⁻¹ * (Real.sqrt p)⁻¹ := by
      rw [mul_assoc, ← mul_inv, Real.mul_self_sqrt hp.le, one_div]
    generalize (Real.sqrt p)⁻¹ = r at hr hrp
    have hs : ∑ k, g k * (x k * (r : EReal)) = (r : EReal) * ∑ k, x k * g k := by
      rw [mul_sum r hr]
      exact Finset.sum_congr rfl fun k _ => by rw [mul_comm (g k), mul_comm (x k) (r : EReal), mul_assoc]
    rw [hs, Ideal.div_coe (by norm_num), Ideal.div_coe (by norm_num), Ideal.div_coe hp.ne', ← EReal.coe_mul, ← EReal.coe_mul, hrp]
    generalize ∑ k, x k * g k = S
    have hb : (0 : ℝ) ≤ r * r * r * (1 / 2) * (1 / 1024) := by positivity
    have e1 : x j * (S * ((-(1 / 2) * (r * r * r) : ℝ) : EReal) * ((1 / 1024 : ℝ) : EReal)) = -(x j * S) * ((r * r * r * (1 / 2) * (1 / 1024) : ℝ) : EReal) := by
      rw [mul_assoc S, ← EReal.coe_mul, ← mul_assoc, show -(1 / 2) * (r * r * r) * (1 / 1024) = -(r * r * r * (1 / 2) * (1 / 1024)) from by ring, EReal.coe_neg, mul_neg, neg_mul]
    have e2 : (r : EReal) * -(x j * (r : EReal) * ((r : EReal) * S * ((1 / 1024 : ℝ) : EReal))) = -(x j * S) * ((r * r * r * (1 / 2) * (1 / 1024) + r * r * r * (1 / 2) * (1 / 1024) : ℝ) : EReal) := by
      rw [mul_neg, neg_mul]
      refine congrArg Neg.neg ?_
      rw [show r * r * r * (1 / 2) * (1 / 1024) + r * r * r * (1 / 2) * (1 / 1024) = r * r * r * (1 / 1024) from by ring, EReal.coe_mul, EReal.coe_mul, EReal.coe_mul]
      ac_rfl
    rw [mul_comm _ (x j), e1, sub_eq_add_neg, EReal.left_distrib_of_nonneg_of_ne_top (by exact_mod_cast hr) (EReal.coe_ne_top r), e2, EReal.coe_add,
      EReal.left_distrib_of_nonneg (by exact_mod_cast hb) (by exact_mod_cast hb), mul_comm (r : EReal) (g j), add_comm (_ + (_ + _)) d, add_assoc d, add_assoc d, add_assoc]

/-- What is accumulated block after block is the sum over all the rows so far. -/
theorem sweep {N : ℕ} (B : ℕ) (acc : (n : ℕ) → n < N → EReal) (f : ℕ → EReal) (h0 : ∀ h, acc 0 h = ∑ k : Fin B, f (B * 0 + k.val))
    (hs : ∀ n (h : n + 1 < N), acc (n + 1) h = acc n (Nat.lt_of_succ_lt h) + ∑ k : Fin B, f (B * (n + 1) + k.val)) :
    ∀ n (h : n < N), acc n h = ∑ k ∈ Finset.range (B * (n + 1)), f k
  | 0, h => by simpa [Finset.sum_range] using h0 h
  | n + 1, h => by
    rw [hs n h, sweep B acc f h0 hs n (Nat.lt_of_succ_lt h), Nat.mul_succ B (n + 1), Finset.sum_range_add, Finset.sum_range (fun x => f (B * (n + 1) + x))]

end Cert.Proof.Norm
end
-- ==== Proof.Rows.lean ====
/- Arrays cut into sixteen blocks of 512 rows: where a block's cells lie, and the column sums taken block after block. -/
module

public import proofs.«01_k».proof.Proof.Products
public import Idealize.ShloMosaic.Lib.Pipeline.ValueKit

@[expose] public section

noncomputable section

namespace Cert.Proof.Rows

open Cert.Proof.Products Idealize.ShloMosaic

abbrev A : Shape := ⟨2, ![8192, 1024]⟩
abbrev V : Shape := ⟨2, ![1, 1024]⟩

variable {N : ℕ} {hN : N = 16}

/-- Row `r` of block `t`, a row of the array. -/
def row (hN : N = 16) (t : Fin N) (r : Fin 512) : Fin 8192 := ⟨512 * t.val + r.val, by
  have h : t.val < 16 := lt_of_lt_of_eq t.isLt hN
  omega⟩

/-- A cell of a block of 512 rows, in the array. -/
theorem at_row {t : Fin N} {f : Fin 2 → ℕ} (e : f = ![t.val, 0]) (x : A.Idx) (r : Fin 512) (k : Fin 1024)
    (h0 : (x 0).val = f 0 * 512 + 1 * r.val) (h1 : (x 1).val = f 1 * 1024 + 1 * k.val) : x = ix2 (row hN t r) k := by
  subst e
  refine ext_at _ _ (h0.trans ?_) (h1.trans ?_)
  · show t.val * 512 + 1 * r.val = 512 * t.val + r.val
    omega
  · show 0 * 1024 + 1 * k.val = k.val
    omega

/-- A cell of a block of one row, in the array. -/
theorem at_vec {f : Fin 2 → ℕ} (e : f = ![0, 0]) (x y : V.Idx)
    (h0 : (x 0).val = f 0 * 1 + 1 * (y 0).val) (h1 : (x 1).val = f 1 * 1024 + 1 * (y 1).val) : x = y := by
  subst e
  refine ext_at _ _ (h0.trans ?_) (h1.trans ?_)
  · show 0 * 1 + 1 * (y 0).val = (y 0).val
    omega
  · show 0 * 1024 + 1 * (y 1).val = (y 1).val
    omega

/-- Every row is a row of a block. -/
theorem row_cover (hN : N = 16) (i : A.Idx) : ∃ (t : Fin N) (r : Fin 512), i = ix2 (row hN t r) (i 1) := by
  have h0 : (i 0).val < 8192 := (i 0).isLt
  refine ⟨⟨(i 0).val / 512, by rw [hN]; omega⟩, ⟨(i 0).val % 512, Nat.mod_lt _ (by decide)⟩, ext_at _ _ ?_ rfl⟩
  show (i 0).val = 512 * ((i 0).val / 512) + (i 0).val % 512
  omega

/-- Only the last block ends the sweep. -/
theorem only (hN : N = 16) {t t' : Fin N} (h : t.val % 16 = 15) (h' : t'.val % 16 = 15) : t = t' := by
  have a : t.val < 16 := lt_of_lt_of_eq t.isLt hN
  have b : t'.val < 16 := lt_of_lt_of_eq t'.isLt hN
  exact Fin.ext (by omega)

/-- A column by its row number, zero past the end. -/
def col (f : Fin 8192 → EReal) (n : ℕ) : EReal := if h : n < 8192 then f ⟨n, h⟩ else 0

theorem col_row (f : Fin 8192 → EReal) (t : Fin N) (r : Fin 512) : col f (512 * t.val + r.val) = f (row hN t r) := dif_pos (row hN t r).isLt

theorem col_sum (f : Fin 8192 → EReal) : ∑ k ∈ Finset.range (512 * (15 + 1)), col f k = ∑ k : Fin 8192, f k :=
  (Finset.sum_range _).trans (Finset.sum_congr rfl fun k _ => dif_pos k.isLt)

end Cert.Proof.Rows
end
-- ==== Proof.Kernel19Ideal.Derivative.lean ====
/- The derivative of the modulated normalisation, read at an index: its three results as sums over rows and columns. -/
module

public import proofs.«01_k».proof.Proof.Products
public import proofs.«01_k».proof.Proof.Gen.Reference19Ideal.Read
public import Idealize.ShloMosaic.Lib.Pipeline.ValueKit

@[expose] public section

set_option maxRecDepth 16384

noncomputable section

namespace Cert.Proof.K19

open Cert.Reference19Ideal Cert.Reference19Ideal.Gen Cert.Reference19Ideal.Read
open Idealize.ShloMosaic Idealize.ShloMosaic.TcCoe Idealize.SL.Sem

variable (x : S8192x1024.Idx → EReal) (s : S1x1024.Idx → EReal) (y d : S8192x1024.Idx → EReal)

theorem ref_r (i : S8192x1.Idx) : @Eq EReal (val_main_v7 (F := Ideal) x i) (Ideal.div (∑ k : Fin 1024, x (ix2 (i 0) k) * x (ix2 (i 0) k)) (Ideal.ofBits .f32 0x44800000#32) + Ideal.ofBits .f32 0x358637BD#32) := by
  rw [val_main_v7_apply, val_main_v5_apply, val_main_v3_apply, val_main_v2_apply, val_main_v4_apply, val_main_v6_apply]
  refine congrArg₂ (fun a b : EReal => Ideal.div a (Ideal.ofBits .f32 0x44800000#32) + Ideal.ofBits .f32 0x358637BD#32) ?_ (rfl : (0:EReal) = 0)
  refine (congrArg₂ (fun a b : EReal => a + b) Ideal.ofBits_zero_f32 ?_).trans (zero_add _)
  exact Finset.sum_congr rfl fun k _ => by
    rw [show idx_main_v2 (idx_main_v3 i) k = ix2 (i 0) k from Cert.Proof.Products.ext_at _ _ rfl rfl]; rfl

theorem ref_g (i : S8192x1024.Idx) : @Eq EReal (val_main_v27 (F := Ideal) s y i) (y i * (Ideal.ofBits .f32 0x3F800000#32 + s (ix2 0 (i 1)))) := by
  rw [val_main_v27_apply, val_main_v26_apply, val_main_v15_apply, val_main_v14_apply]
  rw [show idx_main_v26 i = ix2 0 (i 1) from Cert.Proof.Products.ext_at _ _ rfl rfl]; rfl

theorem ref_s (i : S8192.Idx) : @Eq EReal (val_main_v37 (F := Ideal) x s y i)
    (Ideal.div ((∑ k : Fin 1024, x (ix2 (i 0) k) * val_main_v27 (F := Ideal) s y (ix2 (i 0) k)) * (Ideal.ofBits .f32 0xBF000000#32 * Ideal.div (Ideal.rsqrt (val_main_v7 (F := Ideal) x (ix2 (i 0) 0))) (val_main_v7 (F := Ideal) x (ix2 (i 0) 0)))) (Ideal.ofBits .f32 0x44800000#32)) := by
  rw [val_main_v37_apply, Fin.sum_univ_one]
  refine (congrArg₂ (fun a b : EReal => a + b) Ideal.ofBits_zero_f32 ?_).trans (zero_add _)
  rw [val_main_v36_apply, val_main_v34_apply, val_main_v11_apply, val_main_v10_apply, val_main_v9_apply, val_main_v8_apply, val_main_v30_apply, val_main_v29_apply, val_main_v35_apply]
  rw [show idx_main_v37 i 0 = ix2 (i 0) 0 from Cert.Proof.Products.ext_at _ _ rfl rfl]
  refine congrArg (fun a : EReal => Ideal.div (a * (Ideal.ofBits .f32 0xBF000000#32 * Ideal.div (Ideal.rsqrt (val_main_v7 (F := Ideal) x (ix2 (i 0) 0))) (val_main_v7 (F := Ideal) x (ix2 (i 0) 0)))) (Ideal.ofBits .f32 0x44800000#32)) ?_
  refine (congrArg₂ (fun a b : EReal => a + b) Ideal.ofBits_zero_f32 ?_).trans (zero_add _)
  exact Finset.sum_congr rfl fun k _ =>
    congrArg (fun j : S8192x1024.Idx => (x j * val_main_v27 (F := Ideal) s y j : EReal)) (Cert.Proof.Products.ext_at _ (ix2 (i 0) k) (Nat.mul_one _) rfl)

theorem ref_dx (i : S8192x1024.Idx) : @Eq EReal (val_main_v42 (F := Ideal) x s y d i)
    (d i + val_main_v27 (F := Ideal) s y i * Ideal.rsqrt (val_main_v7 (F := Ideal) x (ix2 (i 0) 0)) + x i * val_main_v37 (F := Ideal) x s y (idx_main_v38 i) + val_main_v37 (F := Ideal) x s y (idx_main_v38 i) * x i) := by
  rw [val_main_v42_apply, val_main_v41_apply, val_main_v40_apply, val_main_v39_apply, val_main_v38_apply, val_main_v33_apply, val_main_v32_apply, val_main_v31_apply, val_main_v8_apply]
  rw [show idx_main_v31 i = ix2 (i 0) 0 from Cert.Proof.Products.ext_at _ _ rfl rfl]; rfl

theorem ref_ds (i : S1x1024.Idx) : @Eq EReal (val_main_v25 (F := Ideal) x y i)
    (∑ k : Fin 8192, y (ix2 k (i 1)) * (x (ix2 k (i 1)) * Ideal.rsqrt (val_main_v7 (F := Ideal) x (ix2 k 0)))) := by
  rw [val_main_v25_apply, val_main_v24_apply]
  refine (congrArg₂ (fun a b : EReal => a + b) Ideal.ofBits_zero_f32 ?_).trans (zero_add _)
  refine Finset.sum_congr rfl fun k _ => ?_
  have h0 : (i 0).val < 1 := (i 0).isLt
  rw [val_main_v23_apply, val_main_v13_apply, val_main_v12_apply, val_main_v8_apply]
  refine (mul_comm _ _).trans ?_
  have e : idx_main_v24 (idx_main_v25 i) k = ix2 k (i 1) := Cert.Proof.Products.ext_at _ _ rfl (by show (i 0).val * 1024 + (i 1).val = (i 1).val; omega)
  exact (congrArg (fun j : S8192x1024.Idx => (y j * (x j * Ideal.rsqrt (val_main_v7 (F := Ideal) x (idx_main_v12 j))) : EReal)) e).trans
    (congrArg (fun j : S8192x1.Idx => (y (ix2 k (i 1)) * (x (ix2 k (i 1)) * Ideal.rsqrt (val_main_v7 (F := Ideal) x j)) : EReal)) (Cert.Proof.Products.ext_at (idx_main_v12 (ix2 k (i 1))) (ix2 k 0) rfl rfl))

theorem ref_dh (i : S1x1024.Idx) : @Eq EReal (val_main_v22 (F := Ideal) y i) (∑ k : Fin 8192, y (ix2 k (i 1))) := by
  rw [val_main_v22_apply, val_main_v21_apply]
  refine (congrArg₂ (fun a b : EReal => a + b) Ideal.ofBits_zero_f32 ?_).trans (zero_add _)
  refine Finset.sum_congr rfl fun k _ => ?_
  have h0 : (i 0).val < 1 := (i 0).isLt
  rw [show idx_main_v21 (idx_main_v22 i) k = ix2 k (i 1) from Cert.Proof.Products.ext_at _ _ rfl (by show (i 0).val * 1024 + (i 1).val = (i 1).val; omega)]
  rfl

end Cert.Proof.K19
end
-- ==== Proof.Kernel19Ideal.Product.lean ====
/- The gradient of the modulated normalisation, the call ada_bwd0: its three results against the derivative. -/
module

public import proofs.«01_k».proof.Proof.Norm
public import proofs.«01_k».proof.Proof.Rows
public import proofs.«01_k».proof.Proof.Kernel19Ideal.Derivative
public import proofs.«01_k».proof.Proof.Gen.Kernel19Ideal.Value
public import Idealize.ShloMosaic.Lib.Pipeline.ValueKit
public import proofs.«01_k».proof.Defs

@[expose] public section

set_option maxRecDepth 16384

noncomputable section

namespace Cert.Proof.K19

open Cert.Kernel19Ideal Cert.Kernel19Ideal.Gen Cert.Kernel19Ideal.Value Cert.Reference19Ideal.Read Cert.Proof.Products Cert.Proof.Rows
open Idealize.ShloMosaic Idealize.ShloMosaic.TcCoe Idealize.SL.Sem

theorem pay4 (x : S512x1024.Idx → EReal) (i : S512x1.Idx) : @Eq EReal (k0_pay4 (F := Ideal) x i) (Ideal.rsqrt (Ideal.div (∑ k : Fin 1024, x (ix2 (i 0) k) * x (ix2 (i 0) k)) (Ideal.ofBits .f32 0x44800000#32) + Ideal.ofBits .f32 0x358637BD#32)) := by
  pointwise [k0_pay4]
theorem pay5 (x : S512x1024.Idx → EReal) (i : S512x1024.Idx) : @Eq EReal (k0_pay5 (F := Ideal) x i) (x i * k0_pay4 (F := Ideal) x (ix2 (i 0) 0)) := by
  unfold k0_pay5
  generalize k0_pay4 (F := Ideal) x = p
  pointwise
theorem pay6 (x : S512x1024.Idx → EReal) (y : S512x1024.Idx → EReal) (s : S1x1024.Idx → EReal) (d : S512x1024.Idx → EReal) (i : S512x1024.Idx) : @Eq EReal (k0_pay6 (F := Ideal) x y s d i)
   (k0_pay4 (F := Ideal) x (ix2 (i 0) 0) * (y i * (s (ix2 0 (i 1)) + 1) - k0_pay5 (F := Ideal) x i * Ideal.div (∑ k : Fin 1024, y (ix2 (i 0) k) * (s (ix2 0 k) + 1) * k0_pay5 (F := Ideal) x (ix2 (i 0) k)) (Ideal.ofBits .f32 0x44800000#32)) + d i) := by
  unfold k0_pay6
  generalize k0_pay5 (F := Ideal) x = p
  generalize k0_pay4 (F := Ideal) x = q
  pointwise [k0_pay3]
theorem pay10 (x : S512x1024.Idx → EReal) (y : S512x1024.Idx → EReal) (i : S512x1024.Idx) : @Eq EReal (k0_pay10 (F := Ideal) x y i) (y i * k0_pay5 (F := Ideal) x i) := by
  unfold k0_pay10
  generalize k0_pay5 (F := Ideal) x = p
  pointwise [k0_pay3]
theorem pay1 (z : S1x1024.Idx → EReal) (y : S512x1024.Idx → EReal) (i : S1x1024.Idx) : @Eq EReal (k0_pay1 (F := Ideal) z y i) (z i + ∑ k : Fin 512, y (ix2 k (i 1))) := by
  pointwise [k0_pay1]
theorem pay2 (y : S512x1024.Idx → EReal) (z : S1x1024.Idx → EReal) (i : S1x1024.Idx) : @Eq EReal (k0_pay2 (F := Ideal) y z i) (z i + ∑ k : Fin 512, y (ix2 k (i 1))) := by
  pointwise [k0_pay2]
theorem pay7 (i : S1x1024.Idx) : @Eq EReal (k0_pay7 (F := Ideal) i) 0 := by
  pointwise [k0_pay7]
theorem pay9 (z : S1x1024.Idx → EReal) (i : S1x1024.Idx) : @Eq EReal (k0_pay9 (F := Ideal) z i) (z i) := by
  pointwise [k0_pay9]

variable (m : (ℓ : Loc nD τ sig) → Buf (Elt Ideal) ℓ) (c : Dev nD)

theorem first (t : Fin cfg0.N) (h : t.val % 16 = 0) : outsAt0 m c t.val t.isLt = (k0_pay6 (iblk m c 0 t) (iblk m c 2 t) (iblk m c 1 t) (iblk m c 3 t), k0_pay1 (k0_pay9 (k0_pay7 (F := Ideal))) (k0_pay10 (iblk m c 0 t) (iblk m c 2 t)), k0_pay2 (k0_pay3 (iblk m c 2 t)) (k0_pay8 (F := Ideal))) := by
  rw [outsAt0_A m c t h]
  frame_out

theorem next (t : Fin cfg0.N) (h : ¬t.val % 16 = 0) : outsAt0 m c t.val t.isLt = (k0_pay6 (iblk m c 0 t) (iblk m c 2 t) (iblk m c 1 t) (iblk m c 3 t), k0_pay1 (k0_pay9 (outsAt0 m c (t.val - 1) (Nat.lt_of_le_of_lt (Nat.sub_le _ _) t.isLt)).2.1) (k0_pay10 (iblk m c 0 t) (iblk m c 2 t)), k0_pay2 (k0_pay3 (iblk m c 2 t)) (outsAt0 m c (t.val - 1) (Nat.lt_of_le_of_lt (Nat.sub_le _ _) t.isLt)).2.2) := by
  rw [outsAt0_B m c t h]
  frame_out

/-! A block is its array's cells. -/

abbrev a0 : S8192x1024.Idx → EReal := m ((c.tc : Thread nD τ).loc main_arg0)
abbrev a1 : S1x1024.Idx → EReal := m ((c.tc : Thread nD τ).loc main_arg1)
abbrev a2 : S8192x1024.Idx → EReal := m ((c.tc : Thread nD τ).loc main_arg2)
abbrev a3 : S8192x1024.Idx → EReal := m ((c.tc : Thread nD τ).loc main_arg3)

abbrev row (t : Fin cfg0.N) (r : Fin 512) : Fin 8192 := Rows.row N_0 t r

theorem idxs : ∀ t : Fin cfg0.N, (win0_0.index t = ![t.val, 0] ∧ win0_2.index t = ![t.val, 0] ∧ win0_3.index t = ![t.val, 0] ∧ win0_4.index t = ![t.val, 0])
    ∧ win0_1.index t = ![0, 0] ∧ win0_5.index t = ![0, 0] ∧ win0_6.index t = ![0, 0] :=
  (by decide +kernel : ∀ t : Fin grid0.N, _)

theorem rd0 (t : Fin cfg0.N) (r : Fin 512) (k : Fin 1024) : @Eq EReal (iblk m c 0 t (ix2 r k)) (a0 m c (ix2 (row t r) k)) :=
  (congrFun (V_main_arg0 m c) _).trans (congrArg (a0 m c) (at_row (idxs t).1.1 (((cfg0.win 0).blk t).view.emb (ix2 r k)) r k rfl rfl))
theorem rd1 (t : Fin cfg0.N) (y : S1x1024.Idx) : @Eq EReal (iblk m c 1 t y) (a1 m c y) :=
  (congrFun (V_main_arg1 m c) _).trans (congrArg (a1 m c) (at_vec (idxs t).2.1 (((cfg0.win 1).blk t).view.emb y) y rfl rfl))
theorem rd2 (t : Fin cfg0.N) (r : Fin 512) (k : Fin 1024) : @Eq EReal (iblk m c 2 t (ix2 r k)) (a2 m c (ix2 (row t r) k)) :=
  (congrFun (V_main_arg2 m c) _).trans (congrArg (a2 m c) (at_row (idxs t).1.2.1 (((cfg0.win 2).blk t).view.emb (ix2 r k)) r k rfl rfl))
theorem rd3 (t : Fin cfg0.N) (r : Fin 512) (k : Fin 1024) : @Eq EReal (iblk m c 3 t (ix2 r k)) (a3 m c (ix2 (row t r) k)) :=
  (congrFun (V_main_arg3 m c) _).trans (congrArg (a3 m c) (at_row (idxs t).1.2.2.1 (((cfg0.win 3).blk t).view.emb (ix2 r k)) r k rfl rfl))

/-- The scale of a row. -/
abbrev scl (r : Fin 8192) : EReal := Ideal.rsqrt (Norm.var fun k => a0 m c (ix2 r k))

theorem scl_at (t : Fin cfg0.N) (r : Fin 512) : @Eq EReal (k0_pay4 (F := Ideal) (iblk m c 0 t) (ix2 r 0)) (scl m c (row t r)) :=
  (pay4 _ _).trans (congrArg (fun a : EReal => Ideal.rsqrt (Ideal.div a Norm.K + Norm.E)) (Finset.sum_congr rfl fun k _ =>
    congrArg₂ (fun a b : EReal => a * b) (rd0 m c t r k) (rd0 m c t r k)))

theorem unit_at (t : Fin cfg0.N) (r : Fin 512) (k : Fin 1024) : @Eq EReal (k0_pay5 (F := Ideal) (iblk m c 0 t) (ix2 r k)) (a0 m c (ix2 (row t r) k) * scl m c (row t r)) :=
  (pay5 _ _).trans (congrArg₂ (fun a b : EReal => a * b) (rd0 m c t r k) (scl_at m c t r))

/-- The gradient of the normalised value: the incoming gradient times one plus the scale argument. -/
abbrev gin (r : Fin 8192) (k : Fin 1024) : EReal := a2 m c (ix2 r k) * (a1 m c (ix2 0 k) + 1)

theorem gin_at (t : Fin cfg0.N) (r : Fin 512) (k : Fin 1024) : @Eq EReal (HMul.hMul (α := EReal) (β := EReal) (iblk m c 2 t (ix2 r k)) (HAdd.hAdd (α := EReal) (β := EReal) (iblk m c 1 t (ix2 0 k)) 1)) (gin m c (row t r) k) :=
  congrArg₂ (fun a b : EReal => a * (b + 1)) (rd2 m c t r k) (rd1 m c t _)

theorem dx_block (t : Fin cfg0.N) (r : Fin 512) (k : Fin 1024) : @Eq EReal (k0_pay6 (F := Ideal) (iblk m c 0 t) (iblk m c 2 t) (iblk m c 1 t) (iblk m c 3 t) (ix2 r k))
    (scl m c (row t r) * (gin m c (row t r) k - a0 m c (ix2 (row t r) k) * scl m c (row t r) * Ideal.div (∑ j : Fin 1024, gin m c (row t r) j * (a0 m c (ix2 (row t r) j) * scl m c (row t r))) Norm.K) + a3 m c (ix2 (row t r) k)) := by
  refine (pay6 _ _ _ _ _).trans (congrArg₂ (fun a b : EReal => a + b) (congrArg₂ (fun a b : EReal => a * b) (scl_at m c t r) (congrArg₂ (fun a b : EReal => a - b) (gin_at m c t r k)
    (congrArg₂ (fun a b : EReal => a * Ideal.div b Norm.K) (unit_at m c t r k) (Finset.sum_congr rfl fun j _ => congrArg₂ (fun a b : EReal => a * b) (gin_at m c t r j) (unit_at m c t r j))))) (rd3 m c t r k))

/-! The three arrays after the run. -/

abbrev res4 : S8192x1024.Idx → EReal := (dats m 0 c).arrAt 4 cfg0.N
abbrev res5 : S1x1024.Idx → EReal := (dats m 0 c).arrAt 5 cfg0.N
abbrev res6 : S1x1024.Idx → EReal := (dats m 0 c).arrAt 6 cfg0.N

theorem left4 (t : Fin cfg0.N) : (outsAt0 m c t.val t.isLt).1 = k0_pay6 (iblk m c 0 t) (iblk m c 2 t) (iblk m c 1 t) (iblk m c 3 t) := by
  by_cases h : t.val % 16 = 0
  · exact congrArg Prod.fst (first m c t h)
  · exact congrArg Prod.fst (next m c t h)

theorem keep4 (t : Fin cfg0.N) (z : S512x1024.Idx → EReal) (y : S512x1024.Idx) : @Eq EReal ((cfg0.win 4).cut (α := EReal) (grid0.coords t) z y) (z y) := rfl
theorem cut4 (t : Fin cfg0.N) (A : S8192x1024.Idx → EReal) (y : S512x1024.Idx) : @Eq EReal (((cfg0.win 4).blk t).view.read (Elt Ideal) A y) (A (((cfg0.win 4).blk t).view.emb y)) := rfl

theorem res4_row (t : Fin cfg0.N) (r : Fin 512) (k : Fin 1024) : @Eq EReal (res4 m c (ix2 (row t r) k)) (k0_pay6 (F := Ideal) (iblk m c 0 t) (iblk m c 2 t) (iblk m c 1 t) (iblk m c 3 t) (ix2 r k)) := by
  refine (congrArg (res4 m c) (at_row (idxs t).1.2.2.2 (((cfg0.win 4).blk t).view.emb (ix2 r k)) r k rfl rfl)).symm.trans ((cut4 _ (res4 m c) (ix2 r k)).symm.trans ?_)
  exact (congrFun (blocks4 m c t (flush0_4 _)) (ix2 r k)).trans ((congrFun (flushed4 m c _) (ix2 r k)).trans ((keep4 _ _ _).trans (congrFun (left4 m c t) _)))

/-- The last point, the only one that writes the two vectors back. -/
abbrev fin0 : Fin cfg0.N := ⟨15, by rw [show cfg0.N = 16 from N_0]; decide⟩

theorem keep5 (z : S1x1024.Idx → EReal) (y : S1x1024.Idx) : @Eq EReal ((cfg0.win 5).cut (α := EReal) (grid0.coords fin0) z y) (z y) := rfl
theorem cut5 (A : S1x1024.Idx → EReal) (y : S1x1024.Idx) : @Eq EReal (((cfg0.win 5).blk fin0).view.read (Elt Ideal) A y) (A (((cfg0.win 5).blk fin0).view.emb y)) := rfl
theorem keep6 (z : S1x1024.Idx → EReal) (y : S1x1024.Idx) : @Eq EReal ((cfg0.win 6).cut (α := EReal) (grid0.coords fin0) z y) (z y) := rfl
theorem cut6 (A : S1x1024.Idx → EReal) (y : S1x1024.Idx) : @Eq EReal (((cfg0.win 6).blk fin0).view.read (Elt Ideal) A y) (A (((cfg0.win 6).blk fin0).view.emb y)) := rfl

theorem res5_eq (i : S1x1024.Idx) : @Eq EReal (res5 m c i) ((outsAt0 m c 15 fin0.isLt).2.1 i) := by
  refine (congrArg (res5 m c) (at_vec (idxs fin0).2.2.1 (((cfg0.win 5).blk fin0).view.emb i) i rfl rfl)).symm.trans ((cut5 (res5 m c) i).symm.trans ?_)
  refine (congrFun ((dats m 0 c).read_blk_arrAt_eq_flushed 5 (fun t t' h h' hne => absurd (only N_0 ((flush0_5 t).mp h) ((flush0_5 t').mp h')) hne) cfg0.N fin0 fin0.isLt ((flush0_5 fin0).mpr rfl)) i).trans ?_
  exact (congrFun (flushed5 m c fin0) i).trans (keep5 _ _)

theorem res6_eq (i : S1x1024.Idx) : @Eq EReal (res6 m c i) ((outsAt0 m c 15 fin0.isLt).2.2 i) := by
  refine (congrArg (res6 m c) (at_vec (idxs fin0).2.2.2 (((cfg0.win 6).blk fin0).view.emb i) i rfl rfl)).symm.trans ((cut6 (res6 m c) i).symm.trans ?_)
  refine (congrFun ((dats m 0 c).read_blk_arrAt_eq_flushed 6 (fun t t' h h' hne => absurd (only N_0 ((flush0_6 t).mp h) ((flush0_6 t').mp h')) hne) cfg0.N fin0 fin0.isLt ((flush0_6 fin0).mpr rfl)) i).trans ?_
  exact (congrFun (flushed6 m c fin0) i).trans (keep6 _ _)

/-- What a point adds to the two vectors. -/
theorem add5 (t : Fin cfg0.N) (z : S1x1024.Idx → EReal) (i : S1x1024.Idx) : @Eq EReal (k0_pay1 (F := Ideal) (k0_pay9 z) (k0_pay10 (iblk m c 0 t) (iblk m c 2 t)) i)
    (z i + ∑ k : Fin 512, col (fun r => a2 m c (ix2 r (i 1)) * (a0 m c (ix2 r (i 1)) * scl m c r)) (512 * t.val + k.val)) :=
  (pay1 _ _ _).trans (congrArg₂ (fun a b : EReal => a + b) (pay9 _ _) (Finset.sum_congr rfl fun k _ =>
    ((pay10 _ _ _).trans (congrArg₂ (fun a b : EReal => a * b) (rd2 m c t k (i 1)) (unit_at m c t k (i 1)))).trans (col_row (fun r => a2 m c (ix2 r (i 1)) * (a0 m c (ix2 r (i 1)) * scl m c r)) t k).symm))

theorem add6 (t : Fin cfg0.N) (z : S1x1024.Idx → EReal) (i : S1x1024.Idx) : @Eq EReal (k0_pay2 (F := Ideal) (k0_pay3 (iblk m c 2 t)) z i)
    (z i + ∑ k : Fin 512, col (fun r => a2 m c (ix2 r (i 1))) (512 * t.val + k.val)) :=
  (pay2 _ _ _).trans (congrArg (fun b : EReal => z i + b) (Finset.sum_congr rfl fun k _ => (rd2 m c t k (i 1)).trans (col_row (fun r => a2 m c (ix2 r (i 1))) t k).symm))

theorem res5_at (i : S1x1024.Idx) : @Eq EReal (res5 m c i) (∑ r : Fin 8192, a2 m c (ix2 r (i 1)) * (a0 m c (ix2 r (i 1)) * scl m c r)) := by
  refine (res5_eq m c i).trans (((Norm.sweep 512 (fun n h => (outsAt0 m c n h).2.1 i) _ (fun h => ?_) fun n h => ?_) 15 fin0.isLt).trans (col_sum _))
  · exact (congrFun (congrArg (fun p => p.2.1) (first m c ⟨0, h⟩ rfl)) i).trans ((add5 m c ⟨0, h⟩ _ i).trans ((congrArg (fun a : EReal => a + _) (pay7 i)).trans (zero_add _)))
  · have hN : n + 1 < 16 := lt_of_lt_of_eq h N_0
    exact (congrFun (congrArg (fun p => p.2.1) (next m c ⟨n + 1, h⟩ (by show ¬(n + 1) % 16 = 0; omega))) i).trans (add5 m c ⟨n + 1, h⟩ _ i)

theorem res6_at (i : S1x1024.Idx) : @Eq EReal (res6 m c i) (∑ r : Fin 8192, a2 m c (ix2 r (i 1))) := by
  refine (res6_eq m c i).trans (((Norm.sweep 512 (fun n h => (outsAt0 m c n h).2.2 i) _ (fun h => ?_) fun n h => ?_) 15 fin0.isLt).trans (col_sum _))
  · exact (congrFun (congrArg (fun p => p.2.2) (first m c ⟨0, h⟩ rfl)) i).trans ((add6 m c ⟨0, h⟩ _ i).trans ((congrArg (fun a : EReal => a + _) (pay7 i)).trans (zero_add _)))
  · have hN : n + 1 < 16 := lt_of_lt_of_eq h N_0
    exact (congrFun (congrArg (fun p => p.2.2) (next m c ⟨n + 1, h⟩ (by show ¬(n + 1) % 16 = 0; omega))) i).trans (add6 m c ⟨n + 1, h⟩ _ i)

/-! The results are the derivative's. -/

theorem scl_ref (r : Fin 8192) : @Eq EReal (Ideal.rsqrt (val_main_v7 (F := Ideal) (a0 m c) (ix2 r 0))) (scl m c r) := congrArg Ideal.rsqrt (ref_r (a0 m c) (ix2 r 0))

theorem gin_ref (r : Fin 8192) (k : Fin 1024) : @Eq EReal (val_main_v27 (F := Ideal) (a1 m c) (a2 m c) (ix2 r k)) (gin m c r k) :=
  (ref_g (a1 m c) (a2 m c) (ix2 r k)).trans (congrArg (fun b : EReal => a2 m c (ix2 r k) * b) ((add_comm _ _).trans (congrArg (fun b : EReal => a1 m c (ix2 0 k) + b) Norm.bits_one)))

theorem value4 : res4 m c = val_main_v42 (F := Ideal) (a0 m c) (a1 m c) (a2 m c) (a3 m c) := funext fun i => by
  obtain ⟨t, r, e⟩ := row_cover N_0 i
  have hs : @Eq EReal (val_main_v37 (F := Ideal) (a0 m c) (a1 m c) (a2 m c) (idx_main_v38 (ix2 (row t r) (i 1))))
      (Ideal.div ((∑ k : Fin 1024, a0 m c (ix2 (row t r) k) * gin m c (row t r) k) * (Norm.H * Ideal.div (scl m c (row t r)) (Norm.var fun k => a0 m c (ix2 (row t r) k)))) Norm.K) :=
    (ref_s (a0 m c) (a1 m c) (a2 m c) (idx_main_v38 (ix2 (row t r) (i 1)))).trans (congrArg (fun a : EReal => Ideal.div a Norm.K)
      (congrArg₂ (fun a b : EReal => a * (Norm.H * b)) (Finset.sum_congr rfl fun k _ => congrArg (fun b : EReal => a0 m c (ix2 (row t r) k) * b) (gin_ref m c (row t r) k))
        (congrArg₂ (fun a b : EReal => Ideal.div a b) (scl_ref m c (row t r)) (ref_r (a0 m c) (ix2 (row t r) 0)))))
  rw [e]
  refine (res4_row m c t r (i 1)).trans ((dx_block m c t r (i 1)).trans ((Norm.grad (fun k => a0 m c (ix2 (row t r) k)) (gin m c (row t r)) (i 1) _).trans (Eq.symm ?_)))
  refine (ref_dx (a0 m c) (a1 m c) (a2 m c) (a3 m c) (ix2 (row t r) (i 1))).trans ?_
  exact congrArg₂ (fun a b : EReal => a3 m c (ix2 (row t r) (i 1)) + a + a0 m c (ix2 (row t r) (i 1)) * b + b * a0 m c (ix2 (row t r) (i 1)))
    (congrArg₂ (fun a b : EReal => a * b) (gin_ref m c (row t r) (i 1)) (scl_ref m c (row t r))) hs

theorem value5 : res5 m c = val_main_v25 (F := Ideal) (a0 m c) (a2 m c) := funext fun i =>
  (res5_at m c i).trans ((Finset.sum_congr rfl fun r _ => congrArg (fun b : EReal => a2 m c (ix2 r (i 1)) * (a0 m c (ix2 r (i 1)) * b)) (scl_ref m c r).symm).trans (ref_ds (a0 m c) (a2 m c) i).symm)

theorem value6 : res6 m c = val_main_v22 (F := Ideal) (a2 m c) := funext fun i => (res6_at m c i).trans (ref_dh (a2 m c) i).symm

theorem frame_r : Cert.quiescent_Reference19Ideal := fun m g _ =>
  (θ_run Cert.Reference19Ideal.defs _ _).mono (fun r h => ⟨fun c => (h c).2.2.2, sem_eq_zero_of_no_sems (by decide) r.2⟩)
    (Cert.Reference19Ideal.Value.run (F := Ideal) m g)

theorem algebraic : Cert.algebraic_Kernel19Ideal_Reference19Ideal := by
  intro m g m' g' _ hargs
  refine ⟨fun c => val_main_v42 (F := Ideal) (a0 m c) (a1 m c) (a2 m c) (a3 m c), fun c => val_main_v25 (F := Ideal) (a0 m c) (a2 m c), fun c => val_main_v22 (F := Ideal) (a2 m c), ?_, ?_⟩
  · exact (θ_run Cert.Kernel19Ideal.defs _ _).mono (fun r hr c => ⟨(hr c).1.trans (value4 m c), (hr c).2.1.trans (value5 m c), (hr c).2.2.1.trans (value6 m c), (hr c).2.2.2⟩) (Cert.Kernel19Ideal.Value.run_blocks (F := Ideal) m g)
  · refine (θ_run Cert.Reference19Ideal.defs _ _).mono (fun r hr c => ?_) (Cert.Reference19Ideal.Value.run (F := Ideal) m' g')
    obtain ⟨h4, h5, h6, hr⟩ := hr c
    obtain ⟨e0, e1, e2, e3⟩ := hargs c
    refine ⟨h4.trans ?_, h5.trans ?_, h6.trans ?_, hr⟩
    · rw [val_main_v42_eq, e0, e1, e2, e3]
    · rw [val_main_v25_eq, e0, e2]
    · rw [val_main_v22_eq, e2]

end Cert.Proof.K19
end
-- ==== Proof.Kernel20Ideal.Product.lean ====
/- The gradient of a gated residual, the call resid_bwd0: its two results against the derivative. -/
module

public import proofs.«01_k».proof.Proof.Norm
public import proofs.«01_k».proof.Proof.Rows
public import proofs.«01_k».proof.Proof.Gen.Kernel20Ideal.Value
public import proofs.«01_k».proof.Proof.Gen.Reference20Ideal.Read
public import Idealize.ShloMosaic.Lib.Pipeline.ValueKit
public import proofs.«01_k».proof.Defs

@[expose] public section

set_option maxRecDepth 16384

noncomputable section

namespace Cert.Proof.K20

open Cert.Kernel20Ideal Cert.Kernel20Ideal.Gen Cert.Kernel20Ideal.Value Cert.Reference20Ideal.Read Cert.Proof.Products Cert.Proof.Rows
open Idealize.ShloMosaic Idealize.ShloMosaic.TcCoe Idealize.SL.Sem

theorem pay1 (d : S512x1024.Idx → EReal) (g : S1x1024.Idx → EReal) (i : S512x1024.Idx) : @Eq EReal (k0_pay1 (F := Ideal) d g i) (g (ix2 0 (i 1)) * d i) := by
  pointwise [k0_pay1]
theorem pay2 (i : S1x1024.Idx) : @Eq EReal (k0_pay2 (F := Ideal) i) 0 := by
  pointwise [k0_pay2]
theorem pay3 (d : S512x1024.Idx → EReal) (z : S1x1024.Idx → EReal) (y : S512x1024.Idx → EReal) (i : S1x1024.Idx) : @Eq EReal (k0_pay3 (F := Ideal) d z y i) (z i + ∑ k : Fin 512, d (ix2 k (i 1)) * y (ix2 k (i 1))) := by
  pointwise [k0_pay3]

variable (m : (ℓ : Loc nD τ sig) → Buf (Elt Ideal) ℓ) (c : Dev nD)

theorem first (t : Fin cfg0.N) (h : t.val % 16 = 0) : outsAt0 m c t.val t.isLt = (k0_pay1 (iblk m c 0 t) (iblk m c 2 t), k0_pay3 (iblk m c 0 t) (k0_pay2 (F := Ideal)) (iblk m c 1 t)) := by
  rw [outsAt0_A m c t h]
  frame_out

theorem next (t : Fin cfg0.N) (h : ¬t.val % 16 = 0) : outsAt0 m c t.val t.isLt = (k0_pay1 (iblk m c 0 t) (iblk m c 2 t), k0_pay3 (iblk m c 0 t) (outsAt0 m c (t.val - 1) (Nat.lt_of_le_of_lt (Nat.sub_le _ _) t.isLt)).2 (iblk m c 1 t)) := by
  rw [outsAt0_B m c t h]
  frame_out

/-! A block is its array's cells. -/

abbrev a0 : S8192x1024.Idx → EReal := m ((c.tc : Thread nD τ).loc main_arg0)
abbrev a1 : S8192x1024.Idx → EReal := m ((c.tc : Thread nD τ).loc main_arg1)
abbrev a2 : S1x1024.Idx → EReal := m ((c.tc : Thread nD τ).loc main_arg2)

abbrev row (t : Fin cfg0.N) (r : Fin 512) : Fin 8192 := Rows.row N_0 t r

theorem idxs : ∀ t : Fin cfg0.N, (win0_0.index t = ![t.val, 0] ∧ win0_1.index t = ![t.val, 0] ∧ win0_3.index t = ![t.val, 0])
    ∧ win0_2.index t = ![0, 0] ∧ win0_4.index t = ![0, 0] :=
  (by decide +kernel : ∀ t : Fin grid0.N, _)

theorem rd0 (t : Fin cfg0.N) (r : Fin 512) (k : Fin 1024) : @Eq EReal (iblk m c 0 t (ix2 r k)) (a0 m c (ix2 (row t r) k)) :=
  (congrFun (V_main_arg0 m c) _).trans (congrArg (a0 m c) (at_row (idxs t).1.1 (((cfg0.win 0).blk t).view.emb (ix2 r k)) r k rfl rfl))
theorem rd1 (t : Fin cfg0.N) (r : Fin 512) (k : Fin 1024) : @Eq EReal (iblk m c 1 t (ix2 r k)) (a1 m c (ix2 (row t r) k)) :=
  (congrFun (V_main_arg1 m c) _).trans (congrArg (a1 m c) (at_row (idxs t).1.2.1 (((cfg0.win 1).blk t).view.emb (ix2 r k)) r k rfl rfl))
theorem rd2 (t : Fin cfg0.N) (y : S1x1024.Idx) : @Eq EReal (iblk m c 2 t y) (a2 m c y) :=
  (congrFun (V_main_arg2 m c) _).trans (congrArg (a2 m c) (at_vec (idxs t).2.1 (((cfg0.win 2).blk t).view.emb y) y rfl rfl))

/-! The two arrays after the run. -/

abbrev res3 : S8192x1024.Idx → EReal := (dats m 0 c).arrAt 3 cfg0.N
abbrev res4 : S1x1024.Idx → EReal := (dats m 0 c).arrAt 4 cfg0.N

theorem left3 (t : Fin cfg0.N) : (outsAt0 m c t.val t.isLt).1 = k0_pay1 (iblk m c 0 t) (iblk m c 2 t) := by
  by_cases h : t.val % 16 = 0
  · exact congrArg Prod.fst (first m c t h)
  · exact congrArg Prod.fst (next m c t h)

theorem keep3 (t : Fin cfg0.N) (z : S512x1024.Idx → EReal) (y : S512x1024.Idx) : @Eq EReal ((cfg0.win 3).cut (α := EReal) (grid0.coords t) z y) (z y) := rfl
theorem cut3 (t : Fin cfg0.N) (A : S8192x1024.Idx → EReal) (y : S512x1024.Idx) : @Eq EReal (((cfg0.win 3).blk t).view.read (Elt Ideal) A y) (A (((cfg0.win 3).blk t).view.emb y)) := rfl

theorem res3_row (t : Fin cfg0.N) (r : Fin 512) (k : Fin 1024) : @Eq EReal (res3 m c (ix2 (row t r) k)) (a2 m c (ix2 0 k) * a0 m c (ix2 (row t r) k)) := by
  refine (congrArg (res3 m c) (at_row (idxs t).1.2.2 (((cfg0.win 3).blk t).view.emb (ix2 r k)) r k rfl rfl)).symm.trans ((cut3 _ (res3 m c) (ix2 r k)).symm.trans ?_)
  refine (congrFun (blocks3 m c t (flush0_3 _)) (ix2 r k)).trans ((congrFun (flushed3 m c _) (ix2 r k)).trans ((keep3 _ _ _).trans ((congrFun (left3 m c t) _).trans ?_)))
  exact (pay1 _ _ _).trans (congrArg₂ (fun a b : EReal => a * b) (rd2 m c t _) (rd0 m c t r k))

/-- The last point, the only one that writes the vector back. -/
abbrev fin0 : Fin cfg0.N := ⟨15, by rw [show cfg0.N = 16 from N_0]; decide⟩

theorem keep4 (z : S1x1024.Idx → EReal) (y : S1x1024.Idx) : @Eq EReal ((cfg0.win 4).cut (α := EReal) (grid0.coords fin0) z y) (z y) := rfl
theorem cut4 (A : S1x1024.Idx → EReal) (y : S1x1024.Idx) : @Eq EReal (((cfg0.win 4).blk fin0).view.read (Elt Ideal) A y) (A (((cfg0.win 4).blk fin0).view.emb y)) := rfl

theorem res4_eq (i : S1x1024.Idx) : @Eq EReal (res4 m c i) ((outsAt0 m c 15 fin0.isLt).2 i) := by
  refine (congrArg (res4 m c) (at_vec (idxs fin0).2.2 (((cfg0.win 4).blk fin0).view.emb i) i rfl rfl)).symm.trans ((cut4 (res4 m c) i).symm.trans ?_)
  refine (congrFun ((dats m 0 c).read_blk_arrAt_eq_flushed 4 (fun t t' h h' hne => absurd (only N_0 ((flush0_4 t).mp h) ((flush0_4 t').mp h')) hne) cfg0.N fin0 fin0.isLt ((flush0_4 fin0).mpr rfl)) i).trans ?_
  exact (congrFun (flushed4 m c fin0) i).trans (keep4 _ _)

/-- What a point adds to the vector. -/
theorem add4 (t : Fin cfg0.N) (z : S1x1024.Idx → EReal) (i : S1x1024.Idx) : @Eq EReal (k0_pay3 (F := Ideal) (iblk m c 0 t) z (iblk m c 1 t) i)
    (z i + ∑ k : Fin 512, col (fun r => a0 m c (ix2 r (i 1)) * a1 m c (ix2 r (i 1))) (512 * t.val + k.val)) :=
  (pay3 _ _ _ _).trans (congrArg (fun b : EReal => z i + b) (Finset.sum_congr rfl fun k _ =>
    (congrArg₂ (fun a b : EReal => a * b) (rd0 m c t k (i 1)) (rd1 m c t k (i 1))).trans (col_row (hN := N_0) (fun r => a0 m c (ix2 r (i 1)) * a1 m c (ix2 r (i 1))) t k).symm))

theorem res4_at (i : S1x1024.Idx) : @Eq EReal (res4 m c i) (∑ r : Fin 8192, a0 m c (ix2 r (i 1)) * a1 m c (ix2 r (i 1))) := by
  refine (res4_eq m c i).trans (((Norm.sweep 512 (fun n h => (outsAt0 m c n h).2 i) _ (fun h => ?_) fun n h => ?_) 15 fin0.isLt).trans (col_sum _))
  · exact (congrFun (congrArg Prod.snd (first m c ⟨0, h⟩ rfl)) i).trans ((add4 m c ⟨0, h⟩ _ i).trans ((congrArg (fun a : EReal => a + _) (pay2 i)).trans (zero_add _)))
  · have hN : n + 1 < 16 := lt_of_lt_of_eq h N_0
    exact (congrFun (congrArg Prod.snd (next m c ⟨n + 1, h⟩ (by show ¬(n + 1) % 16 = 0; omega))) i).trans (add4 m c ⟨n + 1, h⟩ _ i)

/-! The results are the derivative's. -/

theorem ref_dy (d : S8192x1024.Idx → EReal) (g : S1x1024.Idx → EReal) (i : S8192x1024.Idx) : @Eq EReal (val_main_v9 (F := Ideal) d g i) (g (ix2 0 (i 1)) * d i) := by
  rw [val_main_v9_apply, val_main_v5_apply, val_main_v4_apply]
  exact congrArg (fun j : S1x1024.Idx => (g j * d i : EReal)) (ext_at (idx_main_v4 i) (ix2 0 (i 1)) rfl rfl)

theorem value3 : res3 m c = val_main_v9 (F := Ideal) (a0 m c) (a2 m c) := funext fun i => by
  obtain ⟨t, r, e⟩ := row_cover N_0 i
  rw [e]
  exact (res3_row m c t r (i 1)).trans (ref_dy (a0 m c) (a2 m c) (ix2 (row t r) (i 1))).symm

theorem value4 : res4 m c = val_main_v8 (F := Ideal) (a0 m c) (a1 m c) := funext fun i => by
  have h0 : (i 0).val < 1 := (i 0).isLt
  refine (res4_at m c i).trans (Eq.symm ?_)
  rw [val_main_v8_apply, val_main_v7_apply]
  refine (congrArg₂ (fun a b : EReal => a + b) Ideal.ofBits_zero_f32 ?_).trans (zero_add _)
  exact Finset.sum_congr rfl fun k _ => congrArg (fun j : S8192x1024.Idx => (a0 m c j * a1 m c j : EReal))
    (ext_at (idx_main_v7 (idx_main_v8 i) k) (ix2 k (i 1)) rfl (by show (i 0).val * 1024 + (i 1).val = (i 1).val; omega))

theorem frame_r : Cert.quiescent_Reference20Ideal := fun m g _ =>
  (θ_run Cert.Reference20Ideal.defs _ _).mono (fun r h => ⟨fun c => (h c).2.2, sem_eq_zero_of_no_sems (by decide) r.2⟩)
    (Cert.Reference20Ideal.Value.run (F := Ideal) m g)

theorem algebraic : Cert.algebraic_Kernel20Ideal_Reference20Ideal := by
  intro m g m' g' _ hargs
  refine ⟨fun c => val_main_v9 (F := Ideal) (a0 m c) (a2 m c), fun c => val_main_v8 (F := Ideal) (a0 m c) (a1 m c), ?_, ?_⟩
  · exact (θ_run Cert.Kernel20Ideal.defs _ _).mono (fun r hr c => ⟨(hr c).1.trans (value3 m c), (hr c).2.1.trans (value4 m c), (hr c).2.2⟩) (Cert.Kernel20Ideal.Value.run_blocks (F := Ideal) m g)
  · refine (θ_run Cert.Reference20Ideal.defs _ _).mono (fun r hr c => ?_) (Cert.Reference20Ideal.Value.run (F := Ideal) m' g')
    obtain ⟨h3, h4, hr⟩ := hr c
    obtain ⟨e0, e1, e2⟩ := hargs c
    refine ⟨h3.trans ?_, h4.trans ?_, hr⟩
    · rw [val_main_v9_eq, e0, e2]
    · rw [val_main_v8_eq, e0, e1]

end Cert.Proof.K20
end
-- ==== Proof.Kernel21Ideal.Product.lean ====
/- The gradient of the rotation of the keys, the call rope_k_bwd: its two results against the derivative. -/
module

public import proofs.«01_k».proof.Proof.Products
public import proofs.«01_k».proof.Proof.Gen.Kernel21Ideal.Value
public import proofs.«01_k».proof.Proof.Gen.Reference21Ideal.Read
public import proofs.«01_k».proof.Defs

@[expose] public section

noncomputable section

namespace Cert.Proof.K21

open Cert.Kernel21Ideal Cert.Kernel21Ideal.Value Cert.Reference21Ideal.Read Cert.Proof.Products
open Idealize.ShloMosaic Idealize.ShloMosaic.TcCoe Idealize.SL.Sem

theorem same (i : S8192x16.Idx) : idx_main_v7 i = i := by
  have h1 : (i 1).val < 16 := (i 1).isLt
  refine ext_at _ _ ?_ ?_
  · show ((i 0).val * 16 + (i 1).val) / 16 = (i 0).val
    omega
  · show ((i 0).val * 16 + (i 1).val) % 16 = (i 1).val
    omega

theorem minus (s : EReal) : Ideal.ofBits .f32 0x00000000#32 - s = -s := by
  rw [Ideal.ofBits_zero_f32, sub_eq_add_neg, zero_add]

variable (a b x s : S8192x16.Idx → EReal)

theorem value4 : G4 (F := Ideal) a b x s = val_main_v16 (F := Ideal) a b x s := funext fun i => by
  rw [val_main_v16_apply, val_main_v9_apply, val_main_v15_apply, val_main_v8_apply, val_main_v11_apply]
  show a i * x i - b i * (Ideal.ofBits .f32 0x00000000#32 - s i) = b (idx_main_v7 i) * s i + a (idx_main_v7 i) * x i
  rw [same, minus, mul_neg, sub_eq_add_neg, neg_neg, add_comm]

theorem value5 : G5 (F := Ideal) a b x s = val_main_v14 (F := Ideal) a b x s := funext fun i => by
  rw [val_main_v14_apply, val_main_v10_apply, val_main_v13_apply, val_main_v7_apply, val_main_v12_apply]
  show b i * x i + a i * (Ideal.ofBits .f32 0x00000000#32 - s i) = b (idx_main_v7 i) * x i + -a i * s i
  rw [same, minus, mul_neg, neg_mul]

theorem frame_r : Cert.quiescent_Reference21Ideal := fun m g _ =>
  (θ_run Cert.Reference21Ideal.defs _ _).mono (fun r h => ⟨fun c => (h c).2.2, sem_eq_zero_of_no_sems (by decide) r.2⟩)
    (Cert.Reference21Ideal.Value.run (F := Ideal) m g)

theorem algebraic : Cert.algebraic_Kernel21Ideal_Reference21Ideal := by
  intro m g m' g' _ hargs
  refine ⟨_, _, Cert.Kernel21Ideal.Value.run (F := Ideal) m g, ?_⟩
  refine (θ_run Cert.Reference21Ideal.defs _ _).mono (fun r hr c => ?_) (Cert.Reference21Ideal.Value.run (F := Ideal) m' g')
  obtain ⟨h4, h5, hr⟩ := hr c
  obtain ⟨e0, e1, e2, e3⟩ := hargs c
  refine ⟨h4.trans ?_, h5.trans ?_, hr⟩
  · rw [val_main_v16_eq, e0, e1, e2, e3]
    exact (value4 _ _ _ _).symm
  · rw [val_main_v14_eq, e0, e1, e2, e3]
    exact (value5 _ _ _ _).symm

end Cert.Proof.K21
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Kernel.Frame
public import proofs.«01_k».proof.Proof.KernelIdeal.Frame
public import proofs.«01_k».proof.Proof.KernelIdeal.Final
public import proofs.«01_k».proof.Proof.Kernel2Ideal.Product
public import proofs.«01_k».proof.Proof.Kernel3Ideal.Product
public import proofs.«01_k».proof.Proof.Kernel4Ideal.Product
public import proofs.«01_k».proof.Proof.Kernel5Ideal.Product
public import proofs.«01_k».proof.Proof.Kernel6Ideal.Product
public import proofs.«01_k».proof.Proof.Kernel7Ideal.Product
public import proofs.«01_k».proof.Proof.Kernel8Ideal.Product
public import proofs.«01_k».proof.Proof.Kernel9Ideal.Product
public import proofs.«01_k».proof.Proof.Kernel10Ideal.Product
public import proofs.«01_k».proof.Proof.Kernel11Ideal.Product
public import proofs.«01_k».proof.Proof.Kernel12Ideal.Product
public import proofs.«01_k».proof.Proof.Kernel13Ideal.Product
public import proofs.«01_k».proof.Proof.Kernel14Ideal.Product
public import proofs.«01_k».proof.Proof.Kernel15Ideal.Product
public import proofs.«01_k».proof.Proof.Kernel16Ideal.Product
public import proofs.«01_k».proof.Proof.Kernel17Ideal.Product
public import proofs.«01_k».proof.Proof.Kernel18Ideal.Product
public import proofs.«01_k».proof.Proof.Kernel19Ideal.Product
public import proofs.«01_k».proof.Proof.Kernel20Ideal.Product
public import proofs.«01_k».proof.Proof.Kernel21Ideal.Product
public import Idealize.ShloMosaic.Adequacy
public import Idealize.ShloMosaic.Init

@[expose] public section

noncomputable section

namespace Cert.Proof

open Idealize.ShloMosaic Idealize.SL.Sem

theorem frame_k : Cert.quiescent_Kernel := fun m g _ => Cert.Proof.Kernel.frame m g

theorem frame_ki : Cert.quiescent_KernelIdeal := fun m g _ => Cert.Proof.KernelIdeal.frame m g

theorem frame_ki_pre [Cert.Pre_finite.Facts] : Cert.quiescent_KernelIdeal_pre_finite := fun m g _ => Cert.Proof.KernelIdeal.frame m g

theorem frame_ri : Cert.quiescent_ReferenceIdeal := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

theorem frame_ri_pre [Cert.Pre_finite.Facts] : Cert.quiescent_ReferenceIdeal_pre_finite := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "mask" .f32 0xF149F2CA#32 _ rfl,
   IdealRules.named_const.statement Cert.KernelIdeal.κ "ln2" .f32 0x3F317218#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts,
  Cert.Proof.KernelIdeal.pre_facts, frame_k, frame_ki, @frame_ki_pre Cert.Proof.KernelIdeal.pre_facts, frame_ri, @frame_ri_pre Cert.Proof.KernelIdeal.pre_facts,
  fun m g _ => Cert.Kernel2.Gen.frame m g, fun m g _ => Cert.Kernel2Ideal.Gen.frame m g, Cert.Proof.K2.frame_r, fun m g _ => Cert.Kernel3.Gen.frame m g, fun m g _ => Cert.Kernel3Ideal.Gen.frame m g, Cert.Proof.K3.frame_r, fun m g _ => Cert.Kernel4.Gen.frame m g, fun m g _ => Cert.Kernel4Ideal.Gen.frame m g, Cert.Proof.K4.frame_r, fun m g _ => Cert.Kernel5.Gen.frame m g, fun m g _ => Cert.Kernel5Ideal.Gen.frame m g, Cert.Proof.K5.frame_r, fun m g _ => Cert.Kernel6.Gen.frame m g, fun m g _ => Cert.Kernel6Ideal.Gen.frame m g, Cert.Proof.K6.frame_r, fun m g _ => Cert.Kernel7.Gen.frame m g, fun m g _ => Cert.Kernel7Ideal.Gen.frame m g, Cert.Proof.K7.frame_r, fun m g _ => Cert.Kernel8.Gen.frame m g, fun m g _ => Cert.Kernel8Ideal.Gen.frame m g, Cert.Proof.K8.frame_r, fun m g _ => Cert.Kernel9.Gen.frame m g, fun m g _ => Cert.Kernel9Ideal.Gen.frame m g, Cert.Proof.K9.frame_r, fun m g _ => Cert.Kernel10.Gen.frame m g, fun m g _ => Cert.Kernel10Ideal.Gen.frame m g, Cert.Proof.K10.frame_r, fun m g _ => Cert.Kernel11.Gen.frame m g, fun m g _ => Cert.Kernel11Ideal.Gen.frame m g, Cert.Proof.K11.frame_r, fun m g _ => Cert.Kernel12.Gen.frame m g, fun m g _ => Cert.Kernel12Ideal.Gen.frame m g, Cert.Proof.K12.frame_r, fun m g _ => Cert.Kernel13.Gen.frame m g, fun m g _ => Cert.Kernel13Ideal.Gen.frame m g, Cert.Proof.K13.frame_r, fun m g _ => Cert.Kernel14.Gen.frame m g, fun m g _ => Cert.Kernel14Ideal.Gen.frame m g, Cert.Proof.K14.frame_r, fun m g _ => Cert.Kernel15.Gen.frame m g, fun m g _ => Cert.Kernel15Ideal.Gen.frame m g, Cert.Proof.K15.frame_r, fun m g _ => Cert.Kernel16.Gen.frame m g, fun m g _ => Cert.Kernel16Ideal.Gen.frame m g, Cert.Proof.K16.frame_r, fun m g _ => Cert.Kernel17.Gen.frame m g, fun m g _ => Cert.Kernel17Ideal.Gen.frame m g, Cert.Proof.K17.frame_r, fun m g _ => Cert.Kernel18.Gen.frame m g, fun m g _ => Cert.Kernel18Ideal.Gen.frame m g, Cert.Proof.K18.frame_r, fun m g _ => Cert.Kernel19.Gen.frame m g, fun m g _ => Cert.Kernel19Ideal.Gen.frame m g, Cert.Proof.K19.frame_r, fun m g _ => Cert.Kernel20.Gen.frame m g, fun m g _ => Cert.Kernel20Ideal.Gen.frame m g, Cert.Proof.K20.frame_r, fun m g _ => Cert.Kernel21.Gen.frame m g, fun m g _ => Cert.Kernel21Ideal.Gen.frame m g, Cert.Proof.K21.frame_r,
  preserves, @Cert.Proof.KernelIdeal.algebraic Cert.Proof.KernelIdeal.pre_facts,
  trivial, Cert.Proof.K2.algebraic, trivial, Cert.Proof.K3.algebraic, trivial, Cert.Proof.K4.algebraic, trivial, Cert.Proof.K5.algebraic, trivial, Cert.Proof.K6.algebraic, trivial, Cert.Proof.K7.algebraic, trivial, Cert.Proof.K8.algebraic, trivial, Cert.Proof.K9.algebraic, trivial, Cert.Proof.K10.algebraic, trivial, Cert.Proof.K11.algebraic, trivial, Cert.Proof.K12.algebraic, trivial, Cert.Proof.K13.algebraic, trivial, Cert.Proof.K14.algebraic, trivial, Cert.Proof.K15.algebraic, trivial, Cert.Proof.K16.algebraic, trivial, Cert.Proof.K17.algebraic, trivial, Cert.Proof.K18.algebraic, trivial, Cert.Proof.K19.algebraic, trivial, Cert.Proof.K20.algebraic, trivial, Cert.Proof.K21.algebraic⟩

end Cert.Proof

end
